-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v109_0)) (v1 : (c : Dev Cert.KernelIdeal.nD) → Buf (Elt Ideal) ((c.tc : Thread Cert.KernelIdeal.nD Cert.KernelIdeal.τ).loc Cert.KernelIdeal.main_v130)) (v2 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v109_0) = v0 c
          ∧ r.2.mem ((c.tc : Thread Cert.KernelIdeal.nD Cert.KernelIdeal.τ).loc Cert.KernelIdeal.main_v130) = v1 c
          ∧ r.2.mem ((c.tc : Thread Cert.KernelIdeal.nD Cert.KernelIdeal.τ).loc Cert.KernelIdeal.main_v129) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v106) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S2048x2 : Shape := ⟨2, ![2048, 2]⟩
abbrev S2048x3 : Shape := ⟨2, ![2048, 3]⟩
abbrev S2048x1 : Shape := ⟨2, ![2048, 1]⟩
abbrev S2048 : Shape := ⟨1, ![2048]⟩
abbrev S3 : Shape := ⟨1, ![3]⟩
abbrev S128 : Shape := ⟨1, ![128]⟩
abbrev S_ : Shape := ⟨0, ![]⟩
abbrev S128x128 : Shape := ⟨2, ![128, 128]⟩
abbrev S16384 : Shape := ⟨1, ![16384]⟩
abbrev S16384x1 : Shape := ⟨2, ![16384, 1]⟩
abbrev S16384x2 : Shape := ⟨2, ![16384, 2]⟩
abbrev S1x2048 : Shape := ⟨2, ![1, 2048]⟩
abbrev S16384x2048 : Shape := ⟨2, ![16384, 2048]⟩

class Facts : Prop where
  bcast_S_S128 : S_.BroadcastsInDim S128 (![] : Fin 0 → Fin S128.rank)
  bcast_S128_S128x128_0 : S128.BroadcastsInDim S128x128 (![0] : Fin 1 → Fin S128x128.rank)
  bcast_S128_S128x128_1 : S128.BroadcastsInDim S128x128 (![1] : Fin 1 → Fin S128x128.rank)
  shapeCasts_S128x128_S16384 : S128x128.ShapeCasts S16384
  bcast_S16384_S16384x1_0 : S16384.BroadcastsInDim S16384x1 (![0] : Fin 1 → Fin S16384x1.rank)
  concatenates_S16384x1_S16384x1_S16384x2_d1 : Shape.Concatenates [S16384x1, S16384x1] S16384x2 1
  slices_S2048x2_S2048x1_0_0 : S2048x2.Slices ![0, 0] S2048x1
  shapeCasts_S2048x1_S2048 : S2048x1.ShapeCasts S2048
  slices_S2048x2_S2048x1_0_1 : S2048x2.Slices ![0, 1] S2048x1
  bcast_S_S2048 : S_.BroadcastsInDim S2048 (![] : Fin 0 → Fin S2048.rank)
  slices_S16384x2_S16384x1_0_0 : S16384x2.Slices ![0, 0] S16384x1
  shapeCasts_S16384x1_S16384 : S16384x1.ShapeCasts S16384
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  slices_S16384x2_S16384x1_0_1 : S16384x2.Slices ![0, 1] S16384x1
  bcast_S_S16384x2048 : S_.BroadcastsInDim S16384x2048 (![] : Fin 0 → Fin S16384x2048.rank)
  bcast_S_S2048x2 : S_.BroadcastsInDim S2048x2 (![] : Fin 0 → Fin S2048x2.rank)
  reducesTo_S2048x2_S_d0_1 : S2048x2.ReducesTo [0, 1] S_
  h_S_ : 0 < S_.numel
  reducesTo_S2048_S_d0 : S2048.ReducesTo [0] S_
  reducesTo_S16384x2048_S_d0_1 : S16384x2048.ReducesTo [0, 1] S_

variable [Facts]

def fn_part4 {F : FTy → Type} [FloatOps F] (main_arg4 : FVec F S2048 .f32) (main_v17 : FVec F S2048 .f32) (main_v20 : FVec F S2048 .f32) (main_v85 : FVec F S16384x2048 .f32) (main_v88 : IVec S2048x2 1) : IVec S_ 1 :=
  let main_c : IVec S_ 1 := constantI S_ 1 1#1
  let main_v89 : IVec S_ 1 := (fun x v => Host.reduce IntOp.andi x v reducesTo_S2048x2_S_d0_1 h_S_) main_v88 main_c
  let main_v90 : FVec F S2048 .f32 := Host.absf main_arg4
  let main_cst_6 : FVec F S_ .f32 := constant S_ .f32 0x7F800000#32
  let main_v91 : FVec F S2048 .f32 := broadcastInDim S2048 ![] bcast_S_S2048 main_cst_6
  let main_v92 : IVec S2048 1 := cmpf .olt main_v90 main_v91
  let main_c_7 : IVec S_ 1 := constantI S_ 1 1#1
  let main_v93 : IVec S_ 1 := (fun x v => Host.reduce IntOp.andi x v reducesTo_S2048_S_d0 h_S_) main_v92 main_c_7
  let main_v94 : IVec S_ 1 := andi main_v89 main_v93
  let main_v95 : FVec F S2048 .f32 := mulf main_v17 main_v20
  let main_cst_8 : FVec F S_ .f32 := constant S_ .f32 0x322BCC77#32
  let main_v96 : FVec F S2048 .f32 := broadcastInDim S2048 ![] bcast_S_S2048 main_cst_8
  let main_v97 : IVec S2048 1 := cmpf .oge main_v95 main_v96
  let main_c_9 : IVec S_ 1 := constantI S_ 1 1#1
  let main_v98 : IVec S_ 1 := (fun x v => Host.reduce IntOp.andi x v reducesTo_S2048_S_d0 h_S_) main_v97 main_c_9
  let main_v99 : IVec S_ 1 := andi main_v94 main_v98
  let main_cst_10 : FVec F S_ .f32 := constant S_ .f32 0x3B808081#32
  let main_v100 : FVec F S16384x2048 .f32 := broadcastInDim S16384x2048 ![] bcast_S_S16384x2048 main_cst_10
  let main_v101 : IVec S16384x2048 1 := cmpf .une main_v85 main_v100
  let main_c_11 : IVec S_ 1 := constantI S_ 1 1#1
  let main_v102 : IVec S_ 1 := (fun x v => Host.reduce IntOp.andi x v reducesTo_S16384x2048_S_d0_1 h_S_) main_v101 main_c_11
  let main_v103 : IVec S_ 1 := andi main_v99 main_v102
  main_v103

def fn_part3 {F : FTy → Type} [FloatOps F] (main_arg2 : FVec F S2048x1 .f32) (main_arg3 : FVec F S2048x2 .f32) (main_arg4 : FVec F S2048 .f32) (main_v17 : FVec F S2048 .f32) (main_v20 : FVec F S2048 .f32) (main_v41 : FVec F S2048 .f32) (main_v51 : FVec F S16384x2048 .f32) (main_v60 : FVec F S16384x2048 .f32) (main_v64 : FVec F S16384x2048 .f32) (main_v68 : FVec F S16384x2048 .f32) : IVec S_ 1 :=
  let main_v69 : FVec F S16384x2048 .f32 := addf main_v64 main_v68
  let main_cst_2 : FVec F S_ .f32 := constant S_ .f32 0xBF000000#32
  let main_v70 : FVec F S16384x2048 .f32 := broadcastInDim S16384x2048 ![] bcast_S_S16384x2048 main_cst_2
  let main_v71 : FVec F S16384x2048 .f32 := mulf main_v70 main_v69
  let main_v72 : FVec F S1x2048 .f32 := broadcastInDim S1x2048 ![1] bcast_S2048_S1x2048_1 main_v41
  let main_v73 : FVec F S16384x2048 .f32 := broadcastInDim S16384x2048 ![0, 1] bcast_S1x2048_S16384x2048_0_1 main_v72
  let main_v74 : FVec F S16384x2048 .f32 := mulf main_v73 main_v51
  let main_v75 : FVec F S16384x2048 .f32 := mulf main_v74 main_v60
  let main_v76 : FVec F S16384x2048 .f32 := subf main_v71 main_v75
  let main_cst_3 : FVec F S_ .f32 := constant S_ .f32 0x00000000#32
  let main_v77 : FVec F S16384x2048 .f32 := broadcastInDim S16384x2048 ![] bcast_S_S16384x2048 main_cst_3
  let main_v78 : FVec F S16384x2048 .f32 := minimumf main_v76 main_v77
  let main_v79 : FVec F S2048 .f32 := shapeCast S2048 main_arg2 shapeCasts_S2048x1_S2048
  let main_v80 : FVec F S1x2048 .f32 := broadcastInDim S1x2048 ![1] bcast_S2048_S1x2048_1 main_v79
  let main_v81 : FVec F S16384x2048 .f32 := Host.exp main_v78
  let main_v82 : FVec F S16384x2048 .f32 := broadcastInDim S16384x2048 ![0, 1] bcast_S1x2048_S16384x2048_0_1 main_v80
  let main_v83 : FVec F S16384x2048 .f32 := mulf main_v82 main_v81
  let main_cst_4 : FVec F S_ .f32 := constant S_ .f32 0x3F7D70A4#32
  let main_v84 : FVec F S16384x2048 .f32 := broadcastInDim S16384x2048 ![] bcast_S_S16384x2048 main_cst_4
  let main_v85 : FVec F S16384x2048 .f32 := minimumf main_v84 main_v83
  let main_v86 : FVec F S2048x2 .f32 := Host.absf main_arg3
  let main_cst_5 : FVec F S_ .f32 := constant S_ .f32 0x7F800000#32
  let main_v87 : FVec F S2048x2 .f32 := broadcastInDim S2048x2 ![] bcast_S_S2048x2 main_cst_5
  let main_v88 : IVec S2048x2 1 := cmpf .olt main_v86 main_v87
  fn_part4 (F := F) main_arg4 main_v17 main_v20 main_v85 main_v88

def fn_part2 {F : FTy → Type} [FloatOps F] (main_arg0 : FVec F S2048x2 .f32) (main_arg2 : FVec F S2048x1 .f32) (main_arg3 : FVec F S2048x2 .f32) (main_arg4 : FVec F S2048 .f32) (main_v12 : FVec F S16384x2 .f32) (main_v17 : FVec F S2048 .f32) (main_v20 : FVec F S2048 .f32) (main_v39 : FVec F S2048 .f32) (main_v41 : FVec F S2048 .f32) (main_v42 : FVec F S2048 .f32) (main_v44 : FVec F S16384 .f32) : IVec S_ 1 :=
  let main_v45 : FVec F S16384x1 .f32 := broadcastInDim S16384x1 ![0] bcast_S16384_S16384x1_0 main_v44
  let main_v46 : FVec F S2048x1 .f32 := (extractStridedSlice S2048x1 ![0, 0] · slices_S2048x2_S2048x1_0_0) main_arg0
  let main_v47 : FVec F S2048 .f32 := shapeCast S2048 main_v46 shapeCasts_S2048x1_S2048
  let main_v48 : FVec F S1x2048 .f32 := broadcastInDim S1x2048 ![1] bcast_S2048_S1x2048_1 main_v47
  let main_v49 : FVec F S16384x2048 .f32 := broadcastInDim S16384x2048 ![0, 1] bcast_S16384x1_S16384x2048_0_1 main_v45
  let main_v50 : FVec F S16384x2048 .f32 := broadcastInDim S16384x2048 ![0, 1] bcast_S1x2048_S16384x2048_0_1 main_v48
  let main_v51 : FVec F S16384x2048 .f32 := subf main_v49 main_v50
  let main_v52 : FVec F S16384x1 .f32 := (extractStridedSlice S16384x1 ![0, 1] · slices_S16384x2_S16384x1_0_1) main_v12
  let main_v53 : FVec F S16384 .f32 := shapeCast S16384 main_v52 shapeCasts_S16384x1_S16384
  let main_v54 : FVec F S16384x1 .f32 := broadcastInDim S16384x1 ![0] bcast_S16384_S16384x1_0 main_v53
  let main_v55 : FVec F S2048x1 .f32 := (extractStridedSlice S2048x1 ![0, 1] · slices_S2048x2_S2048x1_0_1) main_arg0
  let main_v56 : FVec F S2048 .f32 := shapeCast S2048 main_v55 shapeCasts_S2048x1_S2048
  let main_v57 : FVec F S1x2048 .f32 := broadcastInDim S1x2048 ![1] bcast_S2048_S1x2048_1 main_v56
  let main_v58 : FVec F S16384x2048 .f32 := broadcastInDim S16384x2048 ![0, 1] bcast_S16384x1_S16384x2048_0_1 main_v54
  let main_v59 : FVec F S16384x2048 .f32 := broadcastInDim S16384x2048 ![0, 1] bcast_S1x2048_S16384x2048_0_1 main_v57
  let main_v60 : FVec F S16384x2048 .f32 := subf main_v58 main_v59
  let main_v61 : FVec F S1x2048 .f32 := broadcastInDim S1x2048 ![1] bcast_S2048_S1x2048_1 main_v39
  let main_v62 : FVec F S16384x2048 .f32 := broadcastInDim S16384x2048 ![0, 1] bcast_S1x2048_S16384x2048_0_1 main_v61
  let main_v63 : FVec F S16384x2048 .f32 := mulf main_v62 main_v51
  let main_v64 : FVec F S16384x2048 .f32 := mulf main_v63 main_v51
  let main_v65 : FVec F S1x2048 .f32 := broadcastInDim S1x2048 ![1] bcast_S2048_S1x2048_1 main_v42
  let main_v66 : FVec F S16384x2048 .f32 := broadcastInDim S16384x2048 ![0, 1] bcast_S1x2048_S16384x2048_0_1 main_v65
  let main_v67 : FVec F S16384x2048 .f32 := mulf main_v66 main_v60
  let main_v68 : FVec F S16384x2048 .f32 := mulf main_v67 main_v60
  fn_part3 (F := F) main_arg2 main_arg3 main_arg4 main_v17 main_v20 main_v41 main_v51 main_v60 main_v64 main_v68

def fn_part1 {F : FTy → Type} [FloatOps F] (main_arg0 : FVec F S2048x2 .f32) (main_arg2 : FVec F S2048x1 .f32) (main_arg3 : FVec F S2048x2 .f32) (main_arg4 : FVec F S2048 .f32) (main_v12 : FVec F S16384x2 .f32) (main_v13 : FVec F S2048 .f32) (main_v14 : FVec F S2048 .f32) (main_v17 : FVec F S2048 .f32) (main_v20 : FVec F S2048 .f32) (main_v21 : FVec F S2048 .f32) : IVec S_ 1 :=
  let main_v22 : FVec F S2048 .f32 := mulf main_v21 main_v17
  let main_v23 : FVec F S2048 .f32 := mulf main_v14 main_v14
  let main_v24 : FVec F S2048 .f32 := mulf main_v23 main_v20
  let main_v25 : FVec F S2048 .f32 := addf main_v22 main_v24
  let main_v26 : FVec F S2048 .f32 := mulf main_v13 main_v14
  let main_v27 : FVec F S2048 .f32 := subf main_v17 main_v20
  let main_v28 : FVec F S2048 .f32 := mulf main_v26 main_v27
  let main_v29 : FVec F S2048 .f32 := mulf main_v14 main_v14
  let main_v30 : FVec F S2048 .f32 := mulf main_v29 main_v17
  let main_v31 : FVec F S2048 .f32 := mulf main_v13 main_v13
  let main_v32 : FVec F S2048 .f32 := mulf main_v31 main_v20
  let main_v33 : FVec F S2048 .f32 := addf main_v30 main_v32
  let main_v34 : FVec F S2048 .f32 := mulf main_v25 main_v33
  let main_v35 : FVec F S2048 .f32 := mulf main_v28 main_v28
  let main_v36 : FVec F S2048 .f32 := subf main_v34 main_v35
  let main_cst_1 : FVec F S_ .f32 := constant S_ .f32 0x322BCC77#32
  let main_v37 : FVec F S2048 .f32 := broadcastInDim S2048 ![] bcast_S_S2048 main_cst_1
  let main_v38 : FVec F S2048 .f32 := maximumf main_v36 main_v37
  let main_v39 : FVec F S2048 .f32 := Host.divf main_v33 main_v38
  let main_v40 : FVec F S2048 .f32 := Host.negf main_v28
  let main_v41 : FVec F S2048 .f32 := Host.divf main_v40 main_v38
  let main_v42 : FVec F S2048 .f32 := Host.divf main_v25 main_v38
  let main_v43 : FVec F S16384x1 .f32 := (extractStridedSlice S16384x1 ![0, 0] · slices_S16384x2_S16384x1_0_0) main_v12
  let main_v44 : FVec F S16384 .f32 := shapeCast S16384 main_v43 shapeCasts_S16384x1_S16384
  fn_part2 (F := F) main_arg0 main_arg2 main_arg3 main_arg4 main_v12 main_v17 main_v20 main_v39 main_v41 main_v42 main_v44

def fn {F : FTy → Type} [FloatOps F] (main_arg0 : FVec F S2048x2 .f32) (main_arg1 : FVec F S2048x3 .f32) (main_arg2 : FVec F S2048x1 .f32) (main_arg3 : FVec F S2048x2 .f32) (main_arg4 : FVec F S2048 .f32) (main_arg5 : FVec F S2048 .f32) (main_arg6 : FVec F S3 .f32) : IVec S_ 1 :=
  let main_v0 : FVec F S128 .f32 := sitofp .f32 (iotaInDim S128 32 0)
  let main_cst : FVec F S_ .f32 := constant S_ .f32 0x3F000000#32
  let main_v1 : FVec F S128 .f32 := broadcastInDim S128 ![] bcast_S_S128 main_cst
  let main_v2 : FVec F S128 .f32 := addf main_v0 main_v1
  let main_v3 : FVec F S128 .f32 := sitofp .f32 (iotaInDim S128 32 0)
  let main_cst_0 : FVec F S_ .f32 := constant S_ .f32 0x3F000000#32
  let main_v4 : FVec F S128 .f32 := broadcastInDim S128 ![] bcast_S_S128 main_cst_0
  let main_v5 : FVec F S128 .f32 := addf main_v3 main_v4
  let main_v6 : FVec F S128x128 .f32 := broadcastInDim S128x128 ![0] bcast_S128_S128x128_0 main_v2
  let main_v7 : FVec F S128x128 .f32 := broadcastInDim S128x128 ![1] bcast_S128_S128x128_1 main_v5
  let main_v8 : FVec F S16384 .f32 := shapeCast S16384 main_v7 shapeCasts_S128x128_S16384
  let main_v9 : FVec F S16384 .f32 := shapeCast S16384 main_v6 shapeCasts_S128x128_S16384
  let main_v10 : FVec F S16384x1 .f32 := broadcastInDim S16384x1 ![0] bcast_S16384_S16384x1_0 main_v8
  let main_v11 : FVec F S16384x1 .f32 := broadcastInDim S16384x1 ![0] bcast_S16384_S16384x1_0 main_v9
  let main_v12 : FVec F S16384x2 .f32 := (fun a b => concatenate S16384x2 1 [⟨S16384x1, a⟩, ⟨S16384x1, b⟩] concatenates_S16384x1_S16384x1_S16384x2_d1) main_v10 main_v11
  let main_v13 : FVec F S2048 .f32 := Host.cos main_arg4
  let main_v14 : FVec F S2048 .f32 := Host.sin main_arg4
  let main_v15 : FVec F S2048x1 .f32 := (extractStridedSlice S2048x1 ![0, 0] · slices_S2048x2_S2048x1_0_0) main_arg3
  let main_v16 : FVec F S2048 .f32 := shapeCast S2048 main_v15 shapeCasts_S2048x1_S2048
  let main_v17 : FVec F S2048 .f32 := mulf main_v16 main_v16
  let main_v18 : FVec F S2048x1 .f32 := (extractStridedSlice S2048x1 ![0, 1] · slices_S2048x2_S2048x1_0_1) main_arg3
  let main_v19 : FVec F S2048 .f32 := shapeCast S2048 main_v18 shapeCasts_S2048x1_S2048
  let main_v20 : FVec F S2048 .f32 := mulf main_v19 main_v19
  let main_v21 : FVec F S2048 .f32 := mulf main_v13 main_v13
  fn_part1 (F := F) main_arg0 main_arg2 main_arg3 main_arg4 main_v12 main_v13 main_v14 main_v17 main_v20 main_v21
-- ==== Kernel.lean ====
abbrev S2048x2 : Shape := ⟨2, ![2048, 2]⟩
abbrev S2048x3 : Shape := ⟨2, ![2048, 3]⟩
abbrev S2048x1 : Shape := ⟨2, ![2048, 1]⟩
abbrev S2048 : Shape := ⟨1, ![2048]⟩
abbrev S3 : Shape := ⟨1, ![3]⟩
abbrev S_ : Shape := ⟨0, ![]⟩
abbrev S1x2048 : Shape := ⟨2, ![1, 2048]⟩
abbrev S16x2048 : Shape := ⟨2, ![16, 2048]⟩
abbrev S8192 : Shape := ⟨1, ![8192]⟩
abbrev S32768 : Shape := ⟨1, ![32768]⟩
abbrev S16x16384 : Shape := ⟨2, ![16, 16384]⟩
abbrev S16x8192 : Shape := ⟨2, ![16, 8192]⟩
abbrev S16x16 : Shape := ⟨2, ![16, 16]⟩
abbrev S16384 : Shape := ⟨1, ![16384]⟩
abbrev S16 : Shape := ⟨1, ![16]⟩
abbrev S1x16384 : Shape := ⟨2, ![1, 16384]⟩
abbrev S1x8192 : Shape := ⟨2, ![1, 8192]⟩
abbrev S1x16 : Shape := ⟨2, ![1, 16]⟩
abbrev S16x2048x8 : Shape := ⟨3, ![16, 2048, 8]⟩
abbrev S16x8x4x256 : Shape := ⟨4, ![16, 8, 4, 256]⟩
abbrev S16x1 : Shape := ⟨2, ![16, 1]⟩
abbrev S3x1 : Shape := ⟨2, ![3, 1]⟩
abbrev S3x128x128 : Shape := ⟨3, ![3, 128, 128]⟩
abbrev S16x2048x1 : Shape := ⟨3, ![16, 2048, 1]⟩
abbrev S1x2048x8 : Shape := ⟨3, ![1, 2048, 8]⟩
abbrev S1x8x4x256 : Shape := ⟨4, ![1, 8, 4, 256]⟩
abbrev S3x8x128 : Shape := ⟨3, ![3, 8, 128]⟩
abbrev S1x2048x1 : Shape := ⟨3, ![1, 2048, 1]⟩
abbrev S1x1024 : Shape := ⟨2, ![1, 1024]⟩
abbrev S256x256 : Shape := ⟨2, ![256, 256]⟩
abbrev S256x1 : Shape := ⟨2, ![256, 1]⟩
abbrev S1 : Shape := ⟨1, ![1]⟩
abbrev S3x1024 : Shape := ⟨2, ![3, 1024]⟩
abbrev S1x256x8 : Shape := ⟨3, ![1, 256, 8]⟩
abbrev S256x8 : Shape := ⟨2, ![256, 8]⟩
abbrev S256x1024 : Shape := ⟨2, ![256, 1024]⟩
abbrev S256 : Shape := ⟨1, ![256]⟩
abbrev S1x256x1 : Shape := ⟨3, ![1, 256, 1]⟩
abbrev S1x1x3x256 : Shape := ⟨4, ![1, 1, 3, 256]⟩
abbrev S3x256 : Shape := ⟨2, ![3, 256]⟩
abbrev S1024 : Shape := ⟨1, ![1024]⟩
abbrev S3x128 : Shape := ⟨2, ![3, 128]⟩
abbrev S3x1x128 : Shape := ⟨3, ![3, 1, 128]⟩
abbrev S32768x1 : Shape := ⟨2, ![32768, 1]⟩

abbrev nBuf : Table → Nat
  | .hbm => 169
  | .local .tc .vmem => 13
  | .local .tc .smem => 1
  | .local .scVector .vmem => 4
  | _ => 0

abbrev hbmTy0_0 (i : Nat) : BufTy := match i % 128 with
  | 0 => ⟨S2048x2, .f32⟩
  | 1 => ⟨S2048x3, .f32⟩
  | 2 => ⟨S2048x1, .f32⟩
  | 3 => ⟨S2048x2, .f32⟩
  | 4 => ⟨S2048, .f32⟩
  | 5 => ⟨S2048, .f32⟩
  | 6 => ⟨S3, .f32⟩
  | 7 => ⟨S2048, .i32⟩
  | 8 => ⟨S2048, .f32⟩
  | 9 => ⟨S2048, .i32⟩
  | 10 => ⟨S2048x1, .f32⟩
  | 11 => ⟨S2048, .f32⟩
  | 12 => ⟨S2048x1, .f32⟩
  | 13 => ⟨S2048, .f32⟩
  | 14 => ⟨S2048, .f32⟩
  | 15 => ⟨S2048, .f32⟩
  | 16 => ⟨S2048, .f32⟩
  | 17 => ⟨S2048x1, .f32⟩
  | 18 => ⟨S2048, .f32⟩
  | 19 => ⟨S2048, .f32⟩
  | 20 => ⟨S2048x1, .f32⟩
  | 21 => ⟨S2048, .f32⟩
  | 22 => ⟨S2048, .f32⟩
  | 23 => ⟨S2048, .f32⟩
  | 24 => ⟨S2048, .f32⟩
  | 25 => ⟨S2048, .f32⟩
  | 26 => ⟨S2048, .f32⟩
  | 27 => ⟨S2048, .f32⟩
  | 28 => ⟨S2048, .f32⟩
  | 29 => ⟨S2048, .f32⟩
  | 30 => ⟨S2048, .f32⟩
  | 31 => ⟨S2048, .f32⟩
  | 32 => ⟨S2048, .f32⟩
  | 33 => ⟨S2048, .f32⟩
  | 34 => ⟨S2048, .f32⟩
  | 35 => ⟨S2048, .f32⟩
  | 36 => ⟨S2048, .f32⟩
  | 37 => ⟨S2048, .f32⟩
  | 38 => ⟨S2048, .f32⟩
  | 39 => ⟨S_, .f32⟩
  | 40 => ⟨S2048, .f32⟩
  | 41 => ⟨S2048, .f32⟩
  | 42 => ⟨S_, .f32⟩
  | 43 => ⟨S2048, .f32⟩
  | 44 => ⟨S2048, .f32⟩
  | 45 => ⟨S2048, .f32⟩
  | 46 => ⟨S2048, .f32⟩
  | 47 => ⟨S_, .f32⟩
  | 48 => ⟨S2048, .f32⟩
  | 49 => ⟨S2048, .f32⟩
  | 50 => ⟨S2048, .f32⟩
  | 51 => ⟨S2048, .f32⟩
  | 52 => ⟨S2048, .f32⟩
  | 53 => ⟨S_, .f32⟩
  | 54 => ⟨S2048, .f32⟩
  | 55 => ⟨S2048, .f32⟩
  | 56 => ⟨S2048, .f32⟩
  | 57 => ⟨S2048, .f32⟩
  | 58 => ⟨S_, .f32⟩
  | 59 => ⟨S2048, .f32⟩
  | 60 => ⟨S2048, .f32⟩
  | 61 => ⟨S2048, .f32⟩
  | 62 => ⟨S2048, .f32⟩
  | 63 => ⟨S_, .f32⟩
  | 64 => ⟨S2048, .f32⟩
  | 65 => ⟨S2048, .f32⟩
  | 66 => ⟨S_, .f32⟩
  | 67 => ⟨S2048, .f32⟩
  | 68 => ⟨S2048, .f32⟩
  | 69 => ⟨S2048, .f32⟩
  | 70 => ⟨S_, .f32⟩
  | 71 => ⟨S2048, .f32⟩
  | 72 => ⟨S2048, .f32⟩
  | 73 => ⟨S2048, .f32⟩
  | 74 => ⟨S_, .f32⟩
  | 75 => ⟨S2048, .f32⟩
  | 76 => ⟨S2048, .f32⟩
  | 77 => ⟨S2048, .f32⟩
  | 78 => ⟨S_, .f32⟩
  | 79 => ⟨S2048, .f32⟩
  | 80 => ⟨S2048, .i1⟩
  | 81 => ⟨S2048, .f32⟩
  | 82 => ⟨S_, .f32⟩
  | 83 => ⟨S_, .f32⟩
  | 84 => ⟨S2048, .f32⟩
  | 85 => ⟨S2048, .f32⟩
  | 86 => ⟨S2048, .f32⟩
  | 87 => ⟨S_, .f32⟩
  | 88 => ⟨S_, .f32⟩
  | 89 => ⟨S2048, .f32⟩
  | 90 => ⟨S2048, .f32⟩
  | 91 => ⟨S2048, .f32⟩
  | 92 => ⟨S_, .f32⟩
  | 93 => ⟨S2048, .f32⟩
  | 94 => ⟨S2048x1, .f32⟩
  | 95 => ⟨S2048, .f32⟩
  | 96 => ⟨S2048x1, .f32⟩
  | 97 => ⟨S2048, .f32⟩
  | 98 => ⟨S2048x1, .f32⟩
  | 99 => ⟨S2048, .f32⟩
  | 100 => ⟨S1x2048, .f32⟩
  | 101 => ⟨S1x2048, .f32⟩
  | 102 => ⟨S1x2048, .f32⟩
  | 103 => ⟨S1x2048, .f32⟩
  | 104 => ⟨S1x2048, .f32⟩
  | 105 => ⟨S1x2048, .f32⟩
  | 106 => ⟨S1x2048, .f32⟩
  | 107 => ⟨S1x2048, .f32⟩
  | 108 => ⟨S1x2048, .f32⟩
  | 109 => ⟨S1x2048, .f32⟩
  | 110 => ⟨S1x2048, .f32⟩
  | 111 => ⟨S1x2048, .f32⟩
  | 112 => ⟨S1x2048, .f32⟩
  | 113 => ⟨S1x2048, .f32⟩
  | 114 => ⟨S1x2048, .f32⟩
  | 115 => ⟨S1x2048, .f32⟩
  | 116 => ⟨S16x2048, .f32⟩
  | 117 => ⟨S_, .i32⟩
  | 118 => ⟨S2048, .i32⟩
  | 119 => ⟨S2048, .i1⟩
  | 120 => ⟨S_, .i32⟩
  | 121 => ⟨S2048, .i32⟩
  | 122 => ⟨S2048, .i32⟩
  | 123 => ⟨S2048, .i32⟩
  | 124 => ⟨S2048x1, .i32⟩
  | 125 => ⟨S16x2048, .f32⟩
  | 126 => ⟨S_, .f32⟩
  | 127 => ⟨S8192, .f32⟩
  | _ => ⟨S2048x2, .f32⟩

abbrev hbmTy0_1 (i : Nat) : BufTy := match i % 128 with
  | 0 => ⟨S32768, .f32⟩
  | 1 => ⟨S16x16384, .f32⟩
  | 2 => ⟨S16x8192, .f32⟩
  | 3 => ⟨S16x16, .i32⟩
  | 4 => ⟨S16x2048x8, .f32⟩
  | 5 => ⟨S16x8x4x256, .f32⟩
  | 6 => ⟨S16x1, .i32⟩
  | 7 => ⟨S2048x1, .f32⟩
  | 8 => ⟨S2048x1, .f32⟩
  | 9 => ⟨S2048x1, .f32⟩
  | 10 => ⟨S3x1, .f32⟩
  | 11 => ⟨S3x128x128, .f32⟩
  | 12 => ⟨S2048x1, .i32⟩
  | 13 => ⟨S16x2048x1, .i32⟩
  | 14 => ⟨S16x2048x1, .f32⟩
  | 15 => ⟨S16x2048, .f32⟩
  | 16 => ⟨S16x2048, .i32⟩
  | 17 => ⟨S2048, .i32⟩
  | 18 => ⟨S1x2048, .i32⟩
  | 19 => ⟨S16x1, .i32⟩
  | 20 => ⟨S16x2048, .i32⟩
  | 21 => ⟨S16x2048, .i32⟩
  | 22 => ⟨S16x2048, .i1⟩
  | 23 => ⟨S_, .i32⟩
  | 24 => ⟨S_, .i32⟩
  | 25 => ⟨S16x2048, .i32⟩
  | 26 => ⟨S16x2048, .i32⟩
  | 27 => ⟨S_, .i32⟩
  | 28 => ⟨S2048, .i32⟩
  | 29 => ⟨S32768, .i32⟩
  | 30 => ⟨S32768, .i32⟩
  | 31 => ⟨S_, .i32⟩
  | 32 => ⟨S32768, .i32⟩
  | 33 => ⟨S32768, .i1⟩
  | 34 => ⟨S_, .i32⟩
  | 35 => ⟨S32768, .i32⟩
  | 36 => ⟨S32768, .i32⟩
  | 37 => ⟨S32768, .i32⟩
  | 38 => ⟨S32768x1, .i32⟩
  | 39 => ⟨S2048, .i32⟩
  | 40 => ⟨S2048, .i32⟩
  | _ => ⟨S2048x2, .f32⟩

abbrev hbmTy (i : Nat) : BufTy := match i / 128 with
  | 0 => hbmTy0_0 i
  | 1 => hbmTy0_1 i
  | _ => ⟨S2048x2, .f32⟩

abbrev bufTy : (tb : Table) → Fin (nBuf tb) → BufTy
  | .hbm, ⟨i, _⟩ => hbmTy i
  | .local .tc .vmem, ⟨0, _⟩ => ⟨S1x2048x8, .f32⟩
  | .local .tc .vmem, ⟨1, _⟩ => ⟨S1x2048x8, .f32⟩
  | .local .tc .vmem, ⟨2, _⟩ => ⟨S1x8x4x256, .f32⟩
  | .local .tc .vmem, ⟨3, _⟩ => ⟨S1x8x4x256, .f32⟩
  | .local .tc .vmem, ⟨4, _⟩ => ⟨S2048x1, .f32⟩
  | .local .tc .vmem, ⟨5, _⟩ => ⟨S2048x1, .f32⟩
  | .local .tc .vmem, ⟨6, _⟩ => ⟨S2048x1, .f32⟩
  | .local .tc .vmem, ⟨7, _⟩ => ⟨S3x1, .f32⟩
  | .local .tc .vmem, ⟨8, _⟩ => ⟨S3x8x128, .f32⟩
  | .local .tc .vmem, ⟨9, _⟩ => ⟨S3x8x128, .f32⟩
  | .local .tc .vmem, ⟨10, _⟩ => ⟨S2048x1, .i32⟩
  | .local .tc .vmem, ⟨11, _⟩ => ⟨S1x2048x1, .i32⟩
  | .local .tc .vmem, ⟨12, _⟩ => ⟨S1x2048x1, .i32⟩
  | .local .tc .smem, ⟨0, _⟩ => ⟨S16, .i32⟩
  | .local .scVector .vmem, ⟨0, _⟩ => ⟨S32768, .f32⟩
  | .local .scVector .vmem, ⟨1, _⟩ => ⟨S16384, .f32⟩
  | .local .scVector .vmem, ⟨2, _⟩ => ⟨S8192, .f32⟩
  | .local .scVector .vmem, ⟨3, _⟩ => ⟨S16, .i32⟩
  | _, _ => ⟨S2048x2, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_v31 : Ref sig .tc := ⟨.hbm, 41, rfl⟩
abbrev main_cst_0 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_1 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_2 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_4 : Ref sig .tc := ⟨.hbm, 63, rfl⟩
abbrev main_v49 : Ref sig .tc := ⟨.hbm, 64, rfl⟩
abbrev main_v50 : Ref sig .tc := ⟨.hbm, 65, rfl⟩
abbrev main_cst_5 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_7 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_9 : Ref sig .tc := ⟨.hbm, 82, rfl⟩
abbrev main_call1_v0 : Ref sig .tc := ⟨.hbm, 83, rfl⟩
abbrev main_call1_v1 : Ref sig .tc := ⟨.hbm, 84, rfl⟩
abbrev main_v63 : Ref sig .tc := ⟨.hbm, 85, rfl⟩
abbrev main_v64 : Ref sig .tc := ⟨.hbm, 86, rfl⟩
abbrev main_cst_10 : Ref sig .tc := ⟨.hbm, 87, rfl⟩
abbrev main_call2_v0 : Ref sig .tc := ⟨.hbm, 88, rfl⟩
abbrev main_call2_v1 : Ref sig .tc := ⟨.hbm, 89, rfl⟩
abbrev main_v65 : Ref sig .tc := ⟨.hbm, 90, rfl⟩
abbrev main_v66 : Ref sig .tc := ⟨.hbm, 91, rfl⟩
abbrev main_cst_11 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_c : Ref sig .tc := ⟨.hbm, 117, rfl⟩
abbrev main_v91 : Ref sig .tc := ⟨.hbm, 118, rfl⟩
abbrev main_v92 : Ref sig .tc := ⟨.hbm, 119, rfl⟩
abbrev main_c_12 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_13 : Ref sig .tc := ⟨.hbm, 126, rfl⟩
abbrev main_v98 : Ref sig .tc := ⟨.hbm, 127, rfl⟩
abbrev main_v99 : Ref sig .tc := ⟨.hbm, 128, rfl⟩
abbrev main_v100_0 : Ref sig .tc := ⟨.hbm, 129, rfl⟩
abbrev main_v100_1 : Ref sig .tc := ⟨.hbm, 130, rfl⟩
abbrev main_v100_2 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109_0 : Ref sig .tc := ⟨.hbm, 139, rfl⟩
abbrev main_v109_1 : Ref sig .tc := ⟨.hbm, 140, rfl⟩
abbrev main_v109_2 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_c_14 : Ref sig .tc := ⟨.hbm, 151, rfl⟩
abbrev main_call3_v0 : Ref sig .tc := ⟨.hbm, 152, rfl⟩
abbrev main_call3_v1 : Ref sig .tc := ⟨.hbm, 153, rfl⟩
abbrev main_v119 : Ref sig .tc := ⟨.hbm, 154, rfl⟩
abbrev main_c_15 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_c_16 : Ref sig .tc := ⟨.hbm, 159, rfl⟩
abbrev main_v123 : Ref sig .tc := ⟨.hbm, 160, rfl⟩
abbrev main_v124 : Ref sig .tc := ⟨.hbm, 161, rfl⟩
abbrev main_c_17 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v104 : Ref sig .tc := ⟨.smem, 0, rfl⟩
abbrev main_v99_scv : Ref sig .scVector := ⟨.hbm, 128, rfl⟩
abbrev main_v98_scv : Ref sig .scVector := ⟨.hbm, 127, rfl⟩
abbrev main_v100_0_scv : Ref sig .scVector := ⟨.hbm, 129, rfl⟩
abbrev main_v100_1_scv : Ref sig .scVector := ⟨.hbm, 130, rfl⟩
abbrev main_v100_2_scv : Ref sig .scVector := ⟨.hbm, 131, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg6_1 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg8_1 : Ref sig .tc := ⟨.vmem, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc1_sem7_0 : DmaSem sig := 15
abbrev cc1_sem8_0 : DmaSem sig := 16
abbrev cc1_sem8_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let v3 : BitVec 32 := Scalar.extui v2
  let c0_i32 : BitVec 32 := 0#32
  let v4 : BitVec 1 := Scalar.cmpi .ne v3 c0_i32
  v4

@[reducible] def k0_t1_loop : Scf.Loop 32 :=
  let c0_i32_3 : BitVec 32 := 0#32
  let c128_i32 : BitVec 32 := 128#32
  let v10 : BitVec 32 := Scalar.addi c0_i32_3 c128_i32
  let c1_i32 : BitVec 32 := 1#32
  ⟨c0_i32_3, v10, c1_i32⟩

def k0_chk1 (i : grid0.Coords) (v23 : IVec S16 32) : Prop :=
  (∀ (k0_h1 : k0_cond1 i = 1#1), ∀ a x, ((![v23] : Fin 1 → IVec S16 32) a x).toNat < S32768.size a)
theorem k0_idx1_inb : ∀ (i : grid0.Coords) (v23 : IVec S16 32) (k0_hw1 : k0_chk1 i v23), ∀ (k0_h1 : k0_cond1 i = 1#1), ∀ a x, ((![v23] : Fin 1 → IVec S16 32) a x).toNat < S32768.size a := fun i v23 k0_hw1 k0_h1 => k0_hw1 k0_h1

def k0_chk2 (i : grid0.Coords) (v26 : IVec S16 32) : Prop :=
  (∀ (k0_h1 : k0_cond1 i = 1#1), ∀ a x, ((![v26] : Fin 1 → IVec S16 32) a x).toNat < S32768.size a)
theorem k0_idx2_inb : ∀ (i : grid0.Coords) (v26 : IVec S16 32) (k0_hw2 : k0_chk2 i v26), ∀ (k0_h1 : k0_cond1 i = 1#1), ∀ a x, ((![v26] : Fin 1 → IVec S16 32) a x).toNat < S32768.size a := fun i v26 k0_hw2 k0_h1 => k0_hw2 k0_h1

def k0_chk3 (i : grid0.Coords) (v42 : IVec S16 32) : Prop :=
  (∀ (k0_h1 : k0_cond1 i = 1#1), ∀ a x, ((![v42] : Fin 1 → IVec S16 32) a x).toNat < S32768.size a)
theorem k0_idx3_inb : ∀ (i : grid0.Coords) (v42 : IVec S16 32) (k0_hw3 : k0_chk3 i v42), ∀ (k0_h1 : k0_cond1 i = 1#1), ∀ a x, ((![v42] : Fin 1 → IVec S16 32) a x).toNat < S32768.size a := fun i v42 k0_hw3 k0_h1 => k0_hw3 k0_h1

def k0_chk4 (i : grid0.Coords) (v45 : IVec S16 32) : Prop :=
  (∀ (k0_h1 : k0_cond1 i = 1#1), ∀ a x, ((![v45] : Fin 1 → IVec S16 32) a x).toNat < S16384.size a)
theorem k0_idx4_inb : ∀ (i : grid0.Coords) (v45 : IVec S16 32) (k0_hw4 : k0_chk4 i v45), ∀ (k0_h1 : k0_cond1 i = 1#1), ∀ a x, ((![v45] : Fin 1 → IVec S16 32) a x).toNat < S16384.size a := fun i v45 k0_hw4 k0_h1 => k0_hw4 k0_h1

def k0_chk5 (i : grid0.Coords) (v47 : IVec S16 32) : Prop :=
  (∀ (k0_h1 : k0_cond1 i = 1#1), ∀ a x, ((![v47] : Fin 1 → IVec S16 32) a x).toNat < S32768.size a)
theorem k0_idx5_inb : ∀ (i : grid0.Coords) (v47 : IVec S16 32) (k0_hw5 : k0_chk5 i v47), ∀ (k0_h1 : k0_cond1 i = 1#1), ∀ a x, ((![v47] : Fin 1 → IVec S16 32) a x).toNat < S32768.size a := fun i v47 k0_hw5 k0_h1 => k0_hw5 k0_h1

def k0_chk6 (i : grid0.Coords) (v50 : IVec S16 32) : Prop :=
  (∀ (k0_h1 : k0_cond1 i = 1#1), ∀ a x, ((![v50] : Fin 1 → IVec S16 32) a x).toNat < S16384.size a)
theorem k0_idx6_inb : ∀ (i : grid0.Coords) (v50 : IVec S16 32) (k0_hw6 : k0_chk6 i v50), ∀ (k0_h1 : k0_cond1 i = 1#1), ∀ a x, ((![v50] : Fin 1 → IVec S16 32) a x).toNat < S16384.size a := fun i v50 k0_hw6 k0_h1 => k0_hw6 k0_h1

def k0_chk7 (i : grid0.Coords) (v52 : IVec S16 32) : Prop :=
  (∀ (k0_h1 : k0_cond1 i = 1#1), ∀ a x, ((![v52] : Fin 1 → IVec S16 32) a x).toNat < S32768.size a)
theorem k0_idx7_inb : ∀ (i : grid0.Coords) (v52 : IVec S16 32) (k0_hw7 : k0_chk7 i v52), ∀ (k0_h1 : k0_cond1 i = 1#1), ∀ a x, ((![v52] : Fin 1 → IVec S16 32) a x).toNat < S32768.size a := fun i v52 k0_hw7 k0_h1 => k0_hw7 k0_h1

def k0_chk8 (i : grid0.Coords) (v55 : IVec S16 32) : Prop :=
  (∀ (k0_h1 : k0_cond1 i = 1#1), ∀ a x, ((![v55] : Fin 1 → IVec S16 32) a x).toNat < S16384.size a)
theorem k0_idx8_inb : ∀ (i : grid0.Coords) (v55 : IVec S16 32) (k0_hw8 : k0_chk8 i v55), ∀ (k0_h1 : k0_cond1 i = 1#1), ∀ a x, ((![v55] : Fin 1 → IVec S16 32) a x).toNat < S16384.size a := fun i v55 k0_hw8 k0_h1 => k0_hw8 k0_h1

def k0_chk9 (i : grid0.Coords) (v57 : IVec S16 32) : Prop :=
  (∀ (k0_h1 : k0_cond1 i = 1#1), ∀ a x, ((![v57] : Fin 1 → IVec S16 32) a x).toNat < S32768.size a)
theorem k0_idx9_inb : ∀ (i : grid0.Coords) (v57 : IVec S16 32) (k0_hw9 : k0_chk9 i v57), ∀ (k0_h1 : k0_cond1 i = 1#1), ∀ a x, ((![v57] : Fin 1 → IVec S16 32) a x).toNat < S32768.size a := fun i v57 k0_hw9 k0_h1 => k0_hw9 k0_h1

def k0_chk10 (i : grid0.Coords) (v60 : IVec S16 32) : Prop :=
  (∀ (k0_h1 : k0_cond1 i = 1#1), ∀ a x, ((![v60] : Fin 1 → IVec S16 32) a x).toNat < S16384.size a)
theorem k0_idx10_inb : ∀ (i : grid0.Coords) (v60 : IVec S16 32) (k0_hw10 : k0_chk10 i v60), ∀ (k0_h1 : k0_cond1 i = 1#1), ∀ a x, ((![v60] : Fin 1 → IVec S16 32) a x).toNat < S16384.size a := fun i v60 k0_hw10 k0_h1 => k0_hw10 k0_h1

def k0_chk11 (i : grid0.Coords) (v62 : IVec S16 32) : Prop :=
  (∀ (k0_h1 : k0_cond1 i = 1#1), ∀ a x, ((![v62] : Fin 1 → IVec S16 32) a x).toNat < S32768.size a)
theorem k0_idx11_inb : ∀ (i : grid0.Coords) (v62 : IVec S16 32) (k0_hw11 : k0_chk11 i v62), ∀ (k0_h1 : k0_cond1 i = 1#1), ∀ a x, ((![v62] : Fin 1 → IVec S16 32) a x).toNat < S32768.size a := fun i v62 k0_hw11 k0_h1 => k0_hw11 k0_h1

def k0_chk12 (i : grid0.Coords) (v65 : IVec S16 32) : Prop :=
  (∀ (k0_h1 : k0_cond1 i = 1#1), ∀ a x, ((![v65] : Fin 1 → IVec S16 32) a x).toNat < S16384.size a)
theorem k0_idx12_inb : ∀ (i : grid0.Coords) (v65 : IVec S16 32) (k0_hw12 : k0_chk12 i v65), ∀ (k0_h1 : k0_cond1 i = 1#1), ∀ a x, ((![v65] : Fin 1 → IVec S16 32) a x).toNat < S16384.size a := fun i v65 k0_hw12 k0_h1 => k0_hw12 k0_h1

def k0_chk13 (i : grid0.Coords) (v67 : IVec S16 32) : Prop :=
  (∀ (k0_h1 : k0_cond1 i = 1#1), ∀ a x, ((![v67] : Fin 1 → IVec S16 32) a x).toNat < S32768.size a)
theorem k0_idx13_inb : ∀ (i : grid0.Coords) (v67 : IVec S16 32) (k0_hw13 : k0_chk13 i v67), ∀ (k0_h1 : k0_cond1 i = 1#1), ∀ a x, ((![v67] : Fin 1 → IVec S16 32) a x).toNat < S32768.size a := fun i v67 k0_hw13 k0_h1 => k0_hw13 k0_h1

def k0_chk14 (i : grid0.Coords) (v70 : IVec S16 32) : Prop :=
  (∀ (k0_h1 : k0_cond1 i = 1#1), ∀ a x, ((![v70] : Fin 1 → IVec S16 32) a x).toNat < S16384.size a)
theorem k0_idx14_inb : ∀ (i : grid0.Coords) (v70 : IVec S16 32) (k0_hw14 : k0_chk14 i v70), ∀ (k0_h1 : k0_cond1 i = 1#1), ∀ a x, ((![v70] : Fin 1 → IVec S16 32) a x).toNat < S16384.size a := fun i v70 k0_hw14 k0_h1 => k0_hw14 k0_h1

def k0_chk15 (i : grid0.Coords) (v72 : IVec S16 32) : Prop :=
  (∀ (k0_h1 : k0_cond1 i = 1#1), ∀ a x, ((![v72] : Fin 1 → IVec S16 32) a x).toNat < S32768.size a)
theorem k0_idx15_inb : ∀ (i : grid0.Coords) (v72 : IVec S16 32) (k0_hw15 : k0_chk15 i v72), ∀ (k0_h1 : k0_cond1 i = 1#1), ∀ a x, ((![v72] : Fin 1 → IVec S16 32) a x).toNat < S32768.size a := fun i v72 k0_hw15 k0_h1 => k0_hw15 k0_h1

def k0_chk16 (i : grid0.Coords) (v75 : IVec S16 32) : Prop :=
  (∀ (k0_h1 : k0_cond1 i = 1#1), ∀ a x, ((![v75] : Fin 1 → IVec S16 32) a x).toNat < S16384.size a)
theorem k0_idx16_inb : ∀ (i : grid0.Coords) (v75 : IVec S16 32) (k0_hw16 : k0_chk16 i v75), ∀ (k0_h1 : k0_cond1 i = 1#1), ∀ a x, ((![v75] : Fin 1 → IVec S16 32) a x).toNat < S16384.size a := fun i v75 k0_hw16 k0_h1 => k0_hw16 k0_h1

def k0_chk17 (i : grid0.Coords) (v77 : IVec S16 32) : Prop :=
  (∀ (k0_h1 : k0_cond1 i = 1#1), ∀ a x, ((![v77] : Fin 1 → IVec S16 32) a x).toNat < S32768.size a)
theorem k0_idx17_inb : ∀ (i : grid0.Coords) (v77 : IVec S16 32) (k0_hw17 : k0_chk17 i v77), ∀ (k0_h1 : k0_cond1 i = 1#1), ∀ a x, ((![v77] : Fin 1 → IVec S16 32) a x).toNat < S32768.size a := fun i v77 k0_hw17 k0_h1 => k0_hw17 k0_h1

def k0_chk18 (i : grid0.Coords) (v80 : IVec S16 32) : Prop :=
  (∀ (k0_h1 : k0_cond1 i = 1#1), ∀ a x, ((![v80] : Fin 1 → IVec S16 32) a x).toNat < S16384.size a)
theorem k0_idx18_inb : ∀ (i : grid0.Coords) (v80 : IVec S16 32) (k0_hw18 : k0_chk18 i v80), ∀ (k0_h1 : k0_cond1 i = 1#1), ∀ a x, ((![v80] : Fin 1 → IVec S16 32) a x).toNat < S16384.size a := fun i v80 k0_hw18 k0_h1 => k0_hw18 k0_h1

def k0_chk19 (i : grid0.Coords) (v89 : IVec S16 32) : Prop :=
  (∀ (k0_h1 : k0_cond1 i = 1#1), ∀ a x, ((![v89] : Fin 1 → IVec S16 32) a x).toNat < S32768.size a)
theorem k0_idx19_inb : ∀ (i : grid0.Coords) (v89 : IVec S16 32) (k0_hw19 : k0_chk19 i v89), ∀ (k0_h1 : k0_cond1 i = 1#1), ∀ a x, ((![v89] : Fin 1 → IVec S16 32) a x).toNat < S32768.size a := fun i v89 k0_hw19 k0_h1 => k0_hw19 k0_h1

def k0_chk20 (i : grid0.Coords) (v92 : IVec S16 32) : Prop :=
  (∀ (k0_h1 : k0_cond1 i = 1#1), ∀ a x, ((![v92] : Fin 1 → IVec S16 32) a x).toNat < S8192.size a)
theorem k0_idx20_inb : ∀ (i : grid0.Coords) (v92 : IVec S16 32) (k0_hw20 : k0_chk20 i v92), ∀ (k0_h1 : k0_cond1 i = 1#1), ∀ a x, ((![v92] : Fin 1 → IVec S16 32) a x).toNat < S8192.size a := fun i v92 k0_hw20 k0_h1 => k0_hw20 k0_h1

def k0_chk21 (i : grid0.Coords) (v94 : IVec S16 32) : Prop :=
  (∀ (k0_h1 : k0_cond1 i = 1#1), ∀ a x, ((![v94] : Fin 1 → IVec S16 32) a x).toNat < S32768.size a)
theorem k0_idx21_inb : ∀ (i : grid0.Coords) (v94 : IVec S16 32) (k0_hw21 : k0_chk21 i v94), ∀ (k0_h1 : k0_cond1 i = 1#1), ∀ a x, ((![v94] : Fin 1 → IVec S16 32) a x).toNat < S32768.size a := fun i v94 k0_hw21 k0_h1 => k0_hw21 k0_h1

def k0_chk22 (i : grid0.Coords) (v97 : IVec S16 32) : Prop :=
  (∀ (k0_h1 : k0_cond1 i = 1#1), ∀ a x, ((![v97] : Fin 1 → IVec S16 32) a x).toNat < S8192.size a)
theorem k0_idx22_inb : ∀ (i : grid0.Coords) (v97 : IVec S16 32) (k0_hw22 : k0_chk22 i v97), ∀ (k0_h1 : k0_cond1 i = 1#1), ∀ a x, ((![v97] : Fin 1 → IVec S16 32) a x).toNat < S8192.size a := fun i v97 k0_hw22 k0_h1 => k0_hw22 k0_h1

def k0_chk23 (i : grid0.Coords) (v99 : IVec S16 32) : Prop :=
  (∀ (k0_h1 : k0_cond1 i = 1#1), ∀ a x, ((![v99] : Fin 1 → IVec S16 32) a x).toNat < S32768.size a)
theorem k0_idx23_inb : ∀ (i : grid0.Coords) (v99 : IVec S16 32) (k0_hw23 : k0_chk23 i v99), ∀ (k0_h1 : k0_cond1 i = 1#1), ∀ a x, ((![v99] : Fin 1 → IVec S16 32) a x).toNat < S32768.size a := fun i v99 k0_hw23 k0_h1 => k0_hw23 k0_h1

def k0_chk24 (i : grid0.Coords) (v102 : IVec S16 32) : Prop :=
  (∀ (k0_h1 : k0_cond1 i = 1#1), ∀ a x, ((![v102] : Fin 1 → IVec S16 32) a x).toNat < S8192.size a)
theorem k0_idx24_inb : ∀ (i : grid0.Coords) (v102 : IVec S16 32) (k0_hw24 : k0_chk24 i v102), ∀ (k0_h1 : k0_cond1 i = 1#1), ∀ a x, ((![v102] : Fin 1 → IVec S16 32) a x).toNat < S8192.size a := fun i v102 k0_hw24 k0_h1 => k0_hw24 k0_h1
def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r2 : BitVec 32 := 0#32
  ![v1.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r3 : BitVec 32 := 0#32
  ![v1.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r4 : BitVec 32 := 0#32
  ![v1.toNat, 0]
abbrev grid1 : Pipeline.Grid := ⟨1, ![16], ![false]⟩

abbrev pre1 : Pipeline.Prefetch sig := ⟨1, ![main_v104.idx], fun | 0 => main_v104.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v59 : Index := Scalar.indexCast arg0
  ![v59.toNat]
@[reducible] def k1_t1_loop (v60 : BitVec 32) : Scf.Loop 32 :=
  let c0_i32_15 : BitVec 32 := 0#32
  let c255_i32 : BitVec 32 := 255#32
  let v61 : BitVec 32 := Scalar.addi v60 c255_i32
  let c256_i32 : BitVec 32 := 256#32
  let v62 : BitVec 32 := Scalar.divsi v61 c256_i32
  let v65 : BitVec 32 := Scalar.subi v62 c0_i32_15
  let c1_i32_16 : BitVec 32 := 1#32
  let v67 : BitVec 32 := Scalar.divsi v65 c1_i32_16
  let v68 : BitVec 32 := Scalar.muli v67 c1_i32_16
  let v69 : BitVec 32 := Scalar.addi c0_i32_15 v68
  let c1_i32_17 : BitVec 32 := 1#32
  ⟨c0_i32_15, v69, c1_i32_17⟩

def k1_off2 (v60 : BitVec 32) (k1_t1 : Fin (k1_t1_loop v60).trips) : Fin 3 → Nat :=
  let c0_38 : Index := 0#32
  let c0_i32_15 : BitVec 32 := 0#32
  let c1_i32_17 : BitVec 32 := 1#32
  let arg11 : BitVec 32 := Scf.iv c0_i32_15 c1_i32_17 k1_t1
  let c256_i32_37 : BitVec 32 := 256#32
  let v111 : BitVec 32 := Scalar.muli arg11 c256_i32_37
  let v112 : Index := Scalar.indexCast v111
  let c0_39 : Index := 0#32
  ![0, v112.toNat, 0]
def k1_off3 (v60 : BitVec 32) (k1_t1 : Fin (k1_t1_loop v60).trips) : Fin 3 → Nat :=
  let c0_45 : Index := 0#32
  let c0_i32_15 : BitVec 32 := 0#32
  let c1_i32_17 : BitVec 32 := 1#32
  let arg11 : BitVec 32 := Scf.iv c0_i32_15 c1_i32_17 k1_t1
  let c256_i32_37 : BitVec 32 := 256#32
  let v111 : BitVec 32 := Scalar.muli arg11 c256_i32_37
  let v160 : Index := Scalar.indexCast v111
  let c0_46 : Index := 0#32
  ![0, v160.toNat, 0]
def k1_off4 (v60 : BitVec 32) (k1_t1 : Fin (k1_t1_loop v60).trips) : Fin 4 → Nat :=
  let c0_49 : Index := 0#32
  let c0_i32_15 : BitVec 32 := 0#32
  let c1_i32_17 : BitVec 32 := 1#32
  let arg11 : BitVec 32 := Scf.iv c0_i32_15 c1_i32_17 k1_t1
  let v172 : Index := Scalar.indexCast arg11
  let c0_50 : Index := 0#32
  let c0_51 : Index := 0#32
  ![0, v172.toNat, 0, 0]
@[reducible] def k1_t2_loop (v60 : BitVec 32) : Scf.Loop 32 :=
  let c0_i32_15 : BitVec 32 := 0#32
  let c255_i32 : BitVec 32 := 255#32
  let v61 : BitVec 32 := Scalar.addi v60 c255_i32
  let c256_i32 : BitVec 32 := 256#32
  let v62 : BitVec 32 := Scalar.divsi v61 c256_i32
  let v65 : BitVec 32 := Scalar.subi v62 c0_i32_15
  let c1_i32_16 : BitVec 32 := 1#32
  let v67 : BitVec 32 := Scalar.divsi v65 c1_i32_16
  let v68 : BitVec 32 := Scalar.muli v67 c1_i32_16
  let v69 : BitVec 32 := Scalar.addi c0_i32_15 v68
  let v66 : BitVec 32 := Scalar.addi c0_i32_15 v65
  let c1_i32_18 : BitVec 32 := 1#32
  ⟨v69, v66, c1_i32_18⟩
def k1_off5 (v60 : BitVec 32) (k1_t2 : Fin (k1_t2_loop v60).trips) : Fin 3 → Nat :=
  let c0_38 : Index := 0#32
  let c0_i32_15 : BitVec 32 := 0#32
  let c255_i32 : BitVec 32 := 255#32
  let v61 : BitVec 32 := Scalar.addi v60 c255_i32
  let c256_i32 : BitVec 32 := 256#32
  let v62 : BitVec 32 := Scalar.divsi v61 c256_i32
  let v65 : BitVec 32 := Scalar.subi v62 c0_i32_15
  let c1_i32_16 : BitVec 32 := 1#32
  let v67 : BitVec 32 := Scalar.divsi v65 c1_i32_16
  let v68 : BitVec 32 := Scalar.muli v67 c1_i32_16
  let v69 : BitVec 32 := Scalar.addi c0_i32_15 v68
  let c1_i32_18 : BitVec 32 := 1#32
  let arg11 : BitVec 32 := Scf.iv v69 c1_i32_18 k1_t2
  let c256_i32_37 : BitVec 32 := 256#32
  let v111 : BitVec 32 := Scalar.muli arg11 c256_i32_37
  let v112 : Index := Scalar.indexCast v111
  let c0_39 : Index := 0#32
  ![0, v112.toNat, 0]
def k1_off6 (v60 : BitVec 32) (k1_t2 : Fin (k1_t2_loop v60).trips) : Fin 3 → Nat :=
  let c0_45 : Index := 0#32
  let c0_i32_15 : BitVec 32 := 0#32
  let c255_i32 : BitVec 32 := 255#32
  let v61 : BitVec 32 := Scalar.addi v60 c255_i32
  let c256_i32 : BitVec 32 := 256#32
  let v62 : BitVec 32 := Scalar.divsi v61 c256_i32
  let v65 : BitVec 32 := Scalar.subi v62 c0_i32_15
  let c1_i32_16 : BitVec 32 := 1#32
  let v67 : BitVec 32 := Scalar.divsi v65 c1_i32_16
  let v68 : BitVec 32 := Scalar.muli v67 c1_i32_16
  let v69 : BitVec 32 := Scalar.addi c0_i32_15 v68
  let c1_i32_18 : BitVec 32 := 1#32
  let arg11 : BitVec 32 := Scf.iv v69 c1_i32_18 k1_t2
  let c256_i32_37 : BitVec 32 := 256#32
  let v111 : BitVec 32 := Scalar.muli arg11 c256_i32_37
  let v160 : Index := Scalar.indexCast v111
  let c0_46 : Index := 0#32
  ![0, v160.toNat, 0]
def k1_off7 (v60 : BitVec 32) (k1_t2 : Fin (k1_t2_loop v60).trips) : Fin 4 → Nat :=
  let c0_49 : Index := 0#32
  let c0_i32_15 : BitVec 32 := 0#32
  let c255_i32 : BitVec 32 := 255#32
  let v61 : BitVec 32 := Scalar.addi v60 c255_i32
  let c256_i32 : BitVec 32 := 256#32
  let v62 : BitVec 32 := Scalar.divsi v61 c256_i32
  let v65 : BitVec 32 := Scalar.subi v62 c0_i32_15
  let c1_i32_16 : BitVec 32 := 1#32
  let v67 : BitVec 32 := Scalar.divsi v65 c1_i32_16
  let v68 : BitVec 32 := Scalar.muli v67 c1_i32_16
  let v69 : BitVec 32 := Scalar.addi c0_i32_15 v68
  let c1_i32_18 : BitVec 32 := 1#32
  let arg11 : BitVec 32 := Scf.iv v69 c1_i32_18 k1_t2
  let v172 : Index := Scalar.indexCast arg11
  let c0_50 : Index := 0#32
  let c0_51 : Index := 0#32
  ![0, v172.toNat, 0, 0]

def k1_chk1 (v60 : BitVec 32) : Prop :=
  ((k1_t1_loop v60).OK) ∧
  (∀ k1_t1 : Fin (k1_t1_loop v60).trips, ∀ a, (k1_off2 v60 k1_t1) a + S1x256x8.size a ≤ S1x2048x8.size a) ∧
  (∀ k1_t1 : Fin (k1_t1_loop v60).trips, ∀ a, (k1_off3 v60 k1_t1) a + S1x256x1.size a ≤ S1x2048x1.size a) ∧
  (∀ k1_t1 : Fin (k1_t1_loop v60).trips, ∀ a, (k1_off4 v60 k1_t1) a + S1x1x3x256.size a ≤ S1x8x4x256.size a) ∧
  ((k1_t2_loop v60).OK) ∧
  (∀ k1_t2 : Fin (k1_t2_loop v60).trips, ∀ a, (k1_off5 v60 k1_t2) a + S1x256x8.size a ≤ S1x2048x8.size a) ∧
  (∀ k1_t2 : Fin (k1_t2_loop v60).trips, ∀ a, (k1_off6 v60 k1_t2) a + S1x256x1.size a ≤ S1x2048x1.size a) ∧
  (∀ k1_t2 : Fin (k1_t2_loop v60).trips, ∀ a, (k1_off7 v60 k1_t2) a + S1x1x3x256.size a ≤ S1x8x4x256.size a)
theorem k1_t1_ok : ∀ (v60 : BitVec 32) (k1_hw1 : k1_chk1 v60), (k1_t1_loop v60).OK := fun v60 k1_hw1 => k1_hw1.1
theorem k1_off2_inb : ∀ (v60 : BitVec 32) (k1_hw1 : k1_chk1 v60) (k1_t1 : Fin (k1_t1_loop v60).trips), ∀ a, (k1_off2 v60 k1_t1) a + S1x256x8.size a ≤ S1x2048x8.size a := fun v60 k1_hw1 k1_t1 => k1_hw1.2.1 k1_t1
theorem k1_off3_inb : ∀ (v60 : BitVec 32) (k1_hw1 : k1_chk1 v60) (k1_t1 : Fin (k1_t1_loop v60).trips), ∀ a, (k1_off3 v60 k1_t1) a + S1x256x1.size a ≤ S1x2048x1.size a := fun v60 k1_hw1 k1_t1 => k1_hw1.2.2.1 k1_t1
theorem k1_off4_inb : ∀ (v60 : BitVec 32) (k1_hw1 : k1_chk1 v60) (k1_t1 : Fin (k1_t1_loop v60).trips), ∀ a, (k1_off4 v60 k1_t1) a + S1x1x3x256.size a ≤ S1x8x4x256.size a := fun v60 k1_hw1 k1_t1 => k1_hw1.2.2.2.1 k1_t1
theorem k1_t2_ok : ∀ (v60 : BitVec 32) (k1_hw1 : k1_chk1 v60), (k1_t2_loop v60).OK := fun v60 k1_hw1 => k1_hw1.2.2.2.2.1
theorem k1_off5_inb : ∀ (v60 : BitVec 32) (k1_hw1 : k1_chk1 v60) (k1_t2 : Fin (k1_t2_loop v60).trips), ∀ a, (k1_off5 v60 k1_t2) a + S1x256x8.size a ≤ S1x2048x8.size a := fun v60 k1_hw1 k1_t2 => k1_hw1.2.2.2.2.2.1 k1_t2
theorem k1_off6_inb : ∀ (v60 : BitVec 32) (k1_hw1 : k1_chk1 v60) (k1_t2 : Fin (k1_t2_loop v60).trips), ∀ a, (k1_off6 v60 k1_t2) a + S1x256x1.size a ≤ S1x2048x1.size a := fun v60 k1_hw1 k1_t2 => k1_hw1.2.2.2.2.2.2.1 k1_t2
theorem k1_off7_inb : ∀ (v60 : BitVec 32) (k1_hw1 : k1_chk1 v60) (k1_t2 : Fin (k1_t2_loop v60).trips), ∀ a, (k1_off7 v60 k1_t2) a + S1x1x3x256.size a ≤ S1x8x4x256.size a := fun v60 k1_hw1 k1_t2 => k1_hw1.2.2.2.2.2.2.2 k1_t2

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x4x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S3x8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S2048x1 .i32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1x2048x1 .i32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x2 : Shape := ⟨2, ![2048, 2]⟩
abbrev S2048x3 : Shape := ⟨2, ![2048, 3]⟩
abbrev S2048x1 : Shape := ⟨2, ![2048, 1]⟩
abbrev S2048 : Shape := ⟨1, ![2048]⟩
abbrev S3 : Shape := ⟨1, ![3]⟩
abbrev S128 : Shape := ⟨1, ![128]⟩
abbrev S_ : Shape := ⟨0, ![]⟩
abbrev S128x128 : Shape := ⟨2, ![128, 128]⟩
abbrev S16384 : Shape := ⟨1, ![16384]⟩
abbrev S16384x1 : Shape := ⟨2, ![16384, 1]⟩
abbrev S16384x2 : Shape := ⟨2, ![16384, 2]⟩
abbrev S1x2048 : Shape := ⟨2, ![1, 2048]⟩
abbrev S16384x2048 : Shape := ⟨2, ![16384, 2048]⟩
abbrev S16384x3 : Shape := ⟨2, ![16384, 3]⟩
abbrev S1x3 : Shape := ⟨2, ![1, 3]⟩
abbrev S128x128x3 : Shape := ⟨3, ![128, 128, 3]⟩
abbrev S3x128x128 : Shape := ⟨3, ![3, 128, 128]⟩

abbrev nBuf : Space → Nat
  | .hbm => 235
  | .vmem => 0
  | .smem => 0
  | _ => 0

abbrev hbmTy0_0 (i : Nat) : BufTy := match i % 128 with
  | 0 => ⟨S2048x2, .f32⟩
  | 1 => ⟨S2048x3, .f32⟩
  | 2 => ⟨S2048x1, .f32⟩
  | 3 => ⟨S2048x2, .f32⟩
  | 4 => ⟨S2048, .f32⟩
  | 5 => ⟨S2048, .f32⟩
  | 6 => ⟨S3, .f32⟩
  | 7 => ⟨S128, .f32⟩
  | 8 => ⟨S_, .f32⟩
  | 9 => ⟨S128, .f32⟩
  | 10 => ⟨S128, .f32⟩
  | 11 => ⟨S128, .f32⟩
  | 12 => ⟨S_, .f32⟩
  | 13 => ⟨S128, .f32⟩
  | 14 => ⟨S128, .f32⟩
  | 15 => ⟨S128x128, .f32⟩
  | 16 => ⟨S128x128, .f32⟩
  | 17 => ⟨S16384, .f32⟩
  | 18 => ⟨S16384, .f32⟩
  | 19 => ⟨S16384x1, .f32⟩
  | 20 => ⟨S16384x1, .f32⟩
  | 21 => ⟨S16384x2, .f32⟩
  | 22 => ⟨S2048, .f32⟩
  | 23 => ⟨S2048, .f32⟩
  | 24 => ⟨S2048x1, .f32⟩
  | 25 => ⟨S2048, .f32⟩
  | 26 => ⟨S2048, .f32⟩
  | 27 => ⟨S2048x1, .f32⟩
  | 28 => ⟨S2048, .f32⟩
  | 29 => ⟨S2048, .f32⟩
  | 30 => ⟨S2048, .f32⟩
  | 31 => ⟨S2048, .f32⟩
  | 32 => ⟨S2048, .f32⟩
  | 33 => ⟨S2048, .f32⟩
  | 34 => ⟨S2048, .f32⟩
  | 35 => ⟨S2048, .f32⟩
  | 36 => ⟨S2048, .f32⟩
  | 37 => ⟨S2048, .f32⟩
  | 38 => ⟨S2048, .f32⟩
  | 39 => ⟨S2048, .f32⟩
  | 40 => ⟨S2048, .f32⟩
  | 41 => ⟨S2048, .f32⟩
  | 42 => ⟨S2048, .f32⟩
  | 43 => ⟨S2048, .f32⟩
  | 44 => ⟨S2048, .f32⟩
  | 45 => ⟨S2048, .f32⟩
  | 46 => ⟨S_, .f32⟩
  | 47 => ⟨S2048, .f32⟩
  | 48 => ⟨S2048, .f32⟩
  | 49 => ⟨S2048, .f32⟩
  | 50 => ⟨S2048, .f32⟩
  | 51 => ⟨S2048, .f32⟩
  | 52 => ⟨S2048, .f32⟩
  | 53 => ⟨S16384x1, .f32⟩
  | 54 => ⟨S16384, .f32⟩
  | 55 => ⟨S16384x1, .f32⟩
  | 56 => ⟨S2048x1, .f32⟩
  | 57 => ⟨S2048, .f32⟩
  | 58 => ⟨S1x2048, .f32⟩
  | 59 => ⟨S16384x2048, .f32⟩
  | 60 => ⟨S16384x2048, .f32⟩
  | 61 => ⟨S16384x2048, .f32⟩
  | 62 => ⟨S16384x1, .f32⟩
  | 63 => ⟨S16384, .f32⟩
  | 64 => ⟨S16384x1, .f32⟩
  | 65 => ⟨S2048x1, .f32⟩
  | 66 => ⟨S2048, .f32⟩
  | 67 => ⟨S1x2048, .f32⟩
  | 68 => ⟨S16384x2048, .f32⟩
  | 69 => ⟨S16384x2048, .f32⟩
  | 70 => ⟨S16384x2048, .f32⟩
  | 71 => ⟨S1x2048, .f32⟩
  | 72 => ⟨S16384x2048, .f32⟩
  | 73 => ⟨S16384x2048, .f32⟩
  | 74 => ⟨S16384x2048, .f32⟩
  | 75 => ⟨S1x2048, .f32⟩
  | 76 => ⟨S16384x2048, .f32⟩
  | 77 => ⟨S16384x2048, .f32⟩
  | 78 => ⟨S16384x2048, .f32⟩
  | 79 => ⟨S16384x2048, .f32⟩
  | 80 => ⟨S_, .f32⟩
  | 81 => ⟨S16384x2048, .f32⟩
  | 82 => ⟨S16384x2048, .f32⟩
  | 83 => ⟨S1x2048, .f32⟩
  | 84 => ⟨S16384x2048, .f32⟩
  | 85 => ⟨S16384x2048, .f32⟩
  | 86 => ⟨S16384x2048, .f32⟩
  | 87 => ⟨S16384x2048, .f32⟩
  | 88 => ⟨S_, .f32⟩
  | 89 => ⟨S16384x2048, .f32⟩
  | 90 => ⟨S16384x2048, .f32⟩
  | 91 => ⟨S2048, .f32⟩
  | 92 => ⟨S1x2048, .f32⟩
  | 93 => ⟨S16384x2048, .f32⟩
  | 94 => ⟨S16384x2048, .f32⟩
  | 95 => ⟨S16384x2048, .f32⟩
  | 96 => ⟨S_, .f32⟩
  | 97 => ⟨S16384x2048, .f32⟩
  | 98 => ⟨S16384x2048, .f32⟩
  | 99 => ⟨S_, .f32⟩
  | 100 => ⟨S16384x2048, .f32⟩
  | 101 => ⟨S16384x2048, .i1⟩
  | 102 => ⟨S_, .f32⟩
  | 103 => ⟨S_, .f32⟩
  | 104 => ⟨S16384x2048, .f32⟩
  | 105 => ⟨S16384x2048, .f32⟩
  | 106 => ⟨S2048, .f32⟩
  | 107 => ⟨S_, .f32⟩
  | 108 => ⟨S2048, .f32⟩
  | 109 => ⟨S2048, .f32⟩
  | 110 => ⟨S2048, .f32⟩
  | 111 => ⟨S2048, .f32⟩
  | 112 => ⟨S_, .f32⟩
  | 113 => ⟨S2048, .f32⟩
  | 114 => ⟨S2048, .f32⟩
  | 115 => ⟨S2048, .f32⟩
  | 116 => ⟨S2048, .f32⟩
  | 117 => ⟨S2048, .f32⟩
  | 118 => ⟨S_, .f32⟩
  | 119 => ⟨S2048, .f32⟩
  | 120 => ⟨S2048, .f32⟩
  | 121 => ⟨S2048, .f32⟩
  | 122 => ⟨S2048, .i32⟩
  | 123 => ⟨S_, .f32⟩
  | 124 => ⟨S16384x2048, .f32⟩
  | 125 => ⟨S16384x2048, .i1⟩
  | 126 => ⟨S16384x2048, .i32⟩
  | 127 => ⟨S_, .i32⟩
  | _ => ⟨S2048x2, .f32⟩

abbrev hbmTy0_1 (i : Nat) : BufTy := match i % 128 with
  | 0 => ⟨S2048, .i32⟩
  | 1 => ⟨S2048, .i32⟩
  | 2 => ⟨S2048, .f32⟩
  | 3 => ⟨S2048, .i32⟩
  | 4 => ⟨S_, .i32⟩
  | 5 => ⟨S2048, .i32⟩
  | 6 => ⟨S2048, .i1⟩
  | 7 => ⟨S_, .i32⟩
  | 8 => ⟨S2048, .i32⟩
  | 9 => ⟨S2048, .i32⟩
  | 10 => ⟨S2048, .i32⟩
  | 11 => ⟨S2048x1, .i32⟩
  | 12 => ⟨S16384x2048, .f32⟩
  | 13 => ⟨S_, .i32⟩
  | 14 => ⟨S2048, .i32⟩
  | 15 => ⟨S2048, .i1⟩
  | 16 => ⟨S_, .i32⟩
  | 17 => ⟨S2048, .i32⟩
  | 18 => ⟨S2048, .i32⟩
  | 19 => ⟨S2048, .i32⟩
  | 20 => ⟨S2048x1, .i32⟩
  | 21 => ⟨S2048x3, .f32⟩
  | 22 => ⟨S_, .f32⟩
  | 23 => ⟨S16384, .f32⟩
  | 24 => ⟨S_, .f32⟩
  | 25 => ⟨S16384x3, .f32⟩
  | 26 => ⟨S_, .i32⟩
  | 27 => ⟨S_, .i32⟩
  | 28 => ⟨S16384x2048, .f32⟩
  | 29 => ⟨S2048x3, .f32⟩
  | 30 => ⟨S_, .i32⟩
  | 31 => ⟨S_, .i32⟩
  | 32 => ⟨S16384, .f32⟩
  | 33 => ⟨S16384x3, .f32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S16384x1, .f32⟩
  | 53 => ⟨S16384, .f32⟩
  | 54 => ⟨S16384, .f32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S16384x1, .f32⟩
  | 70 => ⟨S16384, .f32⟩
  | 71 => ⟨S_, .f32⟩
  | 72 => ⟨S16384, .f32⟩
  | 73 => ⟨S16384, .f32⟩
  | 74 => ⟨S16384, .f32⟩
  | 75 => ⟨S16384x1, .f32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i32⟩
  | 90 => ⟨S1x3, .f32⟩
  | 91 => ⟨S3, .f32⟩
  | 92 => ⟨S1x3, .f32⟩
  | 93 => ⟨S16384x3, .f32⟩
  | 94 => ⟨S16384x3, .f32⟩
  | 95 => ⟨S16384x3, .f32⟩
  | 96 => ⟨S16384x3, .f32⟩
  | 97 => ⟨S_, .i32⟩
  | 98 => ⟨S_, .i32⟩
  | 99 => ⟨S16384x1, .f32⟩
  | 100 => ⟨S1x3, .f32⟩
  | 101 => ⟨S16384x3, .f32⟩
  | 102 => ⟨S16384x3, .f32⟩
  | 103 => ⟨S16384x3, .f32⟩
  | 104 => ⟨S16384x3, .f32⟩
  | 105 => ⟨S128x128x3, .f32⟩
  | 106 => ⟨S3x128x128, .f32⟩
  | _ => ⟨S2048x2, .f32⟩

abbrev hbmTy (i : Nat) : BufTy := match i / 128 with
  | 0 => hbmTy0_0 i
  | 1 => hbmTy0_1 i
  | _ => ⟨S2048x2, .f32⟩

abbrev bufTy : (tb : Table) → Fin (tcTables nBuf tb) → BufTy
  | .hbm, ⟨i, _⟩ => hbmTy i
  | _, _ => ⟨S2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_1 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_cst_2 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_cst_3 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_cst_4 : Ref sig .tc := ⟨.hbm, 96, rfl⟩
abbrev main_v84 : Ref sig .tc := ⟨.hbm, 97, rfl⟩
abbrev main_v85 : Ref sig .tc := ⟨.hbm, 98, rfl⟩
abbrev main_cst_5 : Ref sig .tc := ⟨.hbm, 99, rfl⟩
abbrev main_v86 : Ref sig .tc := ⟨.hbm, 100, rfl⟩
abbrev main_v87 : Ref sig .tc := ⟨.hbm, 101, rfl⟩
abbrev main_cst_6 : Ref sig .tc := ⟨.hbm, 102, rfl⟩
abbrev main_call0_v0 : Ref sig .tc := ⟨.hbm, 103, rfl⟩
abbrev main_call0_v1 : Ref sig .tc := ⟨.hbm, 104, rfl⟩
abbrev main_v88 : Ref sig .tc := ⟨.hbm, 105, rfl⟩
abbrev main_v89 : Ref sig .tc := ⟨.hbm, 106, rfl⟩
abbrev main_cst_7 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_8 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_cst_9 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_cst_10 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_c : Ref sig .tc := ⟨.hbm, 127, rfl⟩
abbrev main_v106 : Ref sig .tc := ⟨.hbm, 128, rfl⟩
abbrev main_call1_v0 : Ref sig .tc := ⟨.hbm, 129, rfl⟩
abbrev main_call1_v1_0 : Ref sig .tc := ⟨.hbm, 130, rfl⟩
abbrev main_v107 : Ref sig .tc := ⟨.hbm, 131, rfl⟩
abbrev main_c_11 : Ref sig .tc := ⟨.hbm, 132, rfl⟩
abbrev main_v108 : Ref sig .tc := ⟨.hbm, 133, rfl⟩
abbrev main_v109 : Ref sig .tc := ⟨.hbm, 134, rfl⟩
abbrev main_c_12 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_c_13 : Ref sig .tc := ⟨.hbm, 141, rfl⟩
abbrev main_v115 : Ref sig .tc := ⟨.hbm, 142, rfl⟩
abbrev main_v116 : Ref sig .tc := ⟨.hbm, 143, rfl⟩
abbrev main_c_14 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_cst_15 : Ref sig .tc := ⟨.hbm, 150, rfl⟩
abbrev main_v122 : Ref sig .tc := ⟨.hbm, 151, rfl⟩
abbrev main_cst_16 : Ref sig .tc := ⟨.hbm, 152, rfl⟩
abbrev main_v123 : Ref sig .tc := ⟨.hbm, 153, rfl⟩
abbrev main_c_17 : Ref sig .tc := ⟨.hbm, 154, rfl⟩
abbrev main_c_18 : Ref sig .tc := ⟨.hbm, 155, rfl⟩
abbrev main_v124_0 : Ref sig .tc := ⟨.hbm, 156, rfl⟩
abbrev main_v124_1 : Ref sig .tc := ⟨.hbm, 157, rfl⟩
abbrev main_v124_2 : Ref sig .tc := ⟨.hbm, 158, rfl⟩
abbrev main_v124_3 : Ref sig .tc := ⟨.hbm, 159, rfl⟩
abbrev main_v124_4 : Ref sig .tc := ⟨.hbm, 160, rfl⟩
abbrev main_v124_5 : Ref sig .tc := ⟨.hbm, 161, rfl⟩
abbrev main_while0c_c_24 : Ref sig .tc := ⟨.hbm, 162, rfl⟩
abbrev main_while0c_v133 : Ref sig .tc := ⟨.hbm, 163, rfl⟩
abbrev main_while0b_c_24 : Ref sig .tc := ⟨.hbm, 164, rfl⟩
abbrev main_while0b_v133 : Ref sig .tc := ⟨.hbm, 165, rfl⟩
abbrev main_while0b_v134 : Ref sig .tc := ⟨.hbm, 166, rfl⟩
abbrev main_while0b_c_25 : Ref sig .tc := ⟨.hbm, 167, rfl⟩
abbrev main_while0b_c_26 : Ref sig .tc := ⟨.hbm, 168, rfl⟩
abbrev main_while0b_v135 : Ref sig .tc := ⟨.hbm, 169, rfl⟩
abbrev main_while0b_c_27 : Ref sig .tc := ⟨.hbm, 170, rfl⟩
abbrev main_while0b_c_28 : Ref sig .tc := ⟨.hbm, 171, rfl⟩
abbrev main_while0b_v136 : Ref sig .tc := ⟨.hbm, 172, rfl⟩
abbrev main_while0b_c_29 : Ref sig .tc := ⟨.hbm, 173, rfl⟩
abbrev main_while0b_v137 : Ref sig .tc := ⟨.hbm, 174, rfl⟩
abbrev main_while0b_c_30 : Ref sig .tc := ⟨.hbm, 175, rfl⟩
abbrev main_while0b_v138 : Ref sig .tc := ⟨.hbm, 176, rfl⟩
abbrev main_while0b_c_31 : Ref sig .tc := ⟨.hbm, 177, rfl⟩
abbrev main_while0b_v139 : Ref sig .tc := ⟨.hbm, 178, rfl⟩
abbrev main_while0b_v140 : Ref sig .tc := ⟨.hbm, 179, rfl⟩
abbrev main_while0b_v141 : Ref sig .tc := ⟨.hbm, 180, rfl⟩
abbrev main_while0b_v142 : Ref sig .tc := ⟨.hbm, 181, rfl⟩
abbrev main_while0b_v143 : Ref sig .tc := ⟨.hbm, 182, rfl⟩
abbrev main_while0b_v144 : Ref sig .tc := ⟨.hbm, 183, rfl⟩
abbrev main_while0b_c_32 : Ref sig .tc := ⟨.hbm, 184, rfl⟩
abbrev main_while0b_c_33 : Ref sig .tc := ⟨.hbm, 185, rfl⟩
abbrev main_while0b_v145 : Ref sig .tc := ⟨.hbm, 186, rfl⟩
abbrev main_while0b_c_34 : Ref sig .tc := ⟨.hbm, 187, rfl⟩
abbrev main_while0b_c_35 : Ref sig .tc := ⟨.hbm, 188, rfl⟩
abbrev main_while0b_v146 : Ref sig .tc := ⟨.hbm, 189, rfl⟩
abbrev main_while0b_c_36 : Ref sig .tc := ⟨.hbm, 190, rfl⟩
abbrev main_while0b_v147 : Ref sig .tc := ⟨.hbm, 191, rfl⟩
abbrev main_while0b_c_37 : Ref sig .tc := ⟨.hbm, 192, rfl⟩
abbrev main_while0b_v148 : Ref sig .tc := ⟨.hbm, 193, rfl⟩
abbrev main_while0b_c_38 : Ref sig .tc := ⟨.hbm, 194, rfl⟩
abbrev main_while0b_v149 : Ref sig .tc := ⟨.hbm, 195, rfl⟩
abbrev main_while0b_v150 : Ref sig .tc := ⟨.hbm, 196, rfl⟩
abbrev main_while0b_v151 : Ref sig .tc := ⟨.hbm, 197, rfl⟩
abbrev main_while0b_v152 : Ref sig .tc := ⟨.hbm, 198, rfl⟩
abbrev main_while0b_cst_39 : Ref sig .tc := ⟨.hbm, 199, rfl⟩
abbrev main_while0b_v153 : Ref sig .tc := ⟨.hbm, 200, rfl⟩
abbrev main_while0b_v154 : Ref sig .tc := ⟨.hbm, 201, rfl⟩
abbrev main_while0b_v155 : Ref sig .tc := ⟨.hbm, 202, rfl⟩
abbrev main_while0b_v156 : Ref sig .tc := ⟨.hbm, 203, rfl⟩
abbrev main_while0b_v157 : Ref sig .tc := ⟨.hbm, 204, rfl⟩
abbrev main_while0b_c_40 : Ref sig .tc := ⟨.hbm, 205, rfl⟩
abbrev main_while0b_v158 : Ref sig .tc := ⟨.hbm, 206, rfl⟩
abbrev main_while0b_c_41 : Ref sig .tc := ⟨.hbm, 207, rfl⟩
abbrev main_while0b_v159 : Ref sig .tc := ⟨.hbm, 208, rfl⟩
abbrev main_while0b_v160 : Ref sig .tc := ⟨.hbm, 209, rfl⟩
abbrev main_while0b_c_42 : Ref sig .tc := ⟨.hbm, 210, rfl⟩
abbrev main_while0b_c_43 : Ref sig .tc := ⟨.hbm, 211, rfl⟩
abbrev main_while0b_v161 : Ref sig .tc := ⟨.hbm, 212, rfl⟩
abbrev main_while0b_c_44 : Ref sig .tc := ⟨.hbm, 213, rfl⟩
abbrev main_while0b_c_45 : Ref sig .tc := ⟨.hbm, 214, rfl⟩
abbrev main_while0b_v162 : Ref sig .tc := ⟨.hbm, 215, rfl⟩
abbrev main_while0b_c_46 : Ref sig .tc := ⟨.hbm, 216, rfl⟩
abbrev main_while0b_v163 : Ref sig .tc := ⟨.hbm, 217, rfl⟩
abbrev main_while0b_v164 : Ref sig .tc := ⟨.hbm, 218, rfl⟩
abbrev main_while0b_v165 : Ref sig .tc := ⟨.hbm, 219, rfl⟩
abbrev main_while0b_v166 : Ref sig .tc := ⟨.hbm, 220, rfl⟩
abbrev main_while0b_v167 : Ref sig .tc := ⟨.hbm, 221, rfl⟩
abbrev main_while0b_v168 : Ref sig .tc := ⟨.hbm, 222, rfl⟩
abbrev main_while0b_v169 : Ref sig .tc := ⟨.hbm, 223, rfl⟩
abbrev main_while0b_v170 : Ref sig .tc := ⟨.hbm, 224, rfl⟩
abbrev main_while0b_c_47 : Ref sig .tc := ⟨.hbm, 225, rfl⟩
abbrev main_while0b_v171 : Ref sig .tc := ⟨.hbm, 226, rfl⟩
abbrev main_v125 : Ref sig .tc := ⟨.hbm, 227, rfl⟩
abbrev main_v126 : Ref sig .tc := ⟨.hbm, 228, rfl⟩
abbrev main_v127 : Ref sig .tc := ⟨.hbm, 229, rfl⟩
abbrev main_v128 : Ref sig .tc := ⟨.hbm, 230, rfl⟩
abbrev main_v129 : Ref sig .tc := ⟨.hbm, 231, rfl⟩
abbrev main_v130 : Ref sig .tc := ⟨.hbm, 232, rfl⟩
abbrev main_v131 : Ref sig .tc := ⟨.hbm, 233, rfl⟩
abbrev main_v132 : Ref sig .tc := ⟨.hbm, 234, rfl⟩

abbrev nD : Nat := 1
abbrev τ : Topo := Topo.v7x

variable {F : FTy → Type} [FloatOps F]

abbrev main_while0_count : Scf.Loop 32 := ⟨0#32, 2048#32, 1#32⟩
-- ==== Proof.Bin.lean ====
/-
  What one vector subcore of the binning call leaves in its scratch buffers, as statements about natural numbers.

  A band keeps some of the Gaussians `0 … 2047`. The subcore walks over them sixteen at a time, gives each kept one its
  rank among the kept ones (`Nat.count keep g`) and scatters its channels to places that depend on the rank alone.
  `Held` says which places are already right; `storeIdx_held` is one masked scatter of one channel.
-/
module

public import Idealize.ShloMosaic.PureOps
public import Mathlib.Data.Nat.Count
public import Mathlib.Data.BitVec

@[expose] public section

noncomputable section

namespace Cert.Proof.Bin

open Idealize.ShloMosaic

variable {F : FTy → Type} [FloatOps F]

abbrev V16 : Shape := ⟨1, ![16]⟩

/-- A masked scatter leaves the value `y` at `x` when every lane that names `x` brings `y`, and either `y` was there or
    some lane names `x`. -/
theorem storeIdx_eq {s : Shape} {e : EltTy} {d : Fin 1 → Nat} (f : Vec F s e) (idxs : Fin s.rank → IVec ⟨1, d⟩ 32) (v : Vec F ⟨1, d⟩ e)
    (mask : IVec ⟨1, d⟩ 1) (h : ∀ a x, (idxs a x).toNat < s.size a) (x : s.Idx) (y : Elt F e)
    (hall : ∀ l : Fin (d 0), mask (Shape.ofLane l) = 1 → (∀ a, (x a).val = (idxs a (Shape.ofLane l)).toNat) → v (Shape.ofLane l) = y)
    (hex : f x = y ∨ ∃ l : Fin (d 0), mask (Shape.ofLane l) = 1 ∧ ∀ a, (x a).val = (idxs a (Shape.ofLane l)).toNat) :
    storeIdx f idxs v mask false h x = y := by
  have key : ∀ (L : List (Fin (d 0))) (g : Vec F s e),
      (g x = y ∨ ∃ l ∈ L, mask (Shape.ofLane l) = 1 ∧ ∀ a, (x a).val = (idxs a (Shape.ofLane l)).toNat) →
      (L.foldl (fun g k =>
        let x := Shape.ofLane k
        if mask x = 1 then
          let i := idxAt idxs h x
          let y := if false then Elt.idxAdd e (g i) (v x) else v x
          fun j => if (∀ a, (j a).val = (i a).val) then y else g j
        else g) g) x = y := by
    intro L
    induction L with
    | nil => intro g hg; rcases hg with hg | ⟨l, hl, -⟩; exacts [hg, absurd hl (by simp)]
    | cons k L ih =>
      intro g hg
      rw [List.foldl_cons]
      apply ih
      by_cases hm : mask (Shape.ofLane k) = 1
      · by_cases hi : ∀ a, (x a).val = (idxs a (Shape.ofLane k)).toNat
        · left
          simp only [hm, if_true]
          rw [if_pos (fun a => by exact hi a)]
          exact hall k hm hi
        · rcases hg with hg | ⟨l, hl, hlm, hli⟩
          · left
            simp only [hm, if_true]
            rw [if_neg (fun hh => hi fun a => by exact hh a)]
            exact hg
          · right
            rcases List.mem_cons.mp hl with rfl | hl
            · exact absurd hli hi
            · exact ⟨l, hl, hlm, hli⟩
      · rcases hg with hg | ⟨l, hl, hlm, hli⟩
        · left; simp only [hm, if_false]; exact hg
        · right
          rcases List.mem_cons.mp hl with rfl | hl
          · exact absurd hlm hm
          · exact ⟨l, hl, hlm, hli⟩
  refine key _ f ?_
  rcases hex with h1 | ⟨l, hl⟩
  · exact .inl h1
  · exact .inr ⟨l, List.mem_finRange l, hl⟩

section Held

variable {α : Type}

/-- The places of the Gaussians before `16 k`, and of channels below `c` of the next sixteen, hold what they should. -/
def Held {n : ℕ} (keep : ℕ → Prop) [DecidablePred keep] (addr : ℕ → ℕ → ℕ) (src : ℕ → ℕ → α) (C k c : ℕ) (f : (⟨1, ![n]⟩ : Shape).Idx → α) : Prop :=
  ∀ (g ch : ℕ) (x : (⟨1, ![n]⟩ : Shape).Idx), keep g → ch < C → (g < 16 * k ∨ g < 16 * k + 16 ∧ ch < c) →
    (x 0).val = addr (Nat.count keep g) ch → f x = src ch g

variable {n : ℕ} {keep : ℕ → Prop} [DecidablePred keep] {addr : ℕ → ℕ → ℕ} {src : ℕ → ℕ → α} {C k c : ℕ}

theorem Held.zero (f : (⟨1, ![n]⟩ : Shape).Idx → α) : Held keep addr src C 0 0 f := by
  intro g ch x _ _ h; omega

theorem Held.next {f : (⟨1, ![n]⟩ : Shape).Idx → α} (h : Held keep addr src C k C f) : Held keep addr src C (k + 1) 0 f := by
  intro g ch x hk hc hg hx
  exact h g ch x hk hc (by omega) hx

end Held

/-- One channel of sixteen Gaussians scattered. -/
theorem storeIdx_held {n : ℕ} {keep : ℕ → Prop} [DecidablePred keep] {addr : ℕ → ℕ → ℕ} {src : ℕ → ℕ → F .f32} {C k c : ℕ}
    (hinj : ∀ r r' ch ch', ch < C → ch' < C → addr r ch = addr r' ch' → r = r' ∧ ch = ch') (hc : c < C)
    (f : Vec F ⟨1, ![n]⟩ .f32) (v : IVec V16 32) (vals : Vec F V16 .f32) (mask : IVec V16 1)
    (h : ∀ a x, ((![v] : Fin 1 → IVec V16 32) a x).toNat < (⟨1, ![n]⟩ : Shape).size a)
    (hm : ∀ l : Fin 16, mask (Shape.ofLane l) = 1 ↔ keep (16 * k + l.val))
    (hv : ∀ l : Fin 16, (v (Shape.ofLane l)).toNat = addr (Nat.count keep (16 * k + l.val + 1) - 1) c)
    (hvals : ∀ l : Fin 16, vals (Shape.ofLane l) = src c (16 * k + l.val))
    (hf : Held keep addr src C k c f) :
    Held keep addr src C k (c + 1) (storeIdx f (![v] : Fin 1 → IVec V16 32) vals mask false h : Vec F ⟨1, ![n]⟩ .f32) := by
  intro g ch x hg hch hgc hx
  have cnt : ∀ l : Fin 16, keep (16 * k + l.val) → (v (Shape.ofLane l)).toNat = addr (Nat.count keep (16 * k + l.val)) c := by
    intro l hl; rw [hv l, Nat.count_succ, if_pos hl]; rfl
  refine storeIdx_eq (d := ![16]) f _ vals mask h x _ ?_ ?_
  · intro l hl hx'
    have hl := (hm l).mp hl
    have e : (x 0).val = (v (Shape.ofLane l)).toNat := hx' 0
    rw [hx, cnt l hl] at e
    obtain ⟨e1, e2⟩ := hinj _ _ _ _ hch hc e
    rw [Nat.count_injective hg hl e1, e2]; exact hvals l
  · rcases (by omega : (g < 16 * k ∨ g < 16 * k + 16 ∧ ch < c) ∨ (16 * k ≤ g ∧ g < 16 * k + 16 ∧ ch = c)) with h1 | ⟨h1, h2, h3⟩
    · exact .inl (hf g ch x hg hch h1 hx)
    · right
      have hgl : 16 * k + (g - 16 * k) = g := by omega
      refine ⟨(⟨g - 16 * k, by omega⟩ : Fin 16), (hm ⟨g - 16 * k, by omega⟩).mpr (by show keep (16 * k + (g - 16 * k)); rwa [hgl]), ?_⟩
      intro a
      obtain rfl : a = 0 := Subsingleton.elim _ _
      have := cnt ⟨g - 16 * k, by omega⟩ (by show keep (16 * k + (g - 16 * k)); rwa [hgl])
      show (x 0).val = (v (Shape.ofLane (⟨g - 16 * k, by omega⟩ : Fin 16))).toNat
      rw [this, hx, h3]; simp only [hgl]

/-! ## Ranks as words -/

/-- Sixteen running counts, on top of the count before them. -/
theorem scan_count_lane (keep : ℕ → Prop) [DecidablePred keep] (a : ℕ) (v : IVec V16 32)
    (hv : ∀ l : Fin 16, v (Shape.ofLane l) = if keep (a + l.val) then 1#32 else 0#32) (l : Fin 16) :
    BitVec.ofNat 32 (Nat.count keep a) + scan .sum v (Shape.ofLane (d := ![16]) l) = BitVec.ofNat 32 (Nat.count keep (a + l.val + 1)) := by
  have hs : ∀ j : ℕ, Nat.count keep (a + (j + 1)) = Nat.count keep (a + j) + if keep (a + j) then 1 else 0 := fun j => Nat.count_succ ..
  have hw : ∀ j : ℕ, BitVec.ofNat 32 (if keep (a + j) then 1 else 0) = if keep (a + j) then 1#32 else 0#32 := fun j => by split <;> rfl
  have key : ∀ m : ℕ, m ≤ 16 → 0 < m →
      BitVec.ofNat 32 (Nat.count keep (a + m)) = BitVec.ofNat 32 (Nat.count keep a) + ((List.range m).map fun j => if keep (a + j) then 1#32 else 0#32).sum := by
    intro m _ _
    clear hv
    induction m with
    | zero => simp
    | succ m ih =>
      rcases Nat.eq_zero_or_pos m with rfl | hm
      · rw [hs, BitVec.ofNat_add, hw]; simp
      · rw [hs, BitVec.ofNat_add, hw, ih (by omega) hm, List.range_succ, List.map_append, List.sum_append]; simp [add_assoc]
  rw [add_assoc, key (l.val + 1) (by omega) (by omega)]
  congr 1
  have fold : ∀ (L : List (Fin 16)) (w : BitVec 32), L.foldl (fun r k => ScanKind.sum.step r (v (Shape.ofLane (d := ![16]) k))) w
      = w + (L.map fun k => if keep (a + k.val) then 1#32 else 0#32).sum := by
    intro L
    induction L with
    | nil => intro w; simp
    | cons k L ih => intro w; exact (ih (w + v (Shape.ofLane (d := ![16]) k))).trans (by rw [List.map_cons, List.sum_cons, ← add_assoc, ← hv k])
  show ((List.finRange 16).filter fun k => decide (0 < k.val ∧ k.val ≤ l.val)).foldl (fun r k => ScanKind.sum.step r (v (Shape.ofLane (d := ![16]) k)))
    (v (Shape.ofLane (d := ![16]) (⟨0, by decide⟩ : Fin 16))) = _
  rw [fold, hv ⟨0, by decide⟩]
  have hl : ((List.finRange 16).filter fun k : Fin 16 => decide (0 < k.val ∧ k.val ≤ l.val)).map (fun k => k.val) = (List.range l.val).map (· + 1) := by
    revert l; decide
  rw [List.range_succ_eq_map, List.map_cons, List.sum_cons]
  congr 1
  rw [show (List.map (fun k : Fin 16 => if keep (a + k.val) then 1#32 else 0#32) ((List.finRange 16).filter fun k : Fin 16 => decide (0 < k.val ∧ k.val ≤ l.val)))
      = (((List.finRange 16).filter fun k : Fin 16 => decide (0 < k.val ∧ k.val ≤ l.val)).map fun k => k.val).map (fun j => if keep (a + j) then 1#32 else 0#32) by
    rw [List.map_map]; rfl, hl]

theorem toNat_ofNat_lt {n : ℕ} (h : n < 2 ^ 32) : (BitVec.ofNat 32 n).toNat = n := by
  rw [BitVec.toNat_ofNat]; exact Nat.mod_eq_of_lt h

/-- One below a small word, not below zero. -/
theorem maxsi_sub_one {n : ℕ} (h : n < 2 ^ 31) : IntOp.maxsi (IntOp.subi (BitVec.ofNat 32 n) 1#32) 0#32 = BitVec.ofNat 32 (n - 1) := by
  rcases Nat.eq_zero_or_pos n with rfl | hn
  · decide
  · have e : BitVec.ofNat 32 n - 1#32 = BitVec.ofNat 32 (n - 1) := by
      apply BitVec.eq_of_toNat_eq
      rw [BitVec.toNat_sub, BitVec.toNat_ofNat, BitVec.toNat_ofNat, BitVec.toNat_ofNat]; omega
    show (if BitVec.slt 0#32 (BitVec.ofNat 32 n - 1#32) then _ else _) = _
    rw [e]
    split
    · exact e
    · rename_i hh
      have : ¬ (0 : ℤ) < (BitVec.ofNat 32 (n - 1)).toInt := by simpa [BitVec.slt] using hh
      rw [BitVec.toInt_eq_toNat_of_lt (by rw [toNat_ofNat_lt] <;> omega), toNat_ofNat_lt (by omega)] at this
      have : n - 1 = 0 := by omega
      rw [this]

end Cert.Proof.Bin

end
-- ==== Proof.Lanes.lean ====
/-
  The vectors of one trip of the binning loop, lane by lane, as ranks and array positions.
-/
module

public import proofs.«01_k».proof.Proof.Bin
public import proofs.«01_k».proof.Proof.Gen.KernelIdeal
public import proofs.«01_k».proof.Proof.Gen.KernelIdeal.Skeleton

@[expose] public section

noncomputable section

namespace Cert.Proof.Bin

open Idealize.ShloMosaic Cert.KernelIdeal Cert.KernelIdeal.Gen

variable {F : FTy → Type} [FloatOps F]

/-- Lane `l` of a vector of sixteen. -/
abbrev lane (l : Fin 16) : S16.Idx := Shape.ofLane (d := ![16]) l

theorem eq_lane (i : S16.Idx) : i = lane (i 0) := by
  funext a; obtain rfl : a = 0 := Subsingleton.elim _ _; rfl

/-- Word `n` of the sixteen channel rows, one after another. -/
def rd (ch : S32768.Idx → F .f32) (n : ℕ) : F .f32 := ch (Shape.ofLane (d := ![32768]) (⟨n % 32768, Nat.mod_lt _ (by decide)⟩ : Fin 32768))

theorem rd_eq (ch : S32768.Idx → F .f32) (x : S32768.Idx) : ch x = rd ch (x 0).val := by
  unfold rd; congr 1; funext a; obtain rfl : a = 0 := Subsingleton.elim _ _
  exact Fin.ext (Nat.mod_eq_of_lt (x 0).isLt).symm

/-- The band keeps Gaussian `g`: its lowest row is not above the band's last pixel centre, its highest not below the first. -/
def Kept (v1 : BitVec 32) (ch : S32768.Idx → F .f32) (g : ℕ) : Prop :=
  IntOp.andi (FloatOps.cmpf .ole (rd ch g) (k0_pay29 (F := F) v1)) (FloatOps.cmpf .oge (rd ch (2048 + g)) (k0_pay28 (F := F) v1)) = 1#1

instance (v1 : BitVec 32) (ch : S32768.Idx → F .f32) : DecidablePred (Kept v1 ch) := fun _ => by unfold Kept; infer_instance

/-- How many of the first `g` Gaussians the band keeps. -/
abbrev rank (v1 : BitVec 32) (ch : S32768.Idx → F .f32) (g : ℕ) : ℕ := Nat.count (Kept v1 ch) g

theorem rank_le (v1 : BitVec 32) (ch : S32768.Idx → F .f32) (g : ℕ) : rank v1 ch g ≤ g := Nat.count_le _

/-- Where the geometry channel `c` of the Gaussian of rank `r` goes, and where its colour channel `c` goes. -/
def geoAt (r c : ℕ) : ℕ := r * 8 + c
def colAt (r c : ℕ) : ℕ := r / 256 * 1024 + r % 256 + c * 256
/-- Where they come from. -/
def geoSrc (ch : S32768.Idx → F .f32) (c g : ℕ) : F .f32 := rd ch (g + (c + 2) * 2048)
def colSrc (ch : S32768.Idx → F .f32) (c g : ℕ) : F .f32 := rd ch (g + (c + 10) * 2048)

theorem geoAt_inj : ∀ r r' c c', c < 8 → c' < 8 → geoAt r c = geoAt r' c' → r = r' ∧ c = c' := by
  intro r r' c c' h h' e; unfold geoAt at e; omega
theorem colAt_inj : ∀ r r' c c', c < 3 → c' < 3 → colAt r c = colAt r' c' → r = r' ∧ c = c' := by
  intro r r' c c' h h' e; unfold colAt at e; omega

section Trip

variable (v1 : BitVec 32) (ch : S32768.Idx → F .f32) (k : Fin k0_t1_loop.trips)

theorem trips_eq : k0_t1_loop.trips = 128 := by decide
theorem trip_lt : k.val < 128 := lt_of_lt_of_eq k.isLt trips_eq

/-- The count carried into trip `k`, in every lane. -/
def carried (k : ℕ) : IVec S16 32 := fun _ => BitVec.ofNat 32 (rank v1 ch (16 * k))

theorem carried_zero : carried v1 ch 0 = k0_pay30 := by
  funext _; show BitVec.ofNat 32 (rank v1 ch (16 * 0)) = 0#32; simp [rank]

theorem pay3_lane (l : Fin 16) : k0_pay3 0#32 1#32 k (lane l) = BitVec.ofNat 32 (16 * k.val + l.val) := by
  have := trip_lt k
  show (0#32 + BitVec.ofNat 32 k.val * 1#32) * 16#32 + BitVec.ofNat 32 (0 * 16 + l.val) = _
  apply BitVec.eq_of_toNat_eq
  simp only [BitVec.toNat_add, BitVec.toNat_mul, BitVec.toNat_ofNat]
  omega

/-- The index vector of a channel's sixteen words: an offset added to the Gaussians' numbers. -/
theorem off_lane (l : Fin 16) (o : ℕ) (ho : o ≤ 30720) (w : IVec S16 32) (hw : ∀ i, w i = IntOp.addi (k0_pay3 0#32 1#32 k i) (BitVec.ofNat 32 o)) :
    (w (lane l)).toNat = 16 * k.val + l.val + o := by
  have := trip_lt k
  rw [hw, pay3_lane]
  show (BitVec.ofNat 32 _ + BitVec.ofNat 32 o).toNat = _
  simp only [BitVec.toNat_add, BitVec.toNat_ofNat]
  omega

theorem off_inb (o : ℕ) (ho : o ≤ 30720) (w : IVec S16 32) (hw : ∀ i, w i = IntOp.addi (k0_pay3 0#32 1#32 k i) (BitVec.ofNat 32 o)) :
    ∀ a x, ((![w] : Fin 1 → IVec S16 32) a x).toNat < S32768.size a := by
  intro a x
  have := trip_lt k
  obtain rfl : a = 0 := Subsingleton.elim _ _
  show (w x).toNat < 32768
  have h := off_lane k (x 0) o ho w hw
  rw [← eq_lane x] at h
  rw [h]
  have : (x 0).val < 16 := (x 0).isLt
  omega

/-- A gather of sixteen channel words. -/
theorem gather_lane (o : ℕ) (ho : o ≤ 30720) (w : IVec S16 32) (hw : ∀ i, w i = IntOp.addi (k0_pay3 0#32 1#32 k i) (BitVec.ofNat 32 o))
    (h : ∀ a x, ((![w] : Fin 1 → IVec S16 32) a x).toNat < S32768.size a) (l : Fin 16) :
    loadIdx (F := F) (e := .f32) (s := S32768) ch (![w] : Fin 1 → IVec S16 32) h (lane l) = rd ch (16 * k.val + l.val + o) := by
  refine (rd_eq ch (idxAt _ h (lane l))).trans ?_
  congr 1
  exact off_lane k l o ho w hw

theorem pay3_off (i) : k0_pay3 0#32 1#32 k i = IntOp.addi (k0_pay3 0#32 1#32 k i) (BitVec.ofNat 32 0) := by
  show _ = _ + 0#32; simp

/-- The two gathers that decide what is kept. -/
def lowV : Vec F S16 .f32 := loadIdx (F := F) (e := .f32) (s := S32768) ch (![k0_pay3 0#32 1#32 k] : Fin 1 → IVec S16 32) (off_inb k 0 (by decide) _ (pay3_off k))
def highV : Vec F S16 .f32 := loadIdx (F := F) (e := .f32) (s := S32768) ch (![k0_pay4 (k0_pay3 0#32 1#32 k)] : Fin 1 → IVec S16 32)
  (off_inb k 2048 (by decide) _ fun _ => rfl)

/-- The mask of the sixteen. -/
abbrev keepV : IVec S16 1 := k0_pay5 (k0_pay28 (F := F) v1) (k0_pay29 (F := F) v1) (lowV ch k) (highV ch k)

theorem keepV_lane (l : Fin 16) : keepV v1 ch k (lane l) = 1 ↔ Kept v1 ch (16 * k.val + l.val) := by
  unfold Kept
  show IntOp.andi (FloatOps.cmpf .ole (lowV ch k (lane l)) _) (FloatOps.cmpf .oge (highV ch k (lane l)) _) = 1#1 ↔ _
  rw [show lowV ch k (lane l) = rd ch (16 * k.val + l.val + 0) from gather_lane ch k 0 (by decide) _ (pay3_off k) _ l,
    show highV ch k (lane l) = rd ch (16 * k.val + l.val + 2048) from gather_lane ch k 2048 (by decide) _ (fun _ => rfl) _ l,
    Nat.add_zero, Nat.add_comm _ 2048]
  rfl

theorem pay6_lane (l : Fin 16) : k0_pay6 (k0_pay28 (F := F) v1) (k0_pay29 (F := F) v1) (lowV ch k) (highV ch k) (lane l)
    = if Kept v1 ch (16 * k.val + l.val) then 1#32 else 0#32 := by
  show (if keepV v1 ch k (lane l) = 1 then 1#32 else 0#32) = _
  simp only [keepV_lane]

/-- The places, by lane. -/
abbrev posN (l : Fin 16) : ℕ := rank v1 ch (16 * k.val + l.val + 1) - 1

theorem posN_le (l : Fin 16) : posN v1 ch k l ≤ 2047 := by
  have := trip_lt k
  have := rank_le v1 ch (16 * k.val + l.val + 1)
  unfold posN; omega

abbrev posV : IVec S16 32 := k0_pay7 (k0_pay28 (F := F) v1) (k0_pay29 (F := F) v1) (carried v1 ch k.val) (lowV ch k) (highV ch k)

theorem posV_lane (l : Fin 16) : posV v1 ch k (lane l) = BitVec.ofNat 32 (posN v1 ch k l) := by
  show IntOp.maxsi (IntOp.subi (BitVec.ofNat 32 (rank v1 ch (16 * k.val)) + scan .sum _ (lane l)) 1#32) 0#32 = _
  rw [scan_count_lane (Kept v1 ch) (16 * k.val) _ (pay6_lane v1 ch k) l]
  have := trip_lt k
  exact maxsi_sub_one (lt_of_le_of_lt (rank_le v1 ch (16 * k.val + l.val + 1)) (by omega))

/-- The geometry places: eight words a Gaussian. -/
theorem geo_lane (l : Fin 16) (c : ℕ) (hc : c < 8) (w : IVec S16 32)
    (hw : ∀ i, w i = IntOp.addi (IntOp.muli (posV v1 ch k i) 8#32) (BitVec.ofNat 32 c)) :
    (w (lane l)).toNat = geoAt (posN v1 ch k l) c := by
  have := posN_le v1 ch k l
  rw [hw, posV_lane]
  show (BitVec.ofNat 32 _ * 8#32 + BitVec.ofNat 32 c).toNat = _
  simp only [BitVec.toNat_add, BitVec.toNat_mul, BitVec.toNat_ofNat, geoAt]
  omega

theorem geo_inb (c : ℕ) (hc : c < 8) (w : IVec S16 32) (hw : ∀ i, w i = IntOp.addi (IntOp.muli (posV v1 ch k i) 8#32) (BitVec.ofNat 32 c)) :
    ∀ a x, ((![w] : Fin 1 → IVec S16 32) a x).toNat < S16384.size a := by
  intro a x
  obtain rfl : a = 0 := Subsingleton.elim _ _
  show (w x).toNat < 16384
  have h := geo_lane v1 ch k (x 0) c hc w hw
  rw [← eq_lane x] at h
  have := posN_le v1 ch k (x 0)
  rw [h]; unfold geoAt; omega

/-- The colour places: chunks of 256 Gaussians, a row of 256 words a channel. -/
theorem col_lane (l : Fin 16) (c : ℕ) (hc : c < 3) (w : IVec S16 32)
    (hw : ∀ i, w i = IntOp.addi (k0_pay31 (k0_pay25 (posV v1 ch k)) (k0_pay26 (posV v1 ch k)) k0_pay27 i) (BitVec.ofNat 32 (c * 256))) :
    (w (lane l)).toNat = colAt (posN v1 ch k l) c := by
  have := posN_le v1 ch k l
  rw [hw]
  show (IntOp.shrui .vector (posV v1 ch k (lane l)) 8#32 * 1024#32 + (posV v1 ch k (lane l) &&& 255#32) + BitVec.ofNat 32 (c * 256)).toNat = _
  rw [posV_lane]
  have hs : IntOp.shrui .vector (BitVec.ofNat 32 (posN v1 ch k l)) 8#32 = BitVec.ofNat 32 (posN v1 ch k l / 256) := by
    show (if (8#32).toNat < 32 then _ else _) = _
    rw [if_pos (by decide)]
    apply BitVec.eq_of_toNat_eq
    show (BitVec.ofNat 32 (posN v1 ch k l) >>> (8#32).toNat).toNat = _
    rw [BitVec.toNat_ushiftRight, toNat_ofNat_lt (by omega), Nat.shiftRight_eq_div_pow,
      toNat_ofNat_lt (n := posN v1 ch k l / 256) (by omega)]; rfl
  have hand : BitVec.ofNat 32 (posN v1 ch k l) &&& 255#32 = BitVec.ofNat 32 (posN v1 ch k l % 256) := by
    apply BitVec.eq_of_toNat_eq
    rw [BitVec.toNat_and, BitVec.toNat_ofNat, BitVec.toNat_ofNat, BitVec.toNat_ofNat, show 255 % 2 ^ 32 = 2 ^ 8 - 1 from rfl, Nat.and_two_pow_sub_one_eq_mod]
    omega
  rw [hs, hand]
  simp only [BitVec.toNat_add, BitVec.toNat_mul, BitVec.toNat_ofNat, colAt]
  omega

theorem col_inb (c : ℕ) (hc : c < 3) (w : IVec S16 32)
    (hw : ∀ i, w i = IntOp.addi (k0_pay31 (k0_pay25 (posV v1 ch k)) (k0_pay26 (posV v1 ch k)) k0_pay27 i) (BitVec.ofNat 32 (c * 256))) :
    ∀ a x, ((![w] : Fin 1 → IVec S16 32) a x).toNat < S8192.size a := by
  intro a x
  obtain rfl : a = 0 := Subsingleton.elim _ _
  show (w x).toNat < 8192
  have h := col_lane v1 ch k (x 0) c hc w hw
  rw [← eq_lane x] at h
  have := posN_le v1 ch k (x 0)
  rw [h]; unfold colAt; omega

/-- The count carried on. -/
theorem pay38_eq : k0_pay38 (carried v1 ch k.val) (k0_pay6 (k0_pay28 (F := F) v1) (k0_pay29 (F := F) v1) (lowV ch k) (highV ch k)) = carried v1 ch (k.val + 1) := by
  funext i
  have h := scan_count_lane (Kept v1 ch) (16 * k.val) _ (pay6_lane v1 ch k) ⟨15, by decide⟩
  have e : ∀ (c w : IVec S16 32), k0_pay38 c w i = c i + scan .sum w (lane ⟨15, by decide⟩) := by
    intro c w
    unfold k0_pay38
    generalize scan .sum w = s
    show c i + s _ = c i + s _
    congr 2
    funext a; obtain rfl : a = 0 := Subsingleton.elim _ _; rfl
  exact (e _ _).trans h

end Trip

end Cert.Proof.Bin

end
-- ==== Proof.Setup.lean ====
/-
  The binning call's set-up: the program as the launch theorem sees it, the ghost state, the arrays, the band a task takes and the rows
  it writes.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton
public import proofs.«01_k».proof.Proof.Bin
public import proofs.«01_k».proof.Proof.Lanes

@[expose] public section

noncomputable section

namespace Cert.Proof.Bin

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

variable [FloatOps F]

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays of the call, on a device -/

/-- The channels, one row of 2048 after another; the zeroes of a band's colours; the bands' geometry, colours and counts. -/
abbrev chLoc (d : Dev nD) : Loc nD τ sig := (SparseCore.T d).loc main_v99
abbrev czLoc (d : Dev nD) : Loc nD τ sig := (SparseCore.T d).loc main_v98
abbrev geoLoc (d : Dev nD) : Loc nD τ sig := (SparseCore.T d).loc main_v100_0
abbrev colLoc (d : Dev nD) : Loc nD τ sig := (SparseCore.T d).loc main_v100_1
abbrev cntLoc (d : Dev nD) : Loc nD τ sig := (SparseCore.T d).loc main_v100_2

abbrev chV : Memref sig .scVector .hbm S32768 .f32 := Memref.whole main_v99_scv
abbrev czV : Memref sig .scVector .hbm S8192 .f32 := Memref.whole main_v98_scv
abbrev geoV : Memref sig .scVector .hbm S16x16384 .f32 := Memref.whole main_v100_0_scv
abbrev colV : Memref sig .scVector .hbm S16x8192 .f32 := Memref.whole main_v100_1_scv
abbrev cntV : Memref sig .scVector .hbm S16x16 .i32 := Memref.whole main_v100_2_scv

/-! ## The bands -/

theorem hdivG : 16 ∣ S16x16384.size 0 := ⟨1, rfl⟩
theorem hdivC : 16 ∣ S16x8192.size 0 := ⟨1, rfl⟩
theorem hdivN : 16 ∣ S16x16.size 0 := ⟨1, rfl⟩
/-- Row `b` of each of the three outputs. -/
abbrev rowG (b : Fin 16) : Rect S16x16384 := Rect.part (s := S16x16384) (a₀ := 0) hdivG b
abbrev rowC (b : Fin 16) : Rect S16x8192 := Rect.part (s := S16x8192) (a₀ := 0) hdivC b
abbrev rowN (b : Fin 16) : Rect S16x16 := Rect.part (s := S16x16) (a₀ := 0) hdivN b

/-- Word `n` of row `b`. -/
abbrev atG (b : Fin 16) (n : Fin 16384) : S16x16384.Idx := fun a => match a with | 0 => b | 1 => n
abbrev atC (b : Fin 16) (n : Fin 8192) : S16x8192.Idx := fun a => match a with | 0 => b | 1 => n
abbrev atN (b : Fin 16) (n : Fin 16) : S16x16.Idx := fun a => match a with | 0 => b | 1 => n

/-- A row of an output, as a vector. -/
def takeG {α : Type} (f : S16x16384.Idx → α) (b : Fin 16) : S16384.Idx → α := fun x => f (atG b (x 0))
def takeC {α : Type} (f : S16x8192.Idx → α) (b : Fin 16) : S8192.Idx → α := fun x => f (atC b (x 0))
def takeN {α : Type} (f : S16x16.Idx → α) (b : Fin 16) : S16.Idx → α := fun x => f (atN b (x 0))

/-- The number of band `b` as the kernel's word. -/
abbrev bandW (b : Fin 16) : BitVec 32 := BitVec.ofNat 32 b.val

/-- What band `b`'s rows hold after the call: the kept Gaussians' channels, each at its rank; their number in lane 0. -/
structure BandOK (ch : S32768.Idx → F .f32) (b : Fin 16) (g : S16384.Idx → F .f32) (c : S8192.Idx → F .f32) (n : S16.Idx → BitVec 32) : Prop where
  geo : Held (Kept (bandW b) ch) geoAt (geoSrc ch) 8 128 0 g
  col : Held (Kept (bandW b) ch) colAt (colSrc ch) 3 128 0 c
  cnt : n (lane 0) = BitVec.ofNat 32 (rank (bandW b) ch 2048)

/-! ## A task's coordinates -/

section Coords

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

/-- The tasks whose band is one of the sixteen, and the band. -/
theorem active_iff : ∀ (c : Fin 2) (j : Fin 16), k0_cond1 (fun | 0 => c | 1 => j | ⟨_ + 2, h⟩ => absurd h (Nat.not_lt.2 (Nat.le_add_left _ _))) = 1#1 ↔ 2 * j.val + c.val < 16 := by
  decide

theorem coords_eq : L = (fun | 0 => cL L | 1 => jL L | ⟨_ + 2, h⟩ => absurd h (Nat.not_lt.2 (Nat.le_add_left _ _))) := by
  funext a
  match a with
  | 0 => rfl
  | 1 => rfl

theorem cond_iff : k0_cond1 L = 1#1 ↔ 2 * (jL L).val + (cL L).val < 16 := by
  conv_lhs => rw [coords_eq L]
  exact active_iff _ _

/-- The band of a task that has one. -/
abbrev bandL (h : 2 * (jL L).val + (cL L).val < 16) : Fin 16 := ⟨2 * (jL L).val + (cL L).val, h⟩

theorem bandW_eq (h : 2 * (jL L).val + (cL L).val < 16) :
    Scalar.addi (Scalar.muli (BitVec.ofNat 32 (L 1).val) 2#32) (BitVec.ofNat 32 (L 0).val) = bandW (bandL L h) := by
  show BitVec.ofNat 32 (jL L).val * 2#32 + BitVec.ofNat 32 (cL L).val = BitVec.ofNat 32 (2 * (jL L).val + (cL L).val)
  apply BitVec.eq_of_toNat_eq
  simp only [BitVec.toNat_add, BitVec.toNat_mul, BitVec.toNat_ofNat]
  omega

variable (k0_h1 : k0_cond1 L = 1#1) (h : 2 * (jL L).val + (cL L).val < 16)

abbrev rowGK : Rect S16x16384 := Rect.unit (s := S16x16384) (k0_off1 L) S1x16384.size (k0_off1_inb L k0_h1)
abbrev rowCK : Rect S16x8192 := Rect.unit (s := S16x8192) (k0_off2 L) S1x8192.size (k0_off2_inb L k0_h1)
abbrev rowNK : Rect S16x16 := Rect.unit (s := S16x16) (k0_off3 L) S1x16.size (k0_off3_inb L k0_h1)
abbrev geoK : Memref sig .scVector .hbm S16384 .f32 := ((geoV).slice (rowGK L k0_h1) (fun _ => rfl)).squeeze S16384 squeezes_S1x16384_S16384
abbrev colK : Memref sig .scVector .hbm S8192 .f32 := ((colV).slice (rowCK L k0_h1) (fun _ => rfl)).squeeze S8192 squeezes_S1x8192_S8192
abbrev cntK : Memref sig .scVector .hbm S16 .i32 := ((cntV).slice (rowNK L k0_h1) (fun _ => rfl)).squeeze S16 squeezes_S1x16_S16

theorem rowGK_eq : rowGK L k0_h1 = rowG (bandL L h) := by
  unfold rowGK rowG Rect.part Rect.block
  congr 1 <;> funext a
  · rw [k0_off1_eq]
    match a with
    | 0 => simp [Shape.partIx, Shape.partSize]
    | 1 => simp [Shape.partIx, Shape.partSize]
  · match a with
    | 0 => simp [Shape.partSize]
    | 1 => simp [Shape.partSize]
theorem rowCK_eq : rowCK L k0_h1 = rowC (bandL L h) := by
  unfold rowCK rowC Rect.part Rect.block
  congr 1 <;> funext a
  · rw [k0_off2_eq]
    match a with
    | 0 => simp [Shape.partIx, Shape.partSize]
    | 1 => simp [Shape.partIx, Shape.partSize]
  · match a with
    | 0 => simp [Shape.partSize]
    | 1 => simp [Shape.partSize]
theorem rowNK_eq : rowNK L k0_h1 = rowN (bandL L h) := by
  unfold rowNK rowN Rect.part Rect.block
  congr 1 <;> funext a
  · rw [k0_off3_eq]
    match a with
    | 0 => simp [Shape.partIx, Shape.partSize]
    | 1 => simp [Shape.partIx, Shape.partSize]
  · match a with
    | 0 => simp [Shape.partSize]
    | 1 => simp [Shape.partSize]

theorem set_geoK : (geoK L k0_h1).view.set = (rowG (bandL L h)).set := by
  show (((geoV).view.slice (rowGK L k0_h1)).reshape S16384 squeezes_S1x16384_S16384.numel_eq).set = _
  rw [View.set_reshape]; exact (View.set_slice_whole main_v100_0_scv (rowGK L k0_h1)).trans (congrArg (fun r => r.toLoadRect.set) (rowGK_eq L k0_h1 h))
theorem set_colK : (colK L k0_h1).view.set = (rowC (bandL L h)).set := by
  show (((colV).view.slice (rowCK L k0_h1)).reshape S8192 squeezes_S1x8192_S8192.numel_eq).set = _
  rw [View.set_reshape]; exact (View.set_slice_whole main_v100_1_scv (rowCK L k0_h1)).trans (congrArg (fun r => r.toLoadRect.set) (rowCK_eq L k0_h1 h))
theorem set_cntK : (cntK L k0_h1).view.set = (rowN (bandL L h)).set := by
  show (((cntV).view.slice (rowNK L k0_h1)).reshape S16 squeezes_S1x16_S16.numel_eq).set = _
  rw [View.set_reshape]; exact (View.set_slice_whole main_v100_2_scv (rowNK L k0_h1)).trans (congrArg (fun r => r.toLoadRect.set) (rowNK_eq L k0_h1 h))

/-- Where a row's view finds its words. -/
theorem emb_geoK (x : S16384.Idx) : (geoK L k0_h1).view.emb x = atG (bandL L h) (x 0) := by
  show (rowGK L k0_h1).emb (Shape.reshapeEquiv squeezes_S1x16384_S16384.numel_eq x) = _
  rw [show Shape.reshapeEquiv squeezes_S1x16384_S16384.numel_eq x = _ from Shape.reshapeEquiv_cons_one _ x]
  funext a
  apply Fin.ext
  match a with
  | 0 => show (k0_off1 L) 0 + 1 * 0 = _; rw [k0_off1_eq]; simp
  | 1 => show (k0_off1 L) 1 + 1 * _ = _; rw [k0_off1_eq]; simp; rfl
theorem emb_colK (x : S8192.Idx) : (colK L k0_h1).view.emb x = atC (bandL L h) (x 0) := by
  show (rowCK L k0_h1).emb (Shape.reshapeEquiv squeezes_S1x8192_S8192.numel_eq x) = _
  rw [show Shape.reshapeEquiv squeezes_S1x8192_S8192.numel_eq x = _ from Shape.reshapeEquiv_cons_one _ x]
  funext a
  apply Fin.ext
  match a with
  | 0 => show (k0_off2 L) 0 + 1 * 0 = _; rw [k0_off2_eq]; simp
  | 1 => show (k0_off2 L) 1 + 1 * _ = _; rw [k0_off2_eq]; simp; rfl
theorem emb_cntK (x : S16.Idx) : (cntK L k0_h1).view.emb x = atN (bandL L h) (x 0) := by
  show (rowNK L k0_h1).emb (Shape.reshapeEquiv squeezes_S1x16_S16.numel_eq x) = _
  rw [show Shape.reshapeEquiv squeezes_S1x16_S16.numel_eq x = _ from Shape.reshapeEquiv_cons_one _ x]
  funext a
  apply Fin.ext
  match a with
  | 0 => show (k0_off3 L) 0 + 1 * 0 = _; rw [k0_off3_eq]; simp
  | 1 => show (k0_off3 L) 1 + 1 * _ = _; rw [k0_off3_eq]; simp; rfl

end Coords

end Cert.Proof.Bin

end
-- ==== Proof.Trip.lean ====
/-
  One trip of the binning loop: sixteen Gaussians tested, the kept ones' channels scattered to their ranks.
-/
module

public import proofs.«01_k».proof.Proof.Setup

@[expose] public section

noncomputable section

namespace Cert.Proof.Bin

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The task's own copies: the channels, the geometry, the colours, the count. -/
abbrev chS : Memref sig .scVector .vmem S32768 .f32 := Memref.whole cc0_scratch0
abbrev geoS : Memref sig .scVector .vmem S16384 .f32 := Memref.whole cc0_scratch1
abbrev colS : Memref sig .scVector .vmem S8192 .f32 := Memref.whole cc0_scratch2
abbrev cntS : Memref sig .scVector .vmem S16 .i32 := Memref.whole cc0_scratch3

section

variable (d : Dev nD) (L : grid0.Coords)

/-- The task's thread. -/
abbrev thr : Thread nD τ := V d (cV L) (jV L)

variable {α : Type}

/-- A gather from the channels. -/
theorem wp_gather {Q : α → sProp (MT nD τ sig (HIx 1) (Elt F) ℕ UU ℕ)} (ch : S32768.Idx → F .f32) {w : IVec S16 32} {h : ∀ a x, ((![w] : Fin 1 → IVec S16 32) a x).toNat < S32768.size a}
    {hl : chS.view.Loads} {Kt : Vec F S16 .f32 → Prog (TpuEff nD τ sig (Elt F) Λ₀ (.scVector (cV L) (jV L))) α} :
    ((thr d L).loc cc0_scratch0 ↦{fullShare} ch : sProp 𝕄)
      ⊢ iprop((((thr d L).loc cc0_scratch0 ↦{fullShare} ch)
          -∗ wp frame (wpE (defs₀ (F := F)) 𝒱₀ (thr d L) none) Set.univ (Kt (loadIdx (F := F) (e := .f32) (s := S32768) ch (![w] : Fin 1 → IVec S16 32) h)) Q)
        -∗ wp frame (wpE (defs₀ (F := F)) 𝒱₀ (thr d L) none) Set.univ (SparseCore.vectorLoadIdx chS (![w] : Fin 1 → IVec S16 32) h hl >>= Kt) Q) := by
  have e := SparseCore.wp_vectorLoadIdx (defs := defs₀ (F := F)) (Q := Q) (k := Kt) 𝒱₀ (thr d L) none Set.univ (base := chS) (S := Finset.univ) (q := fullShare) (f := ch)
    (idxs := (![w] : Fin 1 → IVec S16 32)) (h := h) (hl := hl) (Finset.subset_univ _)
  have hr : (chS.access (.whole S32768)).read (Elt F) ch = ch := Memref.read_access_whole (Elt F) cc0_scratch0 ch
  rw [hr] at e
  exact e

/-- A masked scatter into the geometry. -/
theorem wp_scatG {Q : α → sProp (MT nD τ sig (HIx 1) (Elt F) ℕ UU ℕ)} (g : S16384.Idx → F .f32) {w : IVec S16 32} {v : Vec F S16 .f32} {mask : IVec S16 1}
    {h : ∀ a x, ((![w] : Fin 1 → IVec S16 32) a x).toNat < S16384.size a} {hs : (geoS.access (.whole S16384)).Stores Finset.univ}
    {Kt : PUnit → Prog (TpuEff nD τ sig (Elt F) Λ₀ (.scVector (cV L) (jV L))) α} :
    ((thr d L).loc cc0_scratch1 ↦{fullShare} g : sProp 𝕄)
      ⊢ iprop((((thr d L).loc cc0_scratch1 ↦{fullShare} (storeIdx g (![w] : Fin 1 → IVec S16 32) v mask false h : Vec F S16384 .f32))
          -∗ wp frame (wpE (defs₀ (F := F)) 𝒱₀ (thr d L) none) Set.univ (Kt ⟨⟩) Q)
        -∗ wp frame (wpE (defs₀ (F := F)) 𝒱₀ (thr d L) none) Set.univ (SparseCore.vectorStoreIdx geoS (![w] : Fin 1 → IVec S16 32) v mask false h hs >>= Kt) Q) := by
  have e := SparseCore.wp_vectorStoreIdx (defs := defs₀ (F := F)) (Q := Q) (k := Kt) 𝒱₀ (thr d L) none Set.univ (base := geoS) (f := g)
    (idxs := (![w] : Fin 1 → IVec S16 32)) (v := v) (mask := mask) (add := false) (h := h) (hs := hs)
  have hr : (geoS.access (.whole S16384)).read (Elt F) g = g := Memref.read_access_whole (Elt F) cc0_scratch1 g
  have hw : ∀ u, (geoS.access (.whole S16384)).write (Elt F) g u Finset.univ = u := fun u => Memref.write_access_whole_univ (Elt F) cc0_scratch1 g u
  have hu : (geoS.access (.whole S16384)).set = Finset.univ := Memref.set_access_whole cc0_scratch1
  rw [hr, hw, hu] at e
  exact e

/-- A masked scatter into the colours. -/
theorem wp_scatC {Q : α → sProp (MT nD τ sig (HIx 1) (Elt F) ℕ UU ℕ)} (g : S8192.Idx → F .f32) {w : IVec S16 32} {v : Vec F S16 .f32} {mask : IVec S16 1}
    {h : ∀ a x, ((![w] : Fin 1 → IVec S16 32) a x).toNat < S8192.size a} {hs : (colS.access (.whole S8192)).Stores Finset.univ}
    {Kt : PUnit → Prog (TpuEff nD τ sig (Elt F) Λ₀ (.scVector (cV L) (jV L))) α} :
    ((thr d L).loc cc0_scratch2 ↦{fullShare} g : sProp 𝕄)
      ⊢ iprop((((thr d L).loc cc0_scratch2 ↦{fullShare} (storeIdx g (![w] : Fin 1 → IVec S16 32) v mask false h : Vec F S8192 .f32))
          -∗ wp frame (wpE (defs₀ (F := F)) 𝒱₀ (thr d L) none) Set.univ (Kt ⟨⟩) Q)
        -∗ wp frame (wpE (defs₀ (F := F)) 𝒱₀ (thr d L) none) Set.univ (SparseCore.vectorStoreIdx colS (![w] : Fin 1 → IVec S16 32) v mask false h hs >>= Kt) Q) := by
  have e := SparseCore.wp_vectorStoreIdx (defs := defs₀ (F := F)) (Q := Q) (k := Kt) 𝒱₀ (thr d L) none Set.univ (base := colS) (f := g)
    (idxs := (![w] : Fin 1 → IVec S16 32)) (v := v) (mask := mask) (add := false) (h := h) (hs := hs)
  have hr : (colS.access (.whole S8192)).read (Elt F) g = g := Memref.read_access_whole (Elt F) cc0_scratch2 g
  have hw : ∀ u, (colS.access (.whole S8192)).write (Elt F) g u Finset.univ = u := fun u => Memref.write_access_whole_univ (Elt F) cc0_scratch2 g u
  have hu : (colS.access (.whole S8192)).set = Finset.univ := Memref.set_access_whole cc0_scratch2
  rw [hr, hw, hu] at e
  exact e

variable (v1 : BitVec 32) (ch : S32768.Idx → F .f32) (k : Fin k0_t1_loop.trips)

/-- The two gathers that decide, under their names. -/
theorem wp_low {Q : α → sProp (MT nD τ sig (HIx 1) (Elt F) ℕ UU ℕ)} {h : ∀ a x, ((![k0_pay3 0#32 1#32 k] : Fin 1 → IVec S16 32) a x).toNat < S32768.size a}
    {hl : chS.view.Loads} {Kt : Vec F S16 .f32 → Prog (TpuEff nD τ sig (Elt F) Λ₀ (.scVector (cV L) (jV L))) α} :
    ((thr d L).loc cc0_scratch0 ↦{fullShare} ch : sProp 𝕄)
      ⊢ iprop((((thr d L).loc cc0_scratch0 ↦{fullShare} ch) -∗ wp frame (wpE (defs₀ (F := F)) 𝒱₀ (thr d L) none) Set.univ (Kt (lowV ch k)) Q)
        -∗ wp frame (wpE (defs₀ (F := F)) 𝒱₀ (thr d L) none) Set.univ
            (SparseCore.vectorLoadIdx chS (![k0_pay3 0#32 1#32 k] : Fin 1 → IVec S16 32) h hl >>= Kt) Q) :=
  wp_gather d L ch
theorem wp_high {Q : α → sProp (MT nD τ sig (HIx 1) (Elt F) ℕ UU ℕ)}
    {h : ∀ a x, ((![k0_pay4 (k0_pay3 0#32 1#32 k)] : Fin 1 → IVec S16 32) a x).toNat < S32768.size a}
    {hl : chS.view.Loads} {Kt : Vec F S16 .f32 → Prog (TpuEff nD τ sig (Elt F) Λ₀ (.scVector (cV L) (jV L))) α} :
    ((thr d L).loc cc0_scratch0 ↦{fullShare} ch : sProp 𝕄)
      ⊢ iprop((((thr d L).loc cc0_scratch0 ↦{fullShare} ch) -∗ wp frame (wpE (defs₀ (F := F)) 𝒱₀ (thr d L) none) Set.univ (Kt (highV ch k)) Q)
        -∗ wp frame (wpE (defs₀ (F := F)) 𝒱₀ (thr d L) none) Set.univ
            (SparseCore.vectorLoadIdx chS (![k0_pay4 (k0_pay3 0#32 1#32 k)] : Fin 1 → IVec S16 32) h hl >>= Kt) Q) :=
  wp_gather d L ch

/-- One geometry channel scattered. -/
theorem held_geo (c : ℕ) (hc : c < 8) {g : S16384.Idx → F .f32} (hg : Held (Kept v1 ch) geoAt (geoSrc ch) 8 k.val c g)
    (w : IVec S16 32) (hw : ∀ i, w i = IntOp.addi (IntOp.muli (posV v1 ch k i) 8#32) (BitVec.ofNat 32 c))
    (u : IVec S16 32) (hu : ∀ i, u i = IntOp.addi (k0_pay3 0#32 1#32 k i) (BitVec.ofNat 32 ((c + 2) * 2048)))
    (h : ∀ a x, ((![u] : Fin 1 → IVec S16 32) a x).toNat < S32768.size a)
    (h' : ∀ a x, ((![w] : Fin 1 → IVec S16 32) a x).toNat < S16384.size a) :
    Held (Kept v1 ch) geoAt (geoSrc ch) 8 k.val (c + 1)
      (storeIdx g (![w] : Fin 1 → IVec S16 32) (loadIdx (F := F) (e := .f32) (s := S32768) ch (![u] : Fin 1 → IVec S16 32) h) (keepV v1 ch k) false h' : Vec F S16384 .f32) :=
  storeIdx_held geoAt_inj hc g w _ _ h' (fun l => keepV_lane v1 ch k l) (fun l => geo_lane v1 ch k l c hc w hw)
    (fun l => gather_lane ch k _ (by omega) u hu h l) hg

/-- One colour channel scattered. -/
theorem held_col (c : ℕ) (hc : c < 3) {g : S8192.Idx → F .f32} (hg : Held (Kept v1 ch) colAt (colSrc ch) 3 k.val c g)
    (w : IVec S16 32) (hw : ∀ i, w i = IntOp.addi (k0_pay31 (k0_pay25 (posV v1 ch k)) (k0_pay26 (posV v1 ch k)) k0_pay27 i) (BitVec.ofNat 32 (c * 256)))
    (u : IVec S16 32) (hu : ∀ i, u i = IntOp.addi (k0_pay3 0#32 1#32 k i) (BitVec.ofNat 32 ((c + 10) * 2048)))
    (h : ∀ a x, ((![u] : Fin 1 → IVec S16 32) a x).toNat < S32768.size a)
    (h' : ∀ a x, ((![w] : Fin 1 → IVec S16 32) a x).toNat < S8192.size a) :
    Held (Kept v1 ch) colAt (colSrc ch) 3 k.val (c + 1)
      (storeIdx g (![w] : Fin 1 → IVec S16 32) (loadIdx (F := F) (e := .f32) (s := S32768) ch (![u] : Fin 1 → IVec S16 32) h) (keepV v1 ch k) false h' : Vec F S8192 .f32) :=
  storeIdx_held colAt_inj hc g w _ _ h' (fun l => keepV_lane v1 ch k l) (fun l => col_lane v1 ch k l c hc w hw)
    (fun l => gather_lane ch k _ (by omega) u hu h l) hg

variable (a2 : Memref sig .scVector .hbm S32768 .f32) (h2 : a2.IsWhole) (a3 : Memref sig .scVector .hbm S8192 .f32) (h3 : a3.IsWhole)
  (a4 : Memref sig .scVector .hbm S16x16384 .f32) (h4 : a4.IsWhole) (a5 : Memref sig .scVector .hbm S16x8192 .f32) (h5 : a5.IsWhole)
  (a6 : Memref sig .scVector .hbm S16x16 .i32) (h6 : a6.IsWhole) (r0 r1 r2 r3 r4 : DmaSems sig S_)

/-- A trip: what was right stays right, the sixteen's channels go to their ranks, the count is carried on. -/
theorem trip (k0_h1 : k0_cond1 L = 1#1) (g : S16384.Idx → F .f32) (c : S8192.Idx → F .f32)
    (hg : Held (Kept v1 ch) geoAt (geoSrc ch) 8 k.val 0 g) (hc : Held (Kept v1 ch) colAt (colSrc ch) 3 k.val 0 c) :
    iprop(((thr d L).loc cc0_scratch0 ↦{fullShare} ch) ∗ ((thr d L).loc cc0_scratch1 ↦{fullShare} g) ∗ ((thr d L).loc cc0_scratch2 ↦{fullShare} c) : sProp 𝕄)
      ⊢ wp frame (wpE (defs₀ (F := F)) 𝒱₀ (thr d L) none) Set.univ
          (k0_t1_body L a2 h2 a3 h3 a4 h4 a5 h5 a6 h6 chS (Memref.isWhole_whole _) geoS (Memref.isWhole_whole _) colS (Memref.isWhole_whole _)
            cntS (Memref.isWhole_whole _) r0 r1 r2 r3 r4 v1 k0_h1 k (carried v1 ch k.val))
          fun v => iprop(⌜v = carried v1 ch (k.val + 1)⌝ ∗ ((thr d L).loc cc0_scratch0 ↦{fullShare} ch)
            ∗ (∃ g', ⌜Held (Kept v1 ch) geoAt (geoSrc ch) 8 (k.val + 1) 0 g'⌝ ∗ ((thr d L).loc cc0_scratch1 ↦{fullShare} g'))
            ∗ (∃ c', ⌜Held (Kept v1 ch) colAt (colSrc ch) 3 (k.val + 1) 0 c'⌝ ∗ ((thr d L).loc cc0_scratch2 ↦{fullShare} c'))) := by
  unfold k0_t1_body
  simp only [k0_part1_eq_skeleton, k0_part2_eq_skeleton]
  unfold k0_part1_skel k0_part2_skel
  simp only [Prog.lift, Prog.bind_op, Prog.bind_ret, Prog.pure_eq_ret, bind_assoc]
  iintro ⟨Hch, Hg, Hc⟩
  -- the two gathers that decide
  rw [wp_assume_of (P := k0_chk1 L (k0_pay3 0#32 1#32 k)) _ _ _ _ (fun _ => off_inb k 0 (by decide) _ (pay3_off k))]
  iapply (wp_low d L ch k) $$ Hch; iintro Hch
  rw [wp_assume_of (P := k0_chk2 L (k0_pay4 (k0_pay3 0#32 1#32 k))) _ _ _ _ (fun _ => off_inb k 2048 (by decide) _ (fun _ => rfl))]
  iapply (wp_high d L ch k) $$ Hch; iintro Hch
  -- the geometry, channel by channel
  rw [wp_assume_of (P := k0_chk3 L (k0_pay9 (k0_pay3 0#32 1#32 k))) _ _ _ _ (fun _ => off_inb k 4096 (by decide) _ (fun _ => rfl))]
  iapply (wp_gather d L ch) $$ Hch; iintro Hch
  rw [wp_assume_of (P := k0_chk4 L (k0_pay10 (k0_pay28 v1) (k0_pay29 v1) (carried v1 ch k.val) (lowV ch k) (highV ch k))) _ _ _ _ (fun _ => geo_inb v1 ch k 0 (by decide) _ (fun _ => rfl))]
  iapply (wp_scatG d L _) $$ Hg; iintro Hg
  have hg := held_geo v1 ch k 0 (by decide) hg (k0_pay10 (k0_pay28 v1) (k0_pay29 v1) (carried v1 ch k.val) (lowV ch k) (highV ch k)) (fun _ => rfl) (k0_pay9 (k0_pay3 0#32 1#32 k)) (fun _ => rfl) (off_inb k 4096 (by decide) _ (fun _ => rfl)) (geo_inb v1 ch k 0 (by decide) _ (fun _ => rfl))
  rw [wp_assume_of (P := k0_chk5 L (k0_pay11 (k0_pay3 0#32 1#32 k))) _ _ _ _ (fun _ => off_inb k 6144 (by decide) _ (fun _ => rfl))]
  iapply (wp_gather d L ch) $$ Hch; iintro Hch
  rw [wp_assume_of (P := k0_chk6 L (k0_pay12 (k0_pay28 v1) (k0_pay29 v1) (carried v1 ch k.val) (lowV ch k) (highV ch k))) _ _ _ _ (fun _ => geo_inb v1 ch k 1 (by decide) _ (fun _ => rfl))]
  iapply (wp_scatG d L _) $$ Hg; iintro Hg
  have hg := held_geo v1 ch k 1 (by decide) hg (k0_pay12 (k0_pay28 v1) (k0_pay29 v1) (carried v1 ch k.val) (lowV ch k) (highV ch k)) (fun _ => rfl) (k0_pay11 (k0_pay3 0#32 1#32 k)) (fun _ => rfl) (off_inb k 6144 (by decide) _ (fun _ => rfl)) (geo_inb v1 ch k 1 (by decide) _ (fun _ => rfl))
  rw [wp_assume_of (P := k0_chk7 L (k0_pay13 (k0_pay3 0#32 1#32 k))) _ _ _ _ (fun _ => off_inb k 8192 (by decide) _ (fun _ => rfl))]
  iapply (wp_gather d L ch) $$ Hch; iintro Hch
  rw [wp_assume_of (P := k0_chk8 L (k0_pay14 (k0_pay28 v1) (k0_pay29 v1) (carried v1 ch k.val) (lowV ch k) (highV ch k))) _ _ _ _ (fun _ => geo_inb v1 ch k 2 (by decide) _ (fun _ => rfl))]
  iapply (wp_scatG d L _) $$ Hg; iintro Hg
  have hg := held_geo v1 ch k 2 (by decide) hg (k0_pay14 (k0_pay28 v1) (k0_pay29 v1) (carried v1 ch k.val) (lowV ch k) (highV ch k)) (fun _ => rfl) (k0_pay13 (k0_pay3 0#32 1#32 k)) (fun _ => rfl) (off_inb k 8192 (by decide) _ (fun _ => rfl)) (geo_inb v1 ch k 2 (by decide) _ (fun _ => rfl))
  rw [wp_assume_of (P := k0_chk9 L (k0_pay15 (k0_pay3 0#32 1#32 k))) _ _ _ _ (fun _ => off_inb k 10240 (by decide) _ (fun _ => rfl))]
  iapply (wp_gather d L ch) $$ Hch; iintro Hch
  rw [wp_assume_of (P := k0_chk10 L (k0_pay16 (k0_pay8 (k0_pay28 v1) (k0_pay29 v1) (carried v1 ch k.val) (lowV ch k) (highV ch k)))) _ _ _ _ (fun _ => geo_inb v1 ch k 3 (by decide) _ (fun _ => rfl))]
  iapply (wp_scatG d L _) $$ Hg; iintro Hg
  have hg := held_geo v1 ch k 3 (by decide) hg (k0_pay16 (k0_pay8 (k0_pay28 v1) (k0_pay29 v1) (carried v1 ch k.val) (lowV ch k) (highV ch k))) (fun _ => rfl) (k0_pay15 (k0_pay3 0#32 1#32 k)) (fun _ => rfl) (off_inb k 10240 (by decide) _ (fun _ => rfl)) (geo_inb v1 ch k 3 (by decide) _ (fun _ => rfl))
  rw [wp_assume_of (P := k0_chk11 L (k0_pay17 (k0_pay3 0#32 1#32 k))) _ _ _ _ (fun _ => off_inb k 12288 (by decide) _ (fun _ => rfl))]
  iapply (wp_gather d L ch) $$ Hch; iintro Hch
  rw [wp_assume_of (P := k0_chk12 L (k0_pay18 (k0_pay8 (k0_pay28 v1) (k0_pay29 v1) (carried v1 ch k.val) (lowV ch k) (highV ch k)))) _ _ _ _ (fun _ => geo_inb v1 ch k 4 (by decide) _ (fun _ => rfl))]
  iapply (wp_scatG d L _) $$ Hg; iintro Hg
  have hg := held_geo v1 ch k 4 (by decide) hg (k0_pay18 (k0_pay8 (k0_pay28 v1) (k0_pay29 v1) (carried v1 ch k.val) (lowV ch k) (highV ch k))) (fun _ => rfl) (k0_pay17 (k0_pay3 0#32 1#32 k)) (fun _ => rfl) (off_inb k 12288 (by decide) _ (fun _ => rfl)) (geo_inb v1 ch k 4 (by decide) _ (fun _ => rfl))
  rw [wp_assume_of (P := k0_chk13 L (k0_pay19 (k0_pay3 0#32 1#32 k))) _ _ _ _ (fun _ => off_inb k 14336 (by decide) _ (fun _ => rfl))]
  iapply (wp_gather d L ch) $$ Hch; iintro Hch
  rw [wp_assume_of (P := k0_chk14 L (k0_pay20 (k0_pay8 (k0_pay28 v1) (k0_pay29 v1) (carried v1 ch k.val) (lowV ch k) (highV ch k)))) _ _ _ _ (fun _ => geo_inb v1 ch k 5 (by decide) _ (fun _ => rfl))]
  iapply (wp_scatG d L _) $$ Hg; iintro Hg
  have hg := held_geo v1 ch k 5 (by decide) hg (k0_pay20 (k0_pay8 (k0_pay28 v1) (k0_pay29 v1) (carried v1 ch k.val) (lowV ch k) (highV ch k))) (fun _ => rfl) (k0_pay19 (k0_pay3 0#32 1#32 k)) (fun _ => rfl) (off_inb k 14336 (by decide) _ (fun _ => rfl)) (geo_inb v1 ch k 5 (by decide) _ (fun _ => rfl))
  rw [wp_assume_of (P := k0_chk15 L (k0_pay21 (k0_pay3 0#32 1#32 k))) _ _ _ _ (fun _ => off_inb k 16384 (by decide) _ (fun _ => rfl))]
  iapply (wp_gather d L ch) $$ Hch; iintro Hch
  rw [wp_assume_of (P := k0_chk16 L (k0_pay22 (k0_pay8 (k0_pay28 v1) (k0_pay29 v1) (carried v1 ch k.val) (lowV ch k) (highV ch k)))) _ _ _ _ (fun _ => geo_inb v1 ch k 6 (by decide) _ (fun _ => rfl))]
  iapply (wp_scatG d L _) $$ Hg; iintro Hg
  have hg := held_geo v1 ch k 6 (by decide) hg (k0_pay22 (k0_pay8 (k0_pay28 v1) (k0_pay29 v1) (carried v1 ch k.val) (lowV ch k) (highV ch k))) (fun _ => rfl) (k0_pay21 (k0_pay3 0#32 1#32 k)) (fun _ => rfl) (off_inb k 16384 (by decide) _ (fun _ => rfl)) (geo_inb v1 ch k 6 (by decide) _ (fun _ => rfl))
  rw [wp_assume_of (P := k0_chk17 L (k0_pay23 (k0_pay3 0#32 1#32 k))) _ _ _ _ (fun _ => off_inb k 18432 (by decide) _ (fun _ => rfl))]
  iapply (wp_gather d L ch) $$ Hch; iintro Hch
  rw [wp_assume_of (P := k0_chk18 L (k0_pay24 (k0_pay8 (k0_pay28 v1) (k0_pay29 v1) (carried v1 ch k.val) (lowV ch k) (highV ch k)))) _ _ _ _ (fun _ => geo_inb v1 ch k 7 (by decide) _ (fun _ => rfl))]
  iapply (wp_scatG d L _) $$ Hg; iintro Hg
  have hg := held_geo v1 ch k 7 (by decide) hg (k0_pay24 (k0_pay8 (k0_pay28 v1) (k0_pay29 v1) (carried v1 ch k.val) (lowV ch k) (highV ch k))) (fun _ => rfl) (k0_pay23 (k0_pay3 0#32 1#32 k)) (fun _ => rfl) (off_inb k 18432 (by decide) _ (fun _ => rfl)) (geo_inb v1 ch k 7 (by decide) _ (fun _ => rfl))
  -- the colours
  rw [wp_assume_of (P := k0_chk19 L (k0_pay32 (k0_pay3 0#32 1#32 k))) _ _ _ _ (fun _ => off_inb k 20480 (by decide) _ (fun _ => rfl))]
  iapply (wp_gather d L ch) $$ Hch; iintro Hch
  rw [wp_assume_of (P := k0_chk20 L (k0_pay33 (k0_pay25 (posV v1 ch k)) (k0_pay26 (posV v1 ch k)) k0_pay27)) _ _ _ _ (fun _ => col_inb v1 ch k 0 (by decide) _ (fun _ => rfl))]
  iapply (wp_scatC d L _) $$ Hc; iintro Hc
  have hc := held_col v1 ch k 0 (by decide) hc (k0_pay33 (k0_pay25 (posV v1 ch k)) (k0_pay26 (posV v1 ch k)) k0_pay27) (fun _ => rfl) (k0_pay32 (k0_pay3 0#32 1#32 k)) (fun _ => rfl) (off_inb k 20480 (by decide) _ (fun _ => rfl)) (col_inb v1 ch k 0 (by decide) _ (fun _ => rfl))
  rw [wp_assume_of (P := k0_chk21 L (k0_pay34 (k0_pay3 0#32 1#32 k))) _ _ _ _ (fun _ => off_inb k 22528 (by decide) _ (fun _ => rfl))]
  iapply (wp_gather d L ch) $$ Hch; iintro Hch
  rw [wp_assume_of (P := k0_chk22 L (k0_pay35 (k0_pay25 (posV v1 ch k)) (k0_pay26 (posV v1 ch k)) k0_pay27)) _ _ _ _ (fun _ => col_inb v1 ch k 1 (by decide) _ (fun _ => rfl))]
  iapply (wp_scatC d L _) $$ Hc; iintro Hc
  have hc := held_col v1 ch k 1 (by decide) hc (k0_pay35 (k0_pay25 (posV v1 ch k)) (k0_pay26 (posV v1 ch k)) k0_pay27) (fun _ => rfl) (k0_pay34 (k0_pay3 0#32 1#32 k)) (fun _ => rfl) (off_inb k 22528 (by decide) _ (fun _ => rfl)) (col_inb v1 ch k 1 (by decide) _ (fun _ => rfl))
  rw [wp_assume_of (P := k0_chk23 L (k0_pay36 (k0_pay3 0#32 1#32 k))) _ _ _ _ (fun _ => off_inb k 24576 (by decide) _ (fun _ => rfl))]
  iapply (wp_gather d L ch) $$ Hch; iintro Hch
  rw [wp_assume_of (P := k0_chk24 L (k0_pay37 (k0_pay25 (posV v1 ch k)) (k0_pay26 (posV v1 ch k)) k0_pay27)) _ _ _ _ (fun _ => col_inb v1 ch k 2 (by decide) _ (fun _ => rfl))]
  iapply (wp_scatC d L _) $$ Hc; iintro Hc
  have hc := held_col v1 ch k 2 (by decide) hc (k0_pay37 (k0_pay25 (posV v1 ch k)) (k0_pay26 (posV v1 ch k)) k0_pay27) (fun _ => rfl) (k0_pay36 (k0_pay3 0#32 1#32 k)) (fun _ => rfl) (off_inb k 24576 (by decide) _ (fun _ => rfl)) (col_inb v1 ch k 2 (by decide) _ (fun _ => rfl))
  rw [wp_ret]; imodintro
  isplitr
  · ipureintro; exact pay38_eq v1 ch k
  isplitl [Hch]; · iexact Hch
  isplitl [Hg]
  · iexists _; isplitr; · ipureintro; exact hg.next
    iexact Hg
  iexists _; isplitr; · ipureintro; exact hc.next
  iexact Hc

end

end Cert.Proof.Bin

end
-- ==== Proof.Tile.lean ====
/-
  One task of the binning call, whole: the channels and the zeroes fetched, the band's compaction, its three rows written out.
-/
module

public import proofs.«01_k».proof.Proof.Trip

@[expose] public section

noncomputable section

namespace Cert.Proof.Bin

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The five copies' counters. -/
abbrev cell0 : GSem nD τ sig := (V d (cV L) (jV L), .dma cc0_scoped0.sem)
abbrev cell1 : GSem nD τ sig := (V d (cV L) (jV L), .dma cc0_scoped1.sem)
abbrev cell2 : GSem nD τ sig := (V d (cV L) (jV L), .dma cc0_scoped2.sem)
abbrev cell3 : GSem nD τ sig := (V d (cV L) (jV L), .dma cc0_scoped3.sem)
abbrev cell4 : GSem nD τ sig := (V d (cV L) (jV L), .dma cc0_scoped4.sem)

theorem ownSems0_V :
    (ownSems0 (V d (cV L) (jV L)) : sProp 𝕄)
      = iprop(semVal (cell0 d L) 0 ∗ semVal (cell1 d L) 0 ∗ semVal (cell2 d L) 0 ∗ semVal (cell3 d L) 0 ∗ semVal (cell4 d L) 0
          ∗ bigSep ((((((ownCells (V d (cV L) (jV L))).erase (cell0 d L)).erase (cell1 d L)).erase (cell2 d L)).erase (cell3 d L)).erase (cell4 d L)) fun g => semVal g 0) := by
  unfold SparseCore.Cfg.ownSems0
  rw [SparseCore.bigSep_erase' ((mem_ownCells (g := (cell0 d L))).mpr ⟨rfl, by show (SemLoc.dma cc0_scoped0.sem : SemLoc sig).isScoped .scVector = true; decide⟩),
    SparseCore.bigSep_erase' (Finset.mem_erase.mpr ⟨by simp [cell1, cell0]; decide, (mem_ownCells (g := (cell1 d L))).mpr ⟨rfl, by show (SemLoc.dma cc0_scoped1.sem : SemLoc sig).isScoped .scVector = true; decide⟩⟩),
    SparseCore.bigSep_erase' (Finset.mem_erase.mpr ⟨by simp [cell2, cell1]; decide, Finset.mem_erase.mpr ⟨by simp [cell2, cell0]; decide, (mem_ownCells (g := (cell2 d L))).mpr ⟨rfl, by show (SemLoc.dma cc0_scoped2.sem : SemLoc sig).isScoped .scVector = true; decide⟩⟩⟩),
    SparseCore.bigSep_erase' (Finset.mem_erase.mpr ⟨by simp [cell3, cell2]; decide, Finset.mem_erase.mpr ⟨by simp [cell3, cell1]; decide, Finset.mem_erase.mpr ⟨by simp [cell3, cell0]; decide, (mem_ownCells (g := (cell3 d L))).mpr ⟨rfl, by show (SemLoc.dma cc0_scoped3.sem : SemLoc sig).isScoped .scVector = true; decide⟩⟩⟩⟩),
    SparseCore.bigSep_erase' (Finset.mem_erase.mpr ⟨by simp [cell4, cell3]; decide, Finset.mem_erase.mpr ⟨by simp [cell4, cell2]; decide, Finset.mem_erase.mpr ⟨by simp [cell4, cell1]; decide, Finset.mem_erase.mpr ⟨by simp [cell4, cell0]; decide, (mem_ownCells (g := (cell4 d L))).mpr ⟨rfl, by show (SemLoc.dma cc0_scoped4.sem : SemLoc sig).isScoped .scVector = true; decide⟩⟩⟩⟩⟩)]

/-- The subcore's own buffers: the four copies, each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f)
          ∗ bigSep (((((ownRefs (τ := τ) (Proc.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩)]

theorem pts_geoK (k0_h1 : k0_cond1 L = 1#1) (h : 2 * (jL L).val + (cL L).val < 16) (f : Buf (Elt F) (geoLoc d)) :
    ((geoK L k0_h1).view.loc (V d (cV L) (jV L)) ↦[(geoK L k0_h1).view.set]{fullShare} f : sProp 𝕄) = geoLoc d ↦[(rowG (bandL L h)).set]{fullShare} f := by
  rw [set_geoK L k0_h1 h]
theorem pts_colK (k0_h1 : k0_cond1 L = 1#1) (h : 2 * (jL L).val + (cL L).val < 16) (f : Buf (Elt F) (colLoc d)) :
    ((colK L k0_h1).view.loc (V d (cV L) (jV L)) ↦[(colK L k0_h1).view.set]{fullShare} f : sProp 𝕄) = colLoc d ↦[(rowC (bandL L h)).set]{fullShare} f := by
  rw [set_colK L k0_h1 h]
theorem pts_cntK (k0_h1 : k0_cond1 L = 1#1) (h : 2 * (jL L).val + (cL L).val < 16) (f : Buf (Elt F) (cntLoc d)) :
    ((cntK L k0_h1).view.loc (V d (cV L) (jV L)) ↦[(cntK L k0_h1).view.set]{fullShare} f : sProp 𝕄) = cntLoc d ↦[(rowN (bandL L h)).set]{fullShare} f := by
  rw [set_cntK L k0_h1 h]

/-- A band's rows before the call, and after it. -/
def rowsGo (b : Fin 16) : sProp 𝕄 :=
  iprop((∃ f, geoLoc d ↦[(rowG b).set]{fullShare} f) ∗ (∃ f, colLoc d ↦[(rowC b).set]{fullShare} f) ∗ (∃ f, cntLoc d ↦[(rowN b).set]{fullShare} f))
def rowsTd (ch : S32768.Idx → F .f32) (b : Fin 16) : sProp 𝕄 :=
  iprop(∃ (fg : S16x16384.Idx → F .f32) (fc : S16x8192.Idx → F .f32) (fn : S16x16.Idx → BitVec 32), ⌜BandOK ch b (takeG fg b) (takeC fc b) (takeN fn b)⌝
    ∗ (geoLoc d ↦[(rowG b).set]{fullShare} fg) ∗ (colLoc d ↦[(rowC b).set]{fullShare} fc) ∗ (cntLoc d ↦[(rowN b).set]{fullShare} fn))

theorem take_geoK (k0_h1 : k0_cond1 L = 1#1) (h : 2 * (jL L).val + (cL L).val < 16) (f : (geoK L k0_h1).view.ty.Contents (Elt F)) (w : S16384.Idx → Elt F .f32) :
    takeG ((geoK L k0_h1).view.writes (Elt F) f [⟨Rect.whole S16384, w⟩]) (bandL L h) = w := by
  have key : ∀ G : (geoK L k0_h1).view.ty.Contents (Elt F), takeG G (bandL L h) = (geoK L k0_h1).view.read (Elt F) G := fun G => by
    funext x
    refine Eq.trans ?_ (View.read_apply (v := (geoK L k0_h1).view) G x).symm
    rw [emb_geoK L k0_h1 h x]
    rfl
  exact (key _).trans (View.read_writes_whole (geoK L k0_h1).view f w)

theorem take_colK (k0_h1 : k0_cond1 L = 1#1) (h : 2 * (jL L).val + (cL L).val < 16) (f : (colK L k0_h1).view.ty.Contents (Elt F)) (w : S8192.Idx → Elt F .f32) :
    takeC ((colK L k0_h1).view.writes (Elt F) f [⟨Rect.whole S8192, w⟩]) (bandL L h) = w := by
  have key : ∀ G : (colK L k0_h1).view.ty.Contents (Elt F), takeC G (bandL L h) = (colK L k0_h1).view.read (Elt F) G := fun G => by
    funext x
    refine Eq.trans ?_ (View.read_apply (v := (colK L k0_h1).view) G x).symm
    rw [emb_colK L k0_h1 h x]
    rfl
  exact (key _).trans (View.read_writes_whole (colK L k0_h1).view f w)

theorem take_cntK (k0_h1 : k0_cond1 L = 1#1) (h : 2 * (jL L).val + (cL L).val < 16) (f : (cntK L k0_h1).view.ty.Contents (Elt F)) (w : S16.Idx → Elt F .i32) :
    takeN ((cntK L k0_h1).view.writes (Elt F) f [⟨Rect.whole S16, w⟩]) (bandL L h) = w := by
  have key : ∀ G : (cntK L k0_h1).view.ty.Contents (Elt F), takeN G (bandL L h) = (cntK L k0_h1).view.read (Elt F) G := fun G => by
    funext x
    refine Eq.trans ?_ (View.read_apply (v := (cntK L k0_h1).view) G x).symm
    rw [emb_cntK L k0_h1 h x]
    rfl
  exact (key _).trans (View.read_writes_whole (cntK L k0_h1).view f w)

/-- Lane 0 of the count's vector as it is written out. -/
theorem dma_lane (v11 : IVec S16 32) (f3 : S16.Idx → BitVec 32) :
    ReadAs.same.apply (View.read (Elt F) (Memref.whole cc0_scratch3 : Memref sig .scVector .vmem S16 .i32).view
      ((Memref.whole cc0_scratch3 : Memref sig .scVector .vmem S16 .i32).view.writes (Elt F) f3
        [⟨Rect.unit (s := S16) ![0] S16.size inb_S16_S16_0, k0_pay39 v11⟩])) (lane 0) = v11 (lane 0) := by
  refine (View.read_writes_cons_hit_of_coords _ _ _ _ _ (lane 0) _ (fun a => ?_)).trans ?_
  · match a with | ⟨0, _⟩ => rfl
  · rfl

variable (ch : S32768.Idx → F .f32) (cz : S8192.Idx → F .f32)

/-- Between two trips: the channels, and what has been kept so far. -/
def inv (k : ℕ) (v : IVec S16 32) (v1 : BitVec 32) : sProp 𝕄 :=
  iprop(⌜v = carried v1 ch k⌝ ∗ ((chS).view.loc (V d (cV L) (jV L)) ↦{fullShare} ch)
    ∗ (∃ g, ⌜Held (Kept v1 ch) geoAt (geoSrc ch) 8 k 0 g⌝ ∗ ((geoS).view.loc (V d (cV L) (jV L)) ↦{fullShare} g))
    ∗ (∃ c, ⌜Held (Kept v1 ch) colAt (colSrc ch) 3 k 0 c⌝ ∗ ((colS).view.loc (V d (cV L) (jV L)) ↦{fullShare} c)))

/-- The task of a subcore that has a band. -/
theorem tile_band (hF : (K (F := F)).Facts) (O : CellTallies nD τ sig (HIx 1)) (W : Waits sig (HIx 1)) (hO : ∀ g, O g none = 0) (q : PosShare TreeShare)
    (h : 2 * (jL L).val + (cL L).val < 16) :
    iprop(levAts (K (F := F)).L (K (F := F)).lev ∗ emp
        ∗ ((chLoc d ↦{q} ch) ∗ (czLoc d ↦{q} cz) ∗ rowsGo d (bandL L h))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_bin_kernel L chV (Memref.isWhole_whole _) czV (Memref.isWhole_whole _) geoV (Memref.isWhole_whole _) colV (Memref.isWhole_whole _)
            cntV (Memref.isWhole_whole _) chS (Memref.isWhole_whole _) geoS (Memref.isWhole_whole _) colS (Memref.isWhole_whole _) cntS (Memref.isWhole_whole _)
            cc0_scoped0 cc0_scoped1 cc0_scoped2 cc0_scoped3 cc0_scoped4)
          fun _ => iprop(((chLoc d ↦{q} ch) ∗ (czLoc d ↦{q} cz) ∗ rowsTd d ch (bandL L h))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have k0_h1 : k0_cond1 L = 1#1 := (cond_iff L).mpr h
  rw [(K (F := F)).scopedBufs_V hF d (cV L) (jV L), SparseCore.Cfg.scopedSems0_V (Val := Elt F) d (cV L) (jV L), ownSems0_V, ownBufs_V]
  unfold rowsGo
  simp only [cc0__sc_bin_kernel_eq_skeleton]; unfold cc0__sc_bin_kernel_skel
  simp only [k0_part3_eq_skeleton]; unfold k0_part3_skel
  simp only [dif_pos k0_h1, bind_assoc, chV, czV, geoV, colV, cntV, chS, geoS, colS, cntS]
  iintro ⟨#Hlv, -, ⟨Hx, Hz, ⟨%fg0, Hg⟩, ⟨%fc0, Hc⟩, ⟨%fn0, Hn⟩⟩, ⟨⟨%f0, Hs0⟩, ⟨%f1, Hs1⟩, ⟨%f2, Hs2⟩, ⟨%f3, Hs3⟩, Hbufs⟩, ⟨Hm0, Hm1, Hm2, Hm3, Hm4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (show (chLoc d ↦{q} ch : sProp 𝕄) = (Memref.whole main_v99_scv).view.loc (V d (cV L) (jV L)) ↦{q} ch from rfl)) $$ Hx
  ihave Hz' := (Entails.of_eq (show (czLoc d ↦{q} cz : sProp 𝕄) = (Memref.whole main_v98_scv).view.loc (V d (cV L) (jV L)) ↦{q} cz from rfl)) $$ Hz
  ihave Hg' := (Entails.of_eq (pts_geoK (F := F) d L k0_h1 h _).symm) $$ Hg
  ihave Hc' := (Entails.of_eq (pts_colK (F := F) d L k0_h1 h _).symm) $$ Hc
  ihave Hn' := (Entails.of_eq (pts_cntK (F := F) d L k0_h1 h _).symm) $$ Hn
  ihave Hs0' := (Entails.of_eq (show ((V d (cV L) (jV L)).loc cc0_scratch0 ↦{fullShare} f0 : sProp 𝕄) = (Memref.whole cc0_scratch0).view.loc (V d (cV L) (jV L)) ↦{fullShare} f0 from rfl)) $$ Hs0
  ihave Hs1' := (Entails.of_eq (show ((V d (cV L) (jV L)).loc cc0_scratch1 ↦{fullShare} f1 : sProp 𝕄) = (Memref.whole cc0_scratch1).view.loc (V d (cV L) (jV L)) ↦{fullShare} f1 from rfl)) $$ Hs1
  ihave Hs2' := (Entails.of_eq (show ((V d (cV L) (jV L)).loc cc0_scratch2 ↦{fullShare} f2 : sProp 𝕄) = (Memref.whole cc0_scratch2).view.loc (V d (cV L) (jV L)) ↦{fullShare} f2 from rfl)) $$ Hs2
  ihave Hs3' := (Entails.of_eq (show ((V d (cV L) (jV L)).loc cc0_scratch3 ↦{fullShare} f3 : sProp 𝕄) = (Memref.whole cc0_scratch3).view.loc (V d (cV L) (jV L)) ↦{fullShare} f3 from rfl)) $$ Hs3
  sl_exec
  set v1 : BitVec 32 := Scalar.addi (Scalar.muli (BitVec.ofNat 32 (L 1).val) 2#32) (BitVec.ofNat 32 (L 0).val) with hv1
  sl_for (fun k v => inv d L ch k v v1) $$ [Hs0' Hs1' Hs2']
  case region =>
    intro k v
    unfold inv
    iintro ⟨%hv, Hs0, ⟨%g, %hg, Hg⟩, ⟨%c, %hc, Hc⟩⟩
    subst hv
    ihave HT := (trip d L v1 ch k chV (Memref.isWhole_whole _) czV (Memref.isWhole_whole _) geoV (Memref.isWhole_whole _) colV (Memref.isWhole_whole _) cntV (Memref.isWhole_whole _) cc0_scoped0 cc0_scoped1 cc0_scoped2 cc0_scoped3 cc0_scoped4 k0_h1 g c hg hc) $$ [Hs0 Hg Hc]
    · isplitl [Hs0]; · iexact Hs0
      isplitl [Hg]; · iexact Hg
      iexact Hc
    iexact HT
  · unfold inv
    isplitr; · ipureintro; exact (carried_zero v1 ch).symm
    isplitl [Hs0']
    · iapply (Entails.of_eq (congrArg (fun f => (((chS).view.loc (V d (cV L) (jV L)) ↦{fullShare} f : sProp 𝕄))) ((View.write_whole_univ (Val := Elt F) cc0_scratch0 f0 _).trans rfl)))
      iexact Hs0'
    isplitl [Hs1']
    · iexists f1; isplitr; · ipureintro; exact Held.zero _
      iexact Hs1'
    iexists _; isplitr; swap; · iexact Hs2'
    ipureintro; exact Held.zero _
  iintro %v11 HI
  unfold inv
  icases HI with ⟨%hv, Hs0, ⟨%g, %hg, Hs1⟩, ⟨%c, %hc, Hs2⟩⟩
  sl_exec
  have ev : v1 = bandW (bandL L h) := bandW_eq L h
  have hb : BandOK ch (bandL L h) (takeG ((geoK L k0_h1).view.writes (Elt F) fg0 [⟨Rect.whole S16384, tile_band.sl.dma2 g⟩]) (bandL L h))
      (takeC ((colK L k0_h1).view.writes (Elt F) fc0 [⟨Rect.whole S8192, tile_band.sl.dma2_1 c⟩]) (bandL L h))
      (takeN ((cntK L k0_h1).view.writes (Elt F) fn0 [⟨Rect.whole S16, tile_band.sl.dma2_2 d L f3 v11⟩]) (bandL L h)) := by
    rw [take_geoK, take_colK, take_cntK]
    rw [ev] at hg hc hv
    exact ⟨hg, hc, (dma_lane (F := F) v11 f3).trans (by rw [hv]; rfl)⟩
  sl_step
  isplitl [Hx' Hz' Hg' Hc' Hn']
  · isplitl [Hx']; · iexact Hx'
    isplitl [Hz']; · iexact Hz'
    unfold rowsTd
    iexists _, _, _
    isplitr; · ipureintro; exact hb
    isplitl [Hg']; · iapply (Entails.of_eq (pts_geoK (F := F) d L k0_h1 h _)); iexact Hg'
    isplitl [Hc']; · iapply (Entails.of_eq (pts_colK (F := F) d L k0_h1 h _)); iexact Hc'
    iapply (Entails.of_eq (pts_cntK (F := F) d L k0_h1 h _)); iexact Hn'
  isplitl [Hs0 Hs1 Hs2 Hs3' Hbufs]
  · isplitl [Hs0]; · iexists _; iexact Hs0
    isplitl [Hs1]; · iexists _; iexact Hs1
    isplitl [Hs2]; · iexists _; iexact Hs2
    isplitl [Hs3']; · iexists _; iexact Hs3'
    iexact Hbufs
  isplitl [Hm0 Hm1 Hm2 Hm3 Hm4 Hsems]
  · isplitl [Hm0]; · iexact Hm0
    isplitl [Hm1]; · iexact Hm1
    isplitl [Hm2]; · iexact Hm2
    isplitl [Hm3]; · iexact Hm3
    isplitl [Hm4]; · iexact Hm4
    iexact Hsems
  iexists _; isplitr; swap; · iexact HO
  ipureintro; intro p _
  rcases p.2 with _ | q
  · exact .inr (.inl rfl)
  · exact .inr (.inr (congrArg some (Subsingleton.elim q 0)))

end Cert.Proof.Bin

end
-- ==== Proof.Call.lean ====
/-
  The binning call: what its handshakes carry, every task's obligation, the operands dealt to the tasks and their results gathered, and
  the call's effect on its arrays.
-/
module

public import proofs.«01_k».proof.Proof.Tile

@[expose] public section

noncomputable section

namespace Cert.Proof.Bin

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (dealOf pointsTo_deal)

variable {F : FTy → Type} [FloatOps F]

local notation "𝕄" => MT nD τ sig (HIx 1) (Elt F) ℕ UU ℕ

/-! ## What the handshakes carry -/

/-- A SparseCore's share of the two arrays every task reads, and a task's. -/
abbrev coreShare (c : Fin 2) : PosShare TreeShare := dealOf fullShare Finset.univ c
abbrev tileShare (c : Fin 2) (i : Fin 16) : PosShare TreeShare := dealOf (coreShare c) Finset.univ i

/-- The rows of the task's band, if it has one, before the call and after. -/
def taskGo (d : Dev nD) (c : Fin 2) (i : Fin 16) : sProp 𝕄 :=
  if h : 2 * i.val + c.val < 16 then rowsGo d ⟨2 * i.val + c.val, h⟩ else iprop(emp)
def taskTd (d : Dev nD) (ch : S32768.Idx → F .f32) (c : Fin 2) (i : Fin 16) : sProp 𝕄 :=
  if h : 2 * i.val + c.val < 16 then rowsTd d ch ⟨2 * i.val + c.val, h⟩ else iprop(emp)

instance rowsGo_storable (d : Dev nD) (b : Fin 16) : BI.Storable (upEmb : UEmb _ 𝕄) (rowsGo d b) := by unfold rowsGo; infer_instance
instance rowsTd_storable (d : Dev nD) (ch : S32768.Idx → F .f32) (b : Fin 16) : BI.Storable (upEmb : UEmb _ 𝕄) (rowsTd d ch b) := by unfold rowsTd; infer_instance
instance taskGo_storable (d : Dev nD) (c : Fin 2) (i : Fin 16) : BI.Storable (upEmb : UEmb _ 𝕄) (taskGo d c i) := by
  unfold taskGo; split <;> infer_instance
instance taskTd_storable (d : Dev nD) (ch : S32768.Idx → F .f32) (c : Fin 2) (i : Fin 16) : BI.Storable (upEmb : UEmb _ 𝕄) (taskTd d ch c i) := by
  unfold taskTd; split <;> infer_instance

variable (X : Dev nD → S32768.Idx → F .f32) (Z : Dev nD → S8192.Idx → F .f32)

abbrev coreGo (d : Dev nD) (c : Fin 2) : sProp 𝕄 :=
  iprop((chLoc d ↦{coreShare c} X d) ∗ (czLoc d ↦{coreShare c} Z d) ∗ bigSep Finset.univ fun i : Fin 16 => taskGo d c i)
abbrev coreDn (d : Dev nD) (c : Fin 2) : sProp 𝕄 :=
  iprop((chLoc d ↦{coreShare c} X d) ∗ (czLoc d ↦{coreShare c} Z d) ∗ bigSep Finset.univ fun i : Fin 16 => taskTd d (X d) c i)
abbrev tileGo (d : Dev nD) (c : Fin 2) (i : Fin 16) : sProp 𝕄 :=
  iprop((chLoc d ↦{tileShare c i} X d) ∗ (czLoc d ↦{tileShare c i} Z d) ∗ taskGo d c i)
abbrev tileTd (d : Dev nD) (c : Fin 2) (i : Fin 16) : sProp 𝕄 :=
  iprop((chLoc d ↦{tileShare c i} X d) ∗ (czLoc d ↦{tileShare c i} Z d) ∗ taskTd d (X d) c i)

/-- The call, entered with the channels at `X` and the zeroes at `Z`: each SparseCore and each task a share of the two, and the rows
    of its bands. -/
def P : (K (F := F)).Pay (nD := nD) (Val := Elt F) (Name := ℕ) (U := UU) where
  st := fun q d c => match q with | 0 => coreGo X Z d (Fin.cast nCore_zero c)
  dn := fun q d c => match q with | 0 => coreDn X Z d (Fin.cast nCore_zero c)
  go := fun q d c i => match q with | 0 => tileGo X Z d (Fin.cast nCore_zero c) (Fin.cast nSub_zero i)
  td := fun q d c i => match q with | 0 => tileTd X Z d (Fin.cast nCore_zero c) (Fin.cast nSub_zero i)
  x := fun _ _ => iprop(emp)

instance P_storable : (P X Z).IsStorable where
  st q d c := match q with | 0 => (inferInstance : BI.Storable (upEmb : UEmb _ 𝕄) (coreGo X Z d (Fin.cast nCore_zero c)))
  dn q d c := match q with | 0 => (inferInstance : BI.Storable (upEmb : UEmb _ 𝕄) (coreDn X Z d (Fin.cast nCore_zero c)))
  go q d c i := match q with | 0 => (inferInstance : BI.Storable (upEmb : UEmb _ 𝕄) (tileGo X Z d (Fin.cast nCore_zero c) (Fin.cast nSub_zero i)))
  td q d c i := match q with | 0 => (inferInstance : BI.Storable (upEmb : UEmb _ 𝕄) (tileTd X Z d (Fin.cast nCore_zero c) (Fin.cast nSub_zero i)))

/-! ## Every task's obligation -/

section Obl

variable (d : Dev nD) (L : grid0.Coords)

/-- A task with no band does nothing. -/
theorem tile_idle (O : CellTallies nD τ sig (HIx 1)) (W : Waits sig (HIx 1)) (q : PosShare TreeShare)
    (ch : S32768.Idx → F .f32) (cz : S8192.Idx → F .f32) (h : ¬ 2 * (jL L).val + (cL L).val < 16) :
    iprop(levAts (K (F := F)).L (K (F := F)).lev ∗ emp
        ∗ ((chLoc d ↦{q} ch) ∗ (czLoc d ↦{q} cz) ∗ emp)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_bin_kernel L chV (Memref.isWhole_whole _) czV (Memref.isWhole_whole _) geoV (Memref.isWhole_whole _) colV (Memref.isWhole_whole _)
            cntV (Memref.isWhole_whole _) chS (Memref.isWhole_whole _) geoS (Memref.isWhole_whole _) colS (Memref.isWhole_whole _) cntS (Memref.isWhole_whole _)
            cc0_scoped0 cc0_scoped1 cc0_scoped2 cc0_scoped3 cc0_scoped4)
          fun _ => (iprop(((chLoc d ↦{q} ch) ∗ (czLoc d ↦{q} cz) ∗ emp)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') : sProp 𝕄) := by
  have k0_h1 : ¬ k0_cond1 L = 1#1 := fun e => h ((cond_iff L).mp e)
  simp only [cc0__sc_bin_kernel_eq_skeleton]; unfold cc0__sc_bin_kernel_skel
  simp only [k0_part3_eq_skeleton]; unfold k0_part3_skel
  simp only [dif_neg k0_h1]
  iintro ⟨-, -, H, Hb, Hs, HO⟩
  sl_exec
  sl_step
  isplitl [H]; · iexact H
  isplitl [Hb]; · iexact Hb
  isplitl [Hs]; · iexact Hs
  iexists W; isplitr; · ipureintro; exact fun p hp => .inl hp
  iexact HO

/-- Any task. -/
theorem tile_task (hF : (K (F := F)).Facts) (O : CellTallies nD τ sig (HIx 1)) (W : Waits sig (HIx 1)) (hO : ∀ g, O g none = 0) :
    iprop(levAts (K (F := F)).L (K (F := F)).lev ∗ emp ∗ tileGo X Z d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_bin_kernel L chV (Memref.isWhole_whole _) czV (Memref.isWhole_whole _) geoV (Memref.isWhole_whole _) colV (Memref.isWhole_whole _)
            cntV (Memref.isWhole_whole _) chS (Memref.isWhole_whole _) geoS (Memref.isWhole_whole _) colS (Memref.isWhole_whole _) cntS (Memref.isWhole_whole _)
            cc0_scoped0 cc0_scoped1 cc0_scoped2 cc0_scoped3 cc0_scoped4)
          fun _ => (iprop(tileTd X Z d (cL L) (jL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') : sProp 𝕄) := by
  unfold tileGo tileTd taskGo taskTd
  by_cases h : 2 * (jL L).val + (cL L).val < 16
  · simp only [dif_pos h]
    exact tile_band d L (X d) (Z d) hF O W hO (tileShare (cL L) (jL L)) h
  · simp only [dif_neg h]
    exact tile_idle d L O W (tileShare (cL L) (jL L)) (X d) (Z d) h

end Obl

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_bin_kernel (coordsV c s)
          chV (Memref.isWhole_whole _) czV (Memref.isWhole_whole _) geoV (Memref.isWhole_whole _) colV (Memref.isWhole_whole _)
          cntV (Memref.isWhole_whole _) chS (Memref.isWhole_whole _) geoS (Memref.isWhole_whole _) colS (Memref.isWhole_whole _) cntS (Memref.isWhole_whole _)
          cc0_scoped0 cc0_scoped1 cc0_scoped2 cc0_scoped3 cc0_scoped4) ⟨⟩ c s := rfl

theorem tileObl (hF : (K (F := F)).Facts) : (K (F := F)).TileObl (D (F := F)) 𝒱 (P X Z) v₀ 0 := by
  intro d c i O W hO _ _
  simp only [show (P X Z).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_task X Z d (coordsV ⟨_, hci.1⟩ ⟨_, hci.2⟩) hF O W hO

/-! ## The operands dealt to a SparseCore's tasks, and their results gathered -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem tiles_go (d : Dev nD) (c : Fin 2) : (bigSep Finset.univ fun i : Fin 16 => tileGo X Z d c i) = coreGo X Z d c := by
  unfold tileGo coreGo
  rw [bigSep_sep', bigSep_sep', ← pointsTo_deal Finset.univ Finset.univ_nonempty, ← pointsTo_deal Finset.univ Finset.univ_nonempty]
theorem tiles_td (d : Dev nD) (c : Fin 2) : (bigSep Finset.univ fun i : Fin 16 => tileTd X Z d c i) = coreDn X Z d c := by
  unfold tileTd coreDn
  rw [bigSep_sep', bigSep_sep', ← pointsTo_deal Finset.univ Finset.univ_nonempty, ← pointsTo_deal Finset.univ Finset.univ_nonempty]

theorem vecSplit : (K (F := F)).VecSplit' (P X Z) 0 := by
  intro d c
  show coreGo X Z d (Fin.cast nCore_zero c) ⊢ |={Set.univ}=> iprop(
      (bigSep Finset.univ fun i : Fin ((K (F := F)).nSub 0) => tileGo X Z d (Fin.cast nCore_zero c) (Fin.cast nSub_zero i))
      ∗ ((bigSep Finset.univ fun i : Fin ((K (F := F)).nSub 0) => tileTd X Z d (Fin.cast nCore_zero c) (Fin.cast nSub_zero i))
          -∗ coreDn X Z d (Fin.cast nCore_zero c)))
  rw [bigSep_tasks (F := F) (fun i => tileGo X Z d (Fin.cast nCore_zero c) i), bigSep_tasks (F := F) (fun i => tileTd X Z d (Fin.cast nCore_zero c) i),
    tiles_go, tiles_td]
  iintro H; imodintro
  isplitl [H]; · iexact H
  iintro H; iexact H

/-! ## The call's arrays as its bands' rows -/

/-- The task of band `b`. -/
def taskOf (b : Fin 16) : Fin 2 × Fin 16 := (⟨b.val % 2, Nat.mod_lt _ (by decide)⟩, ⟨b.val / 2, by have := b.isLt; omega⟩)
theorem taskOf_inj : Set.InjOn taskOf (Finset.univ : Finset (Fin 16)) := by
  intro a _ b _ e
  have h1 : a.val % 2 = b.val % 2 := congrArg (fun p => p.1.val) e
  have h2 : a.val / 2 = b.val / 2 := congrArg (fun p => p.2.val) e
  exact Fin.ext (by omega)

/-- A resource per task that has a band is one per band. -/
theorem bigSep_bands (Φ : Fin 16 → sProp 𝕄) :
    (bigSep Finset.univ fun c : Fin 2 => bigSep Finset.univ fun i : Fin 16 =>
      if h : 2 * i.val + c.val < 16 then Φ ⟨2 * i.val + c.val, h⟩ else iprop(emp)) = bigSep Finset.univ Φ := by
  rw [← bigSep_univ_prod (fun p : Fin 2 × Fin 16 => if h : 2 * p.2.val + p.1.val < 16 then Φ ⟨2 * p.2.val + p.1.val, h⟩ else (iprop(emp) : sProp 𝕄)),
    SparseCore.bigSep_sdiff_split' (t := (Finset.univ : Finset (Fin 16)).image taskOf) (Finset.subset_univ _), SparseCore.bigSep_image_of_injOn taskOf_inj]
  rw [show (bigSep (Finset.univ \ Finset.univ.image taskOf) fun p : Fin 2 × Fin 16 =>
      if h : 2 * p.2.val + p.1.val < 16 then Φ ⟨2 * p.2.val + p.1.val, h⟩ else (iprop(emp) : sProp 𝕄)) = iprop(emp) from
    (bigSep_congr fun p hp => dif_neg fun h => (Finset.mem_sdiff.mp hp).2 (Finset.mem_image.mpr ⟨⟨_, h⟩, Finset.mem_univ _, by
      have h1 := p.1.isLt
      exact Prod.ext (Fin.ext (by show (2 * p.2.val + p.1.val) % 2 = p.1.val; omega)) (Fin.ext (by show (2 * p.2.val + p.1.val) / 2 = p.2.val; omega))⟩)).trans
      (bigSep_emp_const _)]
  refine (show iprop(bigSep Finset.univ (fun b : Fin 16 => if h : 2 * (taskOf b).2.val + (taskOf b).1.val < 16 then Φ ⟨2 * (taskOf b).2.val + (taskOf b).1.val, h⟩
      else (iprop(emp) : sProp 𝕄)) ∗ emp) = bigSep Finset.univ (fun b : Fin 16 => if h : 2 * (taskOf b).2.val + (taskOf b).1.val < 16 then Φ ⟨2 * (taskOf b).2.val + (taskOf b).1.val, h⟩
      else iprop(emp)) from BI.equiv_iff.mp BI.sep_emp).trans ?_
  refine bigSep_congr fun b _ => ?_
  have hb := b.isLt
  have e : 2 * (taskOf b).2.val + (taskOf b).1.val = b.val := by show 2 * (b.val / 2) + b.val % 2 = b.val; omega
  rw [dif_pos (by omega)]
  exact congrArg Φ (Fin.ext e)

theorem rowsG_disjoint : ∀ i ∈ (Finset.univ : Finset (Fin 16)), ∀ j ∈ (Finset.univ : Finset (Fin 16)), i ≠ j → Disjoint (rowG i).set (rowG j).set :=
  fun _ _ _ _ h => Rect.part_disjoint hdivG h
theorem rowsC_disjoint : ∀ i ∈ (Finset.univ : Finset (Fin 16)), ∀ j ∈ (Finset.univ : Finset (Fin 16)), i ≠ j → Disjoint (rowC i).set (rowC j).set :=
  fun _ _ _ _ h => Rect.part_disjoint hdivC h
theorem rowsN_disjoint : ∀ i ∈ (Finset.univ : Finset (Fin 16)), ∀ j ∈ (Finset.univ : Finset (Fin 16)), i ≠ j → Disjoint (rowN i).set (rowN j).set :=
  fun _ _ _ _ h => Rect.part_disjoint hdivN h
theorem rowsG_cover : (Finset.univ : Finset (Fin 16)).biUnion (fun b => (rowG b).set) = Finset.univ := Rect.biUnion_part hdivG
theorem rowsC_cover : (Finset.univ : Finset (Fin 16)).biUnion (fun b => (rowC b).set) = Finset.univ := Rect.biUnion_part hdivC
theorem rowsN_cover : (Finset.univ : Finset (Fin 16)).biUnion (fun b => (rowN b).set) = Finset.univ := Rect.biUnion_part hdivN

theorem geo_rows (d : Dev nD) (f : Buf (Elt F) (geoLoc d)) :
    (geoLoc d ↦{fullShare} f : sProp 𝕄) = bigSep Finset.univ fun b : Fin 16 => geoLoc d ↦[(rowG b).set]{fullShare} f := by
  rw [← pointsTo_biUnion Finset.univ (ℓ := geoLoc d) (fun b => (rowG b).set) rowsG_disjoint, rowsG_cover]; try rfl
theorem col_rows (d : Dev nD) (f : Buf (Elt F) (colLoc d)) :
    (colLoc d ↦{fullShare} f : sProp 𝕄) = bigSep Finset.univ fun b : Fin 16 => colLoc d ↦[(rowC b).set]{fullShare} f := by
  rw [← pointsTo_biUnion Finset.univ (ℓ := colLoc d) (fun b => (rowC b).set) rowsC_disjoint, rowsC_cover]; try rfl
theorem cnt_rows (d : Dev nD) (f : Buf (Elt F) (cntLoc d)) :
    (cntLoc d ↦{fullShare} f : sProp 𝕄) = bigSep Finset.univ fun b : Fin 16 => cntLoc d ↦[(rowN b).set]{fullShare} f := by
  rw [← pointsTo_biUnion Finset.univ (ℓ := cntLoc d) (fun b => (rowN b).set) rowsN_disjoint, rowsN_cover]; try rfl

theorem atG_mem (b : Fin 16) (n : Fin 16384) : atG b n ∈ (rowG b).set :=
  (LoadRect.mem_set _).mpr fun a => match a with
    | 0 => ⟨0, by simp [Shape.partSize], by simp [Shape.partIx, Shape.partSize]⟩
    | 1 => ⟨n.val, by simp [Shape.partSize], by simp [Shape.partIx, Shape.partSize]⟩
theorem atC_mem (b : Fin 16) (n : Fin 8192) : atC b n ∈ (rowC b).set :=
  (LoadRect.mem_set _).mpr fun a => match a with
    | 0 => ⟨0, by simp [Shape.partSize], by simp [Shape.partIx, Shape.partSize]⟩
    | 1 => ⟨n.val, by simp [Shape.partSize], by simp [Shape.partIx, Shape.partSize]⟩
theorem atN_mem (b : Fin 16) (n : Fin 16) : atN b n ∈ (rowN b).set :=
  (LoadRect.mem_set _).mpr fun a => match a with
    | 0 => ⟨0, by simp [Shape.partSize], by simp [Shape.partIx, Shape.partSize]⟩
    | 1 => ⟨n.val, by simp [Shape.partSize], by simp [Shape.partIx, Shape.partSize]⟩

/-- All the bands' rows before the call, out of the three arrays whole. -/
theorem rows_go (d : Dev nD) (fg : Buf (Elt F) (geoLoc d)) (fc : Buf (Elt F) (colLoc d)) (fn : Buf (Elt F) (cntLoc d)) :
    iprop((geoLoc d ↦{fullShare} fg) ∗ (colLoc d ↦{fullShare} fc) ∗ (cntLoc d ↦{fullShare} fn))
      ⊢ (bigSep Finset.univ fun b : Fin 16 => rowsGo d b : sProp 𝕄) := by
  rw [geo_rows, col_rows, cnt_rows, ← bigSep_sep', ← bigSep_sep']
  refine bigSep_mono fun b _ => ?_
  show iprop((geoLoc d ↦[(rowG b).set]{fullShare} fg) ∗ (colLoc d ↦[(rowC b).set]{fullShare} fc) ∗ (cntLoc d ↦[(rowN b).set]{fullShare} fn)) ⊢ (rowsGo d b : sProp 𝕄)
  unfold rowsGo
  iintro ⟨Hg, Hc, Hn⟩
  isplitl [Hg]; · iexists fg; iexact Hg
  isplitl [Hc]; · iexists fc; iexact Hc
  iexists fn; iexact Hn

/-- What the call leaves its outputs at: every band's rows as `BandOK` says. -/
def binned (d : Dev nD) (ch : S32768.Idx → F .f32) : sProp 𝕄 :=
  iprop(∃ (fg : S16x16384.Idx → F .f32) (fc : S16x8192.Idx → F .f32) (fn : S16x16.Idx → BitVec 32),
    ⌜∀ b, BandOK ch b (takeG fg b) (takeC fc b) (takeN fn b)⌝
    ∗ (geoLoc d ↦{fullShare} fg) ∗ (colLoc d ↦{fullShare} fc) ∗ (cntLoc d ↦{fullShare} fn))

/-- All the bands' rows after the call are the three arrays whole. -/
theorem rows_td (d : Dev nD) (ch : S32768.Idx → F .f32) :
    (bigSep Finset.univ fun b : Fin 16 => rowsTd d ch b) ⊢ (binned d ch : sProp 𝕄) := by
  haveI : Nonempty (F .f32) := ⟨constant (F := F) S16 .f32 0#32 (lane 0)⟩
  unfold rowsTd binned
  refine (bigSep_exists_pi Finset.univ _).trans ?_
  iintro ⟨%fgs, H⟩
  ihave H := (bigSep_exists_pi Finset.univ _) $$ H
  icases H with ⟨%fcs, H⟩
  ihave H := (bigSep_exists_pi Finset.univ _) $$ H
  icases H with ⟨%fns, H⟩
  ihave H := (bigSep_pure_sep Finset.univ _ _) $$ H
  icases H with ⟨%hok, H⟩
  ihave H := (Entails.of_eq ((bigSep_sep' _ _ _).trans (congrArg _ (bigSep_sep' _ _ _)))) $$ H
  icases H with ⟨Hg, Hc, Hn⟩
  ihave Hg := (pointsTo_biUnion_join (ℓ := geoLoc d) (q := fullShare) (Val := Elt F) Finset.univ (fun b => (rowG b).set) fgs (fgs 0) rowsG_disjoint) $$ Hg
  icases Hg with ⟨%fg, %hg, Hg⟩
  ihave Hc := (pointsTo_biUnion_join (ℓ := colLoc d) (q := fullShare) (Val := Elt F) Finset.univ (fun b => (rowC b).set) fcs (fcs 0) rowsC_disjoint) $$ Hc
  icases Hc with ⟨%fc, %hc, Hc⟩
  ihave Hn := (pointsTo_biUnion_join (ℓ := cntLoc d) (q := fullShare) (Val := Elt F) Finset.univ (fun b => (rowN b).set) fns (fns 0) rowsN_disjoint) $$ Hn
  icases Hn with ⟨%fn, %hn, Hn⟩
  rw [rowsG_cover, rowsC_cover, rowsN_cover]
  iexists fg, fc, fn
  isplitr
  · ipureintro; intro b
    have e1 : takeG fg b = takeG (fgs b) b := funext fun x => hg b (Finset.mem_univ _) _ (atG_mem b (x 0))
    have e2 : takeC fc b = takeC (fcs b) b := funext fun x => hc b (Finset.mem_univ _) _ (atC_mem b (x 0))
    have e3 : takeN fn b = takeN (fns b) b := funext fun x => hn b (Finset.mem_univ _) _ (atN_mem b (x 0))
    rw [e1, e2, e3]; exact hok b (Finset.mem_univ _)
  isplitl [Hg]; · iexact Hg
  isplitl [Hc]; · iexact Hc
  iexact Hn

/-- The call's operands for both SparseCores, out of its arrays whole; -/
theorem st_intro (d : Dev nD) (fg : Buf (Elt F) (geoLoc d)) (fc : Buf (Elt F) (colLoc d)) (fn : Buf (Elt F) (cntLoc d)) :
    iprop((chLoc d ↦{fullShare} X d) ∗ (czLoc d ↦{fullShare} Z d) ∗ (geoLoc d ↦{fullShare} fg) ∗ (colLoc d ↦{fullShare} fc) ∗ (cntLoc d ↦{fullShare} fn))
      ⊢ (bigSep Finset.univ fun c : Fin ((K (F := F)).nCore 0) => (P X Z).st 0 d c : sProp 𝕄) := by
  show _ ⊢ (bigSep Finset.univ fun c : Fin ((K (F := F)).nCore 0) => coreGo X Z d (Fin.cast nCore_zero c) : sProp 𝕄)
  rw [bigSep_cores (F := F) (fun c => coreGo X Z d c)]
  unfold coreGo
  rw [bigSep_sep', bigSep_sep', ← pointsTo_deal Finset.univ Finset.univ_nonempty, ← pointsTo_deal Finset.univ Finset.univ_nonempty]
  unfold taskGo
  rw [bigSep_bands (fun b => rowsGo d b)]
  iintro ⟨Hx, Hz, H⟩
  isplitl [Hx]; · iexact Hx
  isplitl [Hz]; · iexact Hz
  iapply (rows_go d fg fc fn); iexact H

/-- and its results, its arrays whole. -/
theorem dn_elim (d : Dev nD) :
    (bigSep Finset.univ fun c : Fin ((K (F := F)).nCore 0) => (P X Z).dn 0 d c : sProp 𝕄)
      ⊢ iprop((chLoc d ↦{fullShare} X d) ∗ (czLoc d ↦{fullShare} Z d) ∗ binned d (X d)) := by
  show (bigSep Finset.univ fun c : Fin ((K (F := F)).nCore 0) => coreDn X Z d (Fin.cast nCore_zero c) : sProp 𝕄) ⊢ _
  rw [bigSep_cores (F := F) (fun c => coreDn X Z d c)]
  unfold coreDn
  rw [bigSep_sep', bigSep_sep', ← pointsTo_deal Finset.univ Finset.univ_nonempty, ← pointsTo_deal Finset.univ Finset.univ_nonempty]
  unfold taskTd
  rw [bigSep_bands (fun b => rowsTd d (X d) b)]
  iintro ⟨Hx, Hz, H⟩
  isplitl [Hx]; · iexact Hx
  isplitl [Hz]; · iexact Hz
  iapply (rows_td d (X d)); iexact H

end Cert.Proof.Bin

end
-- ==== Proof.Words.lean ====
/-
  The rasterizer's loop bounds and load offsets, as natural numbers: a band of n Gaussians is composited in ⌈n/256⌉ trips
  of the first loop, trip t at rows 256·t, and in none of the second.
-/
module

public import proofs.«01_k».proof.Proof.Gen.KernelIdeal.Launch
public import proofs.«01_k».proof.Proof.Gen.KernelIdeal.Skeleton
public import Idealize.ShloMosaic.Lib.WordCmp

@[expose] public section

noncomputable section

namespace Cert.Proof.Tc

open Cert.KernelIdeal Cert.KernelIdeal.Gen
open Idealize.ShloMosaic
open Idealize.ShloMosaic.WordCmp

/-- The quotient the loops' bounds share. -/
theorem quot_eq (n : BitVec 32) (h : n.toNat ≤ 2048) :
    Scalar.divsi (Scalar.addi n 255#32) 256#32 = BitVec.ofNat 32 ((n.toNat + 255) / 256) := by
  obtain ⟨k, rfl⟩ : ∃ k, n = BitVec.ofNat 32 k := ⟨n.toNat, by simp⟩
  have hk : k % 2 ^ 32 ≤ 2048 := by simpa using h
  have e1 : (Scalar.addi (BitVec.ofNat 32 k) 255#32) = BitVec.ofNat 32 (k % 2 ^ 32 + 255) := by
    apply BitVec.eq_of_toNat_eq
    show (BitVec.ofNat 32 k + 255#32).toNat = _
    simp [BitVec.toNat_add]
  rw [e1]
  show IntOp.divsi .scalar _ _ = _
  unfold IntOp.divsi
  rw [if_neg (by
    unfold IntOp.SDivCorner
    rintro (h0 | ⟨_, h1⟩)
    · exact absurd h0 (by decide)
    · exact absurd h1 (by decide))]
  apply BitVec.eq_of_toInt_eq
  rw [BitVec.toInt_sdiv, toInt_ofNat_of_lt (by simp; omega)]
  rw [toInt_ofNat_of_lt (a := 256) (by decide)]
  rw [toInt_ofNat_of_lt (by simp; omega)]
  simp only [BitVec.toNat_ofNat]
  generalize k % 2 ^ 32 = j at *
  have : (((j + 255 : Nat) : Int)).tdiv ((256 : Nat) : Int) = (((j + 255) / 256 : Nat) : Int) := by
    rw [Int.ofNat_tdiv]
  rw [this]
  apply Int.bmod_eq_of_le <;> omega

theorem ub_eq (n : BitVec 32) (h : n.toNat ≤ 2048) : (k1_t1_loop n).ub = BitVec.ofNat 32 ((n.toNat + 255) / 256) := by
  show Scalar.addi 0#32 (Scalar.muli (Scalar.divsi (Scalar.subi (Scalar.divsi (Scalar.addi n 255#32) 256#32) 0#32) 1#32) 1#32) = _
  rw [quot_eq n h]
  have hq : (n.toNat + 255) / 256 ≤ 8 := by omega
  generalize (n.toNat + 255) / 256 = q at *
  exact (by decide : ∀ q < 9, Scalar.addi 0#32 (Scalar.muli (Scalar.divsi (Scalar.subi (BitVec.ofNat 32 q) 0#32) 1#32) 1#32) = BitVec.ofNat 32 q) q (by omega)

theorem ub2_eq (n : BitVec 32) (h : n.toNat ≤ 2048) : (k1_t2_loop n).ub = BitVec.ofNat 32 ((n.toNat + 255) / 256) := by
  show Scalar.addi 0#32 (Scalar.subi (Scalar.divsi (Scalar.addi n 255#32) 256#32) 0#32) = _
  rw [quot_eq n h]
  have hq : (n.toNat + 255) / 256 ≤ 8 := by omega
  generalize (n.toNat + 255) / 256 = q at *
  exact (by decide : ∀ q < 9, Scalar.addi 0#32 (Scalar.subi (BitVec.ofNat 32 q) 0#32) = BitVec.ofNat 32 q) q (by omega)

/-- The first loop runs ⌈n/256⌉ trips. -/
theorem trips1 (n : BitVec 32) (h : n.toNat ≤ 2048) : (k1_t1_loop n).trips = (n.toNat + 255) / 256 := by
  show Scf.trips 0#32 (k1_t1_loop n).ub 1#32 = _
  rw [ub_eq n h]
  have hq : (n.toNat + 255) / 256 ≤ 8 := by omega
  generalize (n.toNat + 255) / 256 = q at *
  exact (by decide : ∀ q < 9, Scf.trips 0#32 (BitVec.ofNat 32 q) 1#32 = q) q (by omega)

/-- The second none. -/
theorem trips2 (n : BitVec 32) (h : n.toNat ≤ 2048) : (k1_t2_loop n).trips = 0 := by
  show Scf.trips (k1_t1_loop n).ub (k1_t2_loop n).ub 1#32 = _
  rw [ub_eq n h, ub2_eq n h]
  have hq : (n.toNat + 255) / 256 ≤ 8 := by omega
  generalize (n.toNat + 255) / 256 = q at *
  exact (by decide : ∀ q < 9, Scf.trips (BitVec.ofNat 32 q) (BitVec.ofNat 32 q) 1#32 = 0) q (by omega)

theorem trips_le (n : BitVec 32) (h : n.toNat ≤ 2048) : (k1_t1_loop n).trips ≤ 8 := by
  rw [trips1 n h]; omega

theorem iv_toNat (t : Nat) (ht : t < 8) : (Scalar.muli (Scf.iv 0#32 1#32 t) 256#32).toNat = 256 * t := by
  exact (by decide : ∀ t < 8, (Scalar.muli (Scf.iv 0#32 1#32 t) 256#32).toNat = 256 * t) t ht

theorem iv_toNat' (t : Nat) (ht : t < 8) : (Scf.iv 0#32 1#32 t).toNat = t := by
  exact (by decide : ∀ t < 8, (Scf.iv 0#32 1#32 t).toNat = t) t ht

theorem off2_eq (n : BitVec 32) (h : n.toNat ≤ 2048) (t : Fin (k1_t1_loop n).trips) : k1_off2 n t = ![0, 256 * t.val, 0] := by
  have ht : t.val < 8 := Nat.lt_of_lt_of_le t.isLt (trips_le n h)
  exact congrArg (fun z => ![0, z, 0]) (iv_toNat t.val ht)

theorem off3_eq (n : BitVec 32) (h : n.toNat ≤ 2048) (t : Fin (k1_t1_loop n).trips) : k1_off3 n t = ![0, 256 * t.val, 0] := by
  have ht : t.val < 8 := Nat.lt_of_lt_of_le t.isLt (trips_le n h)
  exact congrArg (fun z => ![0, z, 0]) (iv_toNat t.val ht)

theorem off4_eq (n : BitVec 32) (h : n.toNat ≤ 2048) (t : Fin (k1_t1_loop n).trips) : k1_off4 n t = ![0, t.val, 0, 0] := by
  have ht : t.val < 8 := Nat.lt_of_lt_of_le t.isLt (trips_le n h)
  exact congrArg (fun z => ![0, z, 0, 0]) (iv_toNat' t.val ht)

/-- What the kernel assumes of the count it read. -/
theorem chk (n : BitVec 32) (h : n.toNat ≤ 2048) : k1_chk1 n := by
  have h0 : ∀ k : Fin (k1_t2_loop n).trips, False := fun k => Nat.not_lt_zero _ (Nat.lt_of_lt_of_eq k.isLt (trips2 n h))
  have ht : ∀ t : Fin (k1_t1_loop n).trips, t.val < 8 := fun t => Nat.lt_of_lt_of_le t.isLt (trips_le n h)
  refine ⟨?_, fun t a => ?_, fun t a => ?_, fun t a => ?_, ?_, fun k => (h0 k).elim, fun k => (h0 k).elim, fun k => (h0 k).elim⟩
  · refine ⟨(by decide : (0 : Int) < (1#32).toInt), ?_⟩
    have e := trips_le n h
    show (0#32).toInt + (k1_t1_loop n).trips * (1#32).toInt < 2 ^ (32 - 1)
    rw [show (0#32).toInt = 0 from rfl, show (1#32).toInt = 1 from rfl]
    generalize (k1_t1_loop n).trips = q at *
    omega
  · rw [off2_eq n h t]; have := ht t
    match a with
    | 0 => show 0 + 1 ≤ 1; omega
    | 1 => show 256 * t.val + 256 ≤ 2048; omega
    | 2 => show 0 + 8 ≤ 8; omega
  · rw [off3_eq n h t]; have := ht t
    match a with
    | 0 => show 0 + 1 ≤ 1; omega
    | 1 => show 256 * t.val + 256 ≤ 2048; omega
    | 2 => show 0 + 1 ≤ 1; omega
  · rw [off4_eq n h t]; have := ht t
    match a with
    | 0 => show 0 + 1 ≤ 1; omega
    | 1 => show t.val + 1 ≤ 8; omega
    | 2 => show 0 + 3 ≤ 4; omega
    | 3 => show 0 + 256 ≤ 256; omega
  · refine ⟨(by decide : (0 : Int) < (1#32).toInt), ?_⟩
    have e := trips2 n h
    show (k1_t1_loop n).ub.toInt + (k1_t2_loop n).trips * (1#32).toInt < 2 ^ (32 - 1)
    rw [e, ub_eq n h]
    have hq : (n.toNat + 255) / 256 ≤ 8 := by omega
    generalize (n.toNat + 255) / 256 = q at *
    exact (by decide : ∀ q < 9, (BitVec.ofNat 32 q).toInt + ((0 : Nat) : Int) * (1#32).toInt < 2 ^ (32 - 1)) q (by omega)

/-- The radii are written at the first grid point. -/
theorem cond1_iff (i : grid1.Coords) : k1_cond1 i = 1#1 ↔ (i 0).val = 0 :=
  (by decide : ∀ q < 16, Scalar.cmpi .ne (Scalar.extui (Scalar.cmpi .eq (BitVec.ofNat 32 q) 0#32) : BitVec 32) 0#32 = 1#1 ↔ q = 0)
    (i 0).val (i 0).isLt

end Cert.Proof.Tc

end
-- ==== Proof.Raster.lean ====
/-
  The rasterizer's body on one band: the chunks of 256 Gaussians composited one after the other, the number of pixels
  each Gaussian covers in the band stored beside its row, the band's image written at the end, and at the first grid
  point the radii.
-/
module

public import proofs.«01_k».proof.Proof.Setup
public import proofs.«01_k».proof.Proof.Words
public import Idealize.ShloMosaic.Lib.Pipeline.FrameBody
public import Idealize.ShloMosaic.Lib.Writes
public import Idealize.ShloMosaic.Lib.WritesUnit
public import Idealize.ShloMosaic.Lib.WholeRead
public import Idealize.ShloMosaic.Lib.PointwiseCore

@[expose] public section

set_option maxRecDepth 16384

noncomputable section

namespace Cert.Proof.Tc

open Cert.KernelIdeal Cert.KernelIdeal.Gen
open Cert.Proof.Bin (UU 𝒱₀)
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section Pure

/-- The row number of a chunk's Gaussian. -/
abbrev rows : IVec S256x1 32 := iota .tc S256x1 32 [0] iota_S256x1_d0_w32
/-- The pixels' columns. -/
abbrev xs : FVec F S1x1024 .f32 := k1_pay17 (F := F)
/-- The pixels' rows in band i. -/
abbrev ys (i : grid1.Coords) : FVec F S1x1024 .f32 :=
  k1_pay21 (F := F) (Scalar.muli (BitVec.ofNat 32 (i 0).val) 8#32) k1_pay18 k1_pay19 k1_pay20 0#32

variable (i : grid1.Coords) (n : BitVec 32) (h : k1_chk1 n)
  (g : Vec F S1x2048x8 .f32) (c : Vec F S1x8x4x256 .f32) (bg : Vec F S3x1 .f32)

/-- The geometry of chunk t. -/
abbrev chunkG (t : Fin (k1_t1_loop n).trips) : Vec F S1x256x8 .f32 :=
  View.ld g (Rect.unit (s := S1x2048x8) (k1_off2 n t) S1x256x8.size (k1_off2_inb n h t))
/-- The colours of chunk t. -/
abbrev chunkC (t : Fin (k1_t1_loop n).trips) : Vec F S1x1x3x256 .f32 :=
  View.ld c (Rect.unit (s := S1x8x4x256) (k1_off4 n t) S1x1x3x256.size (k1_off4_inb n h t))
/-- Where the counts of chunk t stand. -/
abbrev rectN (t : Fin (k1_t1_loop n).trips) : Rect S1x2048x1 :=
  Rect.unit (s := S1x2048x1) (k1_off3 n t) S1x256x1.size (k1_off3_inb n h t)
/-- The opacities of chunk t at the band's pixels. -/
abbrev alphaT (t : Fin (k1_t1_loop n).trips) : FVec F S256x1024 .f32 :=
  k1_pay10 (xs (F := F)) (ys i) rows n 0#32 1#32 t (chunkG n h g t)
/-- The numbers of pixels that the Gaussians of chunk t cover. -/
abbrev countT (t : Fin (k1_t1_loop n).trips) : IVec S1x256x1 32 :=
  k1_pay25 (k1_pay11 (xs (F := F)) (ys i) rows n 0#32 1#32 t (chunkG n h g t))

/-- What is carried: the logarithm of the transmittance and the image, before chunk k. -/
def acc : Nat → FVec F S1x1024 .f32 × FVec F S3x1024 .f32
  | 0 => (k1_pay23, k1_pay24)
  | k + 1 => if hk : k < (k1_t1_loop n).trips then
      (k1_pay28 (acc k).1 (alphaT i n h g ⟨k, hk⟩), k1_pay27 (acc k).1 (acc k).2 (alphaT i n h g ⟨k, hk⟩) (chunkC n h c ⟨k, hk⟩))
    else acc k

theorem acc_succ (t : Fin (k1_t1_loop n).trips) : acc i n h g c (t.val + 1)
    = (k1_pay28 (acc i n h g c t.val).1 (alphaT i n h g t),
        k1_pay27 (acc i n h g c t.val).1 (acc i n h g c t.val).2 (alphaT i n h g t) (chunkC n h c t)) := by
  rw [acc, dif_pos t.isLt]

/-- The band's image. -/
def image : FVec F S3x1024 .f32 :=
  k1_pay33 (acc i n h g c (k1_t1_loop n).trips).1 (acc i n h g c (k1_t1_loop n).trips).2 bg

/-- The band's image as eight rows of pixels. -/
def asRows (w : FVec F S3x1024 .f32) : Vec F S3x8x128 .f32 := fun j =>
  w (ix2 (j 0) ⟨(j 1).val * 128 + (j 2).val, by
    have h1 : (j 1).val < 8 := (j 1).isLt
    have h2 : (j 2).val < 128 := (j 2).isLt
    show _ < 1024
    omega⟩)

/-- The counts of the first k chunks stand in X. -/
def Counted (k : Nat) (X : Vec F S1x2048x1 .i32) : Prop :=
  ∀ t : Fin (k1_t1_loop n).trips, t.val < k → ∀ x, X ((rectN n h t).emb x) = countT (F := F) i n h g t x

end Pure

section Rows

variable {κ : Kind} {sp : Space}

/-- The eight stores of the image are the image as rows. -/
theorem rows_written (v : View sig κ sp S3x8x128 .f32) (f : v.ty.Contents (Elt F)) (L : FVec F S1x1024 .f32) (I : FVec F S3x1024 .f32) (bg : Vec F S3x1 .f32) :
    v.read (Elt F) (v.writes (Elt F) f
      [⟨Rect.unit ![0, 7, 0] ![3, 1, 128] inb_S3x8x128_S3x1x128_0_7_0, k1_pay7 (k1_pay33 L I bg)⟩,
        ⟨Rect.unit ![0, 6, 0] ![3, 1, 128] inb_S3x8x128_S3x1x128_0_6_0, k1_pay6 (k1_pay33 L I bg)⟩,
        ⟨Rect.unit ![0, 5, 0] ![3, 1, 128] inb_S3x8x128_S3x1x128_0_5_0, k1_pay5 (k1_pay33 L I bg)⟩,
        ⟨Rect.unit ![0, 4, 0] ![3, 1, 128] inb_S3x8x128_S3x1x128_0_4_0, k1_pay4 (k1_pay33 L I bg)⟩,
        ⟨Rect.unit ![0, 3, 0] ![3, 1, 128] inb_S3x8x128_S3x1x128_0_3_0, k1_pay3 (k1_pay33 L I bg)⟩,
        ⟨Rect.unit ![0, 2, 0] ![3, 1, 128] inb_S3x8x128_S3x1x128_0_2_0, k1_pay2 (k1_pay33 L I bg)⟩,
        ⟨Rect.unit ![0, 1, 0] ![3, 1, 128] inb_S3x8x128_S3x1x128_0_1_0, k1_pay1 (k1_pay35 L I bg)⟩,
        ⟨Rect.unit ![0, 0, 0] S3x1x128.size inb_S3x8x128_S3x1x128_0_0_0, k1_pay34 L I bg⟩])
      = asRows (k1_pay33 L I bg) := by
  funext y
  refine View.read_writes_apply_of_pieces v f (asRows (k1_pay33 L I bg)) _ ?_ y (View.cover_of_tiled _ ![3, 1, 128] (by rfl) y)
  intro p hp
  simp only [List.mem_cons, List.not_mem_nil, or_false] at hp
  rcases hp with rfl | rfl | rfl | rfl | rfl | rfl | rfl | rfl
  all_goals
    intro x
    change S3x1x128.Idx at x
    simp only [k1_pay1, k1_pay2, k1_pay3, k1_pay4, k1_pay5, k1_pay6, k1_pay7, k1_pay34, k1_pay35]
    generalize k1_pay33 L I bg = w
    unfold asRows
    pointwise
    have h1 : (x 1).val = 0 := Nat.lt_one_iff.mp (x 1).isLt
    refine congrArg w (congrArg₂ ix2 (Fin.ext ?_) (Fin.ext ?_))
    · show (x 0).val = 0 + 1 * (x 0).val
      omega
    · first
        | (show 896 + (x 2).val = (7 + 1 * (x 1).val) * 128 + (0 + 1 * (x 2).val); omega)
        | (show 768 + (x 2).val = (6 + 1 * (x 1).val) * 128 + (0 + 1 * (x 2).val); omega)
        | (show 640 + (x 2).val = (5 + 1 * (x 1).val) * 128 + (0 + 1 * (x 2).val); omega)
        | (show 512 + (x 2).val = (4 + 1 * (x 1).val) * 128 + (0 + 1 * (x 2).val); omega)
        | (show 384 + (x 2).val = (3 + 1 * (x 1).val) * 128 + (0 + 1 * (x 2).val); omega)
        | (show 256 + (x 2).val = (2 + 1 * (x 1).val) * 128 + (0 + 1 * (x 2).val); omega)
        | (show 128 + (x 2).val = (1 + 1 * (x 1).val) * 128 + (0 + 1 * (x 2).val); omega)
        | (show (x 2).val = (0 + 1 * (x 1).val) * 128 + (0 + 1 * (x 2).val); omega)

/-- A store of the whole of the radii. -/
theorem rad_written (v : View sig κ sp S2048x1 .i32) (f : v.ty.Contents (Elt F)) (w : Vec F S2048x1 .i32) :
    v.read (Elt F) (v.writes (Elt F) f [⟨Rect.unit ![0, 0] S2048x1.size inb_S2048x1_S2048x1_0_0, w⟩]) = w := by
  funext y
  refine View.read_writes_cons_unit_of_mem v f _ w [] y y (off' := ![0, 0]) rfl (fun a => ?_)
  match a with
  | 0 => show (y 0).val = 0 + (y 0).val; omega
  | 1 => show (y 1).val = 0 + (y 1).val; omega

/-- A whole block read is the block. -/
theorem ld_whole2 {d : Fin 2 → ℕ} {e : EltTy} (x : Vec F ⟨2, d⟩ e) (inb : ∀ a, (![0, 0] : Fin 2 → ℕ) a + d a ≤ d a) :
    View.ld x (Rect.unit (s := ⟨2, d⟩) ![0, 0] d inb) = x := by
  funext y
  refine congrArg x (funext fun a => Fin.ext ?_)
  match a with
  | 0 => show 0 + 1 * (y 0).val = (y 0).val; omega
  | 1 => show 0 + 1 * (y 1).val = (y 1).val; omega

end Rows

section Body

variable (d : Dev nD) (i : grid1.Coords)
  (arg2 : Memref sig .tc .vmem S1x2048x8 .f32) (harg2 : arg2.IsWhole) (arg3 : Memref sig .tc .vmem S1x8x4x256 .f32) (harg3 : arg3.IsWhole)
  (arg4 : Memref sig .tc .vmem S2048x1 .f32) (harg4 : arg4.IsWhole) (arg5 : Memref sig .tc .vmem S2048x1 .f32) (harg5 : arg5.IsWhole)
  (arg6 : Memref sig .tc .vmem S2048x1 .f32) (harg6 : arg6.IsWhole) (arg7 : Memref sig .tc .vmem S3x1 .f32) (harg7 : arg7.IsWhole)
  (arg8 : Memref sig .tc .vmem S3x8x128 .f32) (harg8 : arg8.IsWhole) (arg9 : Memref sig .tc .vmem S2048x1 .i32) (harg9 : arg9.IsWhole)
  (arg10 : Memref sig .tc .vmem S1x2048x1 .i32) (harg10 : arg10.IsWhole)

/-- The table's buffer. -/
abbrev tbM : Memref sig .tc .smem S16 .i32 := Memref.whole main_v104
abbrev htbM : (tbM).IsWhole := Memref.isWhole_whole _

/-- A table held in full. -/
abbrev tbPt {S : Shape} {e : EltTy} (M : Memref sig .tc .smem S e) (f : Buf (Elt F) (M.view.loc (d : Thread nD τ))) : sProp 𝕄 :=
  M.view.loc (d : Thread nD τ) ↦{fullShare} f

/-- The word that grid point i reads of the table. -/
abbrev word (tb : S16.Idx → BitVec 32) : BitVec 32 :=
  (tbM).view.readAt (Elt F) (Rect.unit (s := S16) (k1_off1 i) S1.size (k1_off1_inb i)).toLoadRect tb (Shape.Idx.first (numel1_S1.symm ▸ Nat.one_pos))

/-- Between chunks: the inputs as they were, the counts of the chunks before. -/
def inv (n : BitVec 32) (h : k1_chk1 n) (x0 : Vec F S1x2048x8 .f32) (x1 : Vec F S1x8x4x256 .f32) (k : Nat)
    (v : FVec F S1x1024 .f32 × FVec F S3x1024 .f32) : sProp 𝕄 :=
  iprop(⌜v = acc i n h x0 x1 k⌝
    ∗ (arg2.view.loc (d : Thread nD τ) ↦[arg2.view.set]{fullShare} harg2.unread x0)
    ∗ (arg3.view.loc (d : Thread nD τ) ↦[arg3.view.set]{fullShare} harg3.unread x1)
    ∗ (∃ f, ⌜Counted (F := F) i n h x0 k (arg10.view.read (Elt F) f)⌝ ∗ (arg10.view.loc (d : Thread nD τ) ↦[arg10.view.set]{fullShare} f)))

/-- One chunk. -/
theorem chunk (n : BitVec 32) (h : k1_chk1 n) (x0 : Vec F S1x2048x8 .f32) (x1 : Vec F S1x8x4x256 .f32) (hn : n.toNat ≤ 2048)
    (k : Fin (k1_t1_loop n).trips) (v : FVec F S1x1024 .f32 × FVec F S3x1024 .f32) :
    (inv d i arg2 harg2 arg3 harg3 arg10 n h x0 x1 k.val v : sProp 𝕄)
      ⊢ wp frame (wpE (defs₀ (F := F)) 𝒱₀ (d : Thread nD τ) none) Set.univ
          (k1_t1_body (F := F) i tbM htbM arg2 harg2 arg3 harg3 arg4 harg4 arg5 harg5 arg6 harg6 arg7 harg7 arg8 harg8 arg9 harg9 arg10 harg10
            (BitVec.ofNat 32 (i 0).val) xs (Scalar.muli (BitVec.ofNat 32 (i 0).val) 8#32) k1_pay18 k1_pay19 k1_pay20 0#32 rows n h k v)
          (fun v => inv d i arg2 harg2 arg3 harg3 arg10 n h x0 x1 (k.val + 1) v) := by
  unfold inv k1_t1_body
  simp only [k1_part1_eq_skeleton]
  iintro ⟨%hv, H2, H3, ⟨%f, %hf, H10⟩⟩
  subst hv
  sl_exec
  sl_step
  isplitr
  · ipureintro
    rw [acc_succ]
    delta chunk.sl.r
    simp only [View.readAt_eq_ld, harg3.read_unread, harg2.read_unread]
  isplitl [H2]; · iexact H2
  isplitl [H3]; · iexact H3
  iexists _
  isplitr; swap
  · iexact H10
  ipureintro
  intro t ht x
  rcases Nat.lt_or_eq_of_le (Nat.le_of_lt_succ ht) with hlt | heq
  · refine (View.read_writes_cons_unit_of_not_mem (off' := ![0, 256 * k.val, 0]) arg10.view f _ _ [] _ (off3_eq n hn k) 1 (Or.inl ?_)).trans (hf t hlt x)
    show (k1_off3 n t) 1 + 1 * (x 1).val < 256 * k.val
    rw [off3_eq n hn t]
    have hx : (x 1).val < 256 := (x 1).isLt
    show 256 * t.val + 1 * (x 1).val < 256 * k.val
    omega
  · obtain rfl : t = k := Fin.ext heq
    refine (View.read_writes_cons_emb arg10.view f (rectN n h t) _ [] x).trans ?_
    delta chunk.sl.r_1
    simp only [View.readAt_eq_ld, harg2.read_unread]

/-- What the body leaves of the radii: the radii at the first grid point, nothing new at the others. -/
def RadAfter (x2 x3 x4 : Vec F S2048x1 .f32) (Y X : Vec F S2048x1 .i32) : Prop :=
  ((i 0).val = 0 → X = k1_pay16 x2 x4 x3 x3 x2 x4) ∧ ((i 0).val ≠ 0 → X = Y)

set_option maxHeartbeats 1000000 in
/-- The body at the first grid point. -/
theorem body_first (hc : k1_cond1 i = 1#1) (tb : S16.Idx → BitVec 32) (hn : (word (F := F) i tb).toNat ≤ 2048)
    (x0 : Vec F S1x2048x8 .f32) (x1 : Vec F S1x8x4x256 .f32) (x2 x3 x4 : Vec F S2048x1 .f32) (x5 : Vec F S3x1 .f32)
    (y6 : Vec F S3x8x128 .f32) (y7 : Vec F S2048x1 .i32) (y8 : Vec F S1x2048x1 .i32) (Q : PUnit → sProp 𝕄) :
    iprop(owns (d : Thread nD τ) arg2 fullShare x0 ∗ owns (d : Thread nD τ) arg3 fullShare x1 ∗ owns (d : Thread nD τ) arg4 fullShare x2
        ∗ owns (d : Thread nD τ) arg5 fullShare x3 ∗ owns (d : Thread nD τ) arg6 fullShare x4 ∗ owns (d : Thread nD τ) arg7 fullShare x5
        ∗ owns (d : Thread nD τ) arg8 fullShare y6 ∗ owns (d : Thread nD τ) arg9 fullShare y7 ∗ owns (d : Thread nD τ) arg10 fullShare y8
        ∗ tbPt d tbM tb
        ∗ (iprop(owns (d : Thread nD τ) arg2 fullShare x0 ∗ owns (d : Thread nD τ) arg3 fullShare x1 ∗ owns (d : Thread nD τ) arg4 fullShare x2
            ∗ owns (d : Thread nD τ) arg5 fullShare x3 ∗ owns (d : Thread nD τ) arg6 fullShare x4 ∗ owns (d : Thread nD τ) arg7 fullShare x5
            ∗ owns (d : Thread nD τ) arg8 fullShare (asRows (image i _ (chk _ hn) x0 x1 x5))
            ∗ (∃ X, ⌜RadAfter i x2 x3 x4 y7 X⌝ ∗ owns (d : Thread nD τ) arg9 fullShare X)
            ∗ (∃ X, ⌜Counted (F := F) i _ (chk _ hn) x0 (k1_t1_loop (word (F := F) i tb)).trips X⌝ ∗ owns (d : Thread nD τ) arg10 fullShare X)
            ∗ tbPt d tbM tb) -∗ Q ⟨⟩))
      ⊢ wp frame (wpE (defs₀ (F := F)) 𝒱₀ (d : Thread nD τ) none) Set.univ
          (cc1__raster_kernel (F := F) i tbM htbM arg2 harg2 arg3 harg3 arg4 harg4 arg5 harg5 arg6 harg6 arg7 harg7 arg8 harg8 arg9 harg9 arg10 harg10) Q := by
  simp only [cc1__raster_kernel_eq_skeleton]; unfold cc1__raster_kernel_skel
  simp only [k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, ⟨%f7, %hf7, H7⟩, ⟨%f8, -, H8⟩, HT, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hf7
  have z2 : ∀ k : Fin (k1_t2_loop (word (F := F) i tb)).trips, False := fun k => Nat.not_lt_zero _ (Nat.lt_of_lt_of_eq k.isLt (trips2 _ hn))
  sl_exec (disch := first | sl_exact hc | sl_exact (chk _ hn))
  sl_for (fun k v => inv d i arg2 harg2 arg3 harg3 arg10 _ (chk _ hn) x0 x1 k v) $$ [H0 H1 H8]
  case region =>
    intro k v
    exact chunk d i arg2 harg2 arg3 harg3 arg4 harg4 arg5 harg5 arg6 harg6 arg7 harg7 arg8 harg8 arg9 harg9 arg10 harg10 _ (chk _ hn) x0 x1 hn k v
  · unfold inv
    isplitr; · ipureintro; rfl
    isplitl [H0]; · iexact H0
    isplitl [H1]; · iexact H1
    iexists _; isplitr; swap; · iexact H8
    ipureintro; exact fun t ht => absurd ht (Nat.not_lt_zero _)
  iintro %v HI
  sl_exec
  unfold inv
  icases HI with ⟨%hv, H0, H1, ⟨%f, %hf, H8⟩⟩
  sl_for (fun (k : Nat) (v' : FVec F S1x1024 .f32 × FVec F S3x1024 .f32) => (iprop(⌜v' = v⌝) : sProp 𝕄)) $$ []
  case region => exact fun k _ => (z2 k).elim
  · ipureintro; rfl
  iintro %v' %hv'
  sl_exec
  sl_step
  iapply Hk
  subst hv' hv
  isplitl [H0]; · iexists _; isplitr; swap; · iexact H0
                  ipureintro; exact harg2.read_unread _
  isplitl [H1]; · iexists _; isplitr; swap; · iexact H1
                  ipureintro; exact harg3.read_unread _
  isplitl [H2]; · iexists _; isplitr; swap; · iexact H2
                  ipureintro; exact harg4.read_unread _
  isplitl [H3]; · iexists _; isplitr; swap; · iexact H3
                  ipureintro; exact harg5.read_unread _
  isplitl [H4]; · iexists _; isplitr; swap; · iexact H4
                  ipureintro; exact harg6.read_unread _
  isplitl [H5]; · iexists _; isplitr; swap; · iexact H5
                  ipureintro; exact harg7.read_unread _
  isplitl [H6]
  · iexists _; isplitr; swap; · iexact H6
    ipureintro
    have e7 : (arg7.view.readAt (Elt F) (Rect.unit (s := S3x1) ![0, 0] S3x1.size inb_S3x1_S3x1_0_0).toLoadRect (harg7.unread x5)) = x5 := by
      rw [View.readAt_eq_ld, harg7.read_unread]; exact ld_whole2 x5 _
    delta body_first.sl.r_1 body_first.sl.r_2
    rw [e7]
    exact rows_written arg8.view f6 _ _ x5
  isplitl [H7]
  · iexists _; isplitr; swap
    · iexists _; isplitr; swap; · iexact H7
      ipureintro; rfl
    ipureintro
    refine ⟨fun _ => ?_, fun h0 => absurd ((cond1_iff i).mp hc) h0⟩
    delta body_first.sl.H7_1
    refine (rad_written arg9.view _ _).trans ?_
    simp only [View.readAt_eq_ld, harg4.read_unread, harg5.read_unread, harg6.read_unread]
    rw [ld_whole2 x2, ld_whole2 x3, ld_whole2 x4]
  isplitl [H8]
  · iexists _; isplitr; swap
    · iexists _; isplitr; swap; · iexact H8
      ipureintro; rfl
    ipureintro; exact hf
  iexact HT

set_option maxHeartbeats 1000000 in
/-- The body at the others. -/
theorem body_rest (hc : ¬ k1_cond1 i = 1#1) (tb : S16.Idx → BitVec 32) (hn : (word (F := F) i tb).toNat ≤ 2048)
    (x0 : Vec F S1x2048x8 .f32) (x1 : Vec F S1x8x4x256 .f32) (x2 x3 x4 : Vec F S2048x1 .f32) (x5 : Vec F S3x1 .f32)
    (y6 : Vec F S3x8x128 .f32) (y7 : Vec F S2048x1 .i32) (y8 : Vec F S1x2048x1 .i32) (Q : PUnit → sProp 𝕄) :
    iprop(owns (d : Thread nD τ) arg2 fullShare x0 ∗ owns (d : Thread nD τ) arg3 fullShare x1 ∗ owns (d : Thread nD τ) arg4 fullShare x2
        ∗ owns (d : Thread nD τ) arg5 fullShare x3 ∗ owns (d : Thread nD τ) arg6 fullShare x4 ∗ owns (d : Thread nD τ) arg7 fullShare x5
        ∗ owns (d : Thread nD τ) arg8 fullShare y6 ∗ owns (d : Thread nD τ) arg9 fullShare y7 ∗ owns (d : Thread nD τ) arg10 fullShare y8
        ∗ tbPt d tbM tb
        ∗ (iprop(owns (d : Thread nD τ) arg2 fullShare x0 ∗ owns (d : Thread nD τ) arg3 fullShare x1 ∗ owns (d : Thread nD τ) arg4 fullShare x2
            ∗ owns (d : Thread nD τ) arg5 fullShare x3 ∗ owns (d : Thread nD τ) arg6 fullShare x4 ∗ owns (d : Thread nD τ) arg7 fullShare x5
            ∗ owns (d : Thread nD τ) arg8 fullShare (asRows (image i _ (chk _ hn) x0 x1 x5))
            ∗ (∃ X, ⌜RadAfter i x2 x3 x4 y7 X⌝ ∗ owns (d : Thread nD τ) arg9 fullShare X)
            ∗ (∃ X, ⌜Counted (F := F) i _ (chk _ hn) x0 (k1_t1_loop (word (F := F) i tb)).trips X⌝ ∗ owns (d : Thread nD τ) arg10 fullShare X)
            ∗ tbPt d tbM tb) -∗ Q ⟨⟩))
      ⊢ wp frame (wpE (defs₀ (F := F)) 𝒱₀ (d : Thread nD τ) none) Set.univ
          (cc1__raster_kernel (F := F) i tbM htbM arg2 harg2 arg3 harg3 arg4 harg4 arg5 harg5 arg6 harg6 arg7 harg7 arg8 harg8 arg9 harg9 arg10 harg10) Q := by
  simp only [cc1__raster_kernel_eq_skeleton]; unfold cc1__raster_kernel_skel
  simp only [k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, ⟨%f7, %hf7, H7⟩, ⟨%f8, -, H8⟩, HT, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hf7
  have z2 : ∀ k : Fin (k1_t2_loop (word (F := F) i tb)).trips, False := fun k => Nat.not_lt_zero _ (Nat.lt_of_lt_of_eq k.isLt (trips2 _ hn))
  sl_exec (disch := first | sl_exact hc | sl_exact (chk _ hn))
  sl_for (fun k v => inv d i arg2 harg2 arg3 harg3 arg10 _ (chk _ hn) x0 x1 k v) $$ [H0 H1 H8]
  case region =>
    intro k v
    exact chunk d i arg2 harg2 arg3 harg3 arg4 harg4 arg5 harg5 arg6 harg6 arg7 harg7 arg8 harg8 arg9 harg9 arg10 harg10 _ (chk _ hn) x0 x1 hn k v
  · unfold inv
    isplitr; · ipureintro; rfl
    isplitl [H0]; · iexact H0
    isplitl [H1]; · iexact H1
    iexists _; isplitr; swap; · iexact H8
    ipureintro; exact fun t ht => absurd ht (Nat.not_lt_zero _)
  iintro %v HI
  sl_exec
  unfold inv
  icases HI with ⟨%hv, H0, H1, ⟨%f, %hf, H8⟩⟩
  sl_for (fun (k : Nat) (v' : FVec F S1x1024 .f32 × FVec F S3x1024 .f32) => (iprop(⌜v' = v⌝) : sProp 𝕄)) $$ []
  case region => exact fun k _ => (z2 k).elim
  · ipureintro; rfl
  iintro %v' %hv'
  sl_exec
  sl_step
  iapply Hk
  subst hv' hv
  isplitl [H0]; · iexists _; isplitr; swap; · iexact H0
                  ipureintro; exact harg2.read_unread _
  isplitl [H1]; · iexists _; isplitr; swap; · iexact H1
                  ipureintro; exact harg3.read_unread _
  isplitl [H2]; · iexists _; isplitr; swap; · iexact H2
                  ipureintro; exact harg4.read_unread _
  isplitl [H3]; · iexists _; isplitr; swap; · iexact H3
                  ipureintro; exact harg5.read_unread _
  isplitl [H4]; · iexists _; isplitr; swap; · iexact H4
                  ipureintro; exact harg6.read_unread _
  isplitl [H5]; · iexists _; isplitr; swap; · iexact H5
                  ipureintro; exact harg7.read_unread _
  isplitl [H6]
  · iexists _; isplitr; swap; · iexact H6
    ipureintro
    have e7 : (arg7.view.readAt (Elt F) (Rect.unit (s := S3x1) ![0, 0] S3x1.size inb_S3x1_S3x1_0_0).toLoadRect (harg7.unread x5)) = x5 := by
      rw [View.readAt_eq_ld, harg7.read_unread]; exact ld_whole2 x5 _
    delta body_rest.sl.r_1 body_rest.sl.r_2
    rw [e7]
    exact rows_written arg8.view f6 _ _ x5
  isplitl [H7]
  · iexists _; isplitr; swap
    · iexists _; isplitr; swap; · iexact H7
      ipureintro; rfl
    ipureintro
    exact ⟨fun h0 => absurd ((cond1_iff i).mpr h0) hc, fun _ => harg9.read_unread _⟩
  isplitl [H8]
  · iexists _; isplitr; swap
    · iexists _; isplitr; swap; · iexact H8
      ipureintro; rfl
    ipureintro; exact hf
  iexact HT

/-- The body. -/
theorem body (tb : S16.Idx → BitVec 32) (hn : (word (F := F) i tb).toNat ≤ 2048)
    (x0 : Vec F S1x2048x8 .f32) (x1 : Vec F S1x8x4x256 .f32) (x2 x3 x4 : Vec F S2048x1 .f32) (x5 : Vec F S3x1 .f32)
    (y6 : Vec F S3x8x128 .f32) (y7 : Vec F S2048x1 .i32) (y8 : Vec F S1x2048x1 .i32) (Q : PUnit → sProp 𝕄) :
    iprop(owns (d : Thread nD τ) arg2 fullShare x0 ∗ owns (d : Thread nD τ) arg3 fullShare x1 ∗ owns (d : Thread nD τ) arg4 fullShare x2
        ∗ owns (d : Thread nD τ) arg5 fullShare x3 ∗ owns (d : Thread nD τ) arg6 fullShare x4 ∗ owns (d : Thread nD τ) arg7 fullShare x5
        ∗ owns (d : Thread nD τ) arg8 fullShare y6 ∗ owns (d : Thread nD τ) arg9 fullShare y7 ∗ owns (d : Thread nD τ) arg10 fullShare y8
        ∗ tbPt d tbM tb
        ∗ (iprop(owns (d : Thread nD τ) arg2 fullShare x0 ∗ owns (d : Thread nD τ) arg3 fullShare x1 ∗ owns (d : Thread nD τ) arg4 fullShare x2
            ∗ owns (d : Thread nD τ) arg5 fullShare x3 ∗ owns (d : Thread nD τ) arg6 fullShare x4 ∗ owns (d : Thread nD τ) arg7 fullShare x5
            ∗ owns (d : Thread nD τ) arg8 fullShare (asRows (image i _ (chk _ hn) x0 x1 x5))
            ∗ (∃ X, ⌜RadAfter i x2 x3 x4 y7 X⌝ ∗ owns (d : Thread nD τ) arg9 fullShare X)
            ∗ (∃ X, ⌜Counted (F := F) i _ (chk _ hn) x0 (k1_t1_loop (word (F := F) i tb)).trips X⌝ ∗ owns (d : Thread nD τ) arg10 fullShare X)
            ∗ tbPt d tbM tb) -∗ Q ⟨⟩))
      ⊢ wp frame (wpE (defs₀ (F := F)) 𝒱₀ (d : Thread nD τ) none) Set.univ
          (cc1__raster_kernel (F := F) i tbM htbM arg2 harg2 arg3 harg3 arg4 harg4 arg5 harg5 arg6 harg6 arg7 harg7 arg8 harg8 arg9 harg9 arg10 harg10) Q := by
  by_cases hc : k1_cond1 i = 1#1
  · exact body_first d i arg2 harg2 arg3 harg3 arg4 harg4 arg5 harg5 arg6 harg6 arg7 harg7 arg8 harg8 arg9 harg9 arg10 harg10 hc tb hn x0 x1 x2 x3 x4 x5 y6 y7 y8 Q
  · exact body_rest d i arg2 harg2 arg3 harg3 arg4 harg4 arg5 harg5 arg6 harg6 arg7 harg7 arg8 harg8 arg9 harg9 arg10 harg10 hc tb hn x0 x1 x2 x3 x4 x5 y6 y7 y8 Q

end Body

end Cert.Proof.Tc

end
-- ==== Proof.Region.lean ====
/-
  The rasterizer's call: its pipeline's proof data at the arrays and the table it is entered with, the body's obligation at every grid
  point, and the call's effect on the TensorCore's buffers.
-/
module

public import proofs.«01_k».proof.Proof.Raster
public import proofs.«01_k».proof.Proof.Gen.KernelIdeal.Launch
public import Idealize.ShloMosaic.Lib.Pipeline.Regions
public import Idealize.ShloMosaic.Lib.Pipeline.RegionArraysT
public import Idealize.ShloMosaic.Lib.Pipeline.ArrRel

@[expose] public section

set_option maxRecDepth 16384

noncomputable section

namespace Cert.Proof.Tc

open Cert.KernelIdeal Cert.KernelIdeal.Gen
open Cert.Proof.Bin (UU UP 𝒱₀)
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat arrRef arrRefs tblRefs prefHeld)

variable {F : FTy → Type} [FloatOps F]

local notation "𝕄" => MT nD τ sig (HIx 1) (Elt F) ℕ UU ℕ

/-- The table's contents, as the pipeline takes them. -/
abbrev table (tb : S16.Idx → BitVec 32) : pre1.Contents (Elt F) :=
  fun | 0 => tb | ⟨_ + 1, h⟩ => absurd h (Nat.not_lt.2 (Nat.le_add_left _ _))
abbrev adm (tb : S16.Idx → BitVec 32) : (p : Fin 1) → (pcfgs (F := F) p).Adm := fun _ => ⟨table tb, trivial⟩
abbrev cfgT (tb : S16.Idx → BitVec 32) : Pipeline.Cfg sig Λ₀ := Pipeline.pin (pcfgs (F := F)) (adm tb) 0

variable (tb : S16.Idx → BitVec 32) (hn : ∀ i, (word (F := F) i tb).toNat ≤ 2048) (W : Valuation τ sig (Elt F))

/-- Window w's block at point t of its array as the call finds it. -/
def blk (w : Fin 9) (t : Fin (cfgT (F := F) tb).N) :
    (((cfgT (F := F) tb).win w).xblock ((cfgT (F := F) tb).grid.coords t)).Idx → Elt F ((cfgT (F := F) tb).win w).elt :=
  (((cfgT (F := F) tb).win w).blk t).view.read (Elt F) (W (Proc.devRef .tc (arrRef spec1 w)))

/-- The blocks the body reads at point t. -/
abbrev geomAt (t : Fin (cfgT (F := F) tb).N) : Vec F S1x2048x8 .f32 := blk tb W 0 t
abbrev colAt (t : Fin (cfgT (F := F) tb).N) : Vec F S1x8x4x256 .f32 := blk tb W 1 t
abbrev xxAt (t : Fin (cfgT (F := F) tb).N) : Vec F S2048x1 .f32 := blk tb W 2 t
abbrev xyAt (t : Fin (cfgT (F := F) tb).N) : Vec F S2048x1 .f32 := blk tb W 3 t
abbrev yyAt (t : Fin (cfgT (F := F) tb).N) : Vec F S2048x1 .f32 := blk tb W 4 t
abbrev bgAt (t : Fin (cfgT (F := F) tb).N) : Vec F S3x1 .f32 := blk tb W 5 t

/-- What the body leaves in each window's buffer. -/
def leaves : (w : Fin 9) → (t : Fin (cfgT (F := F) tb).N) →
    (Y X : ((cfgT (F := F) tb).win w).block.Idx → Elt F ((cfgT (F := F) tb).win w).elt) → Prop
  | ⟨6, _⟩, t, _, X => X = asRows (image (grid1.coords t) _ (chk _ (hn (grid1.coords t))) (geomAt tb W t) (colAt tb W t) (bgAt tb W t))
  | ⟨7, _⟩, t, Y, X => RadAfter (grid1.coords t) (xxAt tb W t) (xyAt tb W t) (yyAt tb W t) Y X
  | ⟨8, _⟩, t, _, X => Counted (F := F) (grid1.coords t) _ (chk _ (hn (grid1.coords t))) (geomAt tb W t)
      (k1_t1_loop (word (F := F) (grid1.coords t) tb)).trips X
  | _, _, Y, X => X = Y

/-- The pipeline's proof data. -/
def rdat (d : Dev nD) : RDat τ (Elt F) (HIx 1) ℕ UU ℕ (cfgT (F := F) tb) d where
  A w := W (Proc.devRef .tc (arrRef spec1 w))
  after := leaves tb hn W
  Φ _ := tbPt d tbM tb
  q _ := fullShare
  owed _ := 0

abbrev rdats (_ : Fin 1) (d : Dev nD) : RDat τ (Elt F) (HIx 1) ℕ UU ℕ (Pipeline.pin (pcfgs (F := F)) (adm tb) 0) d := rdat tb hn W d

theorem found [∀ e, Nonempty (Elt F e)] (d : Dev nD) (w : Fin 9) (hw : w.val < 6) (t : Fin (cfgT (F := F) tb).N)
    (Y : ((cfgT (F := F) tb).win w).block.Idx → Elt F ((cfgT (F := F) tb).win w).elt) (h : (rdat tb hn W d).Finds w t Y) :
    ∃ e, Y = (rdat tb hn W d).fetched w t e :=
  match w, hw, Y, h with
  | 0, _, Y, h => (rdat tb hn W d).finds_in_eq_fetched 0 rfl (fun _ _ _ => rfl) (fun _ _ _ h => h) t Y h
  | 1, _, Y, h => (rdat tb hn W d).finds_in_eq_fetched 1 rfl (fun _ _ _ => rfl) (fun _ _ _ h => h) t Y h
  | 2, _, Y, h => (rdat tb hn W d).finds_in_eq_fetched 2 rfl (fun _ _ _ => rfl) (fun _ _ _ h => h) t Y h
  | 3, _, Y, h => (rdat tb hn W d).finds_in_eq_fetched 3 rfl (fun _ _ _ => rfl) (fun _ _ _ h => h) t Y h
  | 4, _, Y, h => (rdat tb hn W d).finds_in_eq_fetched 4 rfl (fun _ _ _ => rfl) (fun _ _ _ h => h) t Y h
  | 5, _, Y, h => (rdat tb hn W d).finds_in_eq_fetched 5 rfl (fun _ _ _ => rfl) (fun _ _ _ h => h) t Y h

theorem found_blk [∀ e, Nonempty (Elt F e)] (d : Dev nD) (w : Fin 9) (hw : w.val < 6) (t : Fin (cfgT (F := F) tb).N)
    (Y : ((cfgT (F := F) tb).win w).block.Idx → Elt F ((cfgT (F := F) tb).win w).elt) (h : (rdat tb hn W d).Finds w t Y) :
    Y = blk tb W w t := by
  obtain ⟨e, rfl⟩ := found tb hn W d w hw t Y h
  unfold RDat.fetched RDat.blockOf blk
  match w, hw, e with
  | 0, _, _ => rfl
  | 1, _, _ => rfl
  | 2, _, _ => rfl
  | 3, _, _ => rfl
  | 4, _, _ => rfl
  | 5, _, _ => rfl

theorem row (t : Fin (cfgT (F := F) tb).N) :
    defs₀ (F := F) .tc (cfgT (F := F) tb).body ((cfgT (F := F) tb).bodyArgs t ((cfgT (F := F) tb).slots t))
      = cc1__raster_kernel (F := F) (grid1.coords t) tbM htbM
        (spec1_0.stage ((cfgT (F := F) tb).slots t 0)) (hstage1_0 (((cfgT (F := F) tb).slots t 0).cast nbuf1_0))
        (spec1_1.stage ((cfgT (F := F) tb).slots t 1)) (hstage1_1 (((cfgT (F := F) tb).slots t 1).cast nbuf1_1))
        (spec1_2.stage ((cfgT (F := F) tb).slots t 2)) (hstage1_2 (((cfgT (F := F) tb).slots t 2).cast nbuf1_2))
        (spec1_3.stage ((cfgT (F := F) tb).slots t 3)) (hstage1_3 (((cfgT (F := F) tb).slots t 3).cast nbuf1_3))
        (spec1_4.stage ((cfgT (F := F) tb).slots t 4)) (hstage1_4 (((cfgT (F := F) tb).slots t 4).cast nbuf1_4))
        (spec1_5.stage ((cfgT (F := F) tb).slots t 5)) (hstage1_5 (((cfgT (F := F) tb).slots t 5).cast nbuf1_5))
        (spec1_6.stage ((cfgT (F := F) tb).slots t 6)) (hstage1_6 (((cfgT (F := F) tb).slots t 6).cast nbuf1_6))
        (spec1_7.stage ((cfgT (F := F) tb).slots t 7)) (hstage1_7 (((cfgT (F := F) tb).slots t 7).cast nbuf1_7))
        (spec1_8.stage ((cfgT (F := F) tb).slots t 8)) (hstage1_8 (((cfgT (F := F) tb).slots t 8).cast nbuf1_8)) := by
  unfold defs₀; rfl

set_option maxHeartbeats 1600000 in
theorem obligation [∀ e, Nonempty (Elt F e)] (d : Dev nD) :
    (rdat tb hn W d).BodyObligation (defs₀ (F := F)) 𝒱₀ (none : HIx 1) Set.univ := by
  intro t Y hY
  rw [bigSep_W1, bigSep_W1, row]
  have e0 := found_blk tb hn W d 0 (by decide) t _ (hY 0)
  have e1 := found_blk tb hn W d 1 (by decide) t _ (hY 1)
  have e2 := found_blk tb hn W d 2 (by decide) t _ (hY 2)
  have e3 := found_blk tb hn W d 3 (by decide) t _ (hY 3)
  have e4 := found_blk tb hn W d 4 (by decide) t _ (hY 4)
  have e5 := found_blk tb hn W d 5 (by decide) t _ (hY 5)
  rw [e0, e1, e2, e3, e4, e5]
  rw [show (rdat tb hn W d).Φ t.castSucc = tbPt d tbM tb from rfl, show (rdat tb hn W d).Φ t.succ = tbPt d tbM tb from rfl,
    show (rdat tb hn W d).owesAt none t.succ = (rdat tb hn W d).owesAt none t.castSucc from rfl]
  iintro ⟨HT, Ho, H0, H1, H2, H3, H4, H5, H6, H7, H8⟩
  iapply (body d (grid1.coords t) _ _ _ _ _ _ _ _ _ _ _ _ _ _ _ _ _ _ tb (hn _)
    (geomAt tb W t) (colAt tb W t) (xxAt tb W t) (xyAt tb W t) (yyAt tb W t) (bgAt tb W t) (Y 6) (Y 7) (Y 8) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HT]; · iexact HT
  iintro ⟨H0, H1, H2, H3, H4, H5, H6, ⟨%X7, %h7, H7⟩, ⟨%X8, %h8, H8⟩, HT⟩
  isplitl [HT]; · iexact HT
  isplitl [Ho]; · iexact Ho
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  isplitl [H6]
  · iexists _; isplitr; · ipureintro; exact rfl
    iexact H6
  isplitl [H7]
  · iexists X7; isplitr; · ipureintro; exact h7
    iexact H7
  iexists X8; isplitr; · ipureintro; exact h8
  iexact H8

/-! ## The call as a region -/

/-- The buffers with the call's results at g6, g7 and g8. -/
def withResults (g6 : S3x128x128.Idx → F .f32) (g7 : S2048x1.Idx → BitVec 32) (g8 : S16x2048x1.Idx → BitVec 32) : Valuation τ sig (Elt F) :=
  Function.update (Function.update (Function.update W (Proc.devRef .tc main_v109_0) g6) (Proc.devRef .tc main_v109_1) g7)
    (Proc.devRef .tc main_v109_2) g8

theorem withResults_ne (g6 : S3x128x128.Idx → F .f32) (g7 : S2048x1.Idx → BitVec 32) (g8 : S16x2048x1.Idx → BitVec 32) (b : DevRef τ sig)
    (h6 : b ≠ Proc.devRef .tc main_v109_0) (h7 : b ≠ Proc.devRef .tc main_v109_1) (h8 : b ≠ Proc.devRef .tc main_v109_2) :
    withResults W g6 g7 g8 b = W b := by
  unfold withResults
  rw [Function.update_of_ne h8, Function.update_of_ne h7, Function.update_of_ne h6]
theorem withResults_0 (g6 : S3x128x128.Idx → F .f32) (g7 : S2048x1.Idx → BitVec 32) (g8 : S16x2048x1.Idx → BitVec 32) :
    withResults W g6 g7 g8 (Proc.devRef .tc main_v109_0) = g6 := by
  unfold withResults
  rw [Function.update_of_ne (by decide), Function.update_of_ne (by decide), Function.update_self]
theorem withResults_1 (g6 : S3x128x128.Idx → F .f32) (g7 : S2048x1.Idx → BitVec 32) (g8 : S16x2048x1.Idx → BitVec 32) :
    withResults W g6 g7 g8 (Proc.devRef .tc main_v109_1) = g7 := by
  unfold withResults
  rw [Function.update_of_ne (by decide), Function.update_self]
theorem withResults_2 (g6 : S3x128x128.Idx → F .f32) (g7 : S2048x1.Idx → BitVec 32) (g8 : S16x2048x1.Idx → BitVec 32) :
    withResults W g6 g7 g8 (Proc.devRef .tc main_v109_2) = g8 := by
  unfold withResults
  rw [Function.update_self]

/-- What the call's results may be. -/
structure Rastered (d : Dev nD) (g6 : S3x128x128.Idx → F .f32) (g7 : S2048x1.Idx → BitVec 32) (g8 : S16x2048x1.Idx → BitVec 32) : Prop where
  color : (rdat tb hn W d).ArrAt 6 (cfgT (F := F) tb).N g6
  radii : (rdat tb hn W d).ArrAt 7 (cfgT (F := F) tb).N g7
  count : (rdat tb hn W d).ArrAt 8 (cfgT (F := F) tb).N g8

theorem share_full (d : Dev nD) (w : Fin 9) : (rdat tb hn W d).share w = fullShare := by
  show (if _ then fullShare else fullShare) = fullShare
  split <;> rfl

theorem arrays_held (d : Dev nD) (G : (w : Fin (cfgT (F := F) tb).W) → Buf (Elt F) (((cfgT (F := F) tb).win w).arr.view.loc (d.tc : Thread nD τ)))
    (V : Valuation τ sig (Elt F)) (hG : ∀ w, G w = V (Proc.devRef .tc (arrRef spec1 w))) :
    ((rdat tb hn W d).arrays G : sProp 𝕄) = StableHlo.held (d.tc : Thread nD τ) (arrRefs spec1) V := by
  rw [RDat.arrays_eq (pcfgs (F := F)) (adm tb) (rdats tb hn W) 0 d (launch1 (F := F)).arr_whole (share_full tb hn W d) G]
  unfold StableHlo.held arrRefs
  rw [bigSep_map, show Finset.univ.image (arrRef spec1) = Finset.univ.map ⟨arrRef spec1, (launch1 (F := F)).win.arr_inj⟩ from
    (Finset.map_eq_image ⟨arrRef spec1, (launch1 (F := F)).win.arr_inj⟩ Finset.univ).symm, bigSep_map]
  exact bigSep_congr fun w _ => by rw [hG]; rfl

/-- The arrays at the end, held at the buffers with some results in place. -/
theorem arraysAt_held [∀ e, Nonempty (Elt F e)] (d : Dev nD) :
    ((rdat tb hn W d).arraysAt (cfgT (F := F) tb).N : sProp 𝕄)
      ⊢ iprop(∃ g6 g7 g8, ⌜Rastered tb hn W d g6 g7 g8⌝ ∗ StableHlo.held (d.tc : Thread nD τ) (arrRefs spec1) (withResults W g6 g7 g8)) := by
  unfold RDat.arraysAt
  iintro Ha
  ihave Ha := (BI.bigSep_exists_pi Finset.univ (fun w G => iprop(⌜(rdat tb hn W d).ArrAt w (cfgT (F := F) tb).N G⌝
      ∗ ((cfgT (F := F) tb).win w).arr.view.loc (d.tc : Thread nD τ) ↦[((cfgT (F := F) tb).win w).arr.view.set]{(rdat tb hn W d).share w} G))) $$ Ha
  icases Ha with ⟨%G, Ha⟩
  ihave Ha := (BI.bigSep_pure_sep Finset.univ (fun w => (rdat tb hn W d).ArrAt w (cfgT (F := F) tb).N (G w))
      (fun w => ((cfgT (F := F) tb).win w).arr.view.loc (d.tc : Thread nD τ) ↦[((cfgT (F := F) tb).win w).arr.view.set]{(rdat tb hn W d).share w} G w)) $$ Ha
  icases Ha with ⟨%hG, Ha⟩
  iexists G 6, G 7, G 8
  isplitr; · ipureintro; exact ⟨hG 6 (Finset.mem_univ _), hG 7 (Finset.mem_univ _), hG 8 (Finset.mem_univ _)⟩
  rw [← arrays_held tb hn W d G _ ?_]
  · unfold RDat.arrays; iexact Ha
  · have hin : ∀ w : Fin 9, ((cfgT (F := F) tb).win w).isOut = false → G w = W (Proc.devRef .tc (arrRef spec1 w)) := fun w hw => by
      have := hG w (Finset.mem_univ _); rw [(rdat tb hn W d).ArrAt_in w hw] at this; exact this
    intro w
    match w with
    | 0 => exact (hin 0 rfl).trans (withResults_ne W _ _ _ _ (by decide) (by decide) (by decide)).symm
    | 1 => exact (hin 1 rfl).trans (withResults_ne W _ _ _ _ (by decide) (by decide) (by decide)).symm
    | 2 => exact (hin 2 rfl).trans (withResults_ne W _ _ _ _ (by decide) (by decide) (by decide)).symm
    | 3 => exact (hin 3 rfl).trans (withResults_ne W _ _ _ _ (by decide) (by decide) (by decide)).symm
    | 4 => exact (hin 4 rfl).trans (withResults_ne W _ _ _ _ (by decide) (by decide) (by decide)).symm
    | 5 => exact (hin 5 rfl).trans (withResults_ne W _ _ _ _ (by decide) (by decide) (by decide)).symm
    | 6 => exact (withResults_0 W _ _ _).symm
    | 7 => exact (withResults_1 W _ _ _).symm
    | 8 => exact (withResults_2 W _ _ _).symm

theorem sub_arr : arrRefs (τ := τ) spec1 ⊆ Pipeline.ucRefs τ sig := by decide
theorem sub_tbl : tblRefs (τ := τ) pre1 ⊆ Pipeline.ucRefs τ sig \ arrRefs spec1 :=
  Pipeline.tblRefs_sub_ucRefs_sdiff spec1 pre1 preFacts1.unscoped preFacts1.disj

/-- The buffers no window and no table is. -/
abbrev restRefs : Finset (DevRef τ sig) := (Pipeline.ucRefs τ sig \ arrRefs spec1) \ tblRefs pre1

/-- The call's effect: its results in place, everything else as it was. -/
abbrev rastered (d : Dev nD) : sProp 𝕄 :=
  iprop(∃ g6 g7 g8, ⌜Rastered tb hn W d g6 g7 g8⌝ ∗ StableHlo.held (d.tc : Thread nD τ) (Pipeline.ucRefs τ sig) (withResults W g6 g7 g8))

theorem split (d : Dev nD) (V : Valuation τ sig (Elt F)) :
    (StableHlo.held (d.tc : Thread nD τ) (Pipeline.ucRefs τ sig) V : sProp 𝕄)
      = iprop(StableHlo.held (d.tc : Thread nD τ) (arrRefs spec1) V ∗ StableHlo.held (d.tc : Thread nD τ) (tblRefs pre1) V
          ∗ StableHlo.held (d.tc : Thread nD τ) restRefs V) := by
  rw [StableHlo.held_sub_split (d.tc : Thread nD τ) sub_arr V, StableHlo.held_sub_split (d.tc : Thread nD τ) sub_tbl V]

theorem table_held (d : Dev nD) (htb : W (Proc.devRef .tc main_v104) = tb) (V : Valuation τ sig (Elt F))
    (hV : V (Proc.devRef .tc main_v104) = W (Proc.devRef .tc main_v104)) :
    (prefHeld pre1 d (fun _ => fullShare) (table (F := F) tb) : sProp 𝕄) = StableHlo.held (d.tc : Thread nD τ) (tblRefs pre1) V :=
  Pipeline.prefHeld_held pre1 preFacts1.inj d (table (F := F) tb) V fun k => match k with
    | 0 => (hV.trans htb).symm

theorem table_eq (d : Dev nD) : (prefHeld pre1 d (fun _ => fullShare) (table (F := F) tb) : sProp 𝕄) = tbPt d tbM tb := by
  unfold prefHeld
  rw [show (Finset.univ : Finset (Fin 1)) = {(0 : Fin 1)} from by decide, bigSep_singleton]
  rfl

theorem rest_ne (b : DevRef τ sig) (w : Fin 9) (h : b ∈ restRefs) : b ≠ Proc.devRef .tc (arrRef spec1 w) := fun e =>
  (Finset.mem_sdiff.mp (Finset.mem_sdiff.mp h).1).2 (e ▸ Finset.mem_map.mpr ⟨arrRef spec1 w, Finset.mem_image.mpr ⟨w, Finset.mem_univ _, rfl⟩, rfl⟩)

theorem joined (d : Dev nD) (htb : W (Proc.devRef .tc main_v104) = tb) (g6 : S3x128x128.Idx → F .f32) (g7 : S2048x1.Idx → BitVec 32)
    (g8 : S16x2048x1.Idx → BitVec 32) :
    (StableHlo.held (d.tc : Thread nD τ) (Pipeline.ucRefs τ sig) (withResults W g6 g7 g8) : sProp 𝕄)
      = iprop(StableHlo.held (d.tc : Thread nD τ) (arrRefs spec1) (withResults W g6 g7 g8)
          ∗ prefHeld pre1 d (fun _ => fullShare) (table (F := F) tb) ∗ StableHlo.held (d.tc : Thread nD τ) restRefs W) := by
  rw [split, table_held tb W d htb (withResults W g6 g7 g8) (withResults_ne W _ _ _ _ (by decide) (by decide) (by decide)),
    StableHlo.held_congr (d.tc : Thread nD τ) (S := restRefs) (fun b hb =>
      withResults_ne W g6 g7 g8 b (rest_ne b 6 hb) (rest_ne b 7 hb) (rest_ne b 8 hb))]

variable (L : GSem nD τ sig → Finset (HIx 1)) (lv : GSem nD τ sig → HIx 1 → ℕ)

/-- The call as a region of the program: entered and left with the TensorCore's buffers, owing nothing. -/
def region [∀ e, Nonempty (Elt F e)] (htb : W (Proc.devRef .tc main_v104) = tb) :
    RDat.RegionSeg (Name := ℕ) (U := UU) (pcfgs (F := F)) (adm tb) (rdats tb hn W) (none : HIx 1) (defs₀ (F := F)) 𝒱₀ L lv 0 where
  win := (launch1 (F := F)).to₀.win
  block_pos := (launch1 (F := F)).to₀.block_pos
  stage_whole := (launch1 (F := F)).to₀.stage_whole
  K := PEmpty
  osem k := k.elim
  ho := Pipeline.OwnSemFacts.none _
  hbody d := obligation tb hn W d
  hwaits d := by
    iintro -
    iapply (RDat.cellsWaits_of_owed_zero (Pipeline.pin (pcfgs (F := F)) (adm tb)) (rdats tb hn W) (none : HIx 1) 0 d (fun _ => rfl))
    iempintro
  pre d := iprop(StableHlo.held (d.tc : Thread nD τ) (Pipeline.ucRefs τ sig) W ∗ ∃ Wd, owes (d : Thread nD τ) (0 : CellTallies nD τ sig (HIx 1)) Wd)
  post d := iprop(rastered tb hn W d ∗ ∃ Wd, owes (d : Thread nD τ) (0 : CellTallies nD τ sig (HIx 1)) Wd)
  X _ := iprop(emp)
  Y d := tbPt d tbM tb
  Z d := StableHlo.held (d.tc : Thread nD τ) restRefs W
  hentry d := by
    rw [Pipeline.ownSems0_none, split]
    show _ ⊢ |={Set.univ}=> iprop((rdat tb hn W d).arrays (rdat tb hn W d).A ∗ prefHeld pre1 d (fun _ => fullShare) (table (F := F) tb)
        ∗ (rdat tb hn W d).owesAt none 0 ∗ _ ∗ _)
    rw [arrays_held tb hn W d (rdat tb hn W d).A W (fun _ => rfl), table_held tb W d htb W rfl]
    iintro ⟨⟨⟨Ha, Ht, Hr⟩, HO⟩, -, -⟩
    imodintro
    isplitl [Ha]; · iexact Ha
    isplitl [Ht]; · iexact Ht
    isplitl [HO]
    · unfold RDat.owesAt Pipeline.owesWithin RDat.bound
      icases HO with ⟨%Wd, HO⟩; iexists Wd; isplitr; · ipureintro; exact fun _ _ => Or.inl trivial
      iexact HO
    isplitr; · iempintro
    iexact Hr
  hin d := by
    show iprop(_ ∗ prefHeld pre1 d (fun _ => fullShare) (table (F := F) tb) ∗ _) ⊢ tbPt d tbM tb
    rw [table_eq]
    iintro ⟨-, Ht, -⟩
    iexact Ht
  hout d := by
    show tbPt d tbM tb ⊢ iprop(_ ∗ _ ∗ Pipeline.scopedRest spec1 d)
    rw [Pipeline.ownSems0_none, scopedRest1_eq]
    iintro Ht
    isplitl [Ht]; · iexact Ht
    isplitr; · iempintro
    iempintro
  hexit d := by
    show iprop((rdat tb hn W d).arraysAt (cfgT (F := F) tb).N ∗ (rdat tb hn W d).owesAt none (Fin.last (cfgT (F := F) tb).N) ∗ tbPt d tbM tb ∗ _) ⊢ _
    rw [← table_eq]
    iintro ⟨Ha, HO, Ht, Hr⟩
    ihave Ha := (arraysAt_held tb hn W d) $$ Ha
    icases Ha with ⟨%g6, %g7, %g8, %hR, Ha⟩
    imodintro
    isplitr [HO]
    · iexists g6, g7, g8
      isplitr; · ipureintro; exact hR
      rw [joined tb W d htb g6 g7 g8]
      isplitl [Ha]; · iexact Ha
      isplitl [Ht]; · iexact Ht
      iexact Hr
    · unfold RDat.owesAt Pipeline.owesWithin
      icases HO with ⟨%Wd, -, HO⟩; iexists Wd; iexact HO

end Cert.Proof.Tc

end
-- ==== Proof.Host.lean ====
/-
  The kernel's host operations as lists: `@main` is these stretches around its two calls.
-/
module

public import proofs.«01_k».proof.Proof.Gen.KernelIdeal
public import Idealize.ShloMosaic.Lib.Pipeline.Regions
public import Idealize.ShloMosaic.Lib.StableHlo.RunRead

@[expose] public section

set_option maxRecDepth 2220

noncomputable section

namespace Cert.Proof.Host

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

set_option maxHeartbeats 40000000 in  -- a long stretch
/-- The order of the Gaussians by depth. -/
abbrev preA : List (HloOp τ sig (Elt F)) :=
  ( StableHlo.TRef.nullary (.of main_call0_v0 : StableHlo.TRef sig ⟨S2048, .i32⟩) (iotaInDim S2048 32 0)
  :: StableHlo.TRef.binary (.of main_arg5 : StableHlo.TRef sig ⟨S2048, .f32⟩) (.of main_call0_v0 : StableHlo.TRef sig ⟨S2048, .i32⟩) (.of main_call0_v1_0 : StableHlo.TRef sig ⟨S2048, .f32⟩) (fun x y => (Host.sort2 S2048 0 comparator_f32_i32_d0 x y).1)
  :: StableHlo.TRef.binary (.of main_arg5 : StableHlo.TRef sig ⟨S2048, .f32⟩) (.of main_call0_v0 : StableHlo.TRef sig ⟨S2048, .i32⟩) (.of main_v0 : StableHlo.TRef sig ⟨S2048, .i32⟩) (fun x y => (Host.sort2 S2048 0 comparator_f32_i32_d0 x y).2)
  :: [] )

set_option maxHeartbeats 40000000 in  -- a long stretch
theorem preA_sub : (preA : List (HloOp τ sig (Elt F))).Forall fun op => op.bufs ⊆ StableHlo.tcRefs τ sig :=
  ⟨StableHlo.nullary_bufs_sub .., StableHlo.binary_bufs_sub .., StableHlo.binary_bufs_sub ..⟩

set_option maxHeartbeats 40000000 in  -- a long stretch
theorem preA_fresh : (preA : List (HloOp τ sig (Elt F))).Forall fun op => op.fresh = ∅ :=
  StableHlo.forall_fresh_of_map rfl

abbrev preA_W : List (Ref sig .tc) := [main_call0_v0, main_call0_v1_0, main_v0]

set_option maxHeartbeats 40000000 in  -- a long stretch
theorem preA_writes : (preA : List (HloOp τ sig (Elt F))).Forall fun op => op.writes ⊆ (preA_W.map (Proc.devRef (τ := τ) .tc)).toFinset :=
  StableHlo.forall_writes_sub_of_map rfl

set_option maxHeartbeats 40000000 in  -- a long stretch
/-- The covariances and the conics. -/
abbrev preB : List (HloOp τ sig (Elt F)) :=
  ( StableHlo.unary main_arg0 main_v1 ((extractStridedSlice S2048x1 ![0, 0] · slices_S2048x2_S2048x1_0_0) : (⟨S2048x2, .f32⟩ : BufTy).Contents (Elt F) → (⟨S2048x1, .f32⟩ : BufTy).Contents (Elt F))
  :: StableHlo.reshape main_v1 main_v2 (rfl : (.f32 : EltTy) = .f32) shapeCasts_S2048x1_S2048
  :: StableHlo.unary main_arg0 main_v3 ((extractStridedSlice S2048x1 ![0, 1] · slices_S2048x2_S2048x1_0_1) : (⟨S2048x2, .f32⟩ : BufTy).Contents (Elt F) → (⟨S2048x1, .f32⟩ : BufTy).Contents (Elt F))
  :: StableHlo.reshape main_v3 main_v4 (rfl : (.f32 : EltTy) = .f32) shapeCasts_S2048x1_S2048
  :: StableHlo.reshape main_arg2 main_v5 (rfl : (.f32 : EltTy) = .f32) shapeCasts_S2048x1_S2048
  :: StableHlo.unary main_arg4 main_v6 (Host.cos : (⟨S2048, .f32⟩ : BufTy).Contents (Elt F) → (⟨S2048, .f32⟩ : BufTy).Contents (Elt F))
  :: StableHlo.unary main_arg4 main_v7 (Host.sin : (⟨S2048, .f32⟩ : BufTy).Contents (Elt F) → (⟨S2048, .f32⟩ : BufTy).Contents (Elt F))
  :: StableHlo.unary main_arg3 main_v8 ((extractStridedSlice S2048x1 ![0, 0] · slices_S2048x2_S2048x1_0_0) : (⟨S2048x2, .f32⟩ : BufTy).Contents (Elt F) → (⟨S2048x1, .f32⟩ : BufTy).Contents (Elt F))
  :: StableHlo.reshape main_v8 main_v9 (rfl : (.f32 : EltTy) = .f32) shapeCasts_S2048x1_S2048
  :: StableHlo.binary main_v9 main_v9 main_v10 (mulf : (⟨S2048, .f32⟩ : BufTy).Contents (Elt F) → (⟨S2048, .f32⟩ : BufTy).Contents (Elt F) → (⟨S2048, .f32⟩ : BufTy).Contents (Elt F))
  :: StableHlo.unary main_arg3 main_v11 ((extractStridedSlice S2048x1 ![0, 1] · slices_S2048x2_S2048x1_0_1) : (⟨S2048x2, .f32⟩ : BufTy).Contents (Elt F) → (⟨S2048x1, .f32⟩ : BufTy).Contents (Elt F))
  :: StableHlo.reshape main_v11 main_v12 (rfl : (.f32 : EltTy) = .f32) shapeCasts_S2048x1_S2048
  :: StableHlo.binary main_v12 main_v12 main_v13 (mulf : (⟨S2048, .f32⟩ : BufTy).Contents (Elt F) → (⟨S2048, .f32⟩ : BufTy).Contents (Elt F) → (⟨S2048, .f32⟩ : BufTy).Contents (Elt F))
  :: StableHlo.binary main_v6 main_v6 main_v14 (mulf : (⟨S2048, .f32⟩ : BufTy).Contents (Elt F) → (⟨S2048, .f32⟩ : BufTy).Contents (Elt F) → (⟨S2048, .f32⟩ : BufTy).Contents (Elt F))
  :: StableHlo.binary main_v14 main_v10 main_v15 (mulf : (⟨S2048, .f32⟩ : BufTy).Contents (Elt F) → (⟨S2048, .f32⟩ : BufTy).Contents (Elt F) → (⟨S2048, .f32⟩ : BufTy).Contents (Elt F))
  :: StableHlo.binary main_v7 main_v7 main_v16 (mulf : (⟨S2048, .f32⟩ : BufTy).Contents (Elt F) → (⟨S2048, .f32⟩ : BufTy).Contents (Elt F) → (⟨S2048, .f32⟩ : BufTy).Contents (Elt F))
  :: StableHlo.binary main_v16 main_v13 main_v17 (mulf : (⟨S2048, .f32⟩ : BufTy).Contents (Elt F) → (⟨S2048, .f32⟩ : BufTy).Contents (Elt F) → (⟨S2048, .f32⟩ : BufTy).Contents (Elt F))
  :: StableHlo.binary main_v15 main_v17 main_v18 (addf : (⟨S2048, .f32⟩ : BufTy).Contents (Elt F) → (⟨S2048, .f32⟩ : BufTy).Contents (Elt F) → (⟨S2048, .f32⟩ : BufTy).Contents (Elt F))
  :: StableHlo.binary main_v6 main_v7 main_v19 (mulf : (⟨S2048, .f32⟩ : BufTy).Contents (Elt F) → (⟨S2048, .f32⟩ : BufTy).Contents (Elt F) → (⟨S2048, .f32⟩ : BufTy).Contents (Elt F))
  :: StableHlo.binary main_v10 main_v13 main_v20 (subf : (⟨S2048, .f32⟩ : BufTy).Contents (Elt F) → (⟨S2048, .f32⟩ : BufTy).Contents (Elt F) → (⟨S2048, .f32⟩ : BufTy).Contents (Elt F))
  :: StableHlo.binary main_v19 main_v20 main_v21 (mulf : (⟨S2048, .f32⟩ : BufTy).Contents (Elt F) → (⟨S2048, .f32⟩ : BufTy).Contents (Elt F) → (⟨S2048, .f32⟩ : BufTy).Contents (Elt F))
  :: StableHlo.binary main_v7 main_v7 main_v22 (mulf : (⟨S2048, .f32⟩ : BufTy).Contents (Elt F) → (⟨S2048, .f32⟩ : BufTy).Contents (Elt F) → (⟨S2048, .f32⟩ : BufTy).Contents (Elt F))
  :: StableHlo.binary main_v22 main_v10 main_v23 (mulf : (⟨S2048, .f32⟩ : BufTy).Contents (Elt F) → (⟨S2048, .f32⟩ : BufTy).Contents (Elt F) → (⟨S2048, .f32⟩ : BufTy).Contents (Elt F))
  :: StableHlo.binary main_v6 main_v6 main_v24 (mulf : (⟨S2048, .f32⟩ : BufTy).Contents (Elt F) → (⟨S2048, .f32⟩ : BufTy).Contents (Elt F) → (⟨S2048, .f32⟩ : BufTy).Contents (Elt F))
  :: StableHlo.binary main_v24 main_v13 main_v25 (mulf : (⟨S2048, .f32⟩ : BufTy).Contents (Elt F) → (⟨S2048, .f32⟩ : BufTy).Contents (Elt F) → (⟨S2048, .f32⟩ : BufTy).Contents (Elt F))
  :: StableHlo.binary main_v23 main_v25 main_v26 (addf : (⟨S2048, .f32⟩ : BufTy).Contents (Elt F) → (⟨S2048, .f32⟩ : BufTy).Contents (Elt F) → (⟨S2048, .f32⟩ : BufTy).Contents (Elt F))
  :: StableHlo.binary main_v18 main_v26 main_v27 (mulf : (⟨S2048, .f32⟩ : BufTy).Contents (Elt F) → (⟨S2048, .f32⟩ : BufTy).Contents (Elt F) → (⟨S2048, .f32⟩ : BufTy).Contents (Elt F))
  :: StableHlo.binary main_v21 main_v21 main_v28 (mulf : (⟨S2048, .f32⟩ : BufTy).Contents (Elt F) → (⟨S2048, .f32⟩ : BufTy).Contents (Elt F) → (⟨S2048, .f32⟩ : BufTy).Contents (Elt F))
  :: StableHlo.binary main_v27 main_v28 main_v29 (subf : (⟨S2048, .f32⟩ : BufTy).Contents (Elt F) → (⟨S2048, .f32⟩ : BufTy).Contents (Elt F) → (⟨S2048, .f32⟩ : BufTy).Contents (Elt F))
  :: StableHlo.nullary main_cst (constant S_ .f32 0x322BCC77#32)
  :: StableHlo.unary main_cst main_v30 (broadcastInDim S2048 ![] bcast_S_S2048 : (⟨S_, .f32⟩ : BufTy).Contents (Elt F) → (⟨S2048, .f32⟩ : BufTy).Contents (Elt F))
  :: StableHlo.binary main_v29 main_v30 main_v31 (maximumf : (⟨S2048, .f32⟩ : BufTy).Contents (Elt F) → (⟨S2048, .f32⟩ : BufTy).Contents (Elt F) → (⟨S2048, .f32⟩ : BufTy).Contents (Elt F))
  :: StableHlo.nullary main_cst_0 (constant S_ .f32 0xBF000000#32)
  :: StableHlo.unary main_cst_0 main_v32 (broadcastInDim S2048 ![] bcast_S_S2048 : (⟨S_, .f32⟩ : BufTy).Contents (Elt F) → (⟨S2048, .f32⟩ : BufTy).Contents (Elt F))
  :: StableHlo.binary main_v32 main_v26 main_v33 (mulf : (⟨S2048, .f32⟩ : BufTy).Contents (Elt F) → (⟨S2048, .f32⟩ : BufTy).Contents (Elt F) → (⟨S2048, .f32⟩ : BufTy).Contents (Elt F))
  :: StableHlo.binary main_v33 main_v31 main_v34 (Host.divf : (⟨S2048, .f32⟩ : BufTy).Contents (Elt F) → (⟨S2048, .f32⟩ : BufTy).Contents (Elt F) → (⟨S2048, .f32⟩ : BufTy).Contents (Elt F))
  :: StableHlo.binary main_v21 main_v31 main_v35 (Host.divf : (⟨S2048, .f32⟩ : BufTy).Contents (Elt F) → (⟨S2048, .f32⟩ : BufTy).Contents (Elt F) → (⟨S2048, .f32⟩ : BufTy).Contents (Elt F))
  :: StableHlo.nullary main_cst_1 (constant S_ .f32 0xBF000000#32)
  :: StableHlo.unary main_cst_1 main_v36 (broadcastInDim S2048 ![] bcast_S_S2048 : (⟨S_, .f32⟩ : BufTy).Contents (Elt F) → (⟨S2048, .f32⟩ : BufTy).Contents (Elt F))
  :: StableHlo.binary main_v36 main_v18 main_v37 (mulf : (⟨S2048, .f32⟩ : BufTy).Contents (Elt F) → (⟨S2048, .f32⟩ : BufTy).Contents (Elt F) → (⟨S2048, .f32⟩ : BufTy).Contents (Elt F))
  :: StableHlo.binary main_v37 main_v31 main_v38 (Host.divf : (⟨S2048, .f32⟩ : BufTy).Contents (Elt F) → (⟨S2048, .f32⟩ : BufTy).Contents (Elt F) → (⟨S2048, .f32⟩ : BufTy).Contents (Elt F))
  :: StableHlo.unary main_v5 main_v39 (Host.log : (⟨S2048, .f32⟩ : BufTy).Contents (Elt F) → (⟨S2048, .f32⟩ : BufTy).Contents (Elt F))
  :: StableHlo.binary main_v18 main_v26 main_v40 (addf : (⟨S2048, .f32⟩ : BufTy).Contents (Elt F) → (⟨S2048, .f32⟩ : BufTy).Contents (Elt F) → (⟨S2048, .f32⟩ : BufTy).Contents (Elt F))
  :: StableHlo.nullary main_cst_2 (constant S_ .f32 0x3F000000#32)
  :: StableHlo.unary main_cst_2 main_v41 (broadcastInDim S2048 ![] bcast_S_S2048 : (⟨S_, .f32⟩ : BufTy).Contents (Elt F) → (⟨S2048, .f32⟩ : BufTy).Contents (Elt F))
  :: StableHlo.binary main_v41 main_v40 main_v42 (mulf : (⟨S2048, .f32⟩ : BufTy).Contents (Elt F) → (⟨S2048, .f32⟩ : BufTy).Contents (Elt F) → (⟨S2048, .f32⟩ : BufTy).Contents (Elt F))
  :: StableHlo.binary main_v42 main_v42 main_v43 (mulf : (⟨S2048, .f32⟩ : BufTy).Contents (Elt F) → (⟨S2048, .f32⟩ : BufTy).Contents (Elt F) → (⟨S2048, .f32⟩ : BufTy).Contents (Elt F))
  :: StableHlo.binary main_v43 main_v31 main_v44 (subf : (⟨S2048, .f32⟩ : BufTy).Contents (Elt F) → (⟨S2048, .f32⟩ : BufTy).Contents (Elt F) → (⟨S2048, .f32⟩ : BufTy).Contents (Elt F))
  :: StableHlo.nullary main_cst_3 (constant S_ .f32 0x3DCCCCCD#32)
  :: StableHlo.unary main_cst_3 main_v45 (broadcastInDim S2048 ![] bcast_S_S2048 : (⟨S_, .f32⟩ : BufTy).Contents (Elt F) → (⟨S2048, .f32⟩ : BufTy).Contents (Elt F))
  :: StableHlo.binary main_v44 main_v45 main_v46 (maximumf : (⟨S2048, .f32⟩ : BufTy).Contents (Elt F) → (⟨S2048, .f32⟩ : BufTy).Contents (Elt F) → (⟨S2048, .f32⟩ : BufTy).Contents (Elt F))
  :: StableHlo.unary main_v46 main_v47 (Host.sqrt : (⟨S2048, .f32⟩ : BufTy).Contents (Elt F) → (⟨S2048, .f32⟩ : BufTy).Contents (Elt F))
  :: StableHlo.binary main_v42 main_v47 main_v48 (addf : (⟨S2048, .f32⟩ : BufTy).Contents (Elt F) → (⟨S2048, .f32⟩ : BufTy).Contents (Elt F) → (⟨S2048, .f32⟩ : BufTy).Contents (Elt F))
  :: StableHlo.nullary main_cst_4 (constant S_ .f32 0x40000000#32)
  :: StableHlo.unary main_cst_4 main_v49 (broadcastInDim S2048 ![] bcast_S_S2048 : (⟨S_, .f32⟩ : BufTy).Contents (Elt F) → (⟨S2048, .f32⟩ : BufTy).Contents (Elt F))
  :: StableHlo.binary main_v49 main_v48 main_v50 (mulf : (⟨S2048, .f32⟩ : BufTy).Contents (Elt F) → (⟨S2048, .f32⟩ : BufTy).Contents (Elt F) → (⟨S2048, .f32⟩ : BufTy).Contents (Elt F))
  :: StableHlo.nullary main_cst_5 (constant S_ .f32 0x437F0000#32)
  :: StableHlo.unary main_cst_5 main_v51 (broadcastInDim S2048 ![] bcast_S_S2048 : (⟨S_, .f32⟩ : BufTy).Contents (Elt F) → (⟨S2048, .f32⟩ : BufTy).Contents (Elt F))
  :: StableHlo.binary main_v51 main_v5 main_v52 (mulf : (⟨S2048, .f32⟩ : BufTy).Contents (Elt F) → (⟨S2048, .f32⟩ : BufTy).Contents (Elt F) → (⟨S2048, .f32⟩ : BufTy).Contents (Elt F))
  :: [] )

set_option maxHeartbeats 40000000 in  -- a long stretch
theorem preB_sub : (preB : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.reshape_bufs_sub .., StableHlo.unary_bufs_sub .., StableHlo.unary_bufs_sub .., StableHlo.unary_bufs_sub .., StableHlo.reshape_bufs_sub .., StableHlo.binary_bufs_sub .., StableHlo.unary_bufs_sub .., StableHlo.reshape_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub ..⟩

set_option maxHeartbeats 40000000 in  -- a long stretch
theorem preB_fresh : (preB : List (HloOp τ sig (Elt F))).Forall fun op => op.fresh = ∅ :=
  StableHlo.forall_fresh_of_map rfl

abbrev preB_W : List (Ref sig .tc) := [main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_cst, main_v30, main_v31, main_cst_0, main_v32, main_v33, main_v34, main_v35, main_cst_1, main_v36, main_v37, main_v38, main_v39, main_v40, main_cst_2, main_v41, main_v42, main_v43, main_v44, main_cst_3, main_v45, main_v46, main_v47, main_v48, main_cst_4, main_v49, main_v50, main_cst_5, main_v51, main_v52]

set_option maxHeartbeats 40000000 in  -- a long stretch
theorem preB_writes : (preB : List (HloOp τ sig (Elt F))).Forall fun op => op.writes ⊆ (preB_W.map (Proc.devRef (τ := τ) .tc)).toFinset :=
  StableHlo.forall_writes_sub_of_map rfl

set_option maxHeartbeats 40000000 in  -- a long stretch
/-- The reach of a Gaussian in rows. -/
abbrev preC : List (HloOp τ sig (Elt F)) :=
  ( StableHlo.unary main_v52 main_v53 (Host.log : (⟨S2048, .f32⟩ : BufTy).Contents (Elt F) → (⟨S2048, .f32⟩ : BufTy).Contents (Elt F))
  :: StableHlo.nullary main_cst_6 (constant S_ .f32 0x3C23D70A#32)
  :: StableHlo.unary main_cst_6 main_v54 (broadcastInDim S2048 ![] bcast_S_S2048 : (⟨S_, .f32⟩ : BufTy).Contents (Elt F) → (⟨S2048, .f32⟩ : BufTy).Contents (Elt F))
  :: StableHlo.binary main_v53 main_v54 main_v55 (addf : (⟨S2048, .f32⟩ : BufTy).Contents (Elt F) → (⟨S2048, .f32⟩ : BufTy).Contents (Elt F) → (⟨S2048, .f32⟩ : BufTy).Contents (Elt F))
  :: StableHlo.binary main_v50 main_v55 main_v56 (mulf : (⟨S2048, .f32⟩ : BufTy).Contents (Elt F) → (⟨S2048, .f32⟩ : BufTy).Contents (Elt F) → (⟨S2048, .f32⟩ : BufTy).Contents (Elt F))
  :: StableHlo.nullary main_cst_7 (constant S_ .f32 0x00000000#32)
  :: StableHlo.unary main_cst_7 main_v57 (broadcastInDim S2048 ![] bcast_S_S2048 : (⟨S_, .f32⟩ : BufTy).Contents (Elt F) → (⟨S2048, .f32⟩ : BufTy).Contents (Elt F))
  :: StableHlo.binary main_v56 main_v57 main_v58 (maximumf : (⟨S2048, .f32⟩ : BufTy).Contents (Elt F) → (⟨S2048, .f32⟩ : BufTy).Contents (Elt F) → (⟨S2048, .f32⟩ : BufTy).Contents (Elt F))
  :: StableHlo.unary main_v58 main_v59 (Host.sqrt : (⟨S2048, .f32⟩ : BufTy).Contents (Elt F) → (⟨S2048, .f32⟩ : BufTy).Contents (Elt F))
  :: StableHlo.nullary main_cst_8 (constant S_ .f32 0x00000000#32)
  :: StableHlo.unary main_cst_8 main_v60 (broadcastInDim S2048 ![] bcast_S_S2048 : (⟨S_, .f32⟩ : BufTy).Contents (Elt F) → (⟨S2048, .f32⟩ : BufTy).Contents (Elt F))
  :: StableHlo.binary main_v56 main_v60 main_v61 (cmpf .ole : (⟨S2048, .f32⟩ : BufTy).Contents (Elt F) → (⟨S2048, .f32⟩ : BufTy).Contents (Elt F) → (⟨S2048, .i1⟩ : BufTy).Contents (Elt F))
  :: StableHlo.binary main_v4 main_v59 main_v62 (subf : (⟨S2048, .f32⟩ : BufTy).Contents (Elt F) → (⟨S2048, .f32⟩ : BufTy).Contents (Elt F) → (⟨S2048, .f32⟩ : BufTy).Contents (Elt F))
  :: StableHlo.nullary main_cst_9 (constant S_ .f32 0x7F800000#32)
  :: [] )

set_option maxHeartbeats 40000000 in  -- a long stretch
theorem preC_sub : (preC : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.nullary_bufs_sub ..⟩

set_option maxHeartbeats 40000000 in  -- a long stretch
theorem preC_fresh : (preC : List (HloOp τ sig (Elt F))).Forall fun op => op.fresh = ∅ :=
  StableHlo.forall_fresh_of_map rfl

abbrev preC_W : List (Ref sig .tc) := [main_v53, main_cst_6, main_v54, main_v55, main_v56, main_cst_7, main_v57, main_v58, main_v59, main_cst_8, main_v60, main_v61, main_v62, main_cst_9]

set_option maxHeartbeats 40000000 in  -- a long stretch
theorem preC_writes : (preC : List (HloOp τ sig (Elt F))).Forall fun op => op.writes ⊆ (preC_W.map (Proc.devRef (τ := τ) .tc)).toFinset :=
  StableHlo.forall_writes_sub_of_map rfl

set_option maxHeartbeats 40000000 in  -- a long stretch
/-- The first row it reaches. -/
abbrev preD : List (HloOp τ sig (Elt F)) :=
  ( StableHlo.TRef.unary (.of main_cst_9 : StableHlo.TRef sig ⟨S_, .f32⟩) (.of main_call1_v0 : StableHlo.TRef sig ⟨S_, .f32⟩) id
  :: StableHlo.TRef.unary (.of main_call1_v0 : StableHlo.TRef sig ⟨S_, .f32⟩) (.of main_call1_v1 : StableHlo.TRef sig ⟨S2048, .f32⟩) (broadcastInDim S2048 ![] bcast_S_S2048)
  :: StableHlo.TRef.ternary (.of main_v61 : StableHlo.TRef sig ⟨S2048, .i1⟩) (.of main_call1_v1 : StableHlo.TRef sig ⟨S2048, .f32⟩) (.of main_v62 : StableHlo.TRef sig ⟨S2048, .f32⟩) (.of main_v63 : StableHlo.TRef sig ⟨S2048, .f32⟩) select
  :: [] )

set_option maxHeartbeats 40000000 in  -- a long stretch
theorem preD_sub : (preD : List (HloOp τ sig (Elt F))).Forall fun op => op.bufs ⊆ StableHlo.tcRefs τ sig :=
  ⟨StableHlo.unary_bufs_sub .., StableHlo.unary_bufs_sub .., StableHlo.ternary_bufs_sub ..⟩

set_option maxHeartbeats 40000000 in  -- a long stretch
theorem preD_fresh : (preD : List (HloOp τ sig (Elt F))).Forall fun op => op.fresh = ∅ :=
  StableHlo.forall_fresh_of_map rfl

abbrev preD_W : List (Ref sig .tc) := [main_call1_v0, main_call1_v1, main_v63]

set_option maxHeartbeats 40000000 in  -- a long stretch
theorem preD_writes : (preD : List (HloOp τ sig (Elt F))).Forall fun op => op.writes ⊆ (preD_W.map (Proc.devRef (τ := τ) .tc)).toFinset :=
  StableHlo.forall_writes_sub_of_map rfl

set_option maxHeartbeats 40000000 in  -- a long stretch
/-- The row its reach is added to. -/
abbrev preE : List (HloOp τ sig (Elt F)) :=
  ( StableHlo.binary main_v4 main_v59 main_v64 (addf : (⟨S2048, .f32⟩ : BufTy).Contents (Elt F) → (⟨S2048, .f32⟩ : BufTy).Contents (Elt F) → (⟨S2048, .f32⟩ : BufTy).Contents (Elt F))
  :: StableHlo.nullary main_cst_10 (constant S_ .f32 0xFF800000#32)
  :: [] )

set_option maxHeartbeats 40000000 in  -- a long stretch
theorem preE_sub : (preE : List (HloOp τ sig (Elt F))).Forall fun op => op.bufs ⊆ StableHlo.tcRefs τ sig :=
  ⟨StableHlo.binary_bufs_sub .., StableHlo.nullary_bufs_sub ..⟩

set_option maxHeartbeats 40000000 in  -- a long stretch
theorem preE_fresh : (preE : List (HloOp τ sig (Elt F))).Forall fun op => op.fresh = ∅ :=
  StableHlo.forall_fresh_of_map rfl

abbrev preE_W : List (Ref sig .tc) := [main_v64, main_cst_10]

set_option maxHeartbeats 40000000 in  -- a long stretch
theorem preE_writes : (preE : List (HloOp τ sig (Elt F))).Forall fun op => op.writes ⊆ (preE_W.map (Proc.devRef (τ := τ) .tc)).toFinset :=
  StableHlo.forall_writes_sub_of_map rfl

set_option maxHeartbeats 40000000 in  -- a long stretch
/-- The last row it reaches. -/
abbrev preF : List (HloOp τ sig (Elt F)) :=
  ( StableHlo.TRef.unary (.of main_cst_10 : StableHlo.TRef sig ⟨S_, .f32⟩) (.of main_call2_v0 : StableHlo.TRef sig ⟨S_, .f32⟩) id
  :: StableHlo.TRef.unary (.of main_call2_v0 : StableHlo.TRef sig ⟨S_, .f32⟩) (.of main_call2_v1 : StableHlo.TRef sig ⟨S2048, .f32⟩) (broadcastInDim S2048 ![] bcast_S_S2048)
  :: StableHlo.TRef.ternary (.of main_v61 : StableHlo.TRef sig ⟨S2048, .i1⟩) (.of main_call2_v1 : StableHlo.TRef sig ⟨S2048, .f32⟩) (.of main_v64 : StableHlo.TRef sig ⟨S2048, .f32⟩) (.of main_v65 : StableHlo.TRef sig ⟨S2048, .f32⟩) select
  :: [] )

set_option maxHeartbeats 40000000 in  -- a long stretch
theorem preF_sub : (preF : List (HloOp τ sig (Elt F))).Forall fun op => op.bufs ⊆ StableHlo.tcRefs τ sig :=
  ⟨StableHlo.unary_bufs_sub .., StableHlo.unary_bufs_sub .., StableHlo.ternary_bufs_sub ..⟩

set_option maxHeartbeats 40000000 in  -- a long stretch
theorem preF_fresh : (preF : List (HloOp τ sig (Elt F))).Forall fun op => op.fresh = ∅ :=
  StableHlo.forall_fresh_of_map rfl

abbrev preF_W : List (Ref sig .tc) := [main_call2_v0, main_call2_v1, main_v65]

set_option maxHeartbeats 40000000 in  -- a long stretch
theorem preF_writes : (preF : List (HloOp τ sig (Elt F))).Forall fun op => op.writes ⊆ (preF_W.map (Proc.devRef (τ := τ) .tc)).toFinset :=
  StableHlo.forall_writes_sub_of_map rfl

set_option maxHeartbeats 40000000 in  -- a long stretch
/-- The channels, put in depth order. -/
abbrev preG : List (HloOp τ sig (Elt F)) :=
  ( StableHlo.nullary main_v66 (sitofp .f32 (iotaInDim S2048 32 0))
  :: StableHlo.nullary main_cst_11 (constant S_ .f32 0x00000000#32)
  :: StableHlo.unary main_cst_11 main_v67 (broadcastInDim S2048 ![] bcast_S_S2048 : (⟨S_, .f32⟩ : BufTy).Contents (Elt F) → (⟨S2048, .f32⟩ : BufTy).Contents (Elt F))
  :: StableHlo.unary main_arg1 main_v68 ((extractStridedSlice S2048x1 ![0, 0] · slices_S2048x3_S2048x1_0_0) : (⟨S2048x3, .f32⟩ : BufTy).Contents (Elt F) → (⟨S2048x1, .f32⟩ : BufTy).Contents (Elt F))
  :: StableHlo.reshape main_v68 main_v69 (rfl : (.f32 : EltTy) = .f32) shapeCasts_S2048x1_S2048
  :: StableHlo.unary main_arg1 main_v70 ((extractStridedSlice S2048x1 ![0, 1] · slices_S2048x3_S2048x1_0_1) : (⟨S2048x3, .f32⟩ : BufTy).Contents (Elt F) → (⟨S2048x1, .f32⟩ : BufTy).Contents (Elt F))
  :: StableHlo.reshape main_v70 main_v71 (rfl : (.f32 : EltTy) = .f32) shapeCasts_S2048x1_S2048
  :: StableHlo.unary main_arg1 main_v72 ((extractStridedSlice S2048x1 ![0, 2] · slices_S2048x3_S2048x1_0_2) : (⟨S2048x3, .f32⟩ : BufTy).Contents (Elt F) → (⟨S2048x1, .f32⟩ : BufTy).Contents (Elt F))
  :: StableHlo.reshape main_v72 main_v73 (rfl : (.f32 : EltTy) = .f32) shapeCasts_S2048x1_S2048
  :: StableHlo.unary main_v63 main_v74 (broadcastInDim S1x2048 ![1] bcast_S2048_S1x2048_1 : (⟨S2048, .f32⟩ : BufTy).Contents (Elt F) → (⟨S1x2048, .f32⟩ : BufTy).Contents (Elt F))
  :: StableHlo.unary main_v65 main_v75 (broadcastInDim S1x2048 ![1] bcast_S2048_S1x2048_1 : (⟨S2048, .f32⟩ : BufTy).Contents (Elt F) → (⟨S1x2048, .f32⟩ : BufTy).Contents (Elt F))
  :: StableHlo.unary main_v2 main_v76 (broadcastInDim S1x2048 ![1] bcast_S2048_S1x2048_1 : (⟨S2048, .f32⟩ : BufTy).Contents (Elt F) → (⟨S1x2048, .f32⟩ : BufTy).Contents (Elt F))
  :: StableHlo.unary main_v4 main_v77 (broadcastInDim S1x2048 ![1] bcast_S2048_S1x2048_1 : (⟨S2048, .f32⟩ : BufTy).Contents (Elt F) → (⟨S1x2048, .f32⟩ : BufTy).Contents (Elt F))
  :: StableHlo.unary main_v34 main_v78 (broadcastInDim S1x2048 ![1] bcast_S2048_S1x2048_1 : (⟨S2048, .f32⟩ : BufTy).Contents (Elt F) → (⟨S1x2048, .f32⟩ : BufTy).Contents (Elt F))
  :: StableHlo.unary main_v35 main_v79 (broadcastInDim S1x2048 ![1] bcast_S2048_S1x2048_1 : (⟨S2048, .f32⟩ : BufTy).Contents (Elt F) → (⟨S1x2048, .f32⟩ : BufTy).Contents (Elt F))
  :: StableHlo.unary main_v38 main_v80 (broadcastInDim S1x2048 ![1] bcast_S2048_S1x2048_1 : (⟨S2048, .f32⟩ : BufTy).Contents (Elt F) → (⟨S1x2048, .f32⟩ : BufTy).Contents (Elt F))
  :: StableHlo.unary main_v39 main_v81 (broadcastInDim S1x2048 ![1] bcast_S2048_S1x2048_1 : (⟨S2048, .f32⟩ : BufTy).Contents (Elt F) → (⟨S1x2048, .f32⟩ : BufTy).Contents (Elt F))
  :: StableHlo.unary main_v66 main_v82 (broadcastInDim S1x2048 ![1] bcast_S2048_S1x2048_1 : (⟨S2048, .f32⟩ : BufTy).Contents (Elt F) → (⟨S1x2048, .f32⟩ : BufTy).Contents (Elt F))
  :: StableHlo.unary main_v67 main_v83 (broadcastInDim S1x2048 ![1] bcast_S2048_S1x2048_1 : (⟨S2048, .f32⟩ : BufTy).Contents (Elt F) → (⟨S1x2048, .f32⟩ : BufTy).Contents (Elt F))
  :: StableHlo.unary main_v69 main_v84 (broadcastInDim S1x2048 ![1] bcast_S2048_S1x2048_1 : (⟨S2048, .f32⟩ : BufTy).Contents (Elt F) → (⟨S1x2048, .f32⟩ : BufTy).Contents (Elt F))
  :: StableHlo.unary main_v71 main_v85 (broadcastInDim S1x2048 ![1] bcast_S2048_S1x2048_1 : (⟨S2048, .f32⟩ : BufTy).Contents (Elt F) → (⟨S1x2048, .f32⟩ : BufTy).Contents (Elt F))
  :: StableHlo.unary main_v73 main_v86 (broadcastInDim S1x2048 ![1] bcast_S2048_S1x2048_1 : (⟨S2048, .f32⟩ : BufTy).Contents (Elt F) → (⟨S1x2048, .f32⟩ : BufTy).Contents (Elt F))
  :: StableHlo.unary main_v67 main_v87 (broadcastInDim S1x2048 ![1] bcast_S2048_S1x2048_1 : (⟨S2048, .f32⟩ : BufTy).Contents (Elt F) → (⟨S1x2048, .f32⟩ : BufTy).Contents (Elt F))
  :: StableHlo.unary main_v67 main_v88 (broadcastInDim S1x2048 ![1] bcast_S2048_S1x2048_1 : (⟨S2048, .f32⟩ : BufTy).Contents (Elt F) → (⟨S1x2048, .f32⟩ : BufTy).Contents (Elt F))
  :: StableHlo.unary main_v67 main_v89 (broadcastInDim S1x2048 ![1] bcast_S2048_S1x2048_1 : (⟨S2048, .f32⟩ : BufTy).Contents (Elt F) → (⟨S1x2048, .f32⟩ : BufTy).Contents (Elt F))
  :: StableHlo.nary ![main_v74, main_v75, main_v76, main_v77, main_v78, main_v79, main_v80, main_v81, main_v82, main_v83, main_v84, main_v85, main_v86, main_v87, main_v88, main_v89] main_v90 (fun u => (concatenate S16x2048 0 [⟨S1x2048, (u 0 : (⟨S1x2048, .f32⟩ : BufTy).Contents (Elt F))⟩, ⟨S1x2048, (u 1 : (⟨S1x2048, .f32⟩ : BufTy).Contents (Elt F))⟩, ⟨S1x2048, (u 2 : (⟨S1x2048, .f32⟩ : BufTy).Contents (Elt F))⟩, ⟨S1x2048, (u 3 : (⟨S1x2048, .f32⟩ : BufTy).Contents (Elt F))⟩, ⟨S1x2048, (u 4 : (⟨S1x2048, .f32⟩ : BufTy).Contents (Elt F))⟩, ⟨S1x2048, (u 5 : (⟨S1x2048, .f32⟩ : BufTy).Contents (Elt F))⟩, ⟨S1x2048, (u 6 : (⟨S1x2048, .f32⟩ : BufTy).Contents (Elt F))⟩, ⟨S1x2048, (u 7 : (⟨S1x2048, .f32⟩ : BufTy).Contents (Elt F))⟩, ⟨S1x2048, (u 8 : (⟨S1x2048, .f32⟩ : BufTy).Contents (Elt F))⟩, ⟨S1x2048, (u 9 : (⟨S1x2048, .f32⟩ : BufTy).Contents (Elt F))⟩, ⟨S1x2048, (u 10 : (⟨S1x2048, .f32⟩ : BufTy).Contents (Elt F))⟩, ⟨S1x2048, (u 11 : (⟨S1x2048, .f32⟩ : BufTy).Contents (Elt F))⟩, ⟨S1x2048, (u 12 : (⟨S1x2048, .f32⟩ : BufTy).Contents (Elt F))⟩, ⟨S1x2048, (u 13 : (⟨S1x2048, .f32⟩ : BufTy).Contents (Elt F))⟩, ⟨S1x2048, (u 14 : (⟨S1x2048, .f32⟩ : BufTy).Contents (Elt F))⟩, ⟨S1x2048, (u 15 : (⟨S1x2048, .f32⟩ : BufTy).Contents (Elt F))⟩] concatenates_S1x2048_S1x2048_S1x2048_S1x2048_S1x2048_S1x2048_S1x2048_S1x2048_S1x2048_S1x2048_S1x2048_S1x2048_S1x2048_S1x2048_S1x2048_S1x2048_S16x2048_d0 : (⟨S16x2048, .f32⟩ : BufTy).Contents (Elt F)))
  :: StableHlo.nullary main_c (constantI S_ 32 0#32)
  :: StableHlo.unary main_c main_v91 (broadcastInDim S2048 ![] bcast_S_S2048 : (⟨S_, .i32⟩ : BufTy).Contents (Elt F) → (⟨S2048, .i32⟩ : BufTy).Contents (Elt F))
  :: StableHlo.binary main_v0 main_v91 main_v92 (cmpi .slt : (⟨S2048, .i32⟩ : BufTy).Contents (Elt F) → (⟨S2048, .i32⟩ : BufTy).Contents (Elt F) → (⟨S2048, .i1⟩ : BufTy).Contents (Elt F))
  :: StableHlo.nullary main_c_12 (constantI S_ 32 2048#32)
  :: StableHlo.unary main_c_12 main_v93 (broadcastInDim S2048 ![] bcast_S_S2048 : (⟨S_, .i32⟩ : BufTy).Contents (Elt F) → (⟨S2048, .i32⟩ : BufTy).Contents (Elt F))
  :: StableHlo.binary main_v0 main_v93 main_v94 (addi : (⟨S2048, .i32⟩ : BufTy).Contents (Elt F) → (⟨S2048, .i32⟩ : BufTy).Contents (Elt F) → (⟨S2048, .i32⟩ : BufTy).Contents (Elt F))
  :: StableHlo.ternary main_v92 main_v94 main_v0 main_v95 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v95 main_v96 (broadcastInDim S2048x1 ![0] bcast_S2048_S2048x1_0 : (⟨S2048, .i32⟩ : BufTy).Contents (Elt F) → (⟨S2048x1, .i32⟩ : BufTy).Contents (Elt F))
  :: StableHlo.binary main_v90 main_v96 main_v97 ((fun x i => Host.gather gather_S16x2048_S2048x1_S16x2048_0_1_n_n_1_1_161 x i) : (⟨S16x2048, .f32⟩ : BufTy).Contents (Elt F) → (⟨S2048x1, .i32⟩ : BufTy).Contents (Elt F) → (⟨S16x2048, .f32⟩ : BufTy).Contents (Elt F))
  :: StableHlo.nullary main_cst_13 (constant S_ .f32 0x00000000#32)
  :: StableHlo.unary main_cst_13 main_v98 (broadcastInDim S8192 ![] bcast_S_S8192 : (⟨S_, .f32⟩ : BufTy).Contents (Elt F) → (⟨S8192, .f32⟩ : BufTy).Contents (Elt F))
  :: StableHlo.reshape main_v97 main_v99 (rfl : (.f32 : EltTy) = .f32) shapeCasts_S16x2048_S32768
  :: [] )

set_option maxHeartbeats 40000000 in  -- a long stretch
theorem preG_sub : (preG : List (HloOp τ sig (Elt F))).Forall fun op => op.bufs ⊆ StableHlo.tcRefs τ sig :=
  ⟨StableHlo.nullary_bufs_sub .., StableHlo.nullary_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.reshape_bufs_sub ..⟩

set_option maxHeartbeats 40000000 in  -- a long stretch
theorem preG_fresh : (preG : List (HloOp τ sig (Elt F))).Forall fun op => op.fresh = ∅ :=
  StableHlo.forall_fresh_of_map rfl

abbrev preG_W : List (Ref sig .tc) := [main_v66, main_cst_11, main_v67, main_v68, main_v69, main_v70, main_v71, main_v72, main_v73, main_v74, main_v75, main_v76, main_v77, main_v78, main_v79, main_v80, main_v81, main_v82, main_v83, main_v84, main_v85, main_v86, main_v87, main_v88, main_v89, main_v90, main_c, main_v91, main_v92, main_c_12, main_v93, main_v94, main_v95, main_v96, main_v97, main_cst_13, main_v98, main_v99]

set_option maxHeartbeats 40000000 in  -- a long stretch
theorem preG_writes : (preG : List (HloOp τ sig (Elt F))).Forall fun op => op.writes ⊆ (preG_W.map (Proc.devRef (τ := τ) .tc)).toFinset :=
  StableHlo.forall_writes_sub_of_map rfl

set_option maxHeartbeats 40000000 in  -- a long stretch
/-- The binned arrays reshaped. -/
abbrev midA : List (HloOp τ sig (Elt F)) :=
  ( StableHlo.reshape main_v100_0 main_v101 (rfl : (.f32 : EltTy) = .f32) shapeCasts_S16x16384_S16x2048x8
  :: StableHlo.reshape main_v100_1 main_v102 (rfl : (.f32 : EltTy) = .f32) shapeCasts_S16x8192_S16x8x4x256
  :: StableHlo.unary main_v100_2 main_v103 ((extractStridedSlice S16x1 ![0, 0] · slices_S16x16_S16x1_0_0) : (⟨S16x16, .i32⟩ : BufTy).Contents (Elt F) → (⟨S16x1, .i32⟩ : BufTy).Contents (Elt F))
  :: [] )

set_option maxHeartbeats 40000000 in  -- a long stretch
theorem midA_sub : (midA : List (HloOp τ sig (Elt F))).Forall fun op => op.bufs ⊆ StableHlo.tcRefs τ sig :=
  ⟨StableHlo.reshape_bufs_sub .., StableHlo.reshape_bufs_sub .., StableHlo.unary_bufs_sub ..⟩

set_option maxHeartbeats 40000000 in  -- a long stretch
theorem midA_fresh : (midA : List (HloOp τ sig (Elt F))).Forall fun op => op.fresh = ∅ :=
  StableHlo.forall_fresh_of_map rfl

abbrev midA_W : List (Ref sig .tc) := [main_v101, main_v102, main_v103]

set_option maxHeartbeats 40000000 in  -- a long stretch
theorem midA_writes : (midA : List (HloOp τ sig (Elt F))).Forall fun op => op.writes ⊆ (midA_W.map (Proc.devRef (τ := τ) .tc)).toFinset :=
  StableHlo.forall_writes_sub_of_map rfl

set_option maxHeartbeats 40000000 in  -- a long stretch
/-- The counts, the covariances and the background reshaped. -/
abbrev midB : List (HloOp τ sig (Elt F)) :=
  ( StableHlo.reshape main_v103 main_v104 (rfl : (.i32 : EltTy) = .i32) shapeCasts_S16x1_S16
  :: StableHlo.reshape main_v18 main_v105 (rfl : (.f32 : EltTy) = .f32) shapeCasts_S2048_S2048x1
  :: StableHlo.reshape main_v21 main_v106 (rfl : (.f32 : EltTy) = .f32) shapeCasts_S2048_S2048x1
  :: StableHlo.reshape main_v26 main_v107 (rfl : (.f32 : EltTy) = .f32) shapeCasts_S2048_S2048x1
  :: StableHlo.reshape main_arg6 main_v108 (rfl : (.f32 : EltTy) = .f32) shapeCasts_S3_S3x1
  :: [] )

set_option maxHeartbeats 40000000 in  -- a long stretch
theorem midB_sub : (midB : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub .., StableHlo.reshape_bufs_sub ..⟩

set_option maxHeartbeats 40000000 in  -- a long stretch
theorem midB_fresh : (midB : List (HloOp τ sig (Elt F))).Forall fun op => op.fresh = ∅ :=
  StableHlo.forall_fresh_of_map rfl

abbrev midB_W : List (Ref sig .tc) := [main_v104, main_v105, main_v106, main_v107, main_v108]

set_option maxHeartbeats 40000000 in  -- a long stretch
theorem midB_writes : (midB : List (HloOp τ sig (Elt F))).Forall fun op => op.writes ⊆ (midB_W.map (Proc.devRef (τ := τ) .tc)).toFinset :=
  StableHlo.forall_writes_sub_of_map rfl

set_option maxHeartbeats 40000000 in  -- a long stretch
/-- The Gaussian of each slot, and whether the slot is taken. -/
abbrev postA : List (HloOp τ sig (Elt F)) :=
  ( StableHlo.unary main_v101 main_v110 ((extractStridedSlice S16x2048x1 ![0, 0, 6] · slices_S16x2048x8_S16x2048x1_0_0_6) : (⟨S16x2048x8, .f32⟩ : BufTy).Contents (Elt F) → (⟨S16x2048x1, .f32⟩ : BufTy).Contents (Elt F))
  :: StableHlo.reshape main_v110 main_v111 (rfl : (.f32 : EltTy) = .f32) shapeCasts_S16x2048x1_S16x2048
  :: StableHlo.unary main_v111 main_v112 (fptosi 32 : (⟨S16x2048, .f32⟩ : BufTy).Contents (Elt F) → (⟨S16x2048, .i32⟩ : BufTy).Contents (Elt F))
  :: StableHlo.nullary main_v113 (iotaInDim S2048 32 0)
  :: StableHlo.unary main_v113 main_v114 (broadcastInDim S1x2048 ![1] bcast_S2048_S1x2048_1 : (⟨S2048, .i32⟩ : BufTy).Contents (Elt F) → (⟨S1x2048, .i32⟩ : BufTy).Contents (Elt F))
  :: StableHlo.unary main_v104 main_v115 (broadcastInDim S16x1 ![0] bcast_S16_S16x1_0 : (⟨S16, .i32⟩ : BufTy).Contents (Elt F) → (⟨S16x1, .i32⟩ : BufTy).Contents (Elt F))
  :: StableHlo.unary main_v114 main_v116 (broadcastInDim S16x2048 ![0, 1] bcast_S1x2048_S16x2048_0_1 : (⟨S1x2048, .i32⟩ : BufTy).Contents (Elt F) → (⟨S16x2048, .i32⟩ : BufTy).Contents (Elt F))
  :: StableHlo.unary main_v115 main_v117 (broadcastInDim S16x2048 ![0, 1] bcast_S16x1_S16x2048_0_1 : (⟨S16x1, .i32⟩ : BufTy).Contents (Elt F) → (⟨S16x2048, .i32⟩ : BufTy).Contents (Elt F))
  :: StableHlo.binary main_v116 main_v117 main_v118 (cmpi .slt : (⟨S16x2048, .i32⟩ : BufTy).Contents (Elt F) → (⟨S16x2048, .i32⟩ : BufTy).Contents (Elt F) → (⟨S16x2048, .i1⟩ : BufTy).Contents (Elt F))
  :: StableHlo.nullary main_c_14 (constantI S_ 32 2048#32)
  :: [] )

set_option maxHeartbeats 40000000 in  -- a long stretch
theorem postA_sub : (postA : List (HloOp τ sig (Elt F))).Forall fun op => op.bufs ⊆ StableHlo.tcRefs τ sig :=
  ⟨StableHlo.unary_bufs_sub .., StableHlo.reshape_bufs_sub .., StableHlo.unary_bufs_sub .., StableHlo.nullary_bufs_sub .., StableHlo.unary_bufs_sub .., StableHlo.unary_bufs_sub .., StableHlo.unary_bufs_sub .., StableHlo.unary_bufs_sub .., StableHlo.binary_bufs_sub .., StableHlo.nullary_bufs_sub ..⟩

set_option maxHeartbeats 40000000 in  -- a long stretch
theorem postA_fresh : (postA : List (HloOp τ sig (Elt F))).Forall fun op => op.fresh = ∅ :=
  StableHlo.forall_fresh_of_map rfl

abbrev postA_W : List (Ref sig .tc) := [main_v110, main_v111, main_v112, main_v113, main_v114, main_v115, main_v116, main_v117, main_v118, main_c_14]

set_option maxHeartbeats 40000000 in  -- a long stretch
theorem postA_writes : (postA : List (HloOp τ sig (Elt F))).Forall fun op => op.writes ⊆ (postA_W.map (Proc.devRef (τ := τ) .tc)).toFinset :=
  StableHlo.forall_writes_sub_of_map rfl

set_option maxHeartbeats 40000000 in  -- a long stretch
/-- The target of each slot. -/
abbrev postB : List (HloOp τ sig (Elt F)) :=
  ( StableHlo.TRef.unary (.of main_c_14 : StableHlo.TRef sig ⟨S_, .i32⟩) (.of main_call3_v0 : StableHlo.TRef sig ⟨S_, .i32⟩) id
  :: StableHlo.TRef.unary (.of main_call3_v0 : StableHlo.TRef sig ⟨S_, .i32⟩) (.of main_call3_v1 : StableHlo.TRef sig ⟨S16x2048, .i32⟩) (broadcastInDim S16x2048 ![] bcast_S_S16x2048)
  :: StableHlo.TRef.ternary (.of main_v118 : StableHlo.TRef sig ⟨S16x2048, .i1⟩) (.of main_v112 : StableHlo.TRef sig ⟨S16x2048, .i32⟩) (.of main_call3_v1 : StableHlo.TRef sig ⟨S16x2048, .i32⟩) (.of main_v119 : StableHlo.TRef sig ⟨S16x2048, .i32⟩) select
  :: [] )

set_option maxHeartbeats 40000000 in  -- a long stretch
theorem postB_sub : (postB : List (HloOp τ sig (Elt F))).Forall fun op => op.bufs ⊆ StableHlo.tcRefs τ sig :=
  ⟨StableHlo.unary_bufs_sub .., StableHlo.unary_bufs_sub .., StableHlo.ternary_bufs_sub ..⟩

set_option maxHeartbeats 40000000 in  -- a long stretch
theorem postB_fresh : (postB : List (HloOp τ sig (Elt F))).Forall fun op => op.fresh = ∅ :=
  StableHlo.forall_fresh_of_map rfl

abbrev postB_W : List (Ref sig .tc) := [main_call3_v0, main_call3_v1, main_v119]

set_option maxHeartbeats 40000000 in  -- a long stretch
theorem postB_writes : (postB : List (HloOp τ sig (Elt F))).Forall fun op => op.writes ⊆ (postB_W.map (Proc.devRef (τ := τ) .tc)).toFinset :=
  StableHlo.forall_writes_sub_of_map rfl

set_option maxHeartbeats 40000000 in  -- a long stretch
/-- The coverage added up by Gaussian. -/
abbrev postC : List (HloOp τ sig (Elt F)) :=
  ( StableHlo.nullary main_c_15 (constantI S_ 32 0#32)
  :: StableHlo.unary main_c_15 main_v120 (broadcastInDim S2048 ![] bcast_S_S2048 : (⟨S_, .i32⟩ : BufTy).Contents (Elt F) → (⟨S2048, .i32⟩ : BufTy).Contents (Elt F))
  :: StableHlo.reshape main_v119 main_v121 (rfl : (.i32 : EltTy) = .i32) shapeCasts_S16x2048_S32768
  :: StableHlo.reshape main_v109_2 main_v122 (rfl : (.i32 : EltTy) = .i32) shapeCasts_S16x2048x1_S32768
  :: StableHlo.nullary main_c_16 (constantI S_ 32 0#32)
  :: StableHlo.unary main_c_16 main_v123 (broadcastInDim S32768 ![] bcast_S_S32768 : (⟨S_, .i32⟩ : BufTy).Contents (Elt F) → (⟨S32768, .i32⟩ : BufTy).Contents (Elt F))
  :: StableHlo.binary main_v121 main_v123 main_v124 (cmpi .slt : (⟨S32768, .i32⟩ : BufTy).Contents (Elt F) → (⟨S32768, .i32⟩ : BufTy).Contents (Elt F) → (⟨S32768, .i1⟩ : BufTy).Contents (Elt F))
  :: StableHlo.nullary main_c_17 (constantI S_ 32 2048#32)
  :: StableHlo.unary main_c_17 main_v125 (broadcastInDim S32768 ![] bcast_S_S32768 : (⟨S_, .i32⟩ : BufTy).Contents (Elt F) → (⟨S32768, .i32⟩ : BufTy).Contents (Elt F))
  :: StableHlo.binary main_v121 main_v125 main_v126 (addi : (⟨S32768, .i32⟩ : BufTy).Contents (Elt F) → (⟨S32768, .i32⟩ : BufTy).Contents (Elt F) → (⟨S32768, .i32⟩ : BufTy).Contents (Elt F))
  :: StableHlo.ternary main_v124 main_v126 main_v121 main_v127 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v127 main_v128 (broadcastInDim S32768x1 ![0] bcast_S32768_S32768x1_0 : (⟨S32768, .i32⟩ : BufTy).Contents (Elt F) → (⟨S32768x1, .i32⟩ : BufTy).Contents (Elt F))
  :: StableHlo.ternary main_v120 main_v128 main_v122 main_v129 ((fun x i u => Host.scatter scatter_S2048_S32768x1_S32768_n_0_0_1 IntOp.addi x i u) : (⟨S2048, .i32⟩ : BufTy).Contents (Elt F) → (⟨S32768x1, .i32⟩ : BufTy).Contents (Elt F) → (⟨S32768, .i32⟩ : BufTy).Contents (Elt F) → (⟨S2048, .i32⟩ : BufTy).Contents (Elt F))
  :: StableHlo.reshape main_v109_1 main_v130 (rfl : (.i32 : EltTy) = .i32) shapeCasts_S2048x1_S2048
  :: [] )

set_option maxHeartbeats 40000000 in  -- a long stretch
theorem postC_sub : (postC : List (HloOp τ sig (Elt F))).Forall fun op => op.bufs ⊆ StableHlo.tcRefs τ sig :=
  ⟨StableHlo.nullary_bufs_sub .., StableHlo.unary_bufs_sub .., StableHlo.reshape_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.reshape_bufs_sub ..⟩

set_option maxHeartbeats 40000000 in  -- a long stretch
theorem postC_fresh : (postC : List (HloOp τ sig (Elt F))).Forall fun op => op.fresh = ∅ :=
  StableHlo.forall_fresh_of_map rfl

abbrev postC_W : List (Ref sig .tc) := [main_c_15, main_v120, main_v121, main_v122, main_c_16, main_v123, main_v124, main_c_17, main_v125, main_v126, main_v127, main_v128, main_v129, main_v130]

set_option maxHeartbeats 40000000 in  -- a long stretch
theorem postC_writes : (postC : List (HloOp τ sig (Elt F))).Forall fun op => op.writes ⊆ (postC_W.map (Proc.devRef (τ := τ) .tc)).toFinset :=
  StableHlo.forall_writes_sub_of_map rfl

set_option maxHeartbeats 40000000 in  -- a long stretch
theorem part0_chain (d : Dev nD) : main_part0 (F := F) d = (Pipeline.chainK
  [ StableHlo.seq preA ]
  (StableHlo.seq preB) : Prog (TpuEff nD τ sig (Elt F) (SparseCore.Sig (Pipeline.Sig Λ₀ (Fin 1) fun p => (pcfgs (F := F) p).Adm) 1) .tc) PUnit) := by
  rewrite [StableHlo.chainK_seq_cons]
  chain_rfl

set_option maxHeartbeats 40000000 in  -- a long stretch
theorem part1_chain (d : Dev nD) : main_part1 (F := F) d = (Pipeline.chainK
  [ StableHlo.seq preC,
    StableHlo.seq preD,
    StableHlo.seq preE,
    StableHlo.seq preF,
    StableHlo.seq preG,
    sc.run d 0 ]
  (StableHlo.seq midA) : Prog (TpuEff nD τ sig (Elt F) (SparseCore.Sig (Pipeline.Sig Λ₀ (Fin 1) fun p => (pcfgs (F := F) p).Adm) 1) .tc) PUnit) := by
  rewrite [StableHlo.chainK_seq_cons, StableHlo.chainK_seq_cons, StableHlo.chainK_seq_cons, StableHlo.chainK_seq_cons, StableHlo.chainK_seq_cons, Pipeline.chainK_cons]
  chain_rfl

set_option maxHeartbeats 40000000 in  -- a long stretch
theorem part2_chain (d : Dev nD) : main_part2 (F := F) d = (Pipeline.chain
  [ StableHlo.seq midB,
    Prog.lift (.customCall (SparseCore.inner (Pipeline.entry 0)) ()),
    StableHlo.seq postA,
    StableHlo.seq postB,
    StableHlo.seq postC ] : Prog (TpuEff nD τ sig (Elt F) (SparseCore.Sig (Pipeline.Sig Λ₀ (Fin 1) fun p => (pcfgs (F := F) p).Adm) 1) .tc) PUnit) := by
  rewrite [StableHlo.chain_seq_cons, Pipeline.chain_cons, StableHlo.chain_seq_cons, StableHlo.chain_seq_cons]
  chain_rfl

/-- `@main` is the chain of its stretches and calls. -/
theorem main_chain (d : Dev nD) : main (F := F) d = (Pipeline.chain
  [ StableHlo.seq preA,
    StableHlo.seq preB,
    StableHlo.seq preC,
    StableHlo.seq preD,
    StableHlo.seq preE,
    StableHlo.seq preF,
    StableHlo.seq preG,
    sc.run d 0,
    StableHlo.seq midA,
    StableHlo.seq midB,
    Prog.lift (.customCall (SparseCore.inner (Pipeline.entry 0)) ()),
    StableHlo.seq postA,
    StableHlo.seq postB,
    StableHlo.seq postC ] : Prog (TpuEff nD τ sig (Elt F) (SparseCore.Sig (Pipeline.Sig Λ₀ (Fin 1) fun p => (pcfgs (F := F) p).Adm) 1) .tc) PUnit) := by
  show (main_part0 (F := F) d >>= fun _ => main_part1 (F := F) d >>= fun _ => main_part2 (F := F) d) = _
  rewrite [part2_chain, part1_chain, Pipeline.chainK_bind_chain, part0_chain, Pipeline.chainK_bind_chain]
  chain_rfl

end Cert.Proof.Host

end
-- ==== Proof.Run.lean ====
/-
  The whole program's run: host operations, the binning call, host operations, the rasterizer's call, host operations; from any memory
  to a memory that holds the last valuation of the TensorCore's buffers.
-/
module

public import proofs.«01_k».proof.Proof.Call
public import proofs.«01_k».proof.Proof.Region
public import proofs.«01_k».proof.Proof.Host
public import Idealize.ShloMosaic.Lib.SparseCore.Quiescent
public import Idealize.ShloMosaic.Lib.PointwiseCore

@[expose] public section

set_option maxRecDepth 16384

noncomputable section

namespace Cert.Proof.Run

open Cert.KernelIdeal Cert.KernelIdeal.Gen Cert.Proof.Bin Cert.Proof.Host
open Cert.Proof.Tc (word withResults Rastered rdats adm region rastered)
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The contents of the buffers, stage by stage -/

/-- After the operations before the binning call. -/
def before (V : Valuation τ sig (Elt F)) : Valuation τ sig (Elt F) :=
  StableHlo.after preG (StableHlo.after preF (StableHlo.after preE (StableHlo.after preD
    (StableHlo.after preC (StableHlo.after preB (StableHlo.after preA V))))))

/-- The binning call's results in place. -/
def withBins (V : Valuation τ sig (Elt F)) (fg : S16x16384.Idx → F .f32) (fc : S16x8192.Idx → F .f32) (fn : S16x16.Idx → BitVec 32) :
    Valuation τ sig (Elt F) :=
  Function.update (Function.update (Function.update V (Proc.devRef .tc main_v100_0) fg) (Proc.devRef .tc main_v100_1) fc) (Proc.devRef .tc main_v100_2) fn

/-- Between the two calls. -/
def between (V : Valuation τ sig (Elt F)) : Valuation τ sig (Elt F) := StableHlo.after midB (StableHlo.after midA V)

/-- After the rasterizer's call. -/
def behind (V : Valuation τ sig (Elt F)) : Valuation τ sig (Elt F) := StableHlo.after postC (StableHlo.after postB (StableHlo.after postA V))

theorem withBins_ne (V : Valuation τ sig (Elt F)) (fg : S16x16384.Idx → F .f32) (fc : S16x8192.Idx → F .f32) (fn : S16x16.Idx → BitVec 32)
    (b : DevRef τ sig) (h0 : b ≠ Proc.devRef .tc main_v100_0) (h1 : b ≠ Proc.devRef .tc main_v100_1) (h2 : b ≠ Proc.devRef .tc main_v100_2) :
    withBins V fg fc fn b = V b := by
  unfold withBins
  rw [Function.update_of_ne h2, Function.update_of_ne h1, Function.update_of_ne h0]
theorem withBins_0 (V : Valuation τ sig (Elt F)) (fg : S16x16384.Idx → F .f32) (fc : S16x8192.Idx → F .f32) (fn : S16x16.Idx → BitVec 32) :
    withBins V fg fc fn (Proc.devRef .tc main_v100_0) = fg := by
  unfold withBins
  rw [Function.update_of_ne (by decide), Function.update_of_ne (by decide), Function.update_self]
theorem withBins_1 (V : Valuation τ sig (Elt F)) (fg : S16x16384.Idx → F .f32) (fc : S16x8192.Idx → F .f32) (fn : S16x16.Idx → BitVec 32) :
    withBins V fg fc fn (Proc.devRef .tc main_v100_1) = fc := by
  unfold withBins
  rw [Function.update_of_ne (by decide), Function.update_self]
theorem withBins_2 (V : Valuation τ sig (Elt F)) (fg : S16x16384.Idx → F .f32) (fc : S16x8192.Idx → F .f32) (fn : S16x16.Idx → BitVec 32) :
    withBins V fg fc fn (Proc.devRef .tc main_v100_2) = fn := by
  unfold withBins
  rw [Function.update_self]

/-- The rasterizer's table when the channels are `ch`: how many Gaussians each band keeps. -/
def tableOf (ch : S32768.Idx → F .f32) : S16.Idx → BitVec 32 := fun b => BitVec.ofNat 32 (rank (bandW (b 0)) ch 2048)

theorem tableOf_le (ch : S32768.Idx → F .f32) (b : S16.Idx) : (tableOf ch b).toNat ≤ 2048 := by
  unfold tableOf
  have := rank_le (bandW (b 0)) ch 2048
  rw [BitVec.toNat_ofNat, Nat.mod_eq_of_lt (by omega)]
  exact this

theorem word_le (ch : S32768.Idx → F .f32) (i : grid1.Coords) : (word (F := F) i (tableOf ch)).toNat ≤ 2048 := tableOf_le ch _

set_option maxHeartbeats 4000000 in
/-- The table that the operations between the calls lay out of the bands' counts. -/
theorem between_table (V : Valuation τ sig (Elt F)) (ch : S32768.Idx → F .f32) (fg : S16x16384.Idx → F .f32) (fc : S16x8192.Idx → F .f32)
    (fn : S16x16.Idx → BitVec 32) (h : ∀ b, takeN fn b (lane 0) = BitVec.ofNat 32 (rank (bandW b) ch 2048)) :
    between (withBins V fg fc fn) (Proc.devRef .tc main_v104) = tableOf ch := by
  unfold between
  after_reads_simp
  rw [withBins_2]
  refine funext fun (b : S16.Idx) => Eq.trans ?_ (h (b 0))
  show shapeCast S16 (extractStridedSlice S16x1 ![0, 0] fn slices_S16x16_S16x1_0_0) shapeCasts_S16x1_S16 b = takeN fn (b 0) (lane 0)
  refine Eq.trans (?_ : _ = fn (ix2 (b 0) 0)) (congrArg fn ?_)
  · pointwise
  · funext a; match a with | 0 => rfl | 1 => rfl

/-! ## The binning call on the valuation -/

/-- The buffers the call works on. -/
def binRefs : Finset (DevRef τ sig) :=
  {Proc.devRef .tc main_v99, Proc.devRef .tc main_v98, Proc.devRef .tc main_v100_0, Proc.devRef .tc main_v100_1, Proc.devRef .tc main_v100_2}

theorem binRefs_sub : binRefs ⊆ Pipeline.ucRefs τ sig := by decide

theorem held_bins (d : Dev nD) (V : Valuation τ sig (Elt F)) :
    (StableHlo.held d.tc binRefs V : sProp 𝕄)
      = iprop((chLoc d ↦{fullShare} V (Proc.devRef .tc main_v99)) ∗ (czLoc d ↦{fullShare} V (Proc.devRef .tc main_v98))
        ∗ (geoLoc d ↦{fullShare} V (Proc.devRef .tc main_v100_0)) ∗ (colLoc d ↦{fullShare} V (Proc.devRef .tc main_v100_1))
        ∗ (cntLoc d ↦{fullShare} V (Proc.devRef .tc main_v100_2))) := by
  unfold StableHlo.held binRefs
  rw [SparseCore.bigSep_insert' (by decide), SparseCore.bigSep_insert' (by decide), SparseCore.bigSep_insert' (by decide),
    SparseCore.bigSep_insert' (by decide), bigSep_singleton]

/-- The binning call's operands are the valuation's. -/
theorem held_in (d : Dev nD) (V : Valuation τ sig (Elt F)) (X : Dev nD → S32768.Idx → F .f32) (Z : Dev nD → S8192.Idx → F .f32)
    (hX : V (Proc.devRef .tc main_v99) = X d) (hZ : V (Proc.devRef .tc main_v98) = Z d) :
    (StableHlo.held d.tc (Pipeline.ucRefs τ sig) V : sProp 𝕄)
      ⊢ iprop((bigSep Finset.univ fun c : Fin ((K (F := F)).nCore 0) => (P X Z).st 0 d c)
        ∗ StableHlo.held d.tc (Pipeline.ucRefs τ sig \ binRefs) V) := by
  rw [StableHlo.held_sub_split d.tc binRefs_sub, held_bins, hX, hZ]
  iintro ⟨H, Hr⟩
  isplitl [H]
  · iapply (st_intro X Z d _ _ _); iexact H
  iexact Hr

/-- The call's results are the valuation's. -/
theorem held_out (d : Dev nD) (V : Valuation τ sig (Elt F)) (X : Dev nD → S32768.Idx → F .f32) (Z : Dev nD → S8192.Idx → F .f32)
    (hX : V (Proc.devRef .tc main_v99) = X d) (hZ : V (Proc.devRef .tc main_v98) = Z d) :
    iprop((bigSep Finset.univ fun c : Fin ((K (F := F)).nCore 0) => (P X Z).dn 0 d c)
        ∗ StableHlo.held d.tc (Pipeline.ucRefs τ sig \ binRefs) V)
      ⊢ (iprop(∃ (fg : S16x16384.Idx → F .f32) (fc : S16x8192.Idx → F .f32) (fn : S16x16.Idx → BitVec 32),
          ⌜∀ b, BandOK (X d) b (takeG fg b) (takeC fc b) (takeN fn b)⌝ ∗ StableHlo.held d.tc (Pipeline.ucRefs τ sig) (withBins V fg fc fn)) : sProp 𝕄) := by
  iintro ⟨H, Hr⟩
  ihave H := (dn_elim X Z d) $$ H
  unfold binned
  icases H with ⟨Hx, Hz, %fg, %fc, %fn, %hb, Hg, Hc, Hn⟩
  iexists fg, fc, fn
  isplitr; · ipureintro; exact hb
  rw [StableHlo.held_sub_split d.tc binRefs_sub, held_bins, withBins_0, withBins_1, withBins_2,
    withBins_ne V fg fc fn _ (by decide) (by decide) (by decide), withBins_ne V fg fc fn _ (by decide) (by decide) (by decide), hX, hZ,
    StableHlo.held_congr d.tc (V := withBins V fg fc fn) (V' := V) fun b hb => withBins_ne V fg fc fn b
      (fun e => (Finset.mem_sdiff.mp hb).2 (e ▸ by decide)) (fun e => (Finset.mem_sdiff.mp hb).2 (e ▸ by decide))
      (fun e => (Finset.mem_sdiff.mp hb).2 (e ▸ by decide))]
  isplitr [Hr]
  · isplitl [Hx]; · iexact Hx
    isplitl [Hz]; · iexact Hz
    isplitl [Hg]; · iexact Hg
    isplitl [Hc]; · iexact Hc
    iexact Hn
  iexact Hr

/-! ## The launch -/

section Launch

variable (m : (ℓ : Loc nD τ sig) → Buf (Elt F) ℓ) (ρ : Dev nD → PrngReg)

/-- The buffers as the program finds them. -/
def V0 (d : Dev nD) : Valuation τ sig (Elt F) := fun b => m (d, b)

/-- The channels and the zeroes the binning call is given. -/
def Xc (d : Dev nD) : S32768.Idx → F .f32 := before (V0 m d) (Proc.devRef .tc main_v99)
def Zc (d : Dev nD) : S8192.Idx → F .f32 := before (V0 m d) (Proc.devRef .tc main_v98)

/-- The rasterizer's table. -/
def tb : S16.Idx → BitVec 32 := tableOf (Xc m 0)
theorem hn (i : grid1.Coords) : (word (F := F) i (tb m)).toNat ≤ 2048 := word_le _ i

/-- The last contents of the buffers. -/
def Ends (d : Dev nD) (V : Valuation τ sig (Elt F)) : Prop :=
  ∃ (fg : S16x16384.Idx → F .f32) (fc : S16x8192.Idx → F .f32) (fn : S16x16.Idx → BitVec 32)
    (g6 : S3x128x128.Idx → F .f32) (g7 : S2048x1.Idx → BitVec 32) (g8 : S16x2048x1.Idx → BitVec 32),
    (∀ b, BandOK (Xc m d) b (takeG fg b) (takeC fc b) (takeN fn b))
    ∧ Rastered (tb m) (hn m) (between (withBins (before (V0 m d)) fg fc fn)) d g6 g7 g8
    ∧ V = behind (withResults (between (withBins (before (V0 m d)) fg fc fn)) g6 g7 g8)

/-- Where the pipeline's cells' ghost state lives. -/
abbrev EP : Emb UP 𝕄 := (Emb.inl : Emb UP (UP × Counters)).trans embR

/-- The one pipeline at its table. -/
abbrev pinned := Pipeline.pin (pcfgs (F := F)) (adm (tb m))

def u₀ : UU := (initOf (K (F := F)).hsCells (K (F := F)).hsToks,
  (initOf (Pipeline.cells (pinned m) (cellOf_inj (adm (tb m)))) (Pipeline.launchToks (pinned m) (cellOf_inj (adm (tb m)))), 1))

/-- What a device's @main is handed of the pipeline's cells. -/
abbrev G (d : Dev nD) : sProp 𝕄 :=
  iprop((bigSep Finset.univ fun p => Pipeline.cellsGhost (pinned m) (EP (F := F)) p d) ∗ bigSep Finset.univ fun p => Pipeline.toksInit (pinned m) (EP (F := F)) p d)

omit [FloatOps F] in
theorem nothing {I : Type} (s : Finset I) : (bigSep s fun _ => iprop(emp)) = (iprop(emp) : sProp 𝕄) := bigSep_emp_const s

theorem hu₀ : (ownU (u₀ m) : sProp 𝕄)
    ⊢ |={Set.univ}=> iprop(BI.own (EH (initOf (K (F := F)).hsCells (K (F := F)).hsToks)) ∗ (bigSep Finset.univ (G m))
        ∗ bigSep Finset.univ fun thr : Thread nD τ => bigSep Finset.univ fun q : Fin 1 => (P (Xc m) (Zc m)).x q thr) := by
  unfold u₀
  iintro Hu
  ihave H := (ownU_pair (initOf (K (F := F)).hsCells (K (F := F)).hsToks) _) $$ Hu
  icases H with ⟨HH, HR⟩
  ihave HR := (own_pair_emb embR _ (1 : Counters)) $$ HR
  icases HR with ⟨HP, -⟩
  imod (Pipeline.fund_ghost (pinned m) (EP (F := F)) (cellOf_inj (adm (tb m)))) $$ HP with HG
  imodintro
  isplitl [HH]; · iexact HH
  isplitl [HG]
  · rw [bigSep_sep']; iexact HG
  rw [show (bigSep Finset.univ fun thr : Thread nD τ => bigSep Finset.univ fun q : Fin 1 => (P (Xc m) (Zc m)).x q thr)
      = (bigSep Finset.univ fun _ : Thread nD τ => iprop(emp) : sProp 𝕄) from
    bigSep_congr fun _ _ => bigSep_univ_of_subsingleton (0 : Fin 1), nothing]
  iempintro

/-! ## @main -/

set_option maxHeartbeats 2000000 in
set_option backward.isDefEq.respectTransparency.types false in
/-- A stretch of host operations at the head of a chain. -/
theorem stretch (d : Dev nD) (ops : List (HloOp τ sig (Elt F)))
    (hsub : ops.Forall fun op => op.bufs ⊆ StableHlo.tcRefs τ sig) (hfresh : ops.Forall fun op => op.fresh = ∅)
    (V : Valuation τ sig (Elt F)) (rest : List (Prog (TpuEff nD τ sig (Elt F) (SparseCore.Sig (ΛP (F := F)) 1) .tc) PUnit)) {Φ : PUnit → sProp 𝕄} :
    iprop(boundary (SparseCore.T d) ∗ StableHlo.held d.tc (Pipeline.ucRefs τ sig) V)
      ⊢ iprop(((boundary (SparseCore.T d) ∗ StableHlo.held d.tc (Pipeline.ucRefs τ sig) (StableHlo.after ops V))
          -∗ wp frame (wpE ((K (F := F)).defs (D (F := F))) 𝒱 (SparseCore.T d) none) Set.univ (Pipeline.chain rest) Φ)
        -∗ wp frame (wpE ((K (F := F)).defs (D (F := F))) 𝒱 (SparseCore.T d) none) Set.univ (Pipeline.chain (StableHlo.seq ops :: rest)) Φ) := by
  rw [Pipeline.chain_cons]
  exact StableHlo.wp_seq (Ix := HIx 1) (Name := ℕ) (U := UU) (Lvl := ℕ) (defs := (K (F := F)).defs (D (F := F))) 𝒱 none Set.univ d _ (fun _ => Pipeline.chain rest) ops (fun op h => Pipeline.sub_ucRefs op (List.forall_iff_forall_mem.mp hsub op h))
    (fun op h => List.forall_iff_forall_mem.mp hfresh op h) V

theorem before_eq (d : Dev nD) (V : Valuation τ sig (Elt F)) :
    (StableHlo.held d.tc (Pipeline.ucRefs τ sig) (StableHlo.after preG (StableHlo.after preF (StableHlo.after preE (StableHlo.after preD
      (StableHlo.after preC (StableHlo.after preB (StableHlo.after preA V))))))) : sProp 𝕄) = StableHlo.held d.tc (Pipeline.ucRefs τ sig) (before V) := rfl
theorem between_eq (d : Dev nD) (V : Valuation τ sig (Elt F)) :
    (StableHlo.held d.tc (Pipeline.ucRefs τ sig) (StableHlo.after midB (StableHlo.after midA V)) : sProp 𝕄)
      = StableHlo.held d.tc (Pipeline.ucRefs τ sig) (between V) := rfl
theorem behind_eq (d : Dev nD) (V : Valuation τ sig (Elt F)) :
    (StableHlo.held d.tc (Pipeline.ucRefs τ sig) (StableHlo.after postC (StableHlo.after postB (StableHlo.after postA V))) : sProp 𝕄)
      = StableHlo.held d.tc (Pipeline.ucRefs τ sig) (behind V) := rfl

/-- What is known of the memory at the end. -/
abbrev FIN (d : Dev nD) : sProp 𝕄 := iprop(∃ V, ⌜Ends m d V⌝ ∗ StableHlo.held d.tc (Pipeline.ucRefs τ sig) V)

theorem wBelow (d : Dev nD) (W : Waits sig (HIx 1)) : (K (F := F)).WBelow (SparseCore.T d) W (8 * 1) := by
  intro p _
  rcases p with ⟨g, _ | q⟩
  · exact Nat.zero_le _
  · obtain rfl := Subsingleton.elim q 0
    exact (by decide : 8 * 0 + 6 + 1 ≤ 8)

/-- What the TensorCore holds of the handshakes once the one call is past, but for what it owes. -/
def past (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem past_open (d : Dev nD) :
    (K (F := F)).tcSt EH d 1 ⊢ (iprop((∃ W, owes (SparseCore.T d) (0 : CellTallies nD τ sig (HIx 1)) W) ∗ past d) : sProp 𝕄) := by
  unfold SparseCore.Cfg.tcSt past
  rw [(K (F := F)).Otc_end d (le_refl 1)]
  iintro ⟨⟨%W, -, HO⟩, H⟩
  isplitl [HO]; · iexists W; iexact HO
  iexact H

theorem past_close (d : Dev nD) :
    iprop((∃ W, owes (SparseCore.T d) (0 : CellTallies nD τ sig (HIx 1)) W) ∗ past d) ⊢ ((K (F := F)).tcSt EH d 1 : sProp 𝕄) := by
  unfold SparseCore.Cfg.tcSt past
  rw [(K (F := F)).Otc_end d (le_refl 1)]
  iintro ⟨⟨%W, HO⟩, H⟩
  isplitl [HO]
  · iexists W
    isplitr; · ipureintro; exact wBelow d W
    iexact HO
  iexact H

theorem pre_eq [∀ e, Nonempty (Elt F e)] (d : Dev nD) (W : Valuation τ sig (Elt F)) (htb : W (Proc.devRef .tc main_v104) = tb m) :
    (region (tb m) (hn m) W (K (F := F)).L (K (F := F)).lev htb).pre d
      = (iprop(StableHlo.held d.tc (Pipeline.ucRefs τ sig) W ∗ ∃ Wd, owes (SparseCore.T d) (0 : CellTallies nD τ sig (HIx 1)) Wd) : sProp 𝕄) := rfl
theorem post_eq [∀ e, Nonempty (Elt F e)] (d : Dev nD) (W : Valuation τ sig (Elt F)) (htb : W (Proc.devRef .tc main_v104) = tb m) :
    (region (tb m) (hn m) W (K (F := F)).L (K (F := F)).lev htb).post d
      = (iprop(rastered (tb m) (hn m) W d ∗ ∃ Wd, owes (SparseCore.T d) (0 : CellTallies nD τ sig (HIx 1)) Wd) : sProp 𝕄) := rfl

set_option maxHeartbeats 4000000 in
set_option backward.isDefEq.respectTransparency.types false in
/-- The rasterizer's call, as the program runs it. -/
theorem call [∀ e, Nonempty (Elt F e)] (d : Dev nD) (W : Valuation τ sig (Elt F)) (htb : W (Proc.devRef .tc main_v104) = tb m) {Φ : PUnit → sProp 𝕄} :
    iprop(boundary (SparseCore.T d) ∗ StableHlo.held d.tc (Pipeline.ucRefs τ sig) W
        ∗ (∃ Wd, owes (SparseCore.T d) (0 : CellTallies nD τ sig (HIx 1)) Wd) ∗ levAts (K (F := F)).L (K (F := F)).lev ∗ G m d)
      ⊢ iprop((boundary (SparseCore.T d) ∗ rastered (tb m) (hn m) W d ∗ (∃ Wd, owes (SparseCore.T d) (0 : CellTallies nD τ sig (HIx 1)) Wd)
          -∗ Φ ⟨⟩)
        -∗ wp frame (wpE ((K (F := F)).defs (D (F := F))) 𝒱 (SparseCore.T d) none) Set.univ
          (Prog.lift (.customCall (SparseCore.inner (Pipeline.entry 0)) ())) Φ) := by
  iintro ⟨Hb, Hh, HO, Hl, HC, HT⟩ Hk
  iapply ((K (F := F)).wp_liftProg (D (F := F)) 𝒱 (SparseCore.T d) Set.univ none
    (.op (.customCall (Pipeline.entry (0 : Fin 1)) ()) .ret) Φ)
  iapply (Pipeline.RDat.RegionSeg.wp (pcfgs (F := F)) (adm (tb m)) (rdats (tb m) (hn m) W) (none : HIx 1) (cellOf_inj (adm (tb m))) (EP (F := F)) (defs₀ (F := F)) 𝒱₀
    (K (F := F)).L (K (F := F)).lev (region (tb m) (hn m) W (K (F := F)).L (K (F := F)).lev htb) d none (fun _ h => nomatch h) .ret Φ)
  isplitl [Hk]
  · iintro ⟨Hb, HR⟩
    ihave HR := (Entails.of_eq (post_eq m d W htb)) $$ HR
    icases HR with ⟨Hr, HO⟩
    rw [wp_ret]
    imodintro
    iapply Hk
    isplitl [Hb]; · iexact Hb
    isplitl [Hr]; · iexact Hr
    iexact HO
  isplitl [Hb]; · iexact Hb
  isplitl [Hh HO]
  · iapply (Entails.of_eq (pre_eq m d W htb).symm)
    isplitl [Hh]; · iexact Hh
    iexact HO
  isplitl [Hl]; · iexact Hl
  isplitl [HC]
  · iapply (Entails.of_eq (bigSep_univ_of_subsingleton (0 : Fin 1))) $$ HC
  iapply (Entails.of_eq (bigSep_univ_of_subsingleton (0 : Fin 1))) $$ HT

set_option maxHeartbeats 4000000 in
set_option backward.isDefEq.respectTransparency.types false in
theorem hmain [∀ e, Nonempty (Elt F e)] (κ : GSem nD τ sig → ℕ) (d : Dev nD) :
    iprop((K (F := F)).ctx EH (P (Xc m) (Zc m)) κ ∗ (K (F := F)).tcSt EH d 0 ∗ (K (F := F)).tcRes m ρ d ∗ G m d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held d.tc (Pipeline.ucRefs τ sig) (V0 m d) from
    Pipeline.unscopedBufs_held d (V0 m d), main_chain]
  iintro ⟨#Hctx, Hst, ⟨Hb, Hh, Hts, -⟩, HG⟩
  ihave H : iprop(boundary (SparseCore.T d) ∗ StableHlo.held d.tc (Pipeline.ucRefs τ sig) (V0 m d)) $$ [Hb Hh]
  · isplitl [Hb] <;> iassumption
  iapply (stretch d preA preA_sub preA_fresh _ _) $$ H; iintro H
  iapply (stretch d preB preB_sub preB_fresh _ _) $$ H; iintro H
  iapply (stretch d preC preC_sub preC_fresh _ _) $$ H; iintro H
  iapply (stretch d preD preD_sub preD_fresh _ _) $$ H; iintro H
  iapply (stretch d preE preE_sub preE_fresh _ _) $$ H; iintro H
  iapply (stretch d preF preF_sub preF_fresh _ _) $$ H; iintro H
  iapply (stretch d preG preG_sub preG_fresh _ _) $$ H; iintro ⟨Hb, Hh⟩
  ihave Hh := (Entails.of_eq (before_eq d (V0 m d))) $$ Hh
  ihave ⟨Hst', Hr⟩ := (held_in d (before (V0 m d)) (Xc m) (Zc m) rfl rfl) $$ Hh
  rw [Pipeline.chain_cons, wp_bind]
  iapply ((K (F := F)).wp_run (D (F := F)) 𝒱 (EH := EH) (P := P (Xc m) (Zc m)) κ d 0)
  isplitr; · iexact Hctx
  isplitl [Hst]; · iexact Hst
  isplitl [Hst']; · iexact Hst'
  iintro ⟨Hst, Hdn⟩
  ihave H := (held_out d (before (V0 m d)) (Xc m) (Zc m) rfl rfl) $$ [Hdn Hr]
  · isplitl [Hdn] <;> iassumption
  icases H with ⟨%fg, %fc, %fn, %hbins, Hh⟩
  ihave H : iprop(boundary (SparseCore.T d) ∗ StableHlo.held d.tc (Pipeline.ucRefs τ sig) (withBins (before (V0 m d)) fg fc fn)) $$ [Hb Hh]
  · isplitl [Hb] <;> iassumption
  iapply (stretch d midA midA_sub midA_fresh _ _) $$ H; iintro H
  iapply (stretch d midB midB_sub midB_fresh _ _) $$ H; iintro ⟨Hb, Hh⟩
  have htb : between (withBins (before (V0 m d)) fg fc fn) (Proc.devRef .tc main_v104) = tb m := by
    obtain rfl := Subsingleton.elim d 0
    exact between_table _ _ _ _ _ fun b => (hbins b).cnt
  ihave Hh := (Entails.of_eq (between_eq d (withBins (before (V0 m d)) fg fc fn))) $$ Hh
  ihave Hst := (Entails.of_eq (show ((K (F := F)).tcSt EH d ((0 : Fin 1).val + 1) : sProp 𝕄) = (K (F := F)).tcSt EH d 1 from rfl)) $$ Hst
  ihave ⟨HO, Hpast⟩ := (past_open d) $$ Hst
  ihave Hl := (SparseCore.Cfg.ctx_levAts κ) $$ Hctx
  rw [Pipeline.chain_cons, wp_bind]
  iapply (call m d (between (withBins (before (V0 m d)) fg fc fn)) htb) $$ [Hb Hh HO Hl HG]
  · isplitl [Hb]; · iexact Hb
    isplitl [Hh]; · iexact Hh
    isplitl [HO]; · iexact HO
    isplitl [Hl]; · iexact Hl
    iexact HG
  iintro ⟨Hb, Hr, HO⟩
  ihave Hst := (past_close d) $$ [HO Hpast]
  · isplitl [HO] <;> iassumption
  unfold rastered
  icases Hr with ⟨%g6, %g7, %g8, %hR, Hh⟩
  ihave H : iprop(boundary (SparseCore.T d) ∗ StableHlo.held d.tc (Pipeline.ucRefs τ sig)
    (withResults (between (withBins (before (V0 m d)) fg fc fn)) g6 g7 g8)) $$ [Hb Hh]
  · isplitl [Hb] <;> iassumption
  iapply (stretch d postA postA_sub postA_fresh _ _) $$ H; iintro H
  iapply (stretch d postB postB_sub postB_fresh _ _) $$ H; iintro H
  iapply (stretch d postC postC_sub postC_fresh _ _) $$ H; iintro ⟨Hb, Hh⟩
  rw [Pipeline.chain_nil, wp_pure]
  imodintro
  isplitl [Hst]; · iexact Hst
  isplitl [Hh]
  · iexists (behind (withResults (between (withBins (before (V0 m d)) fg fc fn)) g6 g7 g8))
    isplitr
    · ipureintro; exact ⟨fg, fc, fn, g6, g7, g8, hbins, hR, rfl⟩
    iexact Hh
  isplitl [Hb] <;> iassumption

/-! ## The memory at the end -/

def fq (d : Dev nD) (s' : Phys nD τ sig (Elt F)) : Prop :=
  ∃ V, Ends m d V ∧ ∀ b ∈ Pipeline.ucRefs τ sig, s'.mem.mem (d, b) = V b

theorem held_mem (d : Dev nD) (V : Valuation τ sig (Elt F)) (s' : Phys nD τ sig (Elt F)) (b : DevRef τ sig) (hb : b ∈ Pipeline.ucRefs τ sig) :
    iprop(StableHlo.held d.tc (Pipeline.ucRefs τ sig) V ∗ SI s') ⊢ (⌜s'.mem.mem (d, b) = V b⌝ : sProp 𝕄) := by
  rw [StableHlo.held_sub_split d.tc (Finset.singleton_subset_iff.mpr hb), show (StableHlo.held d.tc {b} V : sProp 𝕄) = ((d, b) ↦{fullShare} V b) from bigSep_singleton]
  iintro ⟨⟨H, -⟩, HSI⟩
  ihave H := (SI_pointsTo_agree (st := s') (ℓ := (d, b)) (I := Finset.univ) (q := fullShare) (f := V b)) $$ [HSI H]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  iintro ⟨⟨%V, %hV, H⟩, HSI⟩
  have hall : iprop(StableHlo.held d.tc (Pipeline.ucRefs τ sig) V ∗ SI s')
      ⊢ (⌜∀ b, b ∈ Pipeline.ucRefs τ sig → s'.mem.mem (d, b) = V b⌝ : sProp 𝕄) :=
    (forall_intro fun b => (forall_intro fun hb => held_mem d V s' b hb).trans pure_forall.2).trans pure_forall.2
  ihave H := hall $$ [H HSI]
  · isplitl [H] <;> iassumption
  icases H with %h
  ipureintro; exact ⟨V, hV, h⟩

/-- The memory after the run: the last valuation, every semaphore counter zero. -/
def Done : PUnit × MemSt nD τ sig (Elt F) → Prop := fun r =>
  (∀ d : Dev nD, ∃ V, Ends m d V ∧ ∀ b ∈ Pipeline.ucRefs τ sig, r.2.mem (d, b) = V b) ∧ r.2.sem = fun _ => 0

theorem run_main [∀ e, Nonempty (Elt F e)] :
    θ_run (Cert.KernelIdeal.defs (F := F)) (Cert.KernelIdeal.threads (F := F)) ⟨m, fun _ => 0, ρ⟩ (Done m) :=
  SparseCore.Cfg.θ_run_sc_quiescent (K := K (F := F)) (D := D (F := F)) (𝒱 := 𝒱) (EH := EH) (P := P (Xc m) (Zc m)) (A := ∅) facts v₀
    (fun q hq => match q with | 0 => nomatch hq)
    (fun q _ => match q with | 0 => tileObl (Xc m) (Zc m) facts)
    (fun q _ => match q with | 0 => SparseCore.Cfg.VecSplit.of_plain (vecSplit (Xc m) (Zc m)))
    m ρ main (G m) (FIN m) (u₀ m) (sep_elim_left.trans (hu₀ m)) (hmain m ρ) (fq m) (hfin m) (Done m) (fun _ h hz => ⟨h, hz⟩)

end Launch

end Cert.Proof.Run
end
-- ==== Proof.Frames.lean ====
/-
  The arguments are never written: the frames of the kernel, of its ideal reading and of the reference.
-/
module

public import proofs.«01_k».proof.Defs
public import proofs.«01_k».proof.Proof.Run
public import proofs.«01_k».proof.Proof.Gen.Kernel
public import proofs.«01_k».proof.Proof.Gen.ReferenceIdeal.Run
public import Idealize.ShloMosaic.Adequacy
public import Idealize.ShloMosaic.Init

@[expose] public section

set_option maxRecDepth 16384

noncomputable section

namespace Cert.Proof.Frames

open Idealize.ShloMosaic Idealize.ShloMosaic.TcCoe
open Idealize.SL.Sem

section Kernel

open Cert.KernelIdeal Cert.KernelIdeal.Gen Cert.Proof.Host Cert.Proof.Run
open Cert.Proof.Tc (withResults withResults_ne)

variable {F : FTy → Type} [FloatOps F]

/-- What the operations before the binning call write, and those between and behind the calls. -/
abbrev before_W : List (Ref sig .tc) := preA_W ++ preB_W ++ preC_W ++ preD_W ++ preE_W ++ preF_W ++ preG_W

theorem before_keep (V : Valuation τ sig (Elt F)) (b : Ref sig .tc) (h : b ∉ before_W) : before V (Proc.devRef .tc b) = V (Proc.devRef .tc b) := by
  simp only [before_W, List.mem_append, not_or] at h
  obtain ⟨⟨⟨⟨⟨⟨hA, hB⟩, hC⟩, hD⟩, hE⟩, hF⟩, hG⟩ := h
  unfold before
  rw [StableHlo.after_of_writes_sub preG _ preG_writes hG, StableHlo.after_of_writes_sub preF _ preF_writes hF, StableHlo.after_of_writes_sub preE _ preE_writes hE,
    StableHlo.after_of_writes_sub preD _ preD_writes hD, StableHlo.after_of_writes_sub preC _ preC_writes hC, StableHlo.after_of_writes_sub preB _ preB_writes hB,
    StableHlo.after_of_writes_sub preA _ preA_writes hA]

theorem between_keep (V : Valuation τ sig (Elt F)) (b : Ref sig .tc) (h : b ∉ midA_W ++ midB_W) : between V (Proc.devRef .tc b) = V (Proc.devRef .tc b) := by
  simp only [List.mem_append, not_or] at h
  unfold between
  rw [StableHlo.after_of_writes_sub midB _ midB_writes h.2, StableHlo.after_of_writes_sub midA _ midA_writes h.1]

theorem behind_keep (V : Valuation τ sig (Elt F)) (b : Ref sig .tc) (h : b ∉ postA_W ++ postB_W ++ postC_W) : behind V (Proc.devRef .tc b) = V (Proc.devRef .tc b) := by
  simp only [List.mem_append, not_or] at h
  unfold behind
  rw [StableHlo.after_of_writes_sub postC _ postC_writes h.2, StableHlo.after_of_writes_sub postB _ postB_writes h.1.2, StableHlo.after_of_writes_sub postA _ postA_writes h.1.1]

/-- The two calls' results. -/
abbrev calls_W : List (Ref sig .tc) := [main_v100_0, main_v100_1, main_v100_2, main_v109_0, main_v109_1, main_v109_2]

variable (m : (ℓ : Loc nD τ sig) → Buf (Elt F) ℓ) (ρ : Dev nD → PrngReg)

/-- A buffer that nothing writes ends as it began. -/
theorem ends_keep (d : Dev nD) (V : Valuation τ sig (Elt F)) (hV : Ends m d V) (b : Ref sig .tc)
    (h : b ∉ before_W ++ (midA_W ++ midB_W) ++ (postA_W ++ postB_W ++ postC_W) ++ calls_W) :
    V (Proc.devRef .tc b) = m ((d.tc : Thread nD τ).loc b) := by
  obtain ⟨fg, fc, fn, g6, g7, g8, -, -, rfl⟩ := hV
  rw [List.mem_append, List.mem_append, List.mem_append, not_or, not_or, not_or] at h
  obtain ⟨⟨⟨h1, h2⟩, h3⟩, h4⟩ := h
  have hne : ∀ y ∈ calls_W, (Proc.devRef .tc b : DevRef τ sig) ≠ Proc.devRef .tc y := fun y hy e => h4 (Proc.devRef_injective _ e ▸ hy)
  rw [behind_keep _ b h3, withResults_ne _ _ _ _ _ (hne _ (by decide)) (hne _ (by decide)) (hne _ (by decide)), between_keep _ b h2,
    withBins_ne _ _ _ _ _ (hne _ (by decide)) (hne _ (by decide)) (hne _ (by decide)), before_keep _ b h1]
  rfl

/-- The kernel's arguments at the end. -/
theorem args (r : PUnit × MemSt nD τ sig (Elt F)) (h : Done m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) := by
  obtain ⟨V, hV, hm⟩ := h.1 c
  exact ⟨(hm (Proc.devRef .tc main_arg0) (by decide)).trans (ends_keep m c V hV main_arg0 (by decide)), (hm (Proc.devRef .tc main_arg1) (by decide)).trans (ends_keep m c V hV main_arg1 (by decide)),
    (hm (Proc.devRef .tc main_arg2) (by decide)).trans (ends_keep m c V hV main_arg2 (by decide)), (hm (Proc.devRef .tc main_arg3) (by decide)).trans (ends_keep m c V hV main_arg3 (by decide)),
    (hm (Proc.devRef .tc main_arg4) (by decide)).trans (ends_keep m c V hV main_arg4 (by decide)), (hm (Proc.devRef .tc main_arg5) (by decide)).trans (ends_keep m c V hV main_arg5 (by decide)),
    (hm (Proc.devRef .tc main_arg6) (by decide)).trans (ends_keep m c V hV main_arg6 (by decide))⟩

end Kernel

theorem frame_ideal : Cert.quiescent_KernelIdeal := fun m ρ _ =>
  (θ_run Cert.KernelIdeal.defs _ _).mono (fun r h => ⟨fun c => args m r h c, h.2⟩) (Cert.Proof.Run.run_main (F := Ideal) m ρ)

section Reference

open Cert.ReferenceIdeal Cert.ReferenceIdeal.Gen Cert.ReferenceIdeal.Value

variable {F : FTy → Type} [FloatOps F]

abbrev entry_W : List (Ref sig .tc) := hostOps0_W ++ hostOps0_1_W ++ hostOps0_2_W ++ hostOps0_3_W ++ hostOps0_4_W

/-- A buffer that the operations before the loop don't write. -/
theorem entry_keep (V : Valuation τ sig (Elt F)) (b : Ref sig .tc) (h : b ∉ entry_W) :
    StableHlo.afterL preI V (Proc.devRef .tc b) = V (Proc.devRef .tc b) := by
  simp only [entry_W, List.mem_append, not_or] at h
  obtain ⟨⟨⟨⟨h0, h1⟩, h2⟩, h3⟩, h4⟩ := h
  show StableHlo.after hostOps0_4 (StableHlo.after hostOps0_3 (StableHlo.after hostOps0_2 (StableHlo.after hostOps0_1 (StableHlo.after hostOps0 V)))) _ = _
  rw [StableHlo.after_of_writes_sub hostOps0_4 _ hostOps0_4_writes h4, StableHlo.after_of_writes_sub hostOps0_3 _ hostOps0_3_writes h3,
    StableHlo.after_of_writes_sub hostOps0_2 _ hostOps0_2_writes h2, StableHlo.after_of_writes_sub hostOps0_1 _ hostOps0_1_writes h1,
    StableHlo.after_of_writes_sub hostOps0 _ hostOps0_writes h0]

variable (m : (ℓ : Loc nD τ sig) → Buf (Elt F) ℓ)

/-- A buffer that the loop doesn't write. -/
theorem loop_keep (c : Dev nD) (b : Ref sig .tc) (h : b ∉ while0Ops0_W ++ condOps_W) (k : ℕ) :
    atK m k c (Proc.devRef .tc b) = atK m 0 c (Proc.devRef .tc b) := by
  simp only [List.mem_append, not_or] at h
  induction k with
  | zero => rfl
  | succ k ih =>
    rw [← ih]
    show StableHlo.after while0Ops0 (StableHlo.after condOps (atK m k c)) _ = _
    rw [StableHlo.after_of_writes_sub while0Ops0 _ while0Ops0_writes h.1, StableHlo.after_of_writes_sub condOps _ condOps_writes h.2]

/-- A buffer written only before the loop. -/
theorem final_entry (c : Dev nD) (b : Ref sig .tc) (h : b ∉ while0Ops0_W ++ condOps_W ++ hostOps0_5_W) :
    StableHlo.finalContents condOps preI bodyI postI 2048 m c (Proc.devRef .tc b) = StableHlo.entryContents preI m c (Proc.devRef .tc b) := by
  rw [List.mem_append, not_or] at h
  show StableHlo.after hostOps0_5 (StableHlo.after condOps (atK m 2048 c)) _ = _
  rw [StableHlo.after_of_writes_sub hostOps0_5 _ hostOps0_5_writes h.2, StableHlo.after_of_writes_sub condOps _ condOps_writes (fun hb => h.1 (List.mem_append_right _ hb)),
    loop_keep m c b h.1]
  rfl

theorem final_keep (c : Dev nD) (b : Ref sig .tc) (h : b ∉ while0Ops0_W ++ condOps_W ++ hostOps0_5_W) (h' : b ∉ entry_W) :
    StableHlo.finalContents condOps preI bodyI postI 2048 m c (Proc.devRef .tc b) = m ((c.tc : Thread nD τ).loc b) :=
  (final_entry m c b h).trans (entry_keep _ b h')

/-- The reference's arguments at the end. -/
theorem refArgs (r : PUnit × MemSt nD τ sig (Elt F)) (h : ∀ (c : Dev nD) (b : Ref sig .tc), (Proc.devRef .tc b : DevRef τ sig).isScoped = false →
      r.2.mem ((c.tc : Thread nD τ).loc b) = StableHlo.finalContents condOps preI bodyI postI 2048 m c (Proc.devRef .tc b)) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨(h c main_arg0 rfl).trans (final_keep m c main_arg0 (by decide) (by decide)), (h c main_arg1 rfl).trans (final_keep m c main_arg1 (by decide) (by decide)),
    (h c main_arg2 rfl).trans (final_keep m c main_arg2 (by decide) (by decide)), (h c main_arg3 rfl).trans (final_keep m c main_arg3 (by decide) (by decide)),
    (h c main_arg4 rfl).trans (final_keep m c main_arg4 (by decide) (by decide)), (h c main_arg5 rfl).trans (final_keep m c main_arg5 (by decide) (by decide)),
    (h c main_arg6 rfl).trans (final_keep m c main_arg6 (by decide) (by decide))⟩

theorem frame_reference : Cert.quiescent_ReferenceIdeal := fun m ρ _ =>
  (θ_run (defs (F := Ideal)) _ _).mono (fun r h => ⟨fun c => refArgs m r h c, funext fun s => by
    rcases s with ⟨_, s | s⟩ <;> exact absurd s.isLt (Nat.not_lt_zero _)⟩) (run_fold m ρ)

end Reference

end Cert.Proof.Frames
end
-- ==== Proof.FrameKernel.lean ====
/-
  The frame of the kernel as it is run: its program is, word for word, the one whose run `Run` states over any
  carrier of floats, here the 32-bit words.
-/
module

public import proofs.«01_k».proof.Proof.Frames

@[expose] public section

set_option maxRecDepth 16384

noncomputable section

namespace Cert.Proof.FrameKernel

open Idealize.ShloMosaic Idealize.ShloMosaic.TcCoe
open Idealize.SL.Sem
open Cert.KernelIdeal Cert.KernelIdeal.Gen

/-- The frame, of the one text at the float words. -/
def Framed : Prop :=
  ∀ (m : (ℓ : Loc nD τ sig) → Buf (Elt Bits) ℓ) (g : Dev nD → PrngReg), True →
    θ_run (Cert.KernelIdeal.defs (F := Bits)) (Cert.KernelIdeal.threads (F := Bits)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

theorem framed : Framed := fun m ρ _ =>
  (θ_run Cert.KernelIdeal.defs _ _).mono (fun r h => ⟨fun c => Frames.args m r h c, h.2⟩) (Cert.Proof.Run.run_main (F := Bits) m ρ)

/-- The two texts are one. -/
theorem same : Cert.quiescent_Kernel (hKernel := Cert.Kernel.Gen.facts) = Framed := by chain_rfl

theorem frame_kernel : Cert.quiescent_Kernel (hKernel := Cert.Kernel.Gen.facts) := same.mpr framed

end Cert.Proof.FrameKernel

end
-- ==== Proof.Order.lean ====
/-
  Columns and rows taken in the order of a sort: a gather by a permutation of the positions.
-/
module

public import Idealize.ShloMosaic.Lib.Pointwise
public import Idealize.ShloMosaic.Lib.SortFacts
public import Idealize.ShloMosaic.Lib.ValueIdxCore
public import Idealize.ShloMosaic.PureOps.Ideal

@[expose] public section

noncomputable section

namespace Cert.Proof.Order

open Idealize.ShloMosaic

/-- The position a sort of N keys puts at r. -/
def ordOf {N : ℕ} {α : Type} (cmp : α × BitVec 32 → α × BitVec 32 → BitVec 1) (x : (⟨1, ![N]⟩ : Shape).Idx → α) (r : Fin N) : Fin N :=
  sortedFrom (fun k k' => cmp (x (Shape.Idx.ofFin k), BitVec.ofNat 32 k.val) (x (Shape.Idx.ofFin k'), BitVec.ofNat 32 k'.val) == 1#1) r

theorem ordOf_injective {N : ℕ} {α : Type} (cmp : α × BitVec 32 → α × BitVec 32 → BitVec 1) (x : (⟨1, ![N]⟩ : Shape).Idx → α) :
    Function.Injective (ordOf cmp x) := sortedFrom_injective _

theorem ordOf_surjective {N : ℕ} {α : Type} (cmp : α × BitVec 32 → α × BitVec 32 → BitVec 1) (x : (⟨1, ![N]⟩ : Shape).Idx → α) :
    Function.Surjective (ordOf cmp x) := sortedFrom_surjective _

/-- The positions carried along by the sort. -/
theorem sort2_iota {N : ℕ} {α : Type} (cmp : α × BitVec 32 → α × BitVec 32 → BitVec 1) (x : (⟨1, ![N]⟩ : Shape).Idx → α) (r : Fin N) :
    (Host.sort2 ⟨1, ![N]⟩ 0 cmp x (iotaInDim ⟨1, ![N]⟩ 32 0)).2 (ix1 r) = BitVec.ofNat 32 (ordOf cmp x r).val := by
  unfold Host.sort2 ordOf
  rw [dif_pos (show 0 < (⟨1, ![N]⟩ : Shape).rank from Nat.one_pos)]
  have e : ∀ k : Fin N, (ix1 r : (⟨1, ![N]⟩ : Shape).Idx).along (⟨0, Nat.one_pos⟩ : Fin 1) k = Shape.Idx.ofFin k := fun k => Shape.Idx.along_rank1 _ k
  refine (congrArg (iotaInDim ⟨1, ![N]⟩ 32 0) (e _)).trans ?_
  refine congrArg (fun k : Fin N => BitVec.ofNat 32 k.val) (congrArg (fun f => sortedFrom f r) (funext fun k => funext fun k' => ?_))
  exact congrArg₂ (fun u v => cmp (x u, iotaInDim ⟨1, ![N]⟩ 32 0 u) (x v, iotaInDim ⟨1, ![N]⟩ 32 0 v) == 1#1) (e k) (e k')

theorem toInt_int {k : ℕ} (hk : k < 2048) : (BitVec.ofNat 32 k).toInt = (k : Int) := by
  rw [BitVec.toInt_eq_toNat_of_lt (by rw [BitVec.toNat_ofNat]; omega), BitVec.toNat_ofNat]; omega

/-- An index that is not negative is not moved. -/
theorem wrap_nat {k : ℕ} (hk : k < 2048) (n : BitVec 32) :
    (if IntOp.cmpi .slt (BitVec.ofNat 32 k) 0#32 = 1#1 then IntOp.addi (BitVec.ofNat 32 k) n else BitVec.ofNat 32 k) = BitVec.ofNat 32 k := by
  rw [if_neg]
  have h : (BitVec.ofNat 32 k).slt 0#32 = false := by
    unfold BitVec.slt
    rw [toInt_int hk]; simp
  show ¬ BitVec.ofBool ((BitVec.ofNat 32 k).slt 0#32) = 1#1
  rw [h]; decide

theorem toInt_nat {k : ℕ} (hk : k < 2048) : (BitVec.ofNat 32 k).toInt.toNat = k := by
  rw [toInt_int hk]; rfl

section Gather

variable {α : Type}

/-- The dimension numbers of a gather of columns. -/
abbrev colDims (A N M : ℕ) (wf : GatherDims.WF ⟨2, ![A, N]⟩ ⟨2, ![M, 1]⟩ ⟨2, ![A, M]⟩ [0] [1] [] [1] [] 1 ![A, 1]) :
    GatherDims ⟨2, ![A, N]⟩ ⟨2, ![M, 1]⟩ ⟨2, ![A, M]⟩ where
  offsetDims := [0]
  collapsedSliceDims := [1]
  operandBatchingDims := []
  startIndicesBatchingDims := []
  startIndexMap := [1]
  indexVectorDim := 1
  sliceSizes := ![A, 1]
  wf := wf

/-- Columns taken by a table of column numbers. -/
theorem gather_cols {A N M w : ℕ} (hN : 0 < N) (wf : GatherDims.WF ⟨2, ![A, N]⟩ ⟨2, ![M, 1]⟩ ⟨2, ![A, M]⟩ [0] [1] [] [1] [] 1 ![A, 1])
    (x : (⟨2, ![A, N]⟩ : Shape).Idx → α) (idx : IVec ⟨2, ![M, 1]⟩ w) (i : Fin A) (j : Fin M) :
    Host.gather (colDims A N M wf) x idx (ix2 i j) = x (ix2 i ⟨min (idx (ix2 j 0)).toInt.toNat (N - 1), by omega⟩) := by
  unfold Host.gather
  congr 1
  funext a
  refine Fin.ext ?_
  show (colDims A N M wf).start (ix2 i j) idx a + (colDims A N M wf).batchCoord (ix2 i j) a + (colDims A N M wf).offCoord (ix2 i j) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    unfold GatherDims.start GatherDims.offCoord
    rw [dif_neg (show (0 : Fin 2) ∉ (colDims A N M wf).startIndexMap from fun h => absurd (congrArg Fin.val (List.mem_singleton.mp h)) (by simp)),
      dif_pos ((GatherDims.mem_sKept _ _).mpr ⟨fun h => absurd (congrArg Fin.val (List.mem_singleton.mp h)) (by simp), List.not_mem_nil⟩)]
    simp only [Nat.zero_add, Nat.add_zero]
    rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims A N M wf).startIndexMap from List.mem_singleton.mpr rfl)]
    have hsi : (colDims A N M wf).siIdx (ix2 i j) ⟨List.idxOf (1 : Fin 2) (colDims A N M wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl

/-- The dimension numbers of a gather of rows. -/
abbrev rowDims (N A M : ℕ) (wf : GatherDims.WF ⟨2, ![N, A]⟩ ⟨2, ![M, 1]⟩ ⟨2, ![M, A]⟩ [1] [0] [] [0] [] 1 ![1, A]) :
    GatherDims ⟨2, ![N, A]⟩ ⟨2, ![M, 1]⟩ ⟨2, ![M, A]⟩ where
  offsetDims := [1]
  collapsedSliceDims := [0]
  operandBatchingDims := []
  startIndicesBatchingDims := []
  startIndexMap := [0]
  indexVectorDim := 1
  sliceSizes := ![1, A]
  wf := wf

/-- Rows taken by a table of row numbers. -/
theorem gather_rows {A N M w : ℕ} (hN : 0 < N) (wf : GatherDims.WF ⟨2, ![N, A]⟩ ⟨2, ![M, 1]⟩ ⟨2, ![M, A]⟩ [1] [0] [] [0] [] 1 ![1, A])
    (x : (⟨2, ![N, A]⟩ : Shape).Idx → α) (idx : IVec ⟨2, ![M, 1]⟩ w) (j : Fin M) (i : Fin A) :
    Host.gather (rowDims N A M wf) x idx (ix2 j i) = x (ix2 ⟨min (idx (ix2 j 0)).toInt.toNat (N - 1), by omega⟩ i) := by
  unfold Host.gather
  congr 1
  funext a
  refine Fin.ext ?_
  show (rowDims N A M wf).start (ix2 j i) idx a + (rowDims N A M wf).batchCoord (ix2 j i) a + (rowDims N A M wf).offCoord (ix2 j i) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N A M wf).startIndexMap from List.mem_singleton.mpr rfl)]
    have hsi : (rowDims N A M wf).siIdx (ix2 j i) ⟨List.idxOf (0 : Fin 2) (rowDims N A M wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl
  · rw [GatherDims.batchCoord_eq_zero _ _ _ List.not_mem_nil]
    unfold GatherDims.start GatherDims.offCoord
    rw [dif_neg (show (1 : Fin 2) ∉ (rowDims N A M wf).startIndexMap from fun h => absurd (congrArg Fin.val (List.mem_singleton.mp h)) (by simp)),
      dif_pos ((GatherDims.mem_sKept _ _).mpr ⟨fun h => absurd (congrArg Fin.val (List.mem_singleton.mp h)) (by simp), List.not_mem_nil⟩)]
    simp only [Nat.zero_add, Nat.add_zero]
    rfl

end Gather

end Cert.Proof.Order
-- ==== Proof.Spec.lean ====
/-
  One Gaussian at one pixel, over the extended reals: the covariance, the opacity by the reference's operations and by the kernel's, and the rows a Gaussian is kept for.
  For finite geometry both opacities are one real number, and a Gaussian whose opacity passes the threshold at a pixel is kept for the pixel's row.
-/
module

public import Idealize.ShloMosaic.PureOps.Ideal
public import Mathlib.Analysis.SpecialFunctions.Trigonometric.Basic
public import Mathlib.Analysis.SpecialFunctions.Log.Basic
public import Mathlib.Tactic.Ring
public import Mathlib.Tactic.Linarith
public import Mathlib.Tactic.Positivity
public import Mathlib.Tactic.FieldSimp
public import Mathlib.Tactic.NormNum

@[expose] public section

noncomputable section

namespace Cert.Proof.Spec

open Idealize.ShloMosaic

/-- A float word's value. -/
abbrev wd (b : BitVec 32) : EReal := Ideal.ofBits .f32 b

/-! ## The operations, over the extended reals -/

def xx (ro s0 s1 : EReal) : EReal := Ideal.cos ro * Ideal.cos ro * (s0 * s0) + Ideal.sin ro * Ideal.sin ro * (s1 * s1)
def xy (ro s0 s1 : EReal) : EReal := Ideal.cos ro * Ideal.sin ro * (s0 * s0 - s1 * s1)
def yy (ro s0 s1 : EReal) : EReal := Ideal.sin ro * Ideal.sin ro * (s0 * s0) + Ideal.cos ro * Ideal.cos ro * (s1 * s1)
def det (a b c : EReal) : EReal := max (a * c - b * b) (wd 0x322BCC77#32)
/-- The larger eigenvalue of a covariance. -/
def lam (a b c : EReal) : EReal :=
  wd 0x3F000000#32 * (a + c)
    + Ideal.sqrt (max (wd 0x3F000000#32 * (a + c) * (wd 0x3F000000#32 * (a + c)) - det a b c) (wd 0x3DCCCCCD#32))
/-- The radius in pixels. -/
def radius (a b c : EReal) : BitVec 32 :=
  FloatOps.fptosi (F := Ideal) 32 (FloatOps.ceil (F := Ideal) (φ := .f32) (wd 0x40400000#32 * Ideal.sqrt (lam a b c)))
/-- The opacity at a pixel by the reference's operations, before small ones are dropped. -/
def raw (a b c mx my op px py : EReal) : EReal :=
  min (wd 0x3F7D70A4#32) (op * Ideal.exp (min
    (wd 0xBF000000#32 * (Ideal.div c (det a b c) * (px - mx) * (px - mx) + Ideal.div a (det a b c) * (py - my) * (py - my))
      - Ideal.div (-b) (det a b c) * (px - mx) * (py - my)) 0))
/-- The opacity at a pixel from the kernel's six numbers. -/
def rawK (mx my ca cb cc lop px py : EReal) : EReal :=
  min (wd 0x3F7D70A4#32) (Ideal.exp (min (ca * ((px - mx) * (px - mx)) + cc * ((py - my) * (py - my)) + cb * ((px - mx) * (py - my))) 0 + lop))
/-- The square of the reach in rows. -/
def reach2 (a b c op : EReal) : EReal := wd 0x40000000#32 * lam a b c * (Ideal.log (wd 0x437F0000#32 * op) + wd 0x3C23D70A#32)
def ylo (a b c my op : EReal) : EReal := if reach2 a b c op ≤ 0 then ⊤ else my - Ideal.sqrt (max (reach2 a b c op) 0)
def yhi (a b c my op : EReal) : EReal := if reach2 a b c op ≤ 0 then ⊥ else my + Ideal.sqrt (max (reach2 a b c op) 0)

/-! ## The constants -/

theorem wd_half : wd 0x3F000000#32 = ((1 / 2 : ℝ) : EReal) := by simp [Ideal.ofBits, Ideal.ieee, -EReal.coe_mul]; norm_num
theorem wd_neghalf : wd 0xBF000000#32 = ((-(1 / 2) : ℝ) : EReal) := by simp [Ideal.ofBits, Ideal.ieee, -EReal.coe_mul]; norm_num
theorem wd_two : wd 0x40000000#32 = ((2 : ℝ) : EReal) := by simp [Ideal.ofBits, Ideal.ieee, -EReal.coe_mul]; norm_num
theorem wd_255 : wd 0x437F0000#32 = ((255 : ℝ) : EReal) := by simp [Ideal.ofBits, Ideal.ieee, -EReal.coe_mul]; norm_num
theorem wd_one : wd 0x3F800000#32 = ((1 : ℝ) : EReal) := by simp [Ideal.ofBits, Ideal.ieee, -EReal.coe_mul]; norm_num
/-- The threshold on the opacity. -/
def thr : ℝ := 8421505 / 2147483648
theorem wd_thr : wd 0x3B808081#32 = (thr : EReal) := by simp [Ideal.ofBits, Ideal.ieee, thr, -EReal.coe_mul]; norm_num
/-- The largest opacity. -/
def top : ℝ := 16609444 / 16777216
theorem wd_top : wd 0x3F7D70A4#32 = (top : EReal) := by simp [Ideal.ofBits, Ideal.ieee, top, -EReal.coe_mul]; norm_num
def slack : ℝ := 10737418 / 1073741824
theorem wd_slack : wd 0x3C23D70A#32 = (slack : EReal) := by simp [Ideal.ofBits, Ideal.ieee, slack, -EReal.coe_mul]; norm_num
def tenth : ℝ := 13421773 / 134217728
theorem wd_tenth : wd 0x3DCCCCCD#32 = (tenth : EReal) := by simp [Ideal.ofBits, Ideal.ieee, tenth, -EReal.coe_mul]; norm_num
theorem wd_tiny : wd 0x322BCC77#32 = ((11258999 / 1125899906842624 : ℝ) : EReal) := by
  simp [Ideal.ofBits, Ideal.ieee, -EReal.coe_mul]; norm_num

/-! ## The same over the reals -/

section Reals

variable (ro s0 s1 : ℝ)

def xxR : ℝ := Real.cos ro * Real.cos ro * (s0 * s0) + Real.sin ro * Real.sin ro * (s1 * s1)
def xyR : ℝ := Real.cos ro * Real.sin ro * (s0 * s0 - s1 * s1)
def yyR : ℝ := Real.sin ro * Real.sin ro * (s0 * s0) + Real.cos ro * Real.cos ro * (s1 * s1)

theorem xx_coe : xx ro s0 s1 = (xxR ro s0 s1 : EReal) := by unfold xx xxR; simp only [Ideal.cos_coe, Ideal.sin_coe]; norm_cast
theorem xy_coe : xy ro s0 s1 = (xyR ro s0 s1 : EReal) := by unfold xy xyR; simp only [Ideal.cos_coe, Ideal.sin_coe]; norm_cast
theorem yy_coe : yy ro s0 s1 = (yyR ro s0 s1 : EReal) := by unfold yy yyR; simp only [Ideal.cos_coe, Ideal.sin_coe]; norm_cast

theorem detR : xxR ro s0 s1 * yyR ro s0 s1 - xyR ro s0 s1 * xyR ro s0 s1 = (s0 * s1) ^ 2 := by
  have h : Real.sin ro ^ 2 = 1 - Real.cos ro ^ 2 := by have := Real.sin_sq_add_cos_sq ro; linarith
  unfold xxR yyR xyR
  have e : (Real.cos ro * Real.cos ro * (s0 * s0) + Real.sin ro * Real.sin ro * (s1 * s1))
        * (Real.sin ro * Real.sin ro * (s0 * s0) + Real.cos ro * Real.cos ro * (s1 * s1))
      - Real.cos ro * Real.sin ro * (s0 * s0 - s1 * s1) * (Real.cos ro * Real.sin ro * (s0 * s0 - s1 * s1))
      = (s0 * s1) ^ 2 * (Real.sin ro ^ 2 + Real.cos ro ^ 2) ^ 2 := by ring
  rw [e, Real.sin_sq_add_cos_sq]; ring

variable (h : (11258999 / 1125899906842624 : ℝ) ≤ (s0 * s1) ^ 2)
include h

theorem det_coe : det (xxR ro s0 s1) (xyR ro s0 s1) (yyR ro s0 s1) = (((s0 * s1) ^ 2 : ℝ) : EReal) := by
  unfold det
  rw [wd_tiny, ← EReal.coe_mul, ← EReal.coe_mul, ← EReal.coe_sub, detR]
  exact max_eq_left (EReal.coe_le_coe_iff.mpr h)

theorem yy_pos : 0 < yyR ro s0 s1 := by
  have h : (0 : ℝ) < (s0 * s1) ^ 2 := lt_of_lt_of_le (by norm_num) h
  have e := detR ro s0 s1
  have hx : 0 ≤ xxR ro s0 s1 := by
    unfold xxR
    exact add_nonneg (mul_nonneg (mul_self_nonneg _) (mul_self_nonneg _)) (mul_nonneg (mul_self_nonneg _) (mul_self_nonneg _))
  have hy : 0 ≤ yyR ro s0 s1 := by
    unfold yyR
    exact add_nonneg (mul_nonneg (mul_self_nonneg _) (mul_self_nonneg _)) (mul_nonneg (mul_self_nonneg _) (mul_self_nonneg _))
  rcases hy.lt_or_eq with h' | h'
  · exact h'
  · rw [← h'] at e; nlinarith [mul_self_nonneg (xyR ro s0 s1)]

end Reals

/-- Half the squared distance from the centre, in the metric of the covariance. -/
def half2 (a b c mx my px py : ℝ) (d : ℝ) : ℝ :=
  (c * (px - mx) ^ 2 - 2 * b * ((px - mx) * (py - my)) + a * (py - my) ^ 2) / (2 * d)

theorem half2_ge {a b c mx my px py d : ℝ} (hd : 0 < d) (hc : 0 < c) (e : a * c - b * b = d) : (py - my) ^ 2 / (2 * c) ≤ half2 a b c mx my px py d := by
  unfold half2
  have h : (c * (px - mx) ^ 2 - 2 * b * ((px - mx) * (py - my)) + a * (py - my) ^ 2) / (2 * d) - (py - my) ^ 2 / (2 * c)
      = (c * (px - mx) - b * (py - my)) ^ 2 / (2 * c * d) := by
    field_simp
    subst e
    ring
  have : 0 ≤ (c * (px - mx) - b * (py - my)) ^ 2 / (2 * c * d) := by positivity
  linarith

theorem half2_nonneg {a b c mx my px py d : ℝ} (hd : 0 < d) (hc : 0 < c) (e : a * c - b * b = d) : 0 ≤ half2 a b c mx my px py d :=
  le_trans (by positivity) (half2_ge hd hc e)

theorem min_neg {q : ℝ} (hq : 0 ≤ q) : min ((-q : ℝ) : EReal) 0 = ((-q : ℝ) : EReal) :=
  min_eq_left (by exact_mod_cast (by linarith : -q ≤ 0))

/-- The opacity as a real number. -/
def rawR (a b c mx my op px py d : ℝ) : ℝ := min top (op * Real.exp (-half2 a b c mx my px py d))

section One

variable {a b c d mx my op px py : ℝ} (hd : 0 < d) (hc : 0 < c) (e : a * c - b * b = d) (hdet : det a b c = (d : EReal))
include hd hc e hdet

theorem power_coe : min (wd 0xBF000000#32 * (Ideal.div c (det a b c) * ((px : EReal) - mx) * ((px : EReal) - mx) + Ideal.div a (det a b c) * ((py : EReal) - my) * ((py : EReal) - my))
      - Ideal.div (-b) (det a b c) * ((px : EReal) - mx) * ((py : EReal) - my)) 0 = ((-half2 a b c mx my px py d : ℝ) : EReal) := by
  have hn := half2_nonneg (mx := mx) (my := my) (px := px) (py := py) hd hc e
  rw [hdet, wd_neghalf, Ideal.div_coe hd.ne', Ideal.div_coe hd.ne', Ideal.div_coe hd.ne']
  have hp : ((-(1 / 2) : ℝ) : EReal) * ((c : EReal) * ((1 / d : ℝ) : EReal) * ((px : EReal) - mx) * ((px : EReal) - mx)
        + (a : EReal) * ((1 / d : ℝ) : EReal) * ((py : EReal) - my) * ((py : EReal) - my))
      - -(b : EReal) * ((1 / d : ℝ) : EReal) * ((px : EReal) - mx) * ((py : EReal) - my)
      = ((-half2 a b c mx my px py d : ℝ) : EReal) := by
    have hr : -(1 / 2) * (c * (1 / d) * (px - mx) * (px - mx) + a * (1 / d) * (py - my) * (py - my)) - -b * (1 / d) * (px - mx) * (py - my)
        = -half2 a b c mx my px py d := by
      unfold half2; field_simp; ring
    rw [← hr]; norm_cast
  rw [hp, min_neg hn]

theorem raw_coe : raw a b c mx my op px py = (rawR a b c mx my op px py d : EReal) := by
  unfold raw rawR
  rw [power_coe hd hc e hdet, wd_top, Ideal.exp_coe]
  norm_cast

theorem powerK_coe : min (Ideal.div (wd 0xBF000000#32 * c) (det a b c) * (((px : EReal) - mx) * ((px : EReal) - mx))
      + Ideal.div (wd 0xBF000000#32 * a) (det a b c) * (((py : EReal) - my) * ((py : EReal) - my))
      + Ideal.div b (det a b c) * (((px : EReal) - mx) * ((py : EReal) - my))) 0 = ((-half2 a b c mx my px py d : ℝ) : EReal) := by
  have hn := half2_nonneg (mx := mx) (my := my) (px := px) (py := py) hd hc e
  rw [hdet, wd_neghalf, Ideal.div_coe hd.ne', Ideal.div_coe hd.ne', Ideal.div_coe hd.ne']
  have hp : ((-(1 / 2) : ℝ) : EReal) * (c : EReal) * ((1 / d : ℝ) : EReal) * (((px : EReal) - mx) * ((px : EReal) - mx))
        + ((-(1 / 2) : ℝ) : EReal) * (a : EReal) * ((1 / d : ℝ) : EReal) * (((py : EReal) - my) * ((py : EReal) - my))
        + (b : EReal) * ((1 / d : ℝ) : EReal) * (((px : EReal) - mx) * ((py : EReal) - my))
      = ((-half2 a b c mx my px py d : ℝ) : EReal) := by
    have hr : -(1 / 2) * c * (1 / d) * ((px - mx) * (px - mx)) + -(1 / 2) * a * (1 / d) * ((py - my) * (py - my)) + b * (1 / d) * ((px - mx) * (py - my))
        = -half2 a b c mx my px py d := by
      unfold half2; field_simp; ring
    rw [← hr]; norm_cast
  rw [hp, min_neg hn]

theorem rawK_coe (hop : 0 ≤ op) :
    rawK mx my (Ideal.div (wd 0xBF000000#32 * c) (det a b c)) (Ideal.div b (det a b c)) (Ideal.div (wd 0xBF000000#32 * a) (det a b c)) (Ideal.log op) px py
      = (rawR a b c mx my op px py d : EReal) := by
  unfold rawK rawR
  rw [powerK_coe hd hc e hdet, wd_top, Ideal.log_coe]
  rcases hop.lt_or_eq with h | h
  · rw [if_neg (not_le.mpr h), ← EReal.coe_add, Ideal.exp_coe, Real.exp_add, Real.exp_log h, mul_comm]
    norm_cast
  · rw [if_pos h.symm.le, EReal.add_bot, ← h, zero_mul]
    show min (top : EReal) 0 = _
    norm_cast

/-- Half the trace and the eigenvalue. -/
theorem lam_coe : ∃ l : ℝ, lam a b c = (l : EReal) ∧ c ≤ l := by
  refine ⟨1 / 2 * (a + c) + Real.sqrt (max (1 / 2 * (a + c) * (1 / 2 * (a + c)) - d) tenth), ?_, ?_⟩
  · unfold lam
    rw [hdet, wd_half, wd_tenth, ← EReal.coe_add, ← EReal.coe_mul, ← EReal.coe_mul, ← EReal.coe_sub]
    have : max ((1 / 2 * (a + c) * (1 / 2 * (a + c)) - d : ℝ) : EReal) (tenth : EReal)
        = ((max (1 / 2 * (a + c) * (1 / 2 * (a + c)) - d) tenth : ℝ) : EReal) := by norm_cast
    rw [this, Ideal.sqrt_coe, if_neg (not_lt.mpr (le_trans (by unfold tenth; norm_num) (le_max_right _ _)))]
    norm_cast
  · have h : 1 / 2 * (c - a) ≤ Real.sqrt (max (1 / 2 * (a + c) * (1 / 2 * (a + c)) - d) tenth) := by
      refine Real.le_sqrt_of_sq_le (le_trans ?_ (le_max_left _ _))
      rw [← e]
      nlinarith [mul_self_nonneg b]
    linarith

/-- A Gaussian that passes the threshold at a pixel reaches the pixel's row. -/
theorem reach (hop : 0 ≤ op) (h : thr < rawR a b c mx my op px py d) : ylo a b c my op ≤ (py : EReal) ∧ (py : EReal) ≤ yhi a b c my op := by
  obtain ⟨l, hl, hcl⟩ := lam_coe hd hc e hdet
  have hge := half2_ge (mx := mx) (my := my) (px := px) (py := py) hd hc e
  have hn := half2_nonneg (mx := mx) (my := my) (px := px) (py := py) hd hc e
  have hthr : thr < op * Real.exp (-half2 a b c mx my px py d) := lt_of_lt_of_le h (min_le_right _ _)
  generalize half2 a b c mx my px py d = q at hge hn hthr
  have hpos : 0 < op := by
    rcases hop.lt_or_eq with h | h
    · exact h
    · rw [← h, zero_mul] at hthr; exact absurd hthr (not_lt.mpr (by unfold thr; norm_num))
  have hL : q < Real.log (255 * op) := by
    rw [Real.lt_log_iff_exp_lt (by positivity)]
    have hx : thr * Real.exp q < op := by
      have := mul_lt_mul_of_pos_right hthr (Real.exp_pos q)
      rwa [mul_assoc, ← Real.exp_add, neg_add_cancel, Real.exp_zero, mul_one] at this
    have h1 : (1 : ℝ) ≤ 255 * thr := by unfold thr; norm_num
    nlinarith [Real.exp_pos q]
  have hs : (0 : ℝ) < slack := by unfold slack; norm_num
  set L := Real.log (255 * op) + slack with hLdef
  have hLq : q ≤ L := by rw [hLdef]; linarith
  have hLpos : 0 < L := by rw [hLdef]; linarith
  have hr : reach2 a b c op = ((2 * l * L : ℝ) : EReal) := by
    unfold reach2
    rw [hl, wd_two, wd_255, wd_slack, ← EReal.coe_mul, ← EReal.coe_mul, Ideal.log_coe, if_neg (not_le.mpr (by positivity)), hLdef]
    norm_cast
  have hlpos : 0 < l := lt_of_lt_of_le hc hcl
  have hr0 : 0 < 2 * l * L := by positivity
  have hsq : (py - my) ^ 2 ≤ 2 * l * L := by
    have h1 : (py - my) ^ 2 ≤ 2 * c * q := by
      rw [div_le_iff₀ (by positivity)] at hge; linarith
    have h2 : 2 * c * q ≤ 2 * l * L := by
      have := mul_le_mul hcl hLq hn hlpos.le
      nlinarith
    linarith
  have hroot : Ideal.sqrt (max (reach2 a b c op) 0) = ((Real.sqrt (2 * l * L) : ℝ) : EReal) := by
    rw [hr, max_eq_left (by exact_mod_cast hr0.le), Ideal.sqrt_coe, if_neg (not_lt.mpr hr0.le)]
  have habs := Real.abs_le_sqrt hsq
  rw [abs_le] at habs
  have hnd : ¬ reach2 a b c op ≤ 0 := by rw [hr, not_le]; exact_mod_cast hr0
  unfold ylo yhi
  rw [if_neg hnd, if_neg hnd, hroot]
  constructor
  · rw [← EReal.coe_sub]; exact EReal.coe_le_coe_iff.mpr (by linarith [habs.2])
  · rw [← EReal.coe_add]; exact EReal.coe_le_coe_iff.mpr (by linarith [habs.2])

end One

end Cert.Proof.Spec
-- ==== Proof.Chan.lean ====
/-
  The channels that the binning reads, Gaussian by Gaussian in depth order.
-/
module

public import proofs.«01_k».proof.Defs
public import proofs.«01_k».proof.Proof.Frames
public import proofs.«01_k».proof.Proof.Order
public import proofs.«01_k».proof.Proof.Spec
public import Idealize.ShloMosaic.Lib.Pointwise
public import Idealize.ShloMosaic.Lib.StableHlo.ReadAt

@[expose] public section

set_option maxRecDepth 16384

noncomputable section

namespace Cert.Proof.Chan

open Idealize.ShloMosaic Idealize.ShloMosaic.TcCoe
open Cert.KernelIdeal Cert.KernelIdeal.Gen Cert.Proof.Host Cert.Proof.Run
open Cert.Proof.Order Cert.Proof.Spec
open Cert.Proof.Bin (rd)

section Args

variable (S : S2048x2.Idx → EReal) (R : S2048.Idx → EReal)

/-- The covariance of Gaussian g. -/
abbrev ga (g : Fin 2048) : EReal := xx (R (ix1 g)) (S (ix2 g 0)) (S (ix2 g 1))
abbrev gb (g : Fin 2048) : EReal := xy (R (ix1 g)) (S (ix2 g 0)) (S (ix2 g 1))
abbrev gc (g : Fin 2048) : EReal := yy (R (ix1 g)) (S (ix2 g 0)) (S (ix2 g 1))

end Args

variable (V : Valuation τ sig (Elt Ideal))

abbrev aM : S2048x2.Idx → EReal := V (Proc.devRef .tc main_arg0)
abbrev aC : S2048x3.Idx → EReal := V (Proc.devRef .tc main_arg1)
abbrev aO : S2048x1.Idx → EReal := V (Proc.devRef .tc main_arg2)
abbrev aS : S2048x2.Idx → EReal := V (Proc.devRef .tc main_arg3)
abbrev aR : S2048.Idx → EReal := V (Proc.devRef .tc main_arg4)
abbrev aD : S2048.Idx → EReal := V (Proc.devRef .tc main_arg5)
abbrev aB : S3.Idx → EReal := V (Proc.devRef .tc main_arg6)

/-- The depth order. -/
abbrev ord (D : S2048.Idx → EReal) (r : Fin 2048) : Fin 2048 := ordOf (N := 2048) (comparator_f32_i32_d0 (F := Ideal)) D r

theorem wd_inf : Ideal.ofBits .f32 2139095040#32 = (⊤ : EReal) := by simp [Ideal.ofBits, Ideal.ieee]
theorem wd_minf : Ideal.ofBits .f32 4286578688#32 = (⊥ : EReal) := by simp [Ideal.ofBits, Ideal.ieee]

set_option maxHeartbeats 4000000 in
theorem stack0 (g : Fin 2048) : (before V (Proc.devRef .tc main_v90) : S16x2048.Idx → EReal) (ix2 0 g) = ylo (ga (aS V) (aR V) g) (gb (aS V) (aR V) g) (gc (aS V) (aR V) g) (aM V (ix2 g 1)) (aO V (ix2 g 0)) := by
  unfold before
  after_reads_at
  after_reads_at
  show (if _ then Ideal.ofBits .f32 2139095040#32 else _) = _
  rw [wd_inf]
  rfl

set_option maxHeartbeats 4000000 in
theorem stack1 (g : Fin 2048) : (before V (Proc.devRef .tc main_v90) : S16x2048.Idx → EReal) (ix2 1 g) = yhi (ga (aS V) (aR V) g) (gb (aS V) (aR V) g) (gc (aS V) (aR V) g) (aM V (ix2 g 1)) (aO V (ix2 g 0)) := by
  unfold before
  after_reads_at
  after_reads_at
  show (if _ then Ideal.ofBits .f32 4286578688#32 else _) = _
  rw [wd_minf]
  rfl

set_option maxHeartbeats 4000000 in
theorem stack2 (g : Fin 2048) : (before V (Proc.devRef .tc main_v90) : S16x2048.Idx → EReal) (ix2 2 g) = aM V (ix2 g 0) := by
  unfold before
  after_reads_at
  after_reads_at

set_option maxHeartbeats 4000000 in
theorem stack3 (g : Fin 2048) : (before V (Proc.devRef .tc main_v90) : S16x2048.Idx → EReal) (ix2 3 g) = aM V (ix2 g 1) := by
  unfold before
  after_reads_at
  after_reads_at

set_option maxHeartbeats 4000000 in
theorem stack4 (g : Fin 2048) : (before V (Proc.devRef .tc main_v90) : S16x2048.Idx → EReal) (ix2 4 g) = Ideal.div (wd 0xBF000000#32 * gc (aS V) (aR V) g) (det (ga (aS V) (aR V) g) (gb (aS V) (aR V) g) (gc (aS V) (aR V) g)) := by
  unfold before
  after_reads_at
  after_reads_at
  rfl

set_option maxHeartbeats 4000000 in
theorem stack5 (g : Fin 2048) : (before V (Proc.devRef .tc main_v90) : S16x2048.Idx → EReal) (ix2 5 g) = Ideal.div (gb (aS V) (aR V) g) (det (ga (aS V) (aR V) g) (gb (aS V) (aR V) g) (gc (aS V) (aR V) g)) := by
  unfold before
  after_reads_at
  after_reads_at
  rfl

set_option maxHeartbeats 4000000 in
theorem stack6 (g : Fin 2048) : (before V (Proc.devRef .tc main_v90) : S16x2048.Idx → EReal) (ix2 6 g) = Ideal.div (wd 0xBF000000#32 * ga (aS V) (aR V) g) (det (ga (aS V) (aR V) g) (gb (aS V) (aR V) g) (gc (aS V) (aR V) g)) := by
  unfold before
  after_reads_at
  after_reads_at
  rfl

set_option maxHeartbeats 4000000 in
theorem stack7 (g : Fin 2048) : (before V (Proc.devRef .tc main_v90) : S16x2048.Idx → EReal) (ix2 7 g) = Ideal.log (aO V (ix2 g 0)) := by
  unfold before
  after_reads_at
  after_reads_at

set_option maxHeartbeats 4000000 in
theorem stack8 (g : Fin 2048) : (before V (Proc.devRef .tc main_v90) : S16x2048.Idx → EReal) (ix2 8 g) = ((g.val : ℝ) : EReal) := by
  unfold before
  after_reads_at
  after_reads_at
  show (((BitVec.ofNat 32 g.val).toInt : ℝ) : EReal) = _
  rw [toInt_int g.isLt]
  norm_num

set_option maxHeartbeats 4000000 in
theorem stack10 (g : Fin 2048) : (before V (Proc.devRef .tc main_v90) : S16x2048.Idx → EReal) (ix2 10 g) = aC V (ix2 g 0) := by
  unfold before
  after_reads_at
  after_reads_at

set_option maxHeartbeats 4000000 in
theorem stack11 (g : Fin 2048) : (before V (Proc.devRef .tc main_v90) : S16x2048.Idx → EReal) (ix2 11 g) = aC V (ix2 g 1) := by
  unfold before
  after_reads_at
  after_reads_at

set_option maxHeartbeats 4000000 in
theorem stack12 (g : Fin 2048) : (before V (Proc.devRef .tc main_v90) : S16x2048.Idx → EReal) (ix2 12 g) = aC V (ix2 g 2) := by
  unfold before
  after_reads_at
  after_reads_at

set_option maxHeartbeats 4000000 in
theorem order_at (g : Fin 2048) : (before V (Proc.devRef .tc main_v96) : S2048x1.Idx → BitVec 32) (ix2 g 0) = BitVec.ofNat 32 (ord (aD V) g).val := by
  unfold before
  after_reads_at
  refine Eq.trans ?_ (wrap_nat (ord (aD V) g).isLt 2048#32)
  rw [← sort2_iota]
  rfl

set_option maxHeartbeats 1000000 in
theorem taken (W : Valuation τ sig (Elt Ideal)) (c : Fin 16) (g : Fin 2048) : (StableHlo.after preG W (Proc.devRef .tc main_v97) : S16x2048.Idx → EReal) (ix2 c g)
    = (StableHlo.after preG W (Proc.devRef .tc main_v90) : S16x2048.Idx → EReal) (ix2 c ⟨min ((StableHlo.after preG W (Proc.devRef .tc main_v96) : S2048x1.Idx → BitVec 32) (ix2 g 0)).toInt.toNat (2048 - 1), by omega⟩) := by
  refine Eq.trans ?_ (gather_cols (by decide) gather_S16x2048_S2048x1_S16x2048_0_1_n_n_1_1_161_wf _ _ c g)
  after_reads_simp
  rfl

theorem sorted_at (c : Fin 16) (g : Fin 2048) : (before V (Proc.devRef .tc main_v97) : S16x2048.Idx → EReal) (ix2 c g)
    = (before V (Proc.devRef .tc main_v90) : S16x2048.Idx → EReal) (ix2 c (ord (aD V) g)) := by
  refine (taken _ c g).trans ?_
  refine congrArg (fun k => (before V (Proc.devRef .tc main_v90) : S16x2048.Idx → EReal) (ix2 c k)) (Fin.ext ?_)
  show min ((before V (Proc.devRef .tc main_v96) : S2048x1.Idx → BitVec 32) (ix2 g 0)).toInt.toNat _ = _
  rw [order_at, toInt_nat (ord (aD V) g).isLt]
  omega

set_option maxHeartbeats 4000000 in
theorem chan_at (n : Fin 32768) : (before V (Proc.devRef .tc main_v99) : S32768.Idx → EReal) (ix1 n)
    = (before V (Proc.devRef .tc main_v97) : S16x2048.Idx → EReal) (ix2 ⟨n.val / 2048, by omega⟩ ⟨n.val % 2048, by omega⟩) := by
  unfold before
  after_reads_at

/-- A word of the channels. -/
theorem rd_at (c : Fin 16) (g : Fin 2048) (n : ℕ) (hn : n = g.val + c.val * 2048) : rd (F := Ideal) (before V (Proc.devRef .tc main_v99)) n
    = (before V (Proc.devRef .tc main_v90) : S16x2048.Idx → EReal) (ix2 c (ord (aD V) g)) := by
  have hg := g.isLt
  have hc := c.isLt
  have e : n % 32768 = n := Nat.mod_eq_of_lt (by omega)
  refine Eq.trans ?_ ((chan_at V ⟨n, by omega⟩).trans ?_)
  · refine congrArg (before V (Proc.devRef .tc main_v99) : S32768.Idx → EReal) (funext fun a => ?_)
    match a with
    | ⟨0, _⟩ => exact Fin.ext e
  · refine (congrArg₂ (fun a b => (before V (Proc.devRef .tc main_v97) : S16x2048.Idx → EReal) (ix2 a b)) (Fin.ext ?_) (Fin.ext ?_)).trans (sorted_at V c g)
    · show n / 2048 = c.val
      omega
    · show n % 2048 = g.val
      omega

end Cert.Proof.Chan
-- ==== Proof.Mid.lean ====
/-
  What the rasterizer's call finds: the binned rows of each band as slots, the covariances and the background.
-/
module

public import proofs.«01_k».proof.Proof.Chan
public import Idealize.ShloMosaic.Lib.Pointwise
public import Idealize.ShloMosaic.Lib.StableHlo.ReadAt

@[expose] public section

set_option maxRecDepth 16384

noncomputable section

namespace Cert.Proof.Mid

open Idealize.ShloMosaic Idealize.ShloMosaic.TcCoe
open Cert.KernelIdeal Cert.KernelIdeal.Gen Cert.Proof.Bin Cert.Proof.Host Cert.Proof.Run Cert.Proof.Spec Cert.Proof.Chan

variable (B : Valuation τ sig (Elt Ideal)) (fg : S16x16384.Idx → EReal) (fc : S16x8192.Idx → EReal) (fn : S16x16.Idx → BitVec 32)

theorem mid_101 (b : Fin 16) (s : Fin 2048) (q : Fin 8) :
    between (F := Ideal) (withBins B fg fc fn) (Proc.devRef .tc main_v101) (ix3 b s q) = fg (atG b ⟨s.val * 8 + q.val, by omega⟩) := by
  unfold between
  after_reads_at
  rw [withBins_0]
  exact congrArg fg (funext fun a => by match a with | 0 => rfl | 1 => rfl)

theorem mid_102 (b : Fin 16) (u : Fin 8) (v : Fin 4) (s : Fin 256) :
    between (F := Ideal) (withBins B fg fc fn) (Proc.devRef .tc main_v102) (ix4 b u v s) = fc (atC b ⟨u.val * 1024 + v.val * 256 + s.val, by omega⟩) := by
  unfold between
  after_reads_at
  rw [withBins_1]
  exact congrArg fc (funext fun a => by match a with | 0 => rfl | 1 => rfl)

theorem mid_105 (g : Fin 2048) :
    between (F := Ideal) (withBins B fg fc fn) (Proc.devRef .tc main_v105) (ix2 g 0) = B (Proc.devRef .tc main_v18) (ix1 g) := by
  unfold between
  after_reads_at
  rw [withBins_ne _ _ _ _ _ (by decide) (by decide) (by decide)]
theorem mid_106 (g : Fin 2048) :
    between (F := Ideal) (withBins B fg fc fn) (Proc.devRef .tc main_v106) (ix2 g 0) = B (Proc.devRef .tc main_v21) (ix1 g) := by
  unfold between
  after_reads_at
  rw [withBins_ne _ _ _ _ _ (by decide) (by decide) (by decide)]
theorem mid_107 (g : Fin 2048) :
    between (F := Ideal) (withBins B fg fc fn) (Proc.devRef .tc main_v107) (ix2 g 0) = B (Proc.devRef .tc main_v26) (ix1 g) := by
  unfold between
  after_reads_at
  rw [withBins_ne _ _ _ _ _ (by decide) (by decide) (by decide)]
theorem mid_108 (ch : Fin 3) :
    between (F := Ideal) (withBins B fg fc fn) (Proc.devRef .tc main_v108) (ix2 ch 0) = B (Proc.devRef .tc main_arg6) (ix1 ch) := by
  unfold between
  after_reads_at
  rw [withBins_ne _ _ _ _ _ (by decide) (by decide) (by decide)]

variable (V : Valuation τ sig (Elt Ideal))

theorem before_18 (g : Fin 2048) : before V (Proc.devRef .tc main_v18) (ix1 g) = ga (aS V) (aR V) g := by
  unfold before
  after_reads_at
  rfl
theorem before_21 (g : Fin 2048) : before V (Proc.devRef .tc main_v21) (ix1 g) = gb (aS V) (aR V) g := by
  unfold before
  after_reads_at
  rfl
theorem before_26 (g : Fin 2048) : before V (Proc.devRef .tc main_v26) (ix1 g) = gc (aS V) (aR V) g := by
  unfold before
  after_reads_at
  rfl
end Cert.Proof.Mid
-- ==== Proof.Win.lean ====
/-
  The rasterizer's windows at coordinates: the blocks it reads, and the three arrays it leaves.
-/
module

public import proofs.«01_k».proof.Proof.Run
public import Idealize.ShloMosaic.Lib.Pipeline.ArrRel
public import Idealize.ShloMosaic.Lib.Pipeline.ValueKit.Geometry
public import Idealize.ShloMosaic.Lib.PointwiseCore
public import Idealize.ShloMosaic.PureOps.Ideal

@[expose] public section

set_option maxRecDepth 16384

noncomputable section

namespace Cert.Proof.Win

open Idealize.ShloMosaic Idealize.ShloMosaic.TcCoe
open Cert.KernelIdeal Cert.KernelIdeal.Gen Cert.Proof.Tc
open Idealize.ShloMosaic.Pipeline (RDat arrRef)

section Blocks

variable {F : FTy → Type} [FloatOps F] [∀ e, Nonempty (Elt F e)]

variable (tb : S16.Idx → BitVec 32) (hn : ∀ i, (word (F := F) i tb).toNat ≤ 2048) (W : Valuation τ sig (Elt F)) (d : Dev nD)

/-- The point of band b. -/
abbrev pt (b : Fin 16) : Fin (cfgT (F := F) tb).N := b.cast rfl

theorem coords_pt (b : Fin 16) : ((grid1.coords (pt (F := F) tb b)) 0).val = b.val := by
  revert b
  exact (by decide +kernel : ∀ b : Fin 16, ((grid1.coords (b.cast rfl)) 0).val = b.val)

theorem geom_at (b : Fin 16) (s : Fin 2048) (q : Fin 8) :
    geomAt tb W (pt (F := F) tb b) (ix3 0 s q) = (W (Proc.devRef .tc main_v101) : S16x2048x8.Idx → F .f32) (ix3 b s q) := by
  refine congrArg (W (Proc.devRef .tc main_v101) : S16x2048x8.Idx → F .f32) (funext fun a => Fin.ext ?_)
  match a with
  | ⟨0, _⟩ =>
    show (BitVec.ofNat 32 ((grid1.coords (pt (F := F) tb b)) 0).val).toNat * 1 + 1 * 0 = b.val
    rw [coords_pt, BitVec.toNat_ofNat]
    omega
  | ⟨1, _⟩ =>
    show 0 * 2048 + 1 * s.val = s.val
    omega
  | ⟨2, _⟩ =>
    show 0 * 8 + 1 * q.val = q.val
    omega

theorem col_at (b : Fin 16) (u : Fin 8) (v : Fin 4) (s : Fin 256) :
    colAt tb W (pt (F := F) tb b) (ix4 0 u v s) = (W (Proc.devRef .tc main_v102) : S16x8x4x256.Idx → F .f32) (ix4 b u v s) := by
  refine congrArg (W (Proc.devRef .tc main_v102) : S16x8x4x256.Idx → F .f32) (funext fun a => Fin.ext ?_)
  match a with
  | ⟨0, _⟩ =>
    show (BitVec.ofNat 32 ((grid1.coords (pt (F := F) tb b)) 0).val).toNat * 1 + 1 * 0 = b.val
    rw [coords_pt, BitVec.toNat_ofNat]
    omega
  | ⟨1, _⟩ =>
    show 0 * 8 + 1 * u.val = u.val
    omega
  | ⟨2, _⟩ =>
    show 0 * 4 + 1 * v.val = v.val
    omega
  | ⟨3, _⟩ =>
    show 0 * 256 + 1 * s.val = s.val
    omega

theorem xx_at (b : Fin 16) (g : Fin 2048) :
    xxAt tb W (pt (F := F) tb b) (ix2 g 0) = (W (Proc.devRef .tc main_v105) : S2048x1.Idx → F .f32) (ix2 g 0) := by
  refine congrArg (W (Proc.devRef .tc main_v105) : S2048x1.Idx → F .f32) (funext fun a => Fin.ext ?_)
  match a with
  | ⟨0, _⟩ =>
    show 0 * 2048 + 1 * g.val = g.val
    omega
  | ⟨1, _⟩ => rfl

theorem xy_at (b : Fin 16) (g : Fin 2048) :
    xyAt tb W (pt (F := F) tb b) (ix2 g 0) = (W (Proc.devRef .tc main_v106) : S2048x1.Idx → F .f32) (ix2 g 0) := by
  refine congrArg (W (Proc.devRef .tc main_v106) : S2048x1.Idx → F .f32) (funext fun a => Fin.ext ?_)
  match a with
  | ⟨0, _⟩ =>
    show 0 * 2048 + 1 * g.val = g.val
    omega
  | ⟨1, _⟩ => rfl

theorem yy_at (b : Fin 16) (g : Fin 2048) :
    yyAt tb W (pt (F := F) tb b) (ix2 g 0) = (W (Proc.devRef .tc main_v107) : S2048x1.Idx → F .f32) (ix2 g 0) := by
  refine congrArg (W (Proc.devRef .tc main_v107) : S2048x1.Idx → F .f32) (funext fun a => Fin.ext ?_)
  match a with
  | ⟨0, _⟩ =>
    show 0 * 2048 + 1 * g.val = g.val
    omega
  | ⟨1, _⟩ => rfl

theorem bg_at (b : Fin 16) (ch : Fin 3) :
    bgAt tb W (pt (F := F) tb b) (ix2 ch 0) = (W (Proc.devRef .tc main_v108) : S3x1.Idx → F .f32) (ix2 ch 0) := by
  refine congrArg (W (Proc.devRef .tc main_v108) : S3x1.Idx → F .f32) (funext fun a => Fin.ext ?_)
  match a with
  | ⟨0, _⟩ =>
    show 0 * 3 + 1 * ch.val = ch.val
    omega
  | ⟨1, _⟩ => rfl

/-! ## The arrays left -/

end Blocks

section Arrays

variable (tb : S16.Idx → BitVec 32) (hn : ∀ i, (word (F := Ideal) i tb).toNat ≤ 2048) (W : Valuation τ sig (Elt Ideal)) (d : Dev nD)

/-- Some table. -/
abbrev tb0 : S16.Idx → BitVec 32 := fun _ => 0#32

theorem covers6 : ((cfgT (F := Ideal) tb).win 6).Covers :=
  show ((cfgT (F := Ideal) tb0).win 6).Covers by decide +kernel
theorem covers8 : ((cfgT (F := Ideal) tb).win 8).Covers :=
  show ((cfgT (F := Ideal) tb0).win 8).Covers by decide +kernel
theorem whole7 : ((cfgT (F := Ideal) tb).win 7).WholeAt (pt (F := Ideal) tb 15) :=
  show ((cfgT (F := Ideal) tb0).win 7).WholeAt (pt (F := Ideal) tb0 15) by decide +kernel

/-- The image of band b. -/
abbrev imageOf (b : Fin 16) : S3x1024.Idx → EReal :=
  image (F := Ideal) (grid1.coords (pt (F := Ideal) tb b)) _ (chk _ (hn (grid1.coords (pt (F := Ideal) tb b)))) (geomAt tb W (pt (F := Ideal) tb b)) (colAt tb W (pt (F := Ideal) tb b)) (bgAt tb W (pt (F := Ideal) tb b))

theorem asRows_at (w : S3x1024.Idx → EReal) (z : S3x8x128.Idx) (ch : Fin 3) (y : Fin 8) (x : Fin 128) (h0 : (z 0).val = ch.val) (h1 : (z 1).val = y.val)
    (h2 : (z 2).val = x.val) : asRows (F := Ideal) w z = w (ix2 ch ⟨y.val * 128 + x.val, by omega⟩) :=
  congrArg w (congrArg₂ ix2 (Fin.ext h0) (Fin.ext (by show (z 1).val * 128 + (z 2).val = y.val * 128 + x.val; rw [h1, h2])))

theorem rows_imageOf (u b : Fin 16) (e : u = b) (z : S3x8x128.Idx) (ch : Fin 3) (y : Fin 8) (x : Fin 128) (h0 : (z 0).val = ch.val) (h1 : (z 1).val = y.val)
    (h2 : (z 2).val = x.val) : asRows (F := Ideal) (imageOf tb hn W u) z = imageOf tb hn W b (ix2 ch ⟨y.val * 128 + x.val, by omega⟩) := by
  rw [e]
  exact asRows_at _ z ch y x h0 h1 h2

set_option maxHeartbeats 1000000 in
/-- The colours left. -/
theorem color_at (g6 : S3x128x128.Idx → EReal) (h : (rdat tb hn W d).ArrAt 6 (cfgT (F := Ideal) tb).N g6)
    (ch : Fin 3) (b : Fin 16) (y : Fin 8) (x : Fin 128) :
    g6 (ix3 ch ⟨b.val * 8 + y.val, by omega⟩ x) = imageOf tb hn W b (ix2 ch ⟨y.val * 128 + x.val, by omega⟩) := by
  obtain ⟨X, hX, hA⟩ := h.exists_exact
  have e := hA (Function.update (fun _ _ _ => Classical.arbitrary _) 6 X) fun u _ _ => by rw [Function.update_self]
  have key := Pipeline.Dat.arrAt_forall_of_covers (dat := (rdat tb hn W d).withAfter (Function.update (fun _ _ _ => Classical.arbitrary _) 6 X)) 6
    (fun i v => ∀ (ch : Fin 3) (b : Fin 16) (y : Fin 8) (x : Fin 128), i = (ix3 ch ⟨b.val * 8 + y.val, by omega⟩ x : S3x128x128.Idx) →
      v = imageOf tb hn W b (ix2 ch ⟨y.val * 128 + x.val, by omega⟩)) (covers6 tb) ?_
  · rw [e]
    exact key _ ch b y x rfl
  intro t hf z ch b y x hi
  obtain ⟨_, _, hL⟩ := hX t t.isLt hf
  have hL' : X t = asRows (imageOf tb hn W (t.cast rfl)) := hL
  change S3x8x128.Idx at z
  have h0 : 0 * 3 + 1 * (z 0).val = ch.val := congrArg (fun i : S3x128x128.Idx => (i 0).val) hi
  have h1 : (BitVec.ofNat 32 ((grid1.coords t) 0).val).toNat * 8 + 1 * (z 1).val = b.val * 8 + y.val := congrArg (fun i : S3x128x128.Idx => (i 1).val) hi
  have h2 : 0 * 128 + 1 * (z 2).val = x.val := congrArg (fun i : S3x128x128.Idx => (i 2).val) hi
  have ht : ((grid1.coords t) 0).val = t.val := coords_pt (F := Ideal) tb (t.cast rfl)
  have ht16 : t.val < 16 := t.isLt
  rw [ht, BitVec.toNat_ofNat] at h1
  have hz1 : (z 1).val < 8 := (z 1).isLt
  have eb : t.cast rfl = b := Fin.ext (show t.val = b.val by omega)
  show (Function.update (fun _ _ _ => Classical.arbitrary _) (6 : Fin 9) X 6 t : S3x8x128.Idx → EReal) z = _
  rw [Function.update_self]
  refine (congrFun hL' z).trans ?_
  exact rows_imageOf tb hn W _ _ eb z ch y x (by omega) (by omega) (by omega)

/-- The counts of chunk t of band b. -/
abbrev countOf (b : Fin 16) (t : Fin (k1_t1_loop (word (F := Ideal) (grid1.coords (pt (F := Ideal) tb b)) tb)).trips) : S1x256x1.Idx → BitVec 32 :=
  countT (F := Ideal) (grid1.coords (pt (F := Ideal) tb b)) _ (chk _ (hn (grid1.coords (pt (F := Ideal) tb b)))) (geomAt tb W (pt (F := Ideal) tb b)) t

set_option maxHeartbeats 1000000 in
/-- The counts left. -/
theorem count_at (g8 : S16x2048x1.Idx → BitVec 32) (h : (rdat tb hn W d).ArrAt 8 (cfgT (F := Ideal) tb).N g8)
    (b : Fin 16) (t : Fin (k1_t1_loop (word (F := Ideal) (grid1.coords (pt (F := Ideal) tb b)) tb)).trips) (r : Fin 256) (s : Fin 2048) (hs : s.val = 256 * t.val + r.val) :
    g8 (ix3 b s 0) = countOf tb hn W b t (ix3 0 r 0) := by
  obtain ⟨X, hX, hA⟩ := h.exists_exact
  have e := hA (Function.update (fun _ _ _ => Classical.arbitrary _) 8 X) fun u _ _ => by rw [Function.update_self]
  have key := Pipeline.Dat.arrAt_forall_of_covers (dat := (rdat tb hn W d).withAfter (Function.update (fun _ _ _ => Classical.arbitrary _) 8 X)) 8
    (fun i v => ∀ (b : Fin 16) (t : Fin (k1_t1_loop (word (F := Ideal) (grid1.coords (pt (F := Ideal) tb b)) tb)).trips) (r : Fin 256) (s : Fin 2048), s.val = 256 * t.val + r.val →
      i = (ix3 b s 0 : S16x2048x1.Idx) → v = countOf tb hn W b t (ix3 0 r 0)) (covers8 tb) ?_
  · rw [e]
    exact key _ b t r s hs rfl
  intro u hf z b t r s hs hi
  obtain ⟨_, _, hL⟩ := hX u u.isLt hf
  change S1x2048x1.Idx at z
  have h0 : (BitVec.ofNat 32 ((grid1.coords u) 0).val).toNat * 1 + 1 * (z 0).val = b.val := congrArg (fun i : S16x2048x1.Idx => (i 0).val) hi
  have h1 : 0 * 2048 + 1 * (z 1).val = s.val := congrArg (fun i : S16x2048x1.Idx => (i 1).val) hi
  have ht : ((grid1.coords u) 0).val = u.val := coords_pt (F := Ideal) tb (u.cast rfl)
  have ht16 : u.val < 16 := u.isLt
  rw [ht, BitVec.toNat_ofNat] at h0
  have hz0 : (z 0).val < 1 := (z 0).isLt
  have hz2 : (z 2).val < 1 := (z 2).isLt
  obtain rfl : u = pt (F := Ideal) tb b := Fin.ext (show u.val = b.val by omega)
  have hL' := hL t t.isLt (ix3 0 r 0)
  have ho := off3_eq (word (F := Ideal) (grid1.coords (pt (F := Ideal) tb b)) tb) (hn _) t
  show (Function.update (fun _ _ _ => Classical.arbitrary _) (8 : Fin 9) X 8 (pt (F := Ideal) tb b) : S1x2048x1.Idx → BitVec 32) z = _
  rw [Function.update_self]
  refine Eq.trans (congrArg (X (pt (F := Ideal) tb b) : S1x2048x1.Idx → BitVec 32) (funext fun a => Fin.ext ?_)) hL'
  match a with
  | ⟨0, _⟩ =>
    show (z 0).val = k1_off3 _ t 0 + 1 * 0
    rw [ho]
    show (z 0).val = 0
    omega
  | ⟨1, _⟩ =>
    show (z 1).val = k1_off3 _ t 1 + 1 * r.val
    rw [ho]
    show (z 1).val = 256 * t.val + 1 * r.val
    omega
  | ⟨2, _⟩ =>
    show (z 2).val = k1_off3 _ t 2 + 1 * 0
    rw [ho]
    show (z 2).val = 0
    omega

/-- The blocks of the covariances are the same at every point. -/
theorem fetch7 (t : Fin (cfgT (F := Ideal) tb).N) : ((cfgT (F := Ideal) tb).win 7).fetch t = false := by
  revert t
  show ∀ t : Fin (cfgT (F := Ideal) tb0).N, ((cfgT (F := Ideal) tb0).win 7).fetch t = false
  decide +kernel
theorem flush7 (t : Fin (cfgT (F := Ideal) tb).N) (h : t.val < 15) : ((cfgT (F := Ideal) tb).win 7).flush t = false := by
  revert t
  show ∀ t : Fin (cfgT (F := Ideal) tb0).N, t.val < 15 → ((cfgT (F := Ideal) tb0).win 7).flush t = false
  decide +kernel

/-- The radii. -/
abbrev radOf : S2048x1.Idx → BitVec 32 :=
  k1_pay16 (F := Ideal) (xxAt tb W (pt (F := Ideal) tb 0)) (yyAt tb W (pt (F := Ideal) tb 0)) (xyAt tb W (pt (F := Ideal) tb 0))
    (xyAt tb W (pt (F := Ideal) tb 0)) (xxAt tb W (pt (F := Ideal) tb 0)) (yyAt tb W (pt (F := Ideal) tb 0))

theorem leaves7 (n : ℕ) (t : Fin (cfgT (F := Ideal) tb).N) (ht : t.val = n) (X : S2048x1.Idx → BitVec 32) (h : (rdat tb hn W d).Leaves 7 t X) : X = radOf tb W := by
  have htt : ((grid1.coords t) 0).val = t.val := coords_pt (F := Ideal) tb (t.cast rfl)
  induction n generalizing t X with
  | zero =>
    obtain ⟨_, _, hL⟩ := h
    obtain rfl : t = pt (F := Ideal) tb 0 := Fin.ext ht
    exact hL.1 (htt.trans ht)
  | succ n ih =>
    obtain ⟨Y, hY, hL⟩ := h
    have hne : t.val ≠ 0 := by omega
    have hlt : t.val < 16 := t.isLt
    have e := hL.2 (by rw [htt]; exact hne)
    rw [e]
    rw [(rdat tb hn W d).finds_of_pos (fetch7 tb t) hne] at hY
    rcases hY with hf | hl
    · rw [flush7 tb ⟨t.val - 1, _⟩ (by show t.val - 1 < 15; omega)] at hf
      exact absurd hf (by decide)
    · exact ih ⟨t.val - 1, Nat.lt_of_le_of_lt (Nat.sub_le _ _) t.isLt⟩ (by show t.val - 1 = n; omega) Y hl
        (coords_pt (F := Ideal) tb (Fin.cast rfl ⟨t.val - 1, Nat.lt_of_le_of_lt (Nat.sub_le _ _) t.isLt⟩))

/-- The radii left. -/
theorem radii_at (g7 : S2048x1.Idx → BitVec 32) (h : (rdat tb hn W d).ArrAt 7 (cfgT (F := Ideal) tb).N g7) : g7 = radOf tb W := by
  obtain ⟨X, hX, hj⟩ := h.emb_eq_of_wholeAt (whole7 tb)
  rw [← leaves7 tb hn W d 15 _ rfl X hX]
  exact funext fun j => hj j

end Arrays

end Cert.Proof.Win
-- ==== Proof.Comp.lean ====
/-
  Front-to-back compositing as sums and products of real numbers, and its compaction: leaving out what does not cover a
  pixel changes nothing.
-/
module

public import Idealize.ShloMosaic.PureOps.Ideal
public import Idealize.ShloMosaic.Lib.Pointwise
public import Mathlib.Algebra.BigOperators.Fin
public import Mathlib.Analysis.SpecialFunctions.Log.Basic

@[expose] public section

noncomputable section

namespace Cert.Proof.Comp

open Idealize.ShloMosaic
open Finset (range sum_range_succ prod_range_succ)

/-- The transmittance in front of number k. -/
def trans (a : ℕ → ℝ) (k : ℕ) : ℝ := ∏ j ∈ range k, (1 - a j)
/-- The light gathered from the first k. -/
def light (a : ℕ → ℝ) (c : ℕ → EReal) (k : ℕ) : EReal := ∑ j ∈ range k, c j * ((trans a j * a j : ℝ) : EReal)

theorem trans_succ (a : ℕ → ℝ) (k : ℕ) : trans a (k + 1) = trans a k * (1 - a k) := prod_range_succ _ _
theorem light_succ (a : ℕ → ℝ) (c : ℕ → EReal) (k : ℕ) : light a c (k + 1) = light a c k + c k * ((trans a k * a k : ℝ) : EReal) := sum_range_succ _ _

theorem trans_congr {a b : ℕ → ℝ} {k : ℕ} (h : ∀ j < k, a j = b j) : trans a k = trans b k :=
  Finset.prod_congr rfl fun j hj => by rw [h j (Finset.mem_range.mp hj)]

/-- Past the last that covers the pixel nothing changes. -/
theorem trans_past {a : ℕ → ℝ} {n m : ℕ} (hnm : n ≤ m) (h : ∀ j, n ≤ j → a j = 0) : trans a m = trans a n := by
  induction m, hnm using Nat.le_induction with
  | base => rfl
  | succ m hm ih => rw [trans_succ, ih, h m hm]; ring

theorem light_past {a : ℕ → ℝ} {c : ℕ → EReal} {n m : ℕ} (hnm : n ≤ m) (h : ∀ j, n ≤ j → a j = 0) : light a c m = light a c n := by
  induction m, hnm using Nat.le_induction with
  | base => rfl
  | succ m hm ih => rw [light_succ, ih, h m hm]; simp

section Compact

variable {keep : ℕ → Prop} [DecidablePred keep] {a b : ℕ → ℝ} {c d : ℕ → EReal} {M : ℕ}
  (hk : ∀ k < M, keep k → a (Nat.count keep k) = b k) (h0 : ∀ k < M, ¬ keep k → b k = 0)

include hk h0 in
theorem trans_count (k : ℕ) (hM : k ≤ M) : trans a (Nat.count keep k) = trans b k := by
  induction k with
  | zero => rfl
  | succ k ih =>
    have hM' : k < M := hM
    rw [trans_succ, ← ih hM'.le, Nat.count_succ]
    by_cases h : keep k
    · rw [if_pos h, trans_succ, hk k hM' h]
    · rw [if_neg h, h0 k hM' h, add_zero, sub_zero, mul_one]

include hk h0 in
theorem light_count (hc : ∀ k < M, keep k → c (Nat.count keep k) = d k) (k : ℕ) (hM : k ≤ M) : light a c (Nat.count keep k) = light b d k := by
  induction k with
  | zero => rfl
  | succ k ih =>
    have hM' : k < M := hM
    rw [light_succ, ← ih hM'.le, Nat.count_succ, ← trans_count hk h0 k hM'.le]
    by_cases h : keep k
    · rw [if_pos h, light_succ, hk k hM' h, hc k hM' h]
    · rw [if_neg h, h0 k hM' h, add_zero, mul_zero]
      simp

end Compact

/-! ## The logarithms -/

theorem log1p_neg {a : ℝ} (h : a < 1) : Ideal.log1p (0 - (a : EReal)) = ((Real.log (1 - a) : ℝ) : EReal) := by
  have e : (1 : EReal) + (0 - (a : EReal)) = ((1 - a : ℝ) : EReal) := by
    rw [zero_sub, ← sub_eq_add_neg]; rfl
  unfold Ideal.log1p
  rw [e, Ideal.log_coe, if_neg (by linarith)]

theorem exp_sum {a : ℕ → ℝ} (h : ∀ j, a j < 1) (k : ℕ) : Real.exp (∑ j ∈ range k, Real.log (1 - a j)) = trans a k := by
  rw [Real.exp_sum]
  exact Finset.prod_congr rfl fun j _ => Real.exp_log (by linarith [h j])

theorem coe_sum {ι : Type} (s : Finset ι) (f : ι → ℝ) : ((∑ i ∈ s, f i : ℝ) : EReal) = ∑ i ∈ s, ((f i : ℝ) : EReal) := by
  classical
  induction s using Finset.induction_on with
  | empty => rfl
  | insert i s hi ih => rw [Finset.sum_insert hi, Finset.sum_insert hi, EReal.coe_add, ih]

/-- A sum over a chunk continues the sum in front of it. -/
theorem sum_chunk (f : ℕ → ℝ) (n m : ℕ) : ∑ j ∈ range (n + m), f j = ∑ j ∈ range n, f j + ∑ j : Fin m, f (n + j.val) := by
  rw [Finset.sum_range_add, Fin.sum_univ_eq_sum_range (fun j => f (n + j))]

theorem light_chunk (a : ℕ → ℝ) (c : ℕ → EReal) (n m : ℕ) :
    light a c (n + m) = light a c n + ∑ j : Fin m, c (n + j.val) * ((trans a (n + j.val) * a (n + j.val) : ℝ) : EReal) := by
  unfold light
  rw [Finset.sum_range_add, Fin.sum_univ_eq_sum_range (fun j => c (n + j) * ((trans a (n + j) * a (n + j) : ℝ) : EReal))]

theorem sum_below (f : ℕ → ℝ) (m : ℕ) (r : Fin m) : ∑ j : Fin m, (if j.val < r.val then f j.val else 0) = ∑ j ∈ range r.val, f j := by
  rw [Fin.sum_univ_eq_sum_range (fun j => if j < r.val then f j else 0), ← Finset.sum_filter]
  congr 1
  ext j
  have := r.isLt
  simp only [Finset.mem_filter, Finset.mem_range]
  omega

end Cert.Proof.Comp
-- ==== Proof.Pay.lean ====
/-
  The rasterizer's values on one band over the extended reals: the opacities of a chunk, the pixels they cover, and what
  is composited.
-/
module

public import proofs.«01_k».proof.Proof.Raster
public import proofs.«01_k».proof.Proof.Spec
public import proofs.«01_k».proof.Proof.Order
public import proofs.«01_k».proof.Proof.Comp
public import Idealize.ShloMosaic.Lib.Pointwise

@[expose] public section

set_option maxRecDepth 16384

noncomputable section

namespace Cert.Proof.Pay

open Idealize.ShloMosaic Idealize.ShloMosaic.TcCoe
open Cert.KernelIdeal Cert.KernelIdeal.Gen Cert.Proof.Tc Cert.Proof.Spec Cert.Proof.Comp Cert.Proof.Order
open Finset (range)

/-- The pixel in the middle of column or row k. -/
def mid (k : ℕ) : ℝ := (k : ℝ) + 1 / 2

theorem mid_coe {k : ℕ} (hk : k < 2048) : FloatOps.sitofp (F := Ideal) .f32 (BitVec.ofNat 32 k) + Ideal.ofBits .f32 1056964608#32 = (mid k : EReal) := by
  show (((BitVec.ofNat 32 k).toInt : ℝ) : EReal) + wd 0x3F000000#32 = _
  rw [wd_half]
  rw [toInt_int hk, ← EReal.coe_add]
  norm_num [mid]

/-! ## The pixels -/

set_option maxHeartbeats 1000000 in
theorem xs_at (p : Fin 1024) : xs (F := Ideal) (ix2 0 p) = (mid (p.val % 128) : EReal) := by
  refine Eq.trans ?_ (mid_coe (by omega))
  pointwise [xs, k1_pay17]
  congr 1
  refine congrArg _ ?_
  revert p
  decide +kernel

set_option maxHeartbeats 1000000 in
theorem ys_at (i : grid1.Coords) (p : Fin 1024) : ys (F := Ideal) i (ix2 0 p) = (mid ((i 0).val * 8 + p.val / 128) : EReal) := by
  have hi : (i 0).val < 16 := (i 0).isLt
  refine Eq.trans ?_ (mid_coe (by omega))
  pointwise [ys, k1_pay18, k1_pay19, k1_pay20, k1_pay21]
  congr 1
  refine congrArg _ ?_
  generalize (i 0).val = b
  have e : BitVec.ofNat 32 (b * 8 + p.val / 128) = IntOp.addi (Scalar.muli (BitVec.ofNat 32 b) 8#32) (BitVec.ofNat 32 (p.val / 128)) := by
    refine BitVec.eq_of_toNat_eq ?_
    show _ = (BitVec.ofNat 32 b * 8#32 + BitVec.ofNat 32 (p.val / 128)).toNat
    simp only [BitVec.toNat_add, BitVec.toNat_mul, BitVec.toNat_ofNat]
    omega
  rw [e]
  congr 1
  clear e hi
  revert p
  decide +kernel

/-! ## One chunk -/

section Chunk

variable (i : grid1.Coords) (N : ℕ) (hN : N ≤ 2048) (h : k1_chk1 (BitVec.ofNat 32 N))
  (g : Vec Ideal S1x2048x8 .f32) (c : Vec Ideal S1x8x4x256 .f32) (bg : Vec Ideal S3x1 .f32)

/-- The numbers in slot s of the band. -/
def slotG (s : ℕ) (q : Fin 8) : EReal := g (ix3 0 ⟨s % 2048, Nat.mod_lt _ (by decide)⟩ q)
def slotC (s : ℕ) (ch : Fin 3) : EReal := c (ix4 0 ⟨s / 256 % 8, Nat.mod_lt _ (by decide)⟩ ⟨ch.val, ch.isLt.trans (by decide)⟩ ⟨s % 256, Nat.mod_lt _ (by decide)⟩)

/-- The opacity that slot s gives at a pixel. -/
def rawS (s : ℕ) (p : Fin 1024) : EReal :=
  rawK (slotG g s 0) (slotG g s 1) (slotG g s 2) (slotG g s 3) (slotG g s 4) (slotG g s 5)
    (mid (p.val % 128)) (mid ((i 0).val * 8 + p.val / 128))

/-- Slot s covers the pixel. -/
def covers (s : ℕ) (p : Fin 1024) : Prop := wd 0x3B808081#32 < rawS i g s p ∧ s < N

instance (s : ℕ) (p : Fin 1024) : Decidable (covers i N g s p) := by unfold covers; infer_instance

include hN in
theorem n_toNat : (BitVec.ofNat 32 N).toNat = N := by
  rw [BitVec.toNat_ofNat]; omega

include hN in
theorem trips_eq : (k1_t1_loop (BitVec.ofNat 32 N)).trips = (N + 255) / 256 := by
  rw [trips1 _ (by rw [n_toNat N hN]; exact hN), n_toNat N hN]

variable (t : Fin (k1_t1_loop (BitVec.ofNat 32 N)).trips)

include hN in
theorem t_lt : t.val < 8 := Nat.lt_of_lt_of_le t.isLt (trips_le _ (by rw [n_toNat N hN]; exact hN))

include hN in
theorem chunkG_at (r : Fin 256) (q : Fin 8) : chunkG (F := Ideal) (BitVec.ofNat 32 N) h g t (ix3 0 r q) = slotG g (256 * t.val + r.val) q := by
  have ht := t_lt N hN t
  have hr := r.isLt
  have ho := off2_eq (BitVec.ofNat 32 N) (by rw [n_toNat N hN]; exact hN) t
  refine congrArg g (funext fun a => Fin.ext ?_)
  match a with
  | ⟨0, _⟩ =>
    show k1_off2 _ t 0 + 1 * 0 = 0
    rw [ho]; rfl
  | ⟨1, _⟩ =>
    show k1_off2 _ t 1 + 1 * r.val = (256 * t.val + r.val) % 2048
    rw [ho]
    show 256 * t.val + 1 * r.val = _
    omega
  | ⟨2, _⟩ =>
    show k1_off2 _ t 2 + 1 * q.val = q.val
    rw [ho]
    show 0 + 1 * q.val = _
    omega

include hN in
theorem chunkC_at (r : Fin 256) (ch : Fin 3) : chunkC (F := Ideal) (BitVec.ofNat 32 N) h c t (ix4 0 0 ch r) = slotC c (256 * t.val + r.val) ch := by
  have ht := t_lt N hN t
  have hr := r.isLt
  have ho := off4_eq (BitVec.ofNat 32 N) (by rw [n_toNat N hN]; exact hN) t
  refine congrArg c (funext fun a => Fin.ext ?_)
  match a with
  | ⟨0, _⟩ =>
    show k1_off4 _ t 0 + 1 * 0 = 0
    rw [ho]; rfl
  | ⟨1, _⟩ =>
    show k1_off4 _ t 1 + 1 * 0 = (256 * t.val + r.val) / 256 % 8
    rw [ho]
    show t.val + 1 * 0 = _
    omega
  | ⟨2, _⟩ =>
    show k1_off4 _ t 2 + 1 * ch.val = ch.val
    rw [ho]
    show 0 + 1 * ch.val = _
    omega
  | ⟨3, _⟩ =>
    show k1_off4 _ t 3 + 1 * r.val = (256 * t.val + r.val) % 256
    rw [ho]
    show 0 + 1 * r.val = _
    omega

set_option maxHeartbeats 1000000 in
include hN in
theorem raw_at (r : Fin 256) (p : Fin 1024) :
    k1_pay8 (xs (F := Ideal)) (ys i) (chunkG (BitVec.ofNat 32 N) h g t) (ix2 r p) = rawS i g (256 * t.val + r.val) p := by
  pointwise [k1_pay8]
  rw [chunkG_at N hN h g t, chunkG_at N hN h g t, chunkG_at N hN h g t, chunkG_at N hN h g t, chunkG_at N hN h g t, chunkG_at N hN h g t, xs_at, ys_at]
  rfl

theorem slt_nat {a b : ℕ} (ha : a < 4096) (hb : b < 4096) : IntOp.cmpi .slt (BitVec.ofNat 32 a) (BitVec.ofNat 32 b) = BitVec.ofBool (decide (a < b)) := by
  have e : ∀ k : ℕ, k < 4096 → (BitVec.ofNat 32 k).toInt = (k : ℤ) := fun k hk => by
    rw [BitVec.toInt_eq_toNat_of_lt] <;> rw [BitVec.toNat_ofNat] <;> omega
  show BitVec.ofBool ((BitVec.ofNat 32 a).slt (BitVec.ofNat 32 b)) = _
  unfold BitVec.slt
  rw [e a ha, e b hb]
  simp

set_option maxHeartbeats 1000000 in
include hN in
theorem mask_at (r : Fin 256) (p : Fin 1024) :
    k1_pay9 (xs (F := Ideal)) (ys i) rows (BitVec.ofNat 32 N) 0#32 1#32 t (chunkG (BitVec.ofNat 32 N) h g t) (ix2 r p)
      = BitVec.ofBool (decide (covers i N g (256 * t.val + r.val) p)) := by
  have ht := t_lt N hN t
  have hr := r.isLt
  pointwise [k1_pay9]
  rw [raw_at i N hN h g t]
  have e : IntOp.addi (Scalar.muli (Scf.iv 0#32 1#32 t.val) 256#32) (BitVec.ofNat 32 r.val) = BitVec.ofNat 32 (256 * t.val + r.val) := by
    refine BitVec.eq_of_toNat_eq ?_
    show (Scalar.muli (Scf.iv 0#32 1#32 t.val) 256#32 + BitVec.ofNat 32 r.val).toNat = _
    rw [BitVec.toNat_add, iv_toNat t.val ht]
    simp only [BitVec.toNat_ofNat]
    omega
  rw [e, slt_nat (by omega) (by omega)]
  unfold covers
  by_cases h1 : wd 0x3B808081#32 < rawS i g (256 * t.val + r.val) p <;> by_cases h2 : 256 * t.val + r.val < N <;> simp [h1, h2] <;> rfl

set_option maxHeartbeats 1000000 in
include hN in
theorem alpha_at (r : Fin 256) (p : Fin 1024) :
    alphaT (F := Ideal) i (BitVec.ofNat 32 N) h g t (ix2 r p) = if covers i N g (256 * t.val + r.val) p then rawS i g (256 * t.val + r.val) p else 0 := by
  have e : alphaT (F := Ideal) i (BitVec.ofNat 32 N) h g t (ix2 r p) = Scalar.select (k1_pay9 (xs (F := Ideal)) (ys i) rows (BitVec.ofNat 32 N) 0#32 1#32 t (chunkG (BitVec.ofNat 32 N) h g t) (ix2 r p))
      (k1_pay8 (xs (F := Ideal)) (ys i) (chunkG (BitVec.ofNat 32 N) h g t) (ix2 r p)) (0 : EReal) := by
    pointwise [k1_pay10]
  rw [e, mask_at i N hN h g t, raw_at i N hN h g t]
  by_cases hc : covers i N g (256 * t.val + r.val) p <;> simp [hc, Scalar.select]

theorem fptosi_nat {k : ℕ} (hk : k < 2 ^ 31) : Ideal.fptosi 32 (((k : ℝ) : EReal)) = BitVec.ofNat 32 k := by
  show BitVec.ofInt 32 (max (-(2 ^ 31 : ℕ) : ℤ) (min (((2 ^ 31 : ℕ) : ℤ) - 1) (if (0 : ℝ) ≤ (k : ℝ) then ⌊(k : ℝ)⌋ else ⌈(k : ℝ)⌉))) = _
  rw [if_pos (Nat.cast_nonneg k), Int.floor_natCast, min_eq_right (by push_cast; omega), max_eq_right (by push_cast; omega), BitVec.ofInt_natCast]

set_option maxHeartbeats 1000000 in
include hN in
theorem count_at (r : Fin 256) :
    countT (F := Ideal) i (BitVec.ofNat 32 N) h g t (ix3 0 r 0) = BitVec.ofNat 32 (∑ p : Fin 1024, if covers i N g (256 * t.val + r.val) p then 1 else 0) := by
  pointwise [k1_pay11, k1_pay25]
  have e : ∀ p : Fin 1024, FloatOps.sitofp (F := Ideal) .f32 (BitVec.setWidth 32 (k1_pay9 (xs (F := Ideal)) (ys i) rows (BitVec.ofNat 32 N) (0#32) (1#32) t (chunkG (BitVec.ofNat 32 N) h g t) (ix2 r p)))
      = (((if covers i N g (256 * t.val + r.val) p then 1 else 0 : ℕ) : ℝ) : EReal) := by
    intro p
    rw [mask_at i N hN h g t]
    by_cases hc : covers i N g (256 * t.val + r.val) p
    · rw [if_pos hc, decide_eq_true hc]
      show ((((BitVec.ofBool true).setWidth 32).toInt : ℝ) : EReal) = _
      rw [show ((BitVec.ofBool true).setWidth 32).toInt = 1 from by decide]
      norm_num
    · rw [if_neg hc, decide_eq_false hc]
      show ((((BitVec.ofBool false).setWidth 32).toInt : ℝ) : EReal) = _
      rw [show ((BitVec.ofBool false).setWidth 32).toInt = 0 from by decide]
      norm_num
  rw [Finset.sum_congr rfl fun p _ => e p, ← coe_sum, ← Nat.cast_sum]
  refine fptosi_nat ((Finset.sum_le_card_nsmul _ _ 1 fun p _ => ?_).trans_lt ?_)
  · split <;> omega
  · simp

end Chunk

end Cert.Proof.Pay
-- ==== Proof.Light.lean ====
/-
  What the rasterizer carries from chunk to chunk, and the band's image: front-to-back compositing of the band's slots.
-/
module

public import proofs.«01_k».proof.Proof.Pay

@[expose] public section

set_option maxRecDepth 16384

noncomputable section

namespace Cert.Proof.Light

open Idealize.ShloMosaic Idealize.ShloMosaic.TcCoe
open Cert.KernelIdeal Cert.KernelIdeal.Gen Cert.Proof.Tc Cert.Proof.Spec Cert.Proof.Comp Cert.Proof.Order Cert.Proof.Pay
open Finset (range)

variable (i : grid1.Coords) (N : ℕ) (hN : N ≤ 2048) (h : k1_chk1 (BitVec.ofNat 32 N))
  (g : Vec Ideal S1x2048x8 .f32) (c : Vec Ideal S1x8x4x256 .f32) (bg : Vec Ideal S3x1 .f32)
  (p : Fin 1024) (A : ℕ → ℝ) (hA1 : ∀ s, A s < 1) (hA : ∀ s, (if covers i N g s p then rawS i g s p else 0) = (A s : EReal))

include hA1 in
/-- The logarithms in front of row r of a chunk. -/
theorem row_sum (n : ℕ) (r : Fin 256) :
    (∑ j : Fin 256, FloatOps.sitofp (F := Ideal) .f32 (BitVec.setWidth 32 (IntOp.cmpi CmpIPredicate.sgt (BitVec.ofNat 32 r.val) (BitVec.ofNat 32 j.val)))
        * Ideal.log1p (0 - (A (n + j.val) : EReal)))
      = ((∑ j ∈ range r.val, Real.log (1 - A (n + j)) : ℝ) : EReal) := by
  have e : ∀ j : Fin 256, FloatOps.sitofp (F := Ideal) .f32 (BitVec.setWidth 32 (IntOp.cmpi CmpIPredicate.sgt (BitVec.ofNat 32 r.val) (BitVec.ofNat 32 j.val)))
        * Ideal.log1p (0 - (A (n + j.val) : EReal)) = ((if j.val < r.val then Real.log (1 - A (n + j.val)) else 0 : ℝ) : EReal) := by
    intro j
    have hr := r.isLt
    have hj := j.isLt
    have ec : IntOp.cmpi CmpIPredicate.sgt (BitVec.ofNat 32 r.val) (BitVec.ofNat 32 j.val) = BitVec.ofBool (decide (j.val < r.val)) :=
      slt_nat (by omega) (by omega)
    rw [ec, log1p_neg (hA1 _)]
    by_cases hc : j.val < r.val
    · rw [if_pos hc, decide_eq_true hc]
      show ((((BitVec.ofBool true).setWidth 32).toInt : ℝ) : EReal) * _ = _
      rw [show ((BitVec.ofBool true).setWidth 32).toInt = 1 from by decide]
      norm_num
    · rw [if_neg hc, decide_eq_false hc]
      show ((((BitVec.ofBool false).setWidth 32).toInt : ℝ) : EReal) * _ = _
      rw [show ((BitVec.ofBool false).setWidth 32).toInt = 0 from by decide]
      norm_num
  rw [Finset.sum_congr rfl fun j _ => e j, ← coe_sum, sum_below (fun j => Real.log (1 - A (n + j)))]

set_option maxHeartbeats 2000000 in
include hN hA1 hA in
/-- What is carried before chunk k. -/
theorem acc_at (k : ℕ) (hk : k ≤ (k1_t1_loop (BitVec.ofNat 32 N)).trips) :
    ((acc (F := Ideal) i (BitVec.ofNat 32 N) h g c k).1 (ix2 0 p) : EReal) = ((∑ j ∈ range (256 * k), Real.log (1 - A j) : ℝ) : EReal)
    ∧ ∀ ch : Fin 3, ((acc (F := Ideal) i (BitVec.ofNat 32 N) h g c k).2 (ix2 ch p) : EReal) = light A (fun s => slotC c s ch) (256 * k) := by
  induction k with
  | zero =>
    refine ⟨?_, fun ch => ?_⟩
    · show Ideal.ofBits .f32 0#32 = _
      simp
    · show Ideal.ofBits .f32 0#32 = _
      simp [light]
  | succ k ih =>
    obtain ⟨ih1, ih2⟩ := ih (Nat.le_of_succ_le hk)
    have es := acc_succ (F := Ideal) i (BitVec.ofNat 32 N) h g c ⟨k, hk⟩
    rw [es]
    clear es ih
    dsimp only
    have ea : ∀ r : Fin 256, (alphaT (F := Ideal) i (BitVec.ofNat 32 N) h g ⟨k, hk⟩ (ix2 r p) : EReal) = (A (256 * k + r.val) : EReal) := fun r =>
      (alpha_at i N hN h g ⟨k, hk⟩ r p).trans (hA _)
    have ec : ∀ (r : Fin 256) (ch : Fin 3), (chunkC (F := Ideal) (BitVec.ofNat 32 N) h c ⟨k, hk⟩ (ix4 0 0 ch r) : EReal) = slotC c (256 * k + r.val) ch := fun r ch =>
      chunkC_at N hN h c ⟨k, hk⟩ r ch
    generalize hP : acc (F := Ideal) i (BitVec.ofNat 32 N) h g c k = P at ih1 ih2 ⊢
    obtain ⟨L, I⟩ := P
    dsimp only at ih1 ih2
    generalize alphaT (F := Ideal) i (BitVec.ofNat 32 N) h g ⟨k, hk⟩ = AL at ea
    generalize chunkC (F := Ideal) (BitVec.ofNat 32 N) h c ⟨k, hk⟩ = CL at ec
    rw [show 256 * (k + 1) = 256 * k + 256 from by ring]
    refine ⟨?_, fun ch => ?_⟩
    · have e : (k1_pay28 L AL (ix2 0 p) : EReal)
          = L (ix2 0 p) + ∑ x : Fin 256, Ideal.log1p (0 - AL (ix2 x p)) := by
        pointwise [k1_pay28, k1_pay26]
      rw [e]
      have e3 : (∑ x : Fin 256, Ideal.log1p (0 - AL (ix2 x p))) = ∑ x : Fin 256, ((Real.log (1 - A (256 * k + x.val)) : ℝ) : EReal) :=
        Finset.sum_congr rfl fun r _ => by rw [ea r, log1p_neg (hA1 _)]
      rw [ih1, e3, ← coe_sum, ← EReal.coe_add, ← sum_chunk (fun j => Real.log (1 - A j))]
    · have e : (k1_pay27 L I AL CL (ix2 ch p) : EReal)
          = I (ix2 ch p) + ∑ x : Fin 256, CL (ix4 0 0 ch x) *
            (Ideal.exp (L (ix2 0 p) + ∑ j : Fin 256,
                FloatOps.sitofp (F := Ideal) .f32 (BitVec.setWidth 32 (IntOp.cmpi CmpIPredicate.sgt (BitVec.ofNat 32 x.val) (BitVec.ofNat 32 j.val))) * Ideal.log1p (0 - AL (ix2 j p)))
              * AL (ix2 x p)) := by
        pointwise [k1_pay27, k1_pay26, k1_pay22]
      rw [e, ih2 ch, light_chunk]
      congr 1
      refine Finset.sum_congr rfl fun r _ => ?_
      have e3 := row_sum A hA1 (256 * k) r
      have e4 : (∑ j : Fin 256, FloatOps.sitofp (F := Ideal) .f32 (BitVec.setWidth 32 (IntOp.cmpi CmpIPredicate.sgt (BitVec.ofNat 32 r.val) (BitVec.ofNat 32 j.val))) * Ideal.log1p (0 - AL (ix2 j p)))
          = ((∑ j ∈ range r.val, Real.log (1 - A (256 * k + j)) : ℝ) : EReal) := (Finset.sum_congr rfl fun j _ => by rw [ea j]).trans e3
      rw [e4, ih1, ea r, ec r ch, ← EReal.coe_add,
        ← Finset.sum_range_add (fun j => Real.log (1 - A j)), Ideal.exp_coe, exp_sum hA1, EReal.coe_mul]

set_option maxHeartbeats 1000000 in
include hN hA1 hA in
/-- The band's image at a pixel. -/
theorem image_at (ch : Fin 3) :
    (image (F := Ideal) i (BitVec.ofNat 32 N) h g c bg (ix2 ch p) : EReal)
      = light A (fun s => slotC c s ch) N + bg (ix2 ch 0) * ((trans A N : ℝ) : EReal) := by
  have hA0 : ∀ s, N ≤ s → A s = 0 := by
    intro s hs
    have := hA s
    rw [if_neg (by unfold covers; omega)] at this
    exact_mod_cast this.symm
  obtain ⟨h1, h2⟩ := acc_at i N hN h g c p A hA1 hA _ le_rfl
  have e : (image (F := Ideal) i (BitVec.ofNat 32 N) h g c bg (ix2 ch p) : EReal)
      = (acc (F := Ideal) i (BitVec.ofNat 32 N) h g c (k1_t1_loop (BitVec.ofNat 32 N)).trips).2 (ix2 ch p)
        + bg (ix2 ch 0) * Ideal.exp ((acc (F := Ideal) i (BitVec.ofNat 32 N) h g c (k1_t1_loop (BitVec.ofNat 32 N)).trips).1 (ix2 0 p)) := by
    unfold image
    pointwise [k1_pay33]
  have hle : N ≤ 256 * (k1_t1_loop (BitVec.ofNat 32 N)).trips := by
    rw [trips_eq N hN]; omega
  rw [e, h1, h2 ch, Ideal.exp_coe, exp_sum hA1, light_past hle hA0, trans_past hle hA0]

end Cert.Proof.Light
-- ==== Proof.Clip.lean ====
/-
  One Gaussian at a pixel, whatever its mean and opacity: the reference's operations and the kernel's give the same opacity
  where it passes the threshold, and then the pixel's row is within the Gaussian's reach.
-/
module

public import proofs.«01_k».proof.Proof.Spec

@[expose] public section

noncomputable section

namespace Cert.Proof.Spec

open Idealize.ShloMosaic

/-- The difference of a pixel's coordinate and a mean that isn't real. -/
theorem sub_inf {z : EReal} {p : ℝ} (h : z = ⊤ ∨ z = ⊥) : (p : EReal) - z = ⊥ ∨ (p : EReal) - z = ⊤ := by
  rcases h with rfl | rfl
  · exact Or.inl (by rw [sub_eq_add_neg, EReal.neg_top, EReal.add_bot])
  · exact Or.inr (EReal.coe_sub_bot p)

theorem sq_inf {k : ℝ} (hk : 0 < k) {z : EReal} (h : z = ⊥ ∨ z = ⊤) : (k : EReal) * z * z = ⊤ := by
  rcases h with rfl | rfl
  · rw [EReal.coe_mul_bot_of_pos hk]; rfl
  · rw [EReal.coe_mul_top_of_pos hk]; rfl

theorem sq_inf' {z : EReal} (h : z = ⊥ ∨ z = ⊤) : z * z = ⊤ := by
  rcases h with rfl | rfl <;> rfl

theorem real_or_inf (z : EReal) : (∃ r : ℝ, z = r) ∨ (z = ⊤ ∨ z = ⊥) := by
  induction z with
  | bot => exact Or.inr (Or.inr rfl)
  | top => exact Or.inr (Or.inl rfl)
  | coe r => exact Or.inl ⟨r, rfl⟩

theorem sq_ne_bot {k : ℝ} (hk : 0 < k) (z : EReal) : (k : EReal) * z * z ≠ ⊥ := by
  rcases real_or_inf z with ⟨r, rfl⟩ | h
  · rw [← EReal.coe_mul, ← EReal.coe_mul]; exact EReal.coe_ne_bot _
  · rw [sq_inf hk h.symm]; exact top_ne_bot

theorem thr_pos : (0 : ℝ) < thr := by unfold thr; norm_num
theorem thr_top : thr < top := by unfold thr top; norm_num

/-- The opacity is nought where the exponent is minus infinity. -/
theorem min_top_zero : min (wd 0x3F7D70A4#32) (0 : EReal) = 0 := by
  rw [wd_top]
  exact min_eq_right (by exact_mod_cast (by unfold top; norm_num : (0 : ℝ) ≤ top))

theorem not_thr_zero : ¬ wd 0x3B808081#32 < (0 : EReal) := by
  rw [wd_thr, not_lt]
  exact_mod_cast thr_pos.le

section One

variable {a b c d : ℝ} (hd : 0 < d) (hc : 0 < c) (e : a * c - b * b = d) (hdet : det a b c = (d : EReal))
include hd hc e hdet

omit hdet in
theorem a_pos : 0 < a := by
  have h : 0 < a * c := by nlinarith [mul_self_nonneg b]
  exact (pos_iff_pos_of_mul_pos h).mpr hc

theorem raw_inf (mx my op : EReal) (px py : ℝ) (h : (mx = ⊤ ∨ mx = ⊥) ∨ (my = ⊤ ∨ my = ⊥)) : raw a b c mx my op px py = 0 := by
  have ha := a_pos hd hc e
  unfold raw
  rw [hdet, wd_neghalf, Ideal.div_coe hd.ne', Ideal.div_coe hd.ne', Ideal.div_coe hd.ne', ← EReal.coe_mul, ← EReal.coe_mul]
  have hkc : 0 < c * (1 / d) := by positivity
  have hka : 0 < a * (1 / d) := by positivity
  have hs : ((c * (1 / d) : ℝ) : EReal) * ((px : EReal) - mx) * ((px : EReal) - mx)
      + ((a * (1 / d) : ℝ) : EReal) * ((py : EReal) - my) * ((py : EReal) - my) = ⊤ := by
    rcases h with h | h
    · rw [sq_inf hkc (sub_inf h), EReal.top_add_of_ne_bot (sq_ne_bot hka _)]
    · rw [sq_inf hka (sub_inf h), EReal.add_top_of_ne_bot (sq_ne_bot hkc _)]
  rw [hs, EReal.coe_mul_top_of_neg (by norm_num : (-(1 / 2) : ℝ) < 0), EReal.bot_sub, min_eq_left bot_le]
  show min _ (op * (0 : EReal)) = 0
  rw [mul_zero, min_top_zero]

theorem rawK_inf (mx my lop : EReal) (px py : ℝ) (h : (mx = ⊤ ∨ mx = ⊥) ∨ (my = ⊤ ∨ my = ⊥)) :
    rawK mx my (Ideal.div (wd 0xBF000000#32 * c) (det a b c)) (Ideal.div b (det a b c)) (Ideal.div (wd 0xBF000000#32 * a) (det a b c)) lop px py = 0 := by
  have ha := a_pos hd hc e
  unfold rawK
  rw [hdet, wd_neghalf, Ideal.div_coe hd.ne', Ideal.div_coe hd.ne', Ideal.div_coe hd.ne', ← EReal.coe_mul, ← EReal.coe_mul, ← EReal.coe_mul, ← EReal.coe_mul]
  have hkc : -(1 / 2) * c * (1 / d) < 0 := by
    have : 0 < c * (1 / d) := by positivity
    linarith
  have hka : -(1 / 2) * a * (1 / d) < 0 := by
    have : 0 < a * (1 / d) := by positivity
    linarith
  have hs (k1 k2 : ℝ) (h1 : k1 < 0) (h2 : k2 < 0) (y : EReal) : (k1 : EReal) * (((px : EReal) - mx) * ((px : EReal) - mx))
      + (k2 : EReal) * (((py : EReal) - my) * ((py : EReal) - my)) + y = ⊥ := by
    rcases h with h | h
    · rw [sq_inf' (sub_inf h), EReal.coe_mul_top_of_neg h1, EReal.bot_add, EReal.bot_add]
    · rw [sq_inf' (sub_inf h), EReal.coe_mul_top_of_neg h2, EReal.add_bot, EReal.bot_add]
  rw [hs _ _ hkc hka, min_eq_left bot_le, EReal.bot_add]
  exact min_top_zero

/-- With an infinite opacity. -/
theorem op_top (mx my px py : ℝ) : raw a b c mx my ⊤ px py = (top : EReal)
    ∧ rawK mx my (Ideal.div (wd 0xBF000000#32 * c) (det a b c)) (Ideal.div b (det a b c)) (Ideal.div (wd 0xBF000000#32 * a) (det a b c)) (Ideal.log ⊤) px py = (top : EReal)
    ∧ ylo a b c my ⊤ ≤ (py : EReal) ∧ (py : EReal) ≤ yhi a b c my ⊤ := by
  obtain ⟨l, hl, hcl⟩ := lam_coe hd hc e hdet
  have hlpos : 0 < l := lt_of_lt_of_le hc hcl
  have hr : reach2 a b c ⊤ = ⊤ := by
    unfold reach2
    rw [hl, wd_two, wd_255, wd_slack, EReal.coe_mul_top_of_pos (by norm_num)]
    show _ * ((⊤ : EReal) + _) = ⊤
    rw [EReal.top_add_coe, ← EReal.coe_mul, EReal.coe_mul_top_of_pos (by positivity)]
  refine ⟨?_, ?_, ?_, ?_⟩
  · unfold raw
    rw [power_coe hd hc e hdet, Ideal.exp_coe, EReal.top_mul_coe_of_pos (Real.exp_pos _), wd_top]
    exact min_eq_left le_top
  · unfold rawK
    rw [powerK_coe hd hc e hdet]
    show min _ (Ideal.exp (_ + (⊤ : EReal))) = _
    rw [EReal.coe_add_top, wd_top]
    exact min_eq_left le_top
  · unfold ylo
    rw [hr, if_neg (by simp), max_eq_left le_top]
    show (my : EReal) - ⊤ ≤ _
    rw [sub_eq_add_neg, EReal.neg_top, EReal.add_bot]; exact bot_le
  · unfold yhi
    rw [hr, if_neg (by simp), max_eq_left le_top]
    show _ ≤ (my : EReal) + ⊤
    rw [EReal.coe_add_top]; exact le_top

theorem op_low (mx my px py : ℝ) (op : EReal) (hop : op < 0) : ¬ wd 0x3B808081#32 < raw a b c mx my op px py
    ∧ ¬ wd 0x3B808081#32 < rawK mx my (Ideal.div (wd 0xBF000000#32 * c) (det a b c)) (Ideal.div b (det a b c)) (Ideal.div (wd 0xBF000000#32 * a) (det a b c)) (Ideal.log op) px py := by
  have hlog : Ideal.log op = ⊥ := by
    induction op with
    | bot => rfl
    | top => exact absurd hop (by simp)
    | coe r => rw [Ideal.log_coe, if_pos (by exact_mod_cast hop.le)]
  constructor
  · unfold raw
    rw [power_coe hd hc e hdet, Ideal.exp_coe]
    refine fun h => not_thr_zero (lt_of_lt_of_le h ((min_le_right _ _).trans ?_))
    exact EReal.mul_nonpos_iff.mpr (Or.inr ⟨hop.le, by exact_mod_cast (Real.exp_pos _).le⟩)
  · unfold rawK
    rw [hlog, EReal.add_bot]
    show ¬ _ < min _ (0 : EReal)
    rw [min_top_zero]
    exact not_thr_zero

/-- Where a Gaussian passes the threshold, the two ways agree and the row is within reach; where not, by neither way it does. -/
theorem clip (mx my op : EReal) (px py : ℝ) :
    (∃ r : ℝ, r < 1 ∧ raw a b c mx my op px py = r
      ∧ rawK mx my (Ideal.div (wd 0xBF000000#32 * c) (det a b c)) (Ideal.div b (det a b c)) (Ideal.div (wd 0xBF000000#32 * a) (det a b c)) (Ideal.log op) px py = r
      ∧ ylo a b c my op ≤ (py : EReal) ∧ (py : EReal) ≤ yhi a b c my op)
    ∨ (¬ wd 0x3B808081#32 < raw a b c mx my op px py
      ∧ ¬ wd 0x3B808081#32 < rawK mx my (Ideal.div (wd 0xBF000000#32 * c) (det a b c)) (Ideal.div b (det a b c)) (Ideal.div (wd 0xBF000000#32 * a) (det a b c)) (Ideal.log op) px py) := by
  have htop : top < 1 := by unfold top; norm_num
  by_cases hinf : (mx = ⊤ ∨ mx = ⊥) ∨ (my = ⊤ ∨ my = ⊥)
  · refine Or.inr ?_
    rw [raw_inf hd hc e hdet mx my op px py hinf, rawK_inf hd hc e hdet mx my _ px py hinf]
    exact ⟨not_thr_zero, not_thr_zero⟩
  rw [not_or] at hinf
  obtain ⟨x, rfl⟩ := (real_or_inf mx).resolve_right hinf.1
  obtain ⟨y, rfl⟩ := (real_or_inf my).resolve_right hinf.2
  by_cases hneg : op < 0
  · exact Or.inr (op_low hd hc e hdet x y px py op hneg)
  rcases real_or_inf op with ⟨o, rfl⟩ | rfl | rfl
  · have ho : 0 ≤ o := by exact_mod_cast not_lt.mp hneg
    have h1 := raw_coe (mx := x) (my := y) (op := o) (px := px) (py := py) hd hc e hdet
    have h2 := rawK_coe (mx := x) (my := y) (px := px) (py := py) hd hc e hdet ho
    by_cases ht : thr < rawR a b c x y o px py d
    · exact Or.inl ⟨_, lt_of_le_of_lt (min_le_left _ _) htop, h1, h2, reach hd hc e hdet ho ht⟩
    · refine Or.inr ?_
      rw [h1, h2, wd_thr, EReal.coe_lt_coe_iff]
      exact ⟨ht, ht⟩
  · obtain ⟨h1, h2, h3⟩ := op_top hd hc e hdet x y px py
    exact Or.inl ⟨top, htop, h1, h2, h3⟩
  · exact absurd (EReal.bot_lt_zero) hneg

end One

end Cert.Proof.Spec
-- ==== Proof.Slots.lean ====
/-
  What the slots of a band hold, once the channels are binned: the slot a kept Gaussian takes gives the Gaussian's own
  opacity and colour, every slot below the count is some kept Gaussian's, and a Gaussian that is not kept covers no pixel
  of the band.
-/
module

public import proofs.«01_k».proof.Proof.Chan
public import proofs.«01_k».proof.Proof.Mid
public import proofs.«01_k».proof.Proof.Win
public import proofs.«01_k».proof.Proof.Light
public import proofs.«01_k».proof.Proof.Clip

@[expose] public section

set_option maxRecDepth 16384

noncomputable section

namespace Cert.Proof.Slots

open Idealize.ShloMosaic Idealize.ShloMosaic.TcCoe
open Cert.KernelIdeal Cert.KernelIdeal.Gen Cert.Proof.Bin Cert.Proof.Tc Cert.Proof.Run Cert.Proof.Spec Cert.Proof.Chan Cert.Proof.Pay Cert.Proof.Win Cert.Proof.Mid

/-! ## One Gaussian at a pixel -/

/-- What the precondition gives of the geometry: real scales and angles, and no determinant below the clamp. -/
structure Reg (S : S2048x2.Idx → EReal) (R : S2048.Idx → EReal) : Prop where
  scale : ∀ i, ∃ r : ℝ, S i = r
  angle : ∀ i, ∃ r : ℝ, R i = r
  area : ∀ g : Fin 2048, wd 0x322BCC77#32 ≤ S (ix2 g 0) * S (ix2 g 0) * (S (ix2 g 1) * S (ix2 g 1))

theorem gauss (M : S2048x2.Idx → EReal) (O : S2048x1.Idx → EReal) {S : S2048x2.Idx → EReal} {R : S2048.Idx → EReal} (H : Reg S R)
    (g : Fin 2048) (px py : ℝ) :
    (∃ r : ℝ, r < 1 ∧ raw (ga S R g) (gb S R g) (gc S R g) (M (ix2 g 0)) (M (ix2 g 1)) (O (ix2 g 0)) px py = r
      ∧ rawK (M (ix2 g 0)) (M (ix2 g 1)) (Ideal.div (wd 0xBF000000#32 * gc S R g) (det (ga S R g) (gb S R g) (gc S R g)))
          (Ideal.div (gb S R g) (det (ga S R g) (gb S R g) (gc S R g)))
          (Ideal.div (wd 0xBF000000#32 * ga S R g) (det (ga S R g) (gb S R g) (gc S R g))) (Ideal.log (O (ix2 g 0))) px py = r
      ∧ ylo (ga S R g) (gb S R g) (gc S R g) (M (ix2 g 1)) (O (ix2 g 0)) ≤ (py : EReal)
      ∧ (py : EReal) ≤ yhi (ga S R g) (gb S R g) (gc S R g) (M (ix2 g 1)) (O (ix2 g 0)))
    ∨ (¬ wd 0x3B808081#32 < raw (ga S R g) (gb S R g) (gc S R g) (M (ix2 g 0)) (M (ix2 g 1)) (O (ix2 g 0)) px py
      ∧ ¬ wd 0x3B808081#32 < rawK (M (ix2 g 0)) (M (ix2 g 1)) (Ideal.div (wd 0xBF000000#32 * gc S R g) (det (ga S R g) (gb S R g) (gc S R g)))
          (Ideal.div (gb S R g) (det (ga S R g) (gb S R g) (gc S R g)))
          (Ideal.div (wd 0xBF000000#32 * ga S R g) (det (ga S R g) (gb S R g) (gc S R g))) (Ideal.log (O (ix2 g 0))) px py) := by
  obtain ⟨ro, e4⟩ := H.angle (ix1 g)
  obtain ⟨s0, e5⟩ := H.scale (ix2 g 0)
  obtain ⟨s1, e6⟩ := H.scale (ix2 g 1)
  have h : (11258999 / 1125899906842624 : ℝ) ≤ (s0 * s1) ^ 2 := by
    have t := H.area g
    rw [e5, e6, wd_tiny, ← EReal.coe_mul, ← EReal.coe_mul, ← EReal.coe_mul, EReal.coe_le_coe_iff] at t
    rwa [show (s0 * s1) ^ 2 = s0 * s0 * (s1 * s1) by ring]
  have ea : ga S R g = xxR ro s0 s1 := by unfold ga; rw [e4, e5, e6, xx_coe]
  have eb : gb S R g = xyR ro s0 s1 := by unfold gb; rw [e4, e5, e6, xy_coe]
  have ec : gc S R g = yyR ro s0 s1 := by unfold gc; rw [e4, e5, e6, yy_coe]
  rw [ea, eb, ec]
  exact clip (lt_of_lt_of_le (by norm_num) h) (yy_pos ro s0 s1 h) (detR ro s0 s1) (det_coe ro s0 s1 h) _ _ _ px py

/-! ## A band -/

section Band

variable (V : Valuation τ sig (Elt Ideal)) (fg : S16x16384.Idx → EReal) (fc : S16x8192.Idx → EReal) (fn : S16x16.Idx → BitVec 32)
  (tb : S16.Idx → BitVec 32) (b : Fin 16)

abbrev chans : S32768.Idx → EReal := before V (Proc.devRef .tc main_v99)
abbrev keep (k : ℕ) : Prop := Kept (F := Ideal) (bandW b) (chans V) k
instance keepDec : DecidablePred (keep V b) := instDecidablePredNatKept (F := Ideal) (bandW b) (chans V)
abbrev slot (k : ℕ) : ℕ := rank (F := Ideal) (bandW b) (chans V) k
abbrev mids : Valuation τ sig (Elt Ideal) := between (withBins (before V) fg fc fn)
abbrev geo : S1x2048x8.Idx → EReal := geomAt tb (mids V fg fc fn) (pt (F := Ideal) tb b)
abbrev col : S1x8x4x256.Idx → EReal := colAt tb (mids V fg fc fn) (pt (F := Ideal) tb b)
abbrev og (k : Fin 2048) : Fin 2048 := ord (aD V) k
/-- The opacity of a Gaussian at a pixel of the band. -/
def alpha (g : Fin 2048) (p : Fin 1024) : EReal :=
  raw (ga (aS V) (aR V) g) (gb (aS V) (aR V) g) (gc (aS V) (aR V) g) (aM V (ix2 g 0)) (aM V (ix2 g 1)) (aO V (ix2 g 0))
    (mid (p.val % 128)) (mid (b.val * 8 + p.val / 128))

theorem pay28 : k0_pay28 (F := Ideal) (bandW b) = (mid (8 * b.val) : EReal) := by
  show (((bandW b).toInt : ℝ) : EReal) * Ideal.ofBits .f32 0x41000000#32 + Ideal.ofBits .f32 0x3F000000#32 = _
  rw [show Ideal.ofBits .f32 0x41000000#32 = ((8 : ℝ) : EReal) by simp [Ideal.ofBits, Ideal.ieee, -EReal.coe_mul]; norm_num,
    show Ideal.ofBits .f32 0x3F000000#32 = ((1 / 2 : ℝ) : EReal) from wd_half, Order.toInt_int (by omega : b.val < 2048),
    ← EReal.coe_mul, ← EReal.coe_add]
  congr 1
  unfold mid; push_cast; ring

theorem pay29 : k0_pay29 (F := Ideal) (bandW b) = (mid (8 * b.val + 7) : EReal) := by
  show k0_pay28 (F := Ideal) (bandW b) + Ideal.ofBits .f32 0x40E00000#32 = _
  rw [pay28, show Ideal.ofBits .f32 0x40E00000#32 = ((7 : ℝ) : EReal) by simp [Ideal.ofBits, Ideal.ieee, -EReal.coe_mul]; norm_num]
  rw [← EReal.coe_add]
  congr 1
  unfold mid; push_cast; ring

theorem keep_iff (k : Fin 2048) : keep V b k.val
    ↔ ylo (ga (aS V) (aR V) (og V k)) (gb (aS V) (aR V) (og V k)) (gc (aS V) (aR V) (og V k)) (aM V (ix2 (og V k) 1)) (aO V (ix2 (og V k) 0)) ≤ (mid (8 * b.val + 7) : EReal)
      ∧ (mid (8 * b.val) : EReal) ≤ yhi (ga (aS V) (aR V) (og V k)) (gb (aS V) (aR V) (og V k)) (gc (aS V) (aR V) (og V k)) (aM V (ix2 (og V k) 1)) (aO V (ix2 (og V k) 0)) := by
  have e0 := (rd_at V 0 k k.val (by simp)).trans (stack0 V (og V k))
  have e1 := (rd_at V 1 k (2048 + k.val) (by simp; omega)).trans (stack1 V (og V k))
  show IntOp.andi (Ideal.cmp .ole (rd (F := Ideal) (chans V) k.val) (k0_pay29 (F := Ideal) (bandW b)))
    (Ideal.cmp .oge (rd (F := Ideal) (chans V) (2048 + k.val)) (k0_pay28 (F := Ideal) (bandW b))) = 1#1 ↔ _
  rw [e0, e1, pay28, pay29]
  generalize ylo _ _ _ _ _ = l
  generalize yhi _ _ _ _ _ = u
  simp only [Ideal.cmp]
  by_cases h1 : l ≤ (mid (8 * b.val + 7) : EReal) <;> by_cases h2 : (mid (8 * b.val) : EReal) ≤ u <;> simp [h1, h2, IntOp.andi]

variable (ok : BandOK (F := Ideal) (chans V) b (takeG fg b) (takeC fc b) (takeN fn b))

theorem slot_lt (k : Fin 2048) (hk : keep V b k.val) : slot V b k.val < slot V b 2048 :=
  Nat.count_strict_mono (p := keep V b) hk k.isLt

theorem slot_lt' (k : Fin 2048) : slot V b k.val < 2048 := lt_of_le_of_lt (rank_le _ _ _) k.isLt

/-- Every slot below the count is some kept Gaussian's. -/
theorem slot_surj (s : ℕ) (hs : s < slot V b 2048) : ∃ k : Fin 2048, keep V b k.val ∧ slot V b k.val = s := by
  have h : ∀ n : ℕ, s < Nat.count (keep V b) n → ∃ k, k < n ∧ keep V b k ∧ Nat.count (keep V b) k = s := by
    intro n
    induction n with
    | zero => intro h; simp at h
    | succ n ih =>
      intro h
      rw [Nat.count_succ] at h
      by_cases hn : s < Nat.count (keep V b) n
      · obtain ⟨k, h1, h2⟩ := ih hn; exact ⟨k, by omega, h2⟩
      · split at h
        · rename_i hk; exact ⟨n, by omega, hk, by omega⟩
        · omega
  obtain ⟨k, h1, h2, h3⟩ := h 2048 hs
  exact ⟨⟨k, h1⟩, h2, h3⟩

include ok in
theorem slot_geo (k : Fin 2048) (hk : keep V b k.val) (q : Fin 8) :
    slotG (geo V fg fc fn tb b) (slot V b k.val) q
      = (before V (Proc.devRef .tc main_v90) : S16x2048.Idx → EReal) (ix2 ⟨q.val + 2, by omega⟩ (og V k)) := by
  have hs := slot_lt' V b k
  have hm : slot V b k.val % 2048 = slot V b k.val := Nat.mod_eq_of_lt hs
  have hq := q.isLt
  unfold slotG
  refine (geom_at tb (mids V fg fc fn) b _ q).trans ((mid_101 (before V) fg fc fn b _ q).trans ?_)
  refine Eq.trans (b := takeG fg b (Shape.ofLane (d := ![16384]) (⟨slot V b k.val * 8 + q.val, by omega⟩ : Fin 16384))) ?_ ?_
  · exact congrArg fg (congrArg (atG b) (Fin.ext (by show slot V b k.val % 2048 * 8 + q.val = slot V b k.val * 8 + q.val; rw [hm])))
  · refine (ok.geo k.val q.val _ hk hq (Or.inl k.isLt) rfl).trans ?_
    exact rd_at V ⟨q.val + 2, by omega⟩ k _ rfl

include ok in
theorem slot_col (k : Fin 2048) (hk : keep V b k.val) (ch : Fin 3) :
    slotC (col V fg fc fn tb b) (slot V b k.val) ch
      = (before V (Proc.devRef .tc main_v90) : S16x2048.Idx → EReal) (ix2 ⟨ch.val + 10, by omega⟩ (og V k)) := by
  have hs := slot_lt' V b k
  have hq := ch.isLt
  unfold slotC
  refine (col_at tb (mids V fg fc fn) b _ _ _).trans ((mid_102 (before V) fg fc fn b _ _ _).trans ?_)
  refine Eq.trans (b := takeC fc b (Shape.ofLane (d := ![8192]) (⟨Bin.colAt (slot V b k.val) ch.val, by unfold Bin.colAt; omega⟩ : Fin 8192))) ?_ ?_
  · exact congrArg fc (congrArg (atC b) (Fin.ext (by
      show slot V b k.val / 256 % 8 * 1024 + ch.val * 256 + slot V b k.val % 256 = slot V b k.val / 256 * 1024 + slot V b k.val % 256 + ch.val * 256; omega)))
  · refine (ok.col k.val ch.val _ hk hq (Or.inl k.isLt) rfl).trans ?_
    exact rd_at V ⟨ch.val + 10, by omega⟩ k _ rfl

include ok in
theorem slot_color (k : Fin 2048) (hk : keep V b k.val) (ch : Fin 3) :
    slotC (col V fg fc fn tb b) (slot V b k.val) ch = aC V (ix2 (og V k) ch) := by
  refine (slot_col V fg fc fn tb b ok k hk ch).trans ?_
  match ch with
  | ⟨0, _⟩ => exact stack10 V _
  | ⟨1, _⟩ => exact stack11 V _
  | ⟨2, _⟩ => exact stack12 V _

include ok in
theorem slot_number (k : Fin 2048) (hk : keep V b k.val) :
    slotG (geo V fg fc fn tb b) (slot V b k.val) 6 = (((og V k).val : ℝ) : EReal) :=
  (slot_geo V fg fc fn tb b ok k hk 6).trans (stack8 V _)

variable (H : Reg (aS V) (aR V))

include ok H in
/-- A kept Gaussian's slot at a pixel: it passes the threshold where the Gaussian does, and then with the Gaussian's opacity. -/
theorem slot_gauss (k : Fin 2048) (hk : keep V b k.val) (p : Fin 1024) :
    (wd 0x3B808081#32 < alpha V b (og V k) p →
      rawS (grid1.coords (pt (F := Ideal) tb b)) (geo V fg fc fn tb b) (slot V b k.val) p = alpha V b (og V k) p)
    ∧ (¬ wd 0x3B808081#32 < alpha V b (og V k) p →
      ¬ wd 0x3B808081#32 < rawS (grid1.coords (pt (F := Ideal) tb b)) (geo V fg fc fn tb b) (slot V b k.val) p) := by
  unfold rawS
  have e (q : Fin 8) := slot_geo V fg fc fn tb b ok k hk q
  rw [(e 0).trans (stack2 V _), (e 1).trans (stack3 V _), (e 2).trans (stack4 V _), (e 3).trans (stack5 V _), (e 4).trans (stack6 V _),
    (e 5).trans (stack7 V _), coords_pt]
  rcases gauss (aM V) (aO V) H (og V k) (mid (p.val % 128)) (mid (b.val * 8 + p.val / 128)) with ⟨r, -, h1, h2, -⟩ | ⟨h1, h2⟩
  · have h1' : alpha V b (og V k) p = r := h1
    have h : _ = alpha V b (og V k) p := h2.trans h1'.symm
    exact ⟨fun _ => h, fun hn ht => hn (h ▸ ht)⟩
  · exact ⟨fun h => absurd h h1, fun _ => h2⟩

include ok H in
theorem slot_covers (k : Fin 2048) (hk : keep V b k.val) (p : Fin 1024) :
    covers (grid1.coords (pt (F := Ideal) tb b)) (slot V b 2048) (geo V fg fc fn tb b) (slot V b k.val) p
      ↔ wd 0x3B808081#32 < alpha V b (og V k) p := by
  unfold covers
  obtain ⟨h1, h2⟩ := slot_gauss V fg fc fn tb b ok H k hk p
  constructor
  · intro h
    by_contra hn
    exact h2 hn h.1
  · intro h
    rw [h1 h]
    exact ⟨h, slot_lt V b k hk⟩

include H in
/-- A Gaussian that the band does not keep covers none of its pixels. -/
theorem not_kept (k : Fin 2048) (hk : ¬ keep V b k.val) (p : Fin 1024) : ¬ wd 0x3B808081#32 < alpha V b (og V k) p := by
  rcases gauss (aM V) (aO V) H (og V k) (mid (p.val % 128)) (mid (b.val * 8 + p.val / 128)) with ⟨r, -, -, -, hl, hu⟩ | ⟨h1, -⟩
  swap
  · exact h1
  intro _
  apply hk
  rw [keep_iff]
  have hp := p.isLt
  have h7 : p.val / 128 ≤ 7 := by omega
  refine ⟨hl.trans (EReal.coe_le_coe_iff.mpr ?_), le_trans (EReal.coe_le_coe_iff.mpr ?_) hu⟩
  · have : (b.val * 8 + p.val / 128 : ℕ) ≤ (8 * b.val + 7 : ℕ) := by omega
    unfold mid
    have : ((b.val * 8 + p.val / 128 : ℕ) : ℝ) ≤ ((8 * b.val + 7 : ℕ) : ℝ) := Nat.cast_le.mpr this
    linarith
  · have : (8 * b.val : ℕ) ≤ (b.val * 8 + p.val / 128 : ℕ) := by omega
    unfold mid
    have : ((8 * b.val : ℕ) : ℝ) ≤ ((b.val * 8 + p.val / 128 : ℕ) : ℝ) := Nat.cast_le.mpr this
    linarith

include H in
theorem alpha_real (g : Fin 2048) (p : Fin 1024) (h : wd 0x3B808081#32 < alpha V b g p) : ∃ r : ℝ, alpha V b g p = r ∧ r < 1 := by
  rcases gauss (aM V) (aO V) H g (mid (p.val % 128)) (mid (b.val * 8 + p.val / 128)) with ⟨r, h3, h1, -⟩ | ⟨h1, -⟩
  · exact ⟨r, h1, h3⟩
  · exact absurd h h1

end Band

end Cert.Proof.Slots
-- ==== Proof.KerOut.lean ====
/-
  The kernel's results: the image at a pixel, the radii, and the count of covered pixels in a kept Gaussian's slot.
-/
module

public import proofs.«01_k».proof.Proof.Slots

@[expose] public section

set_option maxRecDepth 16384

noncomputable section

namespace Cert.Proof.KerOut

open Idealize.ShloMosaic Idealize.ShloMosaic.TcCoe
open Cert.KernelIdeal Cert.KernelIdeal.Gen Cert.Proof.Bin Cert.Proof.Tc Cert.Proof.Run Cert.Proof.Spec Cert.Proof.Chan Cert.Proof.Pay Cert.Proof.Win
  Cert.Proof.Mid Cert.Proof.Slots Cert.Proof.Comp

theorem word_at (tb : S16.Idx → BitVec 32) (b : Fin 16) (i : grid1.Coords) (hi : (i 0).val = b.val) : word (F := Ideal) i tb = tb (ix1 b) := by
  have hb := b.isLt
  refine congrArg tb (funext fun a => Fin.ext ?_)
  match a with
  | ⟨0, _⟩ =>
    show (BitVec.ofNat 32 (i 0).val).toNat + 1 * 0 = b.val
    rw [hi, BitVec.toNat_ofNat]
    omega

/-- The image of a band under a count that is known. -/
theorem image_word (i : grid1.Coords) (N : ℕ) (hN : N ≤ 2048) (g : Vec Ideal S1x2048x8 .f32) (c : Vec Ideal S1x8x4x256 .f32) (bg : Vec Ideal S3x1 .f32)
    (p : Fin 1024) (A : ℕ → ℝ) (hA1 : ∀ s, A s < 1) (hA : ∀ s, (if covers i N g s p then rawS i g s p else 0) = (A s : EReal)) (ch : Fin 3)
    (n : BitVec 32) (e : n = BitVec.ofNat 32 N) (h : k1_chk1 n) :
    (image (F := Ideal) i n h g c bg (ix2 ch p) : EReal) = light A (fun s => slotC c s ch) N + bg (ix2 ch 0) * ((trans A N : ℝ) : EReal) := by
  subst e
  exact Light.image_at i N hN h g c bg p A hA1 hA ch

theorem count_word (i : grid1.Coords) (N : ℕ) (hN : N ≤ 2048) (g : Vec Ideal S1x2048x8 .f32) (n : BitVec 32) (e : n = BitVec.ofNat 32 N) (h : k1_chk1 n)
    (t : Fin (k1_t1_loop n).trips) (r : Fin 256) :
    countT (F := Ideal) i n h g t (ix3 0 r 0) = BitVec.ofNat 32 (∑ p : Fin 1024, if covers i N g (256 * t.val + r.val) p then 1 else 0) := by
  subst e
  exact Pay.count_at i N hN h g t r

theorem pay16_at (A B C : Vec Ideal S2048x1 .f32) (g : Fin 2048) :
    k1_pay16 (F := Ideal) A C B B A C (ix2 g 0) = radius (A (ix2 g 0)) (B (ix2 g 0)) (C (ix2 g 0)) := by
  pointwise [k1_pay16]
  rfl

section One

variable (V : Valuation τ sig (Elt Ideal)) (fg : S16x16384.Idx → EReal) (fc : S16x8192.Idx → EReal) (fn : S16x16.Idx → BitVec 32)
  (tb : S16.Idx → BitVec 32) (hn : ∀ i, (word (F := Ideal) i tb).toNat ≤ 2048) (htb : tb = tableOf (F := Ideal) (chans V)) (b : Fin 16)
  (ok : BandOK (F := Ideal) (chans V) b (takeG fg b) (takeC fc b) (takeN fn b))
  (H : Reg (aS V) (aR V))

include htb in
theorem word_pt : word (F := Ideal) (grid1.coords (pt (F := Ideal) tb b)) tb = BitVec.ofNat 32 (slot V b 2048) := by
  refine (word_at tb b _ (coords_pt tb b)).trans ?_
  rw [htb]
  rfl

theorem slot_le : slot V b 2048 ≤ 2048 := rank_le _ _ _

set_option maxHeartbeats 1000000 in
include htb ok H in
/-- The image of a band: the Gaussians in order of depth, those left out that fall below the threshold. -/
theorem image_band (ch : Fin 3) (p : Fin 1024) (β : ℕ → ℝ) (D : ℕ → EReal)
    (hβ : ∀ k : Fin 2048, (if wd 0x3B808081#32 < alpha V b (og V k) p then alpha V b (og V k) p else 0) = (β k.val : EReal))
    (hD : ∀ k : Fin 2048, aC V (ix2 (og V k) ch) = D k.val) :
    imageOf tb hn (mids V fg fc fn) b (ix2 ch p) = light β D 2048 + aB V (ix1 ch) * ((trans β 2048 : ℝ) : EReal) := by
  classical
  have hb : ∀ s, ∃ r : ℝ, r < 1 ∧ (if covers (grid1.coords (pt (F := Ideal) tb b)) (slot V b 2048) (geo V fg fc fn tb b) s p
      then rawS (grid1.coords (pt (F := Ideal) tb b)) (geo V fg fc fn tb b) s p else 0) = (r : EReal) := by
    intro s
    by_cases h : covers (grid1.coords (pt (F := Ideal) tb b)) (slot V b 2048) (geo V fg fc fn tb b) s p
    · obtain ⟨k, hk, rfl⟩ := slot_surj V b s h.2
      have hc := (slot_covers V fg fc fn tb b ok H k hk p).mp h
      obtain ⟨r, hr, hr1⟩ := alpha_real V b H (og V k) p hc
      exact ⟨r, hr1, by rw [if_pos h, (slot_gauss V fg fc fn tb b ok H k hk p).1 hc, hr]⟩
    · exact ⟨0, by norm_num, by rw [if_neg h]; rfl⟩
  choose A hA1 hA using hb
  refine (image_word _ (slot V b 2048) (slot_le V b) (geo V fg fc fn tb b) (col V fg fc fn tb b) (bgAt tb (mids V fg fc fn) (pt (F := Ideal) tb b)) p A hA1 hA ch _
    (word_pt V tb htb b) _).trans ?_
  have hk : ∀ k < 2048, keep V b k → A (Nat.count (keep V b) k) = β k := by
    intro k hk hkeep
    have e := hA (slot V b k)
    have er := (slot_gauss V fg fc fn tb b ok H ⟨k, hk⟩ hkeep p).1
    have ec := slot_covers V fg fc fn tb b ok H ⟨k, hk⟩ hkeep p
    have e2 := hβ ⟨k, hk⟩
    have e3 : ((A (slot V b k) : ℝ) : EReal) = (β k : EReal) := by
      rw [← e, ← e2]
      show (if covers _ _ _ (slot V b (⟨k, hk⟩ : Fin 2048).val) p then rawS _ _ (slot V b (⟨k, hk⟩ : Fin 2048).val) p else 0) = _
      by_cases ht : wd 0x3B808081#32 < alpha V b (og V ⟨k, hk⟩) p
      · rw [if_pos (ec.mpr ht), if_pos ht, er ht]
      · rw [if_neg (fun h => ht (ec.mp h)), if_neg ht]
    exact EReal.coe_eq_coe_iff.mp e3
  have h0 : ∀ k < 2048, ¬ keep V b k → β k = 0 := by
    intro k hk hkeep
    have e2 := hβ ⟨k, hk⟩
    rw [if_neg (not_kept V b H ⟨k, hk⟩ hkeep p)] at e2
    exact_mod_cast e2.symm
  have hl := light_count (keep := keep V b) (c := fun s => slotC (col V fg fc fn tb b) s ch) (d := D) hk h0
    (fun k hk hkeep => (slot_color V fg fc fn tb b ok ⟨k, hk⟩ hkeep ch).trans (hD ⟨k, hk⟩)) 2048 le_rfl
  have ht := trans_count (keep := keep V b) hk h0 2048 le_rfl
  refine congrArg₂ (· + ·) hl (congrArg₂ (· * ·) ?_ (congrArg _ ht))
  refine (bg_at tb (mids V fg fc fn) b ch).trans ((mid_108 (before V) fg fc fn ch).trans ?_)
  exact congrFun (Frames.before_keep V main_arg6 (by decide +kernel)) _

set_option maxHeartbeats 1000000 in
include htb ok H in
/-- The count in a kept Gaussian's slot. -/
theorem count_band (d : Dev nD) (g8 : S16x2048x1.Idx → BitVec 32) (h : (rdat tb hn (mids V fg fc fn) d).ArrAt 8 (cfgT (F := Ideal) tb).N g8)
    (k : Fin 2048) (hk : keep V b k.val) :
    g8 (ix3 b ⟨slot V b k.val, slot_lt' V b k⟩ 0) = BitVec.ofNat 32 (∑ p : Fin 1024, if wd 0x3B808081#32 < alpha V b (og V k) p then 1 else 0) := by
  have hw := word_pt V tb htb b
  have hlt := slot_lt V b k hk
  have hle := slot_le V b
  have htr : (k1_t1_loop (word (F := Ideal) (grid1.coords (pt (F := Ideal) tb b)) tb)).trips = (slot V b 2048 + 255) / 256 := by
    rw [hw]; exact trips_eq _ hle
  have e := Win.count_at tb hn (mids V fg fc fn) d g8 h b ⟨slot V b k.val / 256, by rw [htr]; omega⟩ ⟨slot V b k.val % 256, Nat.mod_lt _ (by decide)⟩
    ⟨slot V b k.val, slot_lt' V b k⟩ (by show slot V b k.val = 256 * (slot V b k.val / 256) + slot V b k.val % 256; omega)
  refine e.trans ((count_word _ (slot V b 2048) hle _ _ hw _ _ _).trans ?_)
  refine congrArg _ (Finset.sum_congr rfl fun p _ => ?_)
  have e2 : 256 * (slot V b k.val / 256) + slot V b k.val % 256 = slot V b k.val := by omega
  show (if covers _ _ _ (256 * (slot V b k.val / 256) + slot V b k.val % 256) p then 1 else 0) = _
  rw [e2]
  exact if_congr (slot_covers V fg fc fn tb b ok H k hk p) rfl rfl

/-- The radii. -/
theorem rad_band (g : Fin 2048) : radOf tb (mids V fg fc fn) (ix2 g 0) = radius (ga (aS V) (aR V) g) (gb (aS V) (aR V) g) (gc (aS V) (aR V) g) := by
  have e1 := (xx_at tb (mids V fg fc fn) 0 g).trans ((mid_105 (before V) fg fc fn g).trans (before_18 V g))
  have e2 := (xy_at tb (mids V fg fc fn) 0 g).trans ((mid_106 (before V) fg fc fn g).trans (before_21 V g))
  have e3 := (yy_at tb (mids V fg fc fn) 0 g).trans ((mid_107 (before V) fg fc fn g).trans (before_26 V g))
  refine (pay16_at _ _ _ g).trans ?_
  rw [e1, e2, e3]

end One

end Cert.Proof.KerOut
-- ==== Proof.Scat.lean ====
/-
  The scattered sum: entry x of the result is the sum of the updates whose index is x; an index past the end adds nothing.
-/
module

public import proofs.«01_k».proof.Proof.Host
public import Idealize.ShloMosaic.Lib.ValueIdx
public import Idealize.ShloMosaic.Lib.PointwiseCore

@[expose] public section

set_option maxRecDepth 16384

noncomputable section

namespace Cert.Proof.Scat

open Idealize.ShloMosaic Idealize.ShloMosaic.TcCoe
open Cert.KernelIdeal Cert.KernelIdeal.Gen

/-- A fold of additions into entries of a vector, at one entry. -/
theorem foldl_sum {ι κ : Type} (step : (ι → BitVec 32) → κ → ι → BitVec 32) (j : ι) (P : κ → Prop) [DecidablePred P] (u : κ → ℕ)
    (h : ∀ r n, step r n j = if P n then r j + BitVec.ofNat 32 (u n) else r j) (l : List κ) (r : ι → BitVec 32) (a : ℕ) (ha : r j = BitVec.ofNat 32 a) :
    l.foldl step r j = BitVec.ofNat 32 (a + (l.map fun n => if P n then u n else 0).sum) := by
  induction l generalizing r a with
  | nil => exact ha
  | cons n l ih =>
    rw [List.foldl_cons, List.map_cons, List.sum_cons, ← add_assoc]
    refine ih (step r n) _ ?_
    rw [h, ha]
    split
    · rw [BitVec.ofNat_add]
    · rw [Nat.add_zero]

abbrev D : ScatterDims S2048 S32768x1 S32768 := scatter_S2048_S32768x1_S32768_n_0_0_1

theorem start_eq (idx : S32768x1.Idx → BitVec 32) (i : Fin 32768) : D.start (ix1 i) idx 0 = (idx (ix2 i 0)).toInt := by
  unfold ScatterDims.start
  rw [dif_pos (by decide)]
  refine congrArg (fun k => (idx k).toInt) (funext fun a => Fin.ext ?_)
  match a with
  | ⟨0, _⟩ =>
    unfold ScatterDims.siIdx
    rw [dif_neg (by show ¬(0 : ℕ) = 1; decide)]
    unfold ScatterDims.siCoord
    simp only [Fin.val_cast]
    have e : ∀ X : Fin 1, (ix1 i X).val = i.val := fun X => by
      rw [Subsingleton.elim X 0]; rfl
    exact e _
  | ⟨1, _⟩ =>
    unfold ScatterDims.siIdx
    rw [dif_pos (by show (1 : ℕ) = 1; rfl)]
    rfl

theorem window_eq (i : Fin 32768) : D.window (ix1 i) 0 = 0 := by
  unfold ScatterDims.window
  rw [dif_neg (by decide)]

/-- Where update i lands. -/
theorem lands (idx : S32768x1.Idx → BitVec 32) (i : Fin 32768) (g : ℕ) (hg : idx (ix2 i 0) = BitVec.ofNat 32 g) (hg' : g < 4096) (x : Fin 2048) :
    D.resultIdx? (ix1 i) idx = some (ix1 x) ↔ g = x.val := by
  have hx := x.isLt
  have hs : D.start (ix1 i) idx 0 + (D.window (ix1 i) 0 : ℤ) = (g : ℤ) := by
    rw [start_eq, window_eq, hg, BitVec.toInt_eq_toNat_of_lt (by rw [BitVec.toNat_ofNat]; omega), BitVec.toNat_ofNat]
    omega
  unfold ScatterDims.resultIdx?
  split
  · next h =>
    constructor
    · intro e
      have e0 : (D.start (ix1 i) idx 0 + (D.window (ix1 i) 0 : ℤ)).toNat = x.val := congrArg Fin.val (congrFun (Option.some.inj e) 0)
      rw [hs] at e0
      omega
    · intro e
      refine congrArg some (funext fun a => Fin.ext ?_)
      match a with
      | ⟨0, _⟩ =>
        show (D.start (ix1 i) idx 0 + (D.window (ix1 i) 0 : ℤ)).toNat = x.val
        rw [hs]
        omega
  · next h =>
    constructor
    · intro e; cases e
    · intro e
      refine (h fun a => ?_).elim
      match a with
      | ⟨0, _⟩ =>
        show 0 ≤ D.start (ix1 i) idx 0 + (D.window (ix1 i) 0 : ℤ) ∧ D.start (ix1 i) idx 0 + (D.window (ix1 i) 0 : ℤ) < (2048 : ℤ)
        rw [hs]
        omega

theorem numel_eq : S32768.numel = 32768 := Shape.numel_rank1 _
theorem place_eq (n : Fin S32768.numel) : S32768.rowMajor.symm n = ix1 (n.cast numel_eq) :=
  (S32768.rowMajor.symm_apply_eq).2 (Fin.ext (by rw [Shape.rowMajor_val_one]; rfl))

/-- The scattered sum at entry x. -/
theorem scatter_sum (x0 : S2048.Idx → BitVec 32) (hx0 : ∀ i, x0 i = 0#32) (idx : S32768x1.Idx → BitVec 32) (upd : S32768.Idx → BitVec 32)
    (g u : Fin 32768 → ℕ) (hg : ∀ i, idx (ix2 i 0) = BitVec.ofNat 32 (g i)) (hg' : ∀ i, g i < 4096) (x : Fin 2048)
    (hu : ∀ i, g i = x.val → upd (ix1 i) = BitVec.ofNat 32 (u i)) :
    Host.scatter D IntOp.addi x0 idx upd (ix1 x) = BitVec.ofNat 32 (∑ i : Fin 32768, if g i = x.val then u i else 0) := by
  unfold Host.scatter
  refine (foldl_sum _ (ix1 x) (fun n => g (n.cast numel_eq) = x.val) (fun n => u (n.cast numel_eq)) (fun r n => ?_) _ x0 0 (hx0 _)).trans ?_
  · rw [place_eq]
    have hl := lands idx (n.cast numel_eq) _ (hg _) (hg' _) x
    generalize D.resultIdx? (ix1 (n.cast numel_eq)) idx = o at hl ⊢
    cases o with
    | none =>
      dsimp only
      rw [if_neg fun h => nomatch hl.2 h]
    | some k =>
      dsimp only
      by_cases e : g (n.cast numel_eq) = x.val
      · have hk : k = ix1 x := Option.some.inj (hl.2 e)
        rw [hk, if_pos rfl, if_pos e, hu _ e]
        rfl
      · rw [if_neg fun h : ix1 x = k => e (hl.1 (congrArg some h.symm)), if_neg e]
  · rw [Nat.zero_add, ← Fin.sum_univ_def]
    exact congrArg (BitVec.ofNat 32) (Fintype.sum_equiv (finCongr numel_eq) _ _ fun n => rfl)

end Cert.Proof.Scat
-- ==== Proof.Out.lean ====
/-
  The kernel's last results, read off the rasterizer's: the radii as they are, and the covered pixels of a Gaussian, added up
  over the slots that hold it.
-/
module

public import proofs.«01_k».proof.Proof.KerOut
public import proofs.«01_k».proof.Proof.Scat

@[expose] public section

set_option maxRecDepth 16384

noncomputable section

namespace Cert.Proof.Out

open Idealize.ShloMosaic Idealize.ShloMosaic.TcCoe
open Cert.KernelIdeal Cert.KernelIdeal.Gen Cert.Proof.Bin Cert.Proof.Tc Cert.Proof.Run Cert.Proof.Spec Cert.Proof.Chan Cert.Proof.Pay Cert.Proof.Win
  Cert.Proof.Mid Cert.Proof.Slots Cert.Proof.KerOut

section Read

variable (W : Valuation τ sig (Elt Ideal)) (g6 : S3x128x128.Idx → EReal) (g7 : S2048x1.Idx → BitVec 32) (g8 : S16x2048x1.Idx → BitVec 32)

abbrev last : Valuation τ sig (Elt Ideal) := behind (F := Ideal) (withResults W g6 g7 g8)

theorem out_109 : last W g6 g7 g8 (Proc.devRef .tc main_v109_0) = g6 :=
  (Frames.behind_keep _ main_v109_0 (by decide +kernel)).trans (withResults_0 W g6 g7 g8)

set_option maxHeartbeats 1000000 in
theorem out_130 (g : Fin 2048) : (last W g6 g7 g8 (Proc.devRef .tc main_v130) : S2048.Idx → BitVec 32) (ix1 g) = g7 (ix2 g 0) := by
  unfold last behind
  after_reads_at
  rw [withResults_1]

set_option maxHeartbeats 1000000 in
theorem out_122 (i : Fin 32768) : (last W g6 g7 g8 (Proc.devRef .tc main_v122) : S32768.Idx → BitVec 32) (ix1 i)
    = g8 (ix3 ⟨i.val / 2048, by omega⟩ ⟨i.val % 2048, by omega⟩ 0) := by
  unfold last behind
  after_reads_at
  rw [withResults_2]

set_option maxHeartbeats 1000000 in
theorem out_120 (i : S2048.Idx) : (last W g6 g7 g8 (Proc.devRef .tc main_v120) : S2048.Idx → BitVec 32) i = 0#32 := by
  unfold last behind
  after_reads_at

theorem wrapped {x : ℕ} (hx : x < 4096) :
    Scalar.select (IntOp.cmpi .slt (BitVec.ofNat 32 x) 0#32) (IntOp.addi (BitVec.ofNat 32 x) 2048#32) (BitVec.ofNat 32 x) = BitVec.ofNat 32 x := by
  have h : IntOp.cmpi .slt (BitVec.ofNat 32 x) 0#32 = 0#1 := by
    show BitVec.ofBool (decide ((BitVec.ofNat 32 x).toInt < (0#32).toInt)) = 0#1
    have e : (BitVec.ofNat 32 x).toInt = (x : Int) := by
      rw [BitVec.toInt_eq_toNat_of_lt (by rw [BitVec.toNat_ofNat]; omega), BitVec.toNat_ofNat, Nat.mod_eq_of_lt (by omega)]
    rw [e, decide_eq_false (by show ¬ (x : Int) < 0; omega)]
    rfl
  rw [h]
  rfl

theorem below {s n : ℕ} (hs : s < 4096) (hn : n < 4096) (a b : BitVec 32) :
    Scalar.select (IntOp.cmpi .slt (BitVec.ofNat 32 s) (BitVec.ofNat 32 n)) a b = if s < n then a else b := by
  have e : ∀ {x : ℕ}, x < 4096 → (BitVec.ofNat 32 x).toInt = (x : Int) := by
    intro x hx
    rw [BitVec.toInt_eq_toNat_of_lt (by rw [BitVec.toNat_ofNat]; omega), BitVec.toNat_ofNat, Nat.mod_eq_of_lt (by omega)]
  have h : IntOp.cmpi .slt (BitVec.ofNat 32 s) (BitVec.ofNat 32 n) = BitVec.ofBool (decide (s < n)) := by
    show BitVec.ofBool (decide ((BitVec.ofNat 32 s).toInt < (BitVec.ofNat 32 n).toInt)) = _
    rw [e hs, e hn]
    simp
  rw [h]
  by_cases hc : s < n <;> simp [hc] <;> rfl

set_option maxHeartbeats 1000000 in
theorem out_128 (i : Fin 32768) (n x : ℕ) (hn : n < 4096) (hx : x < 2048)
    (h4 : (W (Proc.devRef .tc main_v104) : S16.Idx → BitVec 32) (ix1 ⟨i.val / 2048, by omega⟩) = BitVec.ofNat 32 n)
    (h1 : i.val % 2048 < n → (W (Proc.devRef .tc main_v101) : S16x2048x8.Idx → EReal) (ix3 ⟨i.val / 2048, by omega⟩ ⟨i.val % 2048, by omega⟩ 6) = ((x : ℝ) : EReal)) :
    (last W g6 g7 g8 (Proc.devRef .tc main_v128) : S32768x1.Idx → BitVec 32) (ix2 i 0) = BitVec.ofNat 32 (if i.val % 2048 < n then x else 2048) := by
  have hi := i.isLt
  unfold last behind
  after_reads_at
  rw [withResults_ne _ _ _ _ _ (by decide) (by decide) (by decide), withResults_ne _ _ _ _ _ (by decide) (by decide) (by decide)]
  erw [h4]
  rw [below (by omega) hn]
  by_cases hc : i.val % 2048 < n
  · rw [if_pos hc, if_pos hc]
    erw [h1 hc]
    have hf : FloatOps.fptosi (F := Ideal) (φ := .f32) 32 ((x : ℝ) : EReal) = BitVec.ofNat 32 x := fptosi_nat (by omega)
    erw [hf]
    exact wrapped (by omega)
  · rw [if_neg hc, if_neg hc]
    exact wrapped (x := 2048) (by omega)

theorem out_129 : (last W g6 g7 g8 (Proc.devRef .tc main_v129) : S2048.Idx → BitVec 32) = Host.scatter Scat.D IntOp.addi
    (last W g6 g7 g8 (Proc.devRef .tc main_v120) : S2048.Idx → BitVec 32)
    (last W g6 g7 g8 (Proc.devRef .tc main_v128) : S32768x1.Idx → BitVec 32)
    (last W g6 g7 g8 (Proc.devRef .tc main_v122) : S32768.Idx → BitVec 32) := by
  unfold last behind
  after_reads_simp

end Read

section Pix

variable (V : Valuation τ sig (Elt Ideal)) (fg : S16x16384.Idx → EReal) (fc : S16x8192.Idx → EReal) (fn : S16x16.Idx → BitVec 32)
  (tb : S16.Idx → BitVec 32) (hn : ∀ i, (word (F := Ideal) i tb).toNat ≤ 2048) (htb : tb = tableOf (F := Ideal) (chans V))
  (ok : ∀ b, BandOK (F := Ideal) (chans V) b (takeG fg b) (takeC fc b) (takeN fn b))
  (H : Reg (aS V) (aR V))

open Classical in
/-- The number of the Gaussian in slot s of band b. -/
def num (b : Fin 16) (s : ℕ) : ℕ := if h : s < slot V b 2048 then (og V (slot_surj V b s h).choose).val else 2048

theorem num_lt (b : Fin 16) (s : ℕ) : num V b s < 4096 := by
  unfold num; split
  · exact lt_trans (Fin.isLt _) (by decide)
  · decide

theorem num_slot (b : Fin 16) (k : Fin 2048) (hk : keep V b k.val) : num V b (slot V b k.val) = (og V k).val := by
  have h := slot_lt V b k hk
  unfold num
  rw [dif_pos h]
  have hc := (slot_surj V b _ h).choose_spec
  have e : (slot_surj V b _ h).choose.val = k.val := Nat.count_injective (p := keep V b) hc.1 hk hc.2
  rw [Fin.ext e]

/-- A slot that holds Gaussian number `og k` is that Gaussian's. -/
theorem slot_of_num (b : Fin 16) (s : ℕ) (k : Fin 2048) (h : num V b s = (og V k).val) : keep V b k.val ∧ s = slot V b k.val := by
  unfold num at h
  split at h
  · rename_i hs
    have hc := (slot_surj V b s hs).choose_spec
    have e : (slot_surj V b s hs).choose = k := Order.ordOf_injective _ _ (Fin.ext h)
    rw [e] at hc
    exact ⟨hc.1, hc.2.symm⟩
  · have := (og V k).isLt; omega

/-- How many pixels of a band a Gaussian covers. -/
def cov (b : Fin 16) (g : Fin 2048) : ℕ := ∑ p : Fin 1024, if wd 0x3B808081#32 < alpha V b g p then 1 else 0

include H in
theorem sum_slots (b : Fin 16) (g : Fin 2048) : (∑ s : Fin 2048, if num V b s.val = g.val then cov V b g else 0) = cov V b g := by
  obtain ⟨k, rfl⟩ := Order.ordOf_surjective (N := 2048) (comparator_f32_i32_d0 (F := Ideal)) (aD V) g
  change (∑ s : Fin 2048, if num V b s.val = (og V k).val then cov V b (og V k) else 0) = cov V b (og V k)
  by_cases hk : keep V b k.val
  · rw [Finset.sum_eq_single (⟨slot V b k.val, slot_lt' V b k⟩ : Fin 2048)]
    · exact if_pos (num_slot V b k hk)
    · intro s _ hs
      rw [if_neg]
      intro e
      exact hs (Fin.ext (slot_of_num V b s.val k e).2)
    · intro h; exact absurd (Finset.mem_univ _) h
  · have h0 : cov V b (og V k) = 0 := by
      unfold cov
      exact Finset.sum_eq_zero fun p _ => if_neg (not_kept V b H k hk p)
    rw [h0]
    exact Finset.sum_eq_zero fun s _ => ite_self 0

/-- A sum over all slots, band by band. -/
theorem sum_bands (n : ℕ) (f : Fin 16 → ℕ → ℕ) :
    ∑ i : Fin (16 * (n + 1)), f ⟨i.val / (n + 1), Nat.div_lt_of_lt_mul (lt_of_lt_of_eq i.isLt (Nat.mul_comm _ _))⟩ (i.val % (n + 1)) = ∑ b : Fin 16, ∑ s : Fin (n + 1), f b s.val := by
  rw [← Fintype.sum_prod_type' (f := fun (b : Fin 16) (s : Fin (n + 1)) => f b s.val)]
  refine (Equiv.sum_comp (finProdFinEquiv (m := 16) (n := n + 1)) (fun i : Fin (16 * (n + 1)) =>
    f ⟨i.val / (n + 1), Nat.div_lt_of_lt_mul (lt_of_lt_of_eq i.isLt (Nat.mul_comm _ _))⟩ (i.val % (n + 1)))).symm.trans ?_
  refine Finset.sum_congr rfl fun z _ => ?_
  obtain ⟨b, s⟩ := z
  have hs := s.isLt
  have e : (finProdFinEquiv (b, s)).val = s.val + (n + 1) * b.val := rfl
  refine congrArg₂ f (Fin.ext ?_) ?_
  · show (finProdFinEquiv (b, s)).val / (n + 1) = b.val
    rw [e, Nat.add_mul_div_left _ _ (Nat.succ_pos n), Nat.div_eq_of_lt hs, Nat.zero_add]
  · rw [e, Nat.add_mul_mod_self_left, Nat.mod_eq_of_lt hs]

set_option maxHeartbeats 2000000 in
include htb ok H in
/-- The pixels a Gaussian covers, as the kernel counts them. -/
theorem pix (d : Dev nD) (g6 : S3x128x128.Idx → EReal) (g7 : S2048x1.Idx → BitVec 32) (g8 : S16x2048x1.Idx → BitVec 32)
    (h : (rdat tb hn (mids V fg fc fn) d).ArrAt 8 (cfgT (F := Ideal) tb).N g8) (g : Fin 2048) :
    (last (mids V fg fc fn) g6 g7 g8 (Proc.devRef .tc main_v129) : S2048.Idx → BitVec 32) (ix1 g) = BitVec.ofNat 32 (∑ b : Fin 16, cov V b g) := by
  rw [out_129]
  have ht : (mids V fg fc fn (Proc.devRef .tc main_v104) : S16.Idx → BitVec 32) = tableOf (F := Ideal) (chans V) :=
    between_table (before V) (chans V) fg fc fn fun b => (ok b).cnt
  refine (Scat.scatter_sum _ (out_120 _ _ _ _) _ _ (fun i => num V ⟨i.val / 2048, by omega⟩ (i.val % 2048)) (fun i => cov V ⟨i.val / 2048, by omega⟩ g)
    ?_ (fun i => num_lt V _ _) g ?_).trans ?_
  · intro i
    have hi := i.isLt
    by_cases hs : i.val % 2048 < slot V ⟨i.val / 2048, by omega⟩ 2048
    · obtain ⟨k, hk, e⟩ := slot_surj V ⟨i.val / 2048, by omega⟩ _ hs
      refine (out_128 _ _ _ _ i (slot V ⟨i.val / 2048, by omega⟩ 2048) (og V k).val (lt_of_le_of_lt (slot_le V _) (by decide)) (og V k).isLt
        (congrFun ht _) fun _ => ?_).trans ?_
      · have e2 := slot_number V fg fc fn tb ⟨i.val / 2048, by omega⟩ (ok _) k hk
        unfold slotG at e2
        rw [← e2]
        refine Eq.trans ?_ (geom_at tb (mids V fg fc fn) ⟨i.val / 2048, by omega⟩ _ 6).symm
        refine congrArg (fun z => (mids V fg fc fn (Proc.devRef .tc main_v101) : S16x2048x8.Idx → EReal) (ix3 ⟨i.val / 2048, by omega⟩ z 6)) (Fin.ext ?_)
        show i.val % 2048 = slot V _ k.val % 2048
        rw [e]; omega
      · rw [if_pos hs]
        have e3 := num_slot V ⟨i.val / 2048, by omega⟩ k hk
        rw [e] at e3
        rw [e3]
    · refine (out_128 _ _ _ _ i (slot V ⟨i.val / 2048, by omega⟩ 2048) 0 (lt_of_le_of_lt (slot_le V _) (by decide)) (by decide)
        (congrFun ht _) fun h => absurd h hs).trans ?_
      rw [if_neg hs]
      unfold num
      rw [dif_neg hs]
  · intro i hi
    have hlt := i.isLt
    rw [out_122]
    obtain ⟨k, rfl⟩ := Order.ordOf_surjective (N := 2048) (comparator_f32_i32_d0 (F := Ideal)) (aD V) g
    obtain ⟨hk, e⟩ := slot_of_num V ⟨i.val / 2048, by omega⟩ (i.val % 2048) k hi
    refine Eq.trans (congrArg (fun z => g8 (ix3 ⟨i.val / 2048, by omega⟩ z 0)) (Fin.ext e))
      (count_band V fg fc fn tb hn htb ⟨i.val / 2048, by omega⟩ (ok _) H d g8 h k hk)
  · refine congrArg _ ((sum_bands 2047 fun b s => if num V b s = g.val then cov V b g else 0).trans ?_)
    exact Finset.sum_congr rfl fun b _ => sum_slots V H b g

/-- The same over all pixels of the image. -/
theorem cov_sum (g : Fin 2048) : ∑ b : Fin 16, cov V b g
    = ∑ p : Fin 16384, if wd 0x3B808081#32 < raw (ga (aS V) (aR V) g) (gb (aS V) (aR V) g) (gc (aS V) (aR V) g) (aM V (ix2 g 0)) (aM V (ix2 g 1)) (aO V (ix2 g 0))
        (mid (p.val % 128)) (mid (p.val / 128)) then 1 else 0 := by
  refine (sum_bands 1023 fun b p => if wd 0x3B808081#32 < raw (ga (aS V) (aR V) g) (gb (aS V) (aR V) g) (gc (aS V) (aR V) g) (aM V (ix2 g 0)) (aM V (ix2 g 1)) (aO V (ix2 g 0))
        (mid (p % 128)) (mid (b.val * 8 + p / 128)) then 1 else 0).symm.trans ?_
  refine Finset.sum_congr rfl fun p _ => ?_
  have e1 : p.val % (1023 + 1) % 128 = p.val % 128 := by omega
  have e2 : p.val / (1023 + 1) * 8 + p.val % (1023 + 1) / 128 = p.val / 128 := by omega
  show (if _ < raw _ _ _ _ _ _ (mid (p.val % (1023 + 1) % 128)) (mid (p.val / (1023 + 1) * 8 + p.val % (1023 + 1) / 128)) then 1 else 0) = _
  rw [e1, e2]

end Pix

end Cert.Proof.Out
-- ==== Proof.Pre.lean ====
/-
  The precondition, read: scales and rotations are real, no covariance's determinant is below the clamp, and no Gaussian's
  opacity at a pixel is the threshold itself.
-/
module

public import proofs.«01_k».proof.Pre_regular
public import proofs.«01_k».proof.Proof.Pay
public import Idealize.ShloMosaic.Lib.Pointwise
public import Idealize.ShloMosaic.Lib.ReduceAll

@[expose] public section

set_option maxRecDepth 16384

noncomputable section

namespace Cert.Proof.Pre

open Idealize.ShloMosaic Idealize.ShloMosaic.TcCoe
open Cert.Pre_regular Cert.Proof.Spec Cert.Proof.Pay

theorem andi_one {a b : BitVec 1} (h : IntOp.andi a b = 1#1) : a = 1#1 ∧ b = 1#1 := by
  revert a b; decide

variable [Cert.Pre_regular.Facts] (M : S2048x2.Idx → EReal) (C : S2048x3.Idx → EReal) (O : S2048x1.Idx → EReal) (S : S2048x2.Idx → EReal) (R : S2048.Idx → EReal)
  (Z : S2048.Idx → EReal) (B : S3.Idx → EReal)

abbrev rawAt (p : Fin 16384) (g : Fin 2048) : EReal :=
  raw (xx (R (ix1 g)) (S (ix2 g 0)) (S (ix2 g 1))) (xy (R (ix1 g)) (S (ix2 g 0)) (S (ix2 g 1))) (yy (R (ix1 g)) (S (ix2 g 0)) (S (ix2 g 1)))
    (M (ix2 g 0)) (M (ix2 g 1)) (O (ix2 g 0)) (mid (p.val % 128)) (mid (p.val / 128))

theorem olt_one {x y : EReal} (h : Ideal.cmp .olt x y = 1#1) : x < y := by
  by_contra hc; simp [Ideal.cmp, hc] at h
theorem oge_one {x y : EReal} (h : Ideal.cmp .oge x y = 1#1) : y ≤ x := by
  by_contra hc; simp [Ideal.cmp, hc] at h
theorem une_one {x y : EReal} (h : Ideal.cmp .une x y = 1#1) : x ≠ y := by
  by_contra hc; simp [Ideal.cmp, hc] at h

theorem top_word : Ideal.ofBits .f32 0x7F800000#32 = (⊤ : EReal) := by
  simp [Ideal.ofBits, Ideal.ieee]

/-- A number of which the absolute value is below infinity is real. -/
theorem real_of_abs {x : EReal} (h : max x (-x) < ⊤) : ∃ r : ℝ, x = r := by
  induction x with
  | bot => simp at h
  | top => simp at h
  | coe r => exact ⟨r, rfl⟩

set_option maxHeartbeats 4000000 in
theorem parts : ∃ (X : S16384x2048.Idx → EReal) (Y : S2048x2.Idx → BitVec 1) (A B' : S2048.Idx → EReal),
    Cert.Pre_regular.fn (F := Ideal) M C O S R Z B = fn_part4 (F := Ideal) R A B' X Y
    ∧ (∀ p g, X (ix2 p g) = rawAt M O S R p g) ∧ (∀ i, Y i = Ideal.cmp .olt (max (S i) (-S i)) (Ideal.ofBits .f32 0x7F800000#32))
    ∧ (∀ g : Fin 2048, A (ix1 g) = S (ix2 g 0) * S (ix2 g 0)) ∧ ∀ g : Fin 2048, B' (ix1 g) = S (ix2 g 1) * S (ix2 g 1) := by
  refine ⟨_, _, _, _, rfl, fun p g => ?_, fun i => ?_, fun g => ?_, fun g => ?_⟩
  · have hp := p.isLt
    pointwise
    rw [mid_coe (by omega), mid_coe (by omega)]
    rfl
  · rfl
  · pointwise
  · pointwise

instance : Subsingleton S_.Idx := ⟨fun a b => funext fun k => k.elim0⟩

theorem split4 (X : S16384x2048.Idx → EReal) (Y : S2048x2.Idx → BitVec 1) (A B' : S2048.Idx → EReal)
    (h : fn_part4 (F := Ideal) R A B' X Y = fun _ => 1#1) :
    (∀ i, Y i = 1#1) ∧ (∀ i, Ideal.cmp .olt (max (R i) (-R i)) (Ideal.ofBits .f32 0x7F800000#32) = 1#1)
    ∧ (∀ i, Ideal.cmp .oge (A i * B' i) (Ideal.ofBits .f32 0x322BCC77#32) = 1#1)
    ∧ ∀ i, Ideal.cmp .une (X i) (Ideal.ofBits .f32 0x3B808081#32) = 1#1 := by
  have e := congrFun h (fun k => k.elim0)
  obtain ⟨e, e4⟩ := andi_one e
  obtain ⟨e, e3⟩ := andi_one e
  obtain ⟨e1, e2⟩ := andi_one e
  exact ⟨fun i => Host.reduce_andi_all _ _ _ _ _ e1 i, fun i => Host.reduce_andi_all _ _ _ _ _ e2 i, fun i => Host.reduce_andi_all _ _ _ _ _ e3 i,
    fun i => Host.reduce_andi_all _ _ _ _ _ e4 i⟩

/-- What the precondition says. -/
theorem regular (h : Cert.Pre_regular.fn (F := Ideal) M C O S R Z B = fun _ => 1#1) :
    (∀ i, ∃ r : ℝ, S i = r) ∧ (∀ i, ∃ r : ℝ, R i = r)
    ∧ (∀ g : Fin 2048, wd 0x322BCC77#32 ≤ S (ix2 g 0) * S (ix2 g 0) * (S (ix2 g 1) * S (ix2 g 1)))
    ∧ ∀ p g, rawAt M O S R p g ≠ wd 0x3B808081#32 := by
  obtain ⟨X, Y, A, B', e, hX, hY, hA, hB⟩ := parts M C O S R Z B
  obtain ⟨h1, h2, h3, h4⟩ := split4 R X Y A B' (e.symm.trans h)
  refine ⟨fun i => real_of_abs ?_, fun i => real_of_abs ?_, fun g => ?_, fun p g => ?_⟩
  · have t := olt_one ((hY i).symm.trans (h1 i)); rwa [top_word] at t
  · have t := olt_one (h2 i); rwa [top_word] at t
  · have t := oge_one (h3 (ix1 g)); rw [hA, hB] at t; exact t
  · rw [← hX]; exact une_one (h4 _)

end Cert.Proof.Pre
-- ==== Proof.Ref.lean ====
/-
  The reference's values: the opacities, the radii, the numbers of pixels, pixel by pixel and Gaussian by Gaussian.
-/
module

public import proofs.«01_k».proof.Proof.Pay
public import proofs.«01_k».proof.Proof.Frames
public import Idealize.ShloMosaic.Lib.Pointwise
public import Idealize.ShloMosaic.Lib.StableHlo.ReadAt
public import Idealize.ShloMosaic.Lib.ReduceAll

@[expose] public section

set_option maxRecDepth 16384

noncomputable section

namespace Cert.Proof.Ref

open Idealize.ShloMosaic Idealize.ShloMosaic.TcCoe
open Cert.ReferenceIdeal Cert.ReferenceIdeal.Gen Cert.ReferenceIdeal.Value Cert.Proof.Spec Cert.Proof.Pay

variable (V : Valuation τ sig (Elt Ideal))

abbrev aM : S2048x2.Idx → EReal := V (Proc.devRef .tc main_arg0)
abbrev aC : S2048x3.Idx → EReal := V (Proc.devRef .tc main_arg1)
abbrev aO : S2048x1.Idx → EReal := V (Proc.devRef .tc main_arg2)
abbrev aS : S2048x2.Idx → EReal := V (Proc.devRef .tc main_arg3)
abbrev aR : S2048.Idx → EReal := V (Proc.devRef .tc main_arg4)
abbrev aD : S2048.Idx → EReal := V (Proc.devRef .tc main_arg5)
abbrev aB : S3.Idx → EReal := V (Proc.devRef .tc main_arg6)

abbrev ga (g : Fin 2048) : EReal := xx (aR V (ix1 g)) (aS V (ix2 g 0)) (aS V (ix2 g 1))
abbrev gb (g : Fin 2048) : EReal := xy (aR V (ix1 g)) (aS V (ix2 g 0)) (aS V (ix2 g 1))
abbrev gc (g : Fin 2048) : EReal := yy (aR V (ix1 g)) (aS V (ix2 g 0)) (aS V (ix2 g 1))

/-- The opacity of Gaussian g at pixel p, before the small ones are dropped. -/
abbrev rawAt (p : Fin 16384) (g : Fin 2048) : EReal :=
  raw (ga V g) (gb V g) (gc V g) (aM V (ix2 g 0)) (aM V (ix2 g 1)) (aO V (ix2 g 0)) (mid (p.val % 128)) (mid (p.val / 128))

set_option maxHeartbeats 4000000 in
theorem alpha_ops (p : Fin 16384) (g : Fin 2048) :
    (StableHlo.after hostOps0_1 (StableHlo.after hostOps0 V) (Proc.devRef .tc main_v88) : S16384x2048.Idx → EReal) (ix2 p g)
      = if rawAt V p g < wd 0x3B808081#32 then 0 else rawAt V p g := by
  have hp := p.isLt
  after_reads_at
  after_reads_at
  rw [mid_coe (by omega), mid_coe (by omega)]
  show (if rawAt V p g < wd 0x3B808081#32 then Ideal.ofBits .f32 0#32 else rawAt V p g) = _
  rw [Ideal.ofBits_zero_f32]

set_option maxHeartbeats 4000000 in
theorem radii_ops (g : Fin 2048) :
    (StableHlo.after hostOps0_2 (StableHlo.after hostOps0_1 (StableHlo.after hostOps0 V)) (Proc.devRef .tc main_v102) : S2048.Idx → BitVec 32) (ix1 g)
      = radius (ga V g) (gb V g) (gc V g) := by
  after_reads_at
  rfl

theorem fold_count {ι : Type} (s : Finset ι) (P : ι → Prop) [DecidablePred P] (f : ι → BitVec 32) (hf : ∀ x ∈ s, f x = if P x then 1#32 else 0#32) :
    Finset.fold IntOp.addi 0#32 f s = BitVec.ofNat 32 (∑ p ∈ s, if P p then 1 else 0) := by
  classical
  induction s using Finset.induction_on with
  | empty => rfl
  | insert a s ha ih =>
    rw [Finset.fold_insert ha, Finset.sum_insert ha, ih fun x hx => hf x (Finset.mem_insert_of_mem hx), hf a (Finset.mem_insert_self a s)]
    show _ + _ = _
    rw [BitVec.ofNat_add]
    split <;> rfl

set_option maxHeartbeats 4000000 in
theorem pix_ops (W : Valuation τ sig (Elt Ideal)) (g : Fin 2048) :
    (StableHlo.after hostOps0_2 W (Proc.devRef .tc main_v106) : S2048.Idx → BitVec 32) (ix1 g)
      = BitVec.ofNat 32 (∑ p : Fin 16384, if wd 0x3B808081#32 < (W (Proc.devRef .tc main_v88) : S16384x2048.Idx → EReal) (ix2 p g) then 1 else 0) := by
  after_reads_at
  refine fold_count _ _ _ fun p _ => ?_
  show BitVec.setWidth 32 (BitVec.ofBool (decide (wd 0x3B808081#32 < (W (Proc.devRef .tc main_v88) : S16384x2048.Idx → EReal) (ix2 p g)))) = _
  by_cases hp : wd 0x3B808081#32 < (W (Proc.devRef .tc main_v88) : S16384x2048.Idx → EReal) (ix2 p g)
  · rw [decide_eq_true hp, if_pos hp]; rfl
  · rw [decide_eq_false hp, if_neg hp]; rfl
end Cert.Proof.Ref
-- ==== Proof.RefLoop.lean ====
/-
  The reference's loop: what it composites, Gaussian by Gaussian in depth order, at every pixel.
-/
module

public import proofs.«01_k».proof.Proof.Ref

@[expose] public section

set_option maxRecDepth 16384

noncomputable section

namespace Cert.Proof.Ref

open Idealize.ShloMosaic Idealize.ShloMosaic.TcCoe
open Cert.ReferenceIdeal Cert.ReferenceIdeal.Gen Cert.ReferenceIdeal.Value Cert.Proof.Spec Cert.Proof.Pay Cert.Proof.Order Cert.Proof.Comp

/-- The depth order. -/
abbrev ord (D : S2048.Idx → EReal) (r : Fin 2048) : Fin 2048 := ordOf (N := 2048) (comparator_f32_i32_d0 (F := Ideal)) D r

section Names

variable (X : Valuation τ sig (Elt Ideal))

/-- What the loop carries: the opacities and colours in depth order, the light that is left, and the image. -/
abbrev xA : S16384x2048.Idx → EReal := X (Proc.devRef .tc main_v124_0)
abbrev xC : S2048x3.Idx → EReal := X (Proc.devRef .tc main_v124_1)
abbrev xT : S16384.Idx → EReal := X (Proc.devRef .tc main_v124_4)
abbrev xI : S16384x3.Idx → EReal := X (Proc.devRef .tc main_v124_5)
abbrev xN : S_.Idx → BitVec 32 := X (Proc.devRef .tc main_v124_3)

end Names

section Entry

variable (V : Valuation τ sig (Elt Ideal))

theorem argsort_at (r : Fin 2048) : (StableHlo.after hostOps0_3 V (Proc.devRef .tc main_v107) : S2048.Idx → BitVec 32) (ix1 r) = BitVec.ofNat 32 (ord (aD V) r).val := by
  after_reads_at
  rw [← sort2_iota]

set_option maxHeartbeats 1000000 in
theorem cols_at (p : Fin 16384) (r k : Fin 2048) (h : (V (Proc.devRef .tc main_v107) : S2048.Idx → BitVec 32) (ix1 r) = BitVec.ofNat 32 k.val) :
    xA (StableHlo.after hostOps0_4 V) (ix2 p r) = (V (Proc.devRef .tc main_v88) : S16384x2048.Idx → EReal) (ix2 p k) := by
  have e : (StableHlo.after hostOps0_4 V (Proc.devRef .tc main_v113) : S2048x1.Idx → BitVec 32) (ix2 r 0) = BitVec.ofNat 32 k.val := by
    after_reads_at
    refine Eq.trans ?_ (wrap_nat k.isLt 2048#32)
    rw [← h]
    rfl
  refine Eq.trans (b := Host.gather gather_S16384x2048_S2048x1_S16384x2048_0_1_n_n_1_1_163841 (V (Proc.devRef .tc main_v88) : S16384x2048.Idx → EReal)
    (StableHlo.after hostOps0_4 V (Proc.devRef .tc main_v113) : S2048x1.Idx → BitVec 32) (ix2 p r)) ?_ ?_
  · after_reads_simp
    rfl
  · refine Eq.trans (gather_cols (by decide) gather_S16384x2048_S2048x1_S16384x2048_0_1_n_n_1_1_163841_wf _ _ p r) ?_
    refine congrArg (fun k => (V (Proc.devRef .tc main_v88) : S16384x2048.Idx → EReal) (ix2 p k)) (Fin.ext ?_)
    show min (_ : BitVec 32).toInt.toNat _ = _
    rw [e, toInt_nat k.isLt]
    omega

set_option maxHeartbeats 1000000 in
theorem rows_at (r k : Fin 2048) (ch : Fin 3) (h : (V (Proc.devRef .tc main_v107) : S2048.Idx → BitVec 32) (ix1 r) = BitVec.ofNat 32 k.val) :
    xC (StableHlo.after hostOps0_4 V) (ix2 r ch) = (V (Proc.devRef .tc main_arg1) : S2048x3.Idx → EReal) (ix2 k ch) := by
  have e : (StableHlo.after hostOps0_4 V (Proc.devRef .tc main_v120) : S2048x1.Idx → BitVec 32) (ix2 r 0) = BitVec.ofNat 32 k.val := by
    after_reads_at
    refine Eq.trans ?_ (wrap_nat k.isLt 2048#32)
    rw [← h]
    rfl
  refine Eq.trans (b := Host.gather gather_S2048x3_S2048x1_S2048x3_1_0_n_n_0_1_13 (V (Proc.devRef .tc main_arg1) : S2048x3.Idx → EReal)
    (StableHlo.after hostOps0_4 V (Proc.devRef .tc main_v120) : S2048x1.Idx → BitVec 32) (ix2 r ch)) ?_ ?_
  · after_reads_simp
    rfl
  · refine Eq.trans (gather_rows (by decide) gather_S2048x3_S2048x1_S2048x3_1_0_n_n_0_1_13_wf _ _ r ch) ?_
    refine congrArg (fun k => (V (Proc.devRef .tc main_arg1) : S2048x3.Idx → EReal) (ix2 k ch)) (Fin.ext ?_)
    show min (_ : BitVec 32).toInt.toNat _ = _
    rw [e, toInt_nat k.isLt]
    omega

theorem ones_at (p : Fin 16384) : xT (StableHlo.after hostOps0_4 V) (ix1 p) = ((1 : ℝ) : EReal) := by
  after_reads_at
  exact wd_one
theorem zeros_at (p : Fin 16384) (ch : Fin 3) : xI (StableHlo.after hostOps0_4 V) (ix2 p ch) = 0 := by
  after_reads_at
  exact Ideal.ofBits_zero_f32
theorem ctr_at : xN (StableHlo.after hostOps0_4 V) = fun _ => 0#32 := by
  after_reads_simp
  rfl
theorem post_at (ch : Fin 3) (y x : Fin 128) : (StableHlo.after hostOps0_5 V (Proc.devRef .tc main_v132) : S3x128x128.Idx → EReal) (ix3 ch y x)
    = xI V (ix2 ⟨y.val * 128 + x.val, by omega⟩ ch)
      + xT V (ix1 ⟨y.val * 128 + x.val, by omega⟩) * aB V (ix1 ch) := by
  after_reads_at

end Entry

section Trip

variable (X : Valuation τ sig (Elt Ideal)) (k : ℕ) (hk : k < 2048) (h : xN X = fun _ => BitVec.ofNat 32 k)

include hk h in
theorem trip_ctr : xN (StableHlo.afterL bodyI X) = fun _ => BitVec.ofNat 32 (k + 1) := by
  refine (trip_main_v124_3 X).trans ?_
  funext i
  show IntOp.addi (xN X i) 1#32 = _
  rw [h]
  show BitVec.ofNat 32 k + 1#32 = _
  rw [BitVec.ofNat_add]

theorem slice_col (A : S16384x2048.Idx → EReal) (st : Fin 2 → ℤ) (h0 : st 0 = 0) (h1 : st 1 = (k : ℤ)) (p : Fin 16384) :
    Host.dynamicSlice (s := S16384x2048) S16384x1 A st sliceFits_S16384x2048_S16384x1 (ix2 p 0) = A (ix2 p ⟨k, hk⟩) := by
  unfold Host.dynamicSlice extractStridedSlice
  refine congrArg A (funext fun a => Fin.ext ?_)
  match a with
  | ⟨0, _⟩ =>
    show (min (max (st 0) 0) ((16384 - 16384 : ℕ) : ℤ)).toNat + p.val = p.val
    rw [h0]; simp
  | ⟨1, _⟩ =>
    show (min (max (st 1) 0) ((2048 - 1 : ℕ) : ℤ)).toNat + 0 = k
    rw [h1]; omega

theorem slice_row (C : S2048x3.Idx → EReal) (st : Fin 2 → ℤ) (h0 : st 0 = (k : ℤ)) (h1 : st 1 = 0) (ch : Fin 3) :
    Host.dynamicSlice (s := S2048x3) S1x3 C st sliceFits_S2048x3_S1x3 (ix2 0 ch) = C (ix2 ⟨k, hk⟩ ch) := by
  unfold Host.dynamicSlice extractStridedSlice
  refine congrArg C (funext fun a => Fin.ext ?_)
  match a with
  | ⟨0, _⟩ =>
    show (min (max (st 0) 0) ((2048 - 1 : ℕ) : ℤ)).toNat + 0 = k
    rw [h0]; omega
  | ⟨1, _⟩ =>
    show (min (max (st 1) 0) ((3 - 3 : ℕ) : ℤ)).toNat + ch.val = ch.val
    rw [h1]; simp

include hk h in
theorem index_at (i : S_.Idx) : (select (cmpi .slt (id (xN X)) (constantI S_ 32 0#32)) (addi (id (xN X)) (constantI S_ 32 2048#32)) (id (xN X)) i : BitVec 32).toInt = (k : ℤ) := by
  rw [h]
  refine (congrArg BitVec.toInt ?_).trans (toInt_int hk)
  exact wrap_nat hk 2048#32

include hk h in
theorem trip_T (p : Fin 16384) : xT (StableHlo.afterL bodyI X) (ix1 p) = xT X (ix1 p) * (((1 : ℝ) : EReal) - xA X (ix2 p ⟨k, hk⟩)) := by
  refine (congrFun (trip_main_v124_4 X) (ix1 p)).trans ?_
  unfold res_main_while0b_v144
  generalize e : Host.dynamicSlice S16384x1 _ _ sliceFits_S16384x2048_S16384x1 = Y
  have ey : Y (ix2 p 0) = xA X (ix2 p ⟨k, hk⟩) := by
    rw [← e]
    exact slice_col k hk _ _ rfl (index_at X k hk h _) p
  refine Eq.trans (b := mulf (F := Ideal) (φ := .f32) (xT X) (subf (broadcastInDim S16384 ![] bcast_S_S16384 (constant (F := Ideal) S_ .f32 0x3F800000#32)) (shapeCast S16384 Y shapeCasts_S16384x1_S16384)) (ix1 p)) rfl ?_
  pointwise
  rw [ey, EReal.coe_one]

set_option maxHeartbeats 2000000 in
include hk h in
theorem trip_I (p : Fin 16384) (ch : Fin 3) : xI (StableHlo.afterL bodyI X) (ix2 p ch)
    = xI X (ix2 p ch) + xT X (ix1 p) * xA X (ix2 p ⟨k, hk⟩) * xC X (ix2 ⟨k, hk⟩ ch) := by
  refine (congrFun (trip_main_v124_5 X) (ix2 p ch)).trans ?_
  unfold res_main_while0b_v134 res_main_while0b_v157
  generalize e : Host.dynamicSlice S16384x1 _ _ sliceFits_S16384x2048_S16384x1 = Y
  generalize e' : Host.dynamicSlice S1x3 _ _ sliceFits_S2048x3_S1x3 = Z
  have ey : Y (ix2 p 0) = xA X (ix2 p ⟨k, hk⟩) := by
    rw [← e]
    exact slice_col k hk _ _ rfl (index_at X k hk h _) p
  have ez : Z (ix2 0 ch) = xC X (ix2 ⟨k, hk⟩ ch) := by
    rw [← e']
    exact slice_row k hk _ _ (index_at X k hk h _) rfl ch
  refine Eq.trans (b := addf (F := Ideal) (φ := .f32) (xI X) (mulf (broadcastInDim S16384x3 ![0, 1] bcast_S16384x1_S16384x3_0_1
    (broadcastInDim S16384x1 ![0] bcast_S16384_S16384x1_0 (mulf (xT X) (shapeCast S16384 Y shapeCasts_S16384x1_S16384))))
    (broadcastInDim S16384x3 ![0, 1] bcast_S1x3_S16384x3_0_1 (broadcastInDim S1x3 ![1] bcast_S3_S1x3_1 (shapeCast S3 Z shapeCasts_S1x3_S3)))) (ix2 p ch)) rfl ?_
  pointwise
  rw [← ey, ← ez]

end Trip

section Loop

variable (m : (ℓ : Loc nD τ sig) → Buf (Elt Ideal) ℓ) (d : Dev nD)

/-- The buffers as the program finds them. -/
abbrev V0 : Valuation τ sig (Elt Ideal) := fun b => m (d, b)

theorem cond_carried (X : Valuation τ sig (Elt Ideal)) (b : Ref sig .tc) (h : b ∈ carriedRefs) :
    StableHlo.after condOps X (Proc.devRef .tc b) = X (Proc.devRef .tc b) := cond_keeps X b h

theorem atK_succ (k : ℕ) : atK m (k + 1) d = StableHlo.afterL bodyI (StableHlo.after condOps (atK m k d)) := rfl

theorem loop_A (k : ℕ) : xA (atK m k d) = xA (atK m 0 d) := by
  induction k with
  | zero => rfl
  | succ k ih =>
    rw [atK_succ]
    exact (trip_main_v124_0 _).trans ((cond_carried _ main_v124_0 (by decide)).trans ih)
theorem loop_C (k : ℕ) : xC (atK m k d) = xC (atK m 0 d) := by
  induction k with
  | zero => rfl
  | succ k ih =>
    rw [atK_succ]
    exact (trip_main_v124_1 _).trans ((cond_carried _ main_v124_1 (by decide)).trans ih)

variable (h0 : xN (atK m 0 d) = fun _ => 0#32)

include h0 in
theorem loop_N (k : ℕ) (hk : k ≤ 2048) : xN (atK m k d) = fun _ => BitVec.ofNat 32 k := by
  induction k with
  | zero => exact h0
  | succ k ih =>
    rw [atK_succ]
    exact trip_ctr _ k hk ((cond_carried _ main_v124_3 (by decide)).trans (ih (by omega)))

variable (p : Fin 16384) (a : ℕ → ℝ) (ha : ∀ r : Fin 2048, xA (atK m 0 d) (ix2 p r) = (a r.val : EReal))
  (hT : xT (atK m 0 d) (ix1 p) = ((1 : ℝ) : EReal))

include h0 ha hT in
theorem loop_T (k : ℕ) (hk : k ≤ 2048) : xT (atK m k d) (ix1 p) = (trans a k : EReal) := by
  induction k with
  | zero => rw [hT]; simp [Comp.trans]
  | succ k ih =>
    rw [atK_succ]
    refine (trip_T _ k hk ((cond_carried _ main_v124_3 (by decide)).trans (loop_N m d h0 k (by omega))) p).trans ?_
    have e : xA (StableHlo.after condOps (atK m k d)) = xA (atK m 0 d) := (cond_carried _ main_v124_0 (by decide)).trans (loop_A m d k)
    have eT : xT (StableHlo.after condOps (atK m k d)) = xT (atK m k d) := cond_carried _ main_v124_4 (by decide)
    rw [e, eT, ha ⟨k, hk⟩, ih (by omega), trans_succ, ← EReal.coe_sub, ← EReal.coe_mul]

variable (ch : Fin 3) (c : ℕ → EReal) (hc : ∀ r : Fin 2048, xC (atK m 0 d) (ix2 r ch) = c r.val) (hI : xI (atK m 0 d) (ix2 p ch) = 0)

include h0 ha hT hc hI in
theorem loop_I (k : ℕ) (hk : k ≤ 2048) : xI (atK m k d) (ix2 p ch) = light a c k := by
  induction k with
  | zero => rw [hI]; simp [Comp.light]
  | succ k ih =>
    rw [atK_succ]
    refine (trip_I _ k hk ((cond_carried _ main_v124_3 (by decide)).trans (loop_N m d h0 k (by omega))) p ch).trans ?_
    have e : xA (StableHlo.after condOps (atK m k d)) = xA (atK m 0 d) := (cond_carried _ main_v124_0 (by decide)).trans (loop_A m d k)
    have eC : xC (StableHlo.after condOps (atK m k d)) = xC (atK m 0 d) := (cond_carried _ main_v124_1 (by decide)).trans (loop_C m d k)
    have eT : xT (StableHlo.after condOps (atK m k d)) = xT (atK m k d) := cond_carried _ main_v124_4 (by decide)
    have eI : xI (StableHlo.after condOps (atK m k d)) = xI (atK m k d) := cond_carried _ main_v124_5 (by decide)
    rw [e, eC, eT, eI, ha ⟨k, hk⟩, hc ⟨k, hk⟩, ih (by omega), loop_T m d h0 p a ha hT k (by omega), light_succ, ← EReal.coe_mul, mul_comm _ (c k)]

end Loop

end Cert.Proof.Ref
-- ==== Proof.RefOut.lean ====
/-
  The reference's three results, of its arguments.
-/
module

public import proofs.«01_k».proof.Proof.RefLoop

@[expose] public section

set_option maxRecDepth 16384

noncomputable section

namespace Cert.Proof.Ref

open Idealize.ShloMosaic Idealize.ShloMosaic.TcCoe
open Cert.ReferenceIdeal Cert.ReferenceIdeal.Gen Cert.ReferenceIdeal.Value Cert.Proof.Spec Cert.Proof.Pay Cert.Proof.Order Cert.Proof.Comp Cert.Proof.Frames

section Before

variable (V : Valuation τ sig (Elt Ideal))

abbrev W1 : Valuation τ sig (Elt Ideal) := StableHlo.after hostOps0_1 (StableHlo.after hostOps0 V)
abbrev W2 : Valuation τ sig (Elt Ideal) := StableHlo.after hostOps0_2 (W1 V)
abbrev W3 : Valuation τ sig (Elt Ideal) := StableHlo.after hostOps0_3 (W2 V)

theorem entry_eq : StableHlo.afterL preI V = StableHlo.after hostOps0_4 (W3 V) := rfl

theorem W2_keep (b : Ref sig .tc) (h : b ∉ hostOps0_W ++ hostOps0_1_W ++ hostOps0_2_W) : W2 V (Proc.devRef .tc b) = V (Proc.devRef .tc b) := by
  simp only [List.mem_append, not_or] at h
  obtain ⟨⟨h0, h1⟩, h2⟩ := h
  show StableHlo.after hostOps0_2 (StableHlo.after hostOps0_1 (StableHlo.after hostOps0 V)) _ = _
  rw [StableHlo.after_of_writes_sub hostOps0_2 _ hostOps0_2_writes h2,
    StableHlo.after_of_writes_sub hostOps0_1 _ hostOps0_1_writes h1, StableHlo.after_of_writes_sub hostOps0 _ hostOps0_writes h0]

theorem W3_keep (b : Ref sig .tc) (h : b ∉ hostOps0_3_W) : W3 V (Proc.devRef .tc b) = W2 V (Proc.devRef .tc b) :=
  StableHlo.after_of_writes_sub hostOps0_3 _ hostOps0_3_writes h

theorem W3_88 (p : Fin 16384) (g : Fin 2048) : (W3 V (Proc.devRef .tc main_v88) : S16384x2048.Idx → EReal) (ix2 p g)
    = if rawAt V p g < wd 0x3B808081#32 then 0 else rawAt V p g := by
  rw [W3_keep V main_v88 (by decide), show W2 V (Proc.devRef .tc main_v88) = W1 V (Proc.devRef .tc main_v88) from
    StableHlo.after_of_writes_sub hostOps0_2 _ hostOps0_2_writes (by decide)]
  exact alpha_ops V p g

theorem W3_107 (r : Fin 2048) : (W3 V (Proc.devRef .tc main_v107) : S2048.Idx → BitVec 32) (ix1 r) = BitVec.ofNat 32 (ord (aD V) r).val := by
  refine (argsort_at (W2 V) r).trans ?_
  rw [show aD (W2 V) = aD V from W2_keep V main_arg5 (by decide)]

/-- The opacities in depth order. -/
theorem entry_A (p : Fin 16384) (r : Fin 2048) : xA (StableHlo.afterL preI V) (ix2 p r)
    = if rawAt V p (ord (aD V) r) < wd 0x3B808081#32 then 0 else rawAt V p (ord (aD V) r) :=
  (cols_at (W3 V) p r _ (W3_107 V r)).trans (W3_88 V p _)

theorem entry_C (r : Fin 2048) (ch : Fin 3) : xC (StableHlo.afterL preI V) (ix2 r ch) = aC V (ix2 (ord (aD V) r) ch) :=
  (rows_at (W3 V) r _ ch (W3_107 V r)).trans (congrFun ((W3_keep V main_arg1 (by decide)).trans (W2_keep V main_arg1 (by decide))) _)

/-- A result that the last of the operations before the loop leave. -/
theorem entry_W2 (b : Ref sig .tc) (h : b ∉ hostOps0_3_W ++ hostOps0_4_W) : StableHlo.afterL preI V (Proc.devRef .tc b) = W2 V (Proc.devRef .tc b) := by
  simp only [List.mem_append, not_or] at h
  rw [entry_eq, StableHlo.after_of_writes_sub hostOps0_4 _ hostOps0_4_writes h.2, W3_keep V b h.1]

theorem thr_if (x : EReal) : (wd 0x3B808081#32 < if x < wd 0x3B808081#32 then 0 else x) ↔ wd 0x3B808081#32 < x := by
  have h0 : (0 : EReal) ≤ wd 0x3B808081#32 := by
    rw [wd_thr]
    exact EReal.coe_nonneg.mpr (by norm_num [thr])
  split
  · rename_i h
    exact ⟨fun h' => absurd (lt_of_le_of_lt h0 h') (lt_irrefl _), fun h' => absurd (h.trans h') (lt_irrefl _)⟩
  · exact Iff.rfl

theorem entry_106 (g : Fin 2048) : (StableHlo.afterL preI V (Proc.devRef .tc main_v106) : S2048.Idx → BitVec 32) (ix1 g)
    = BitVec.ofNat 32 (∑ p : Fin 16384, if wd 0x3B808081#32 < rawAt V p g then 1 else 0) := by
  rw [entry_W2 V main_v106 (by decide)]
  refine (pix_ops (W1 V) g).trans (congrArg (BitVec.ofNat 32) (Finset.sum_congr rfl fun p _ => ?_))
  refine if_congr ?_ rfl rfl
  exact (iff_of_eq (congrArg (fun z : EReal => wd 0x3B808081#32 < z) (alpha_ops V p g))).trans (thr_if _)

theorem entry_102 (g : Fin 2048) : (StableHlo.afterL preI V (Proc.devRef .tc main_v102) : S2048.Idx → BitVec 32) (ix1 g) = radius (ga V g) (gb V g) (gc V g) := by
  rw [entry_W2 V main_v102 (by decide)]
  exact radii_ops V g

end Before

variable (m : (ℓ : Loc nD τ sig) → Buf (Elt Ideal) ℓ) (d : Dev nD)

/-- The buffers at the end. -/
abbrev fin : Valuation τ sig (Elt Ideal) := StableHlo.finalContents condOps preI bodyI postI 2048 m d

theorem fin_102 (g : Fin 2048) : (fin m d (Proc.devRef .tc main_v102) : S2048.Idx → BitVec 32) (ix1 g)
    = radius (ga (V0 m d) g) (gb (V0 m d) g) (gc (V0 m d) g) := by
  exact (congrFun (final_entry m d main_v102 (by decide)) _).trans (entry_102 (V0 m d) g)

theorem fin_106 (g : Fin 2048) : (fin m d (Proc.devRef .tc main_v106) : S2048.Idx → BitVec 32) (ix1 g)
    = BitVec.ofNat 32 (∑ p : Fin 16384, if wd 0x3B808081#32 < rawAt (V0 m d) p g then 1 else 0) := by
  exact (congrFun (final_entry m d main_v106 (by decide)) _).trans (entry_106 (V0 m d) g)

/-- The colours. -/
theorem fin_132 (ch : Fin 3) (y x : Fin 128) (a : ℕ → ℝ) (c : ℕ → EReal)
    (ha : ∀ r : Fin 2048, (if rawAt (V0 m d) ⟨y.val * 128 + x.val, by omega⟩ (ord (aD (V0 m d)) r) < wd 0x3B808081#32 then 0
      else rawAt (V0 m d) ⟨y.val * 128 + x.val, by omega⟩ (ord (aD (V0 m d)) r)) = (a r.val : EReal))
    (hc : ∀ r : Fin 2048, aC (V0 m d) (ix2 (ord (aD (V0 m d)) r) ch) = c r.val) :
    (fin m d (Proc.devRef .tc main_v132) : S3x128x128.Idx → EReal) (ix3 ch y x) = light a c 2048 + (trans a 2048 : EReal) * aB (V0 m d) (ix1 ch) := by
  have h0 : xN (atK m 0 d) = fun _ => 0#32 := ctr_at (W3 (V0 m d))
  have hT := ones_at (W3 (V0 m d)) ⟨y.val * 128 + x.val, by omega⟩
  have hI := zeros_at (W3 (V0 m d)) ⟨y.val * 128 + x.val, by omega⟩ ch
  have hA : ∀ r : Fin 2048, xA (atK m 0 d) (ix2 ⟨y.val * 128 + x.val, by omega⟩ r) = (a r.val : EReal) := fun r => (entry_A (V0 m d) _ r).trans (ha r)
  have hC : ∀ r : Fin 2048, xC (atK m 0 d) (ix2 r ch) = c r.val := fun r => (entry_C (V0 m d) r ch).trans (hc r)
  refine (post_at (StableHlo.after condOps (atK m 2048 d)) ch y x).trans ?_
  have eT : xT (StableHlo.after condOps (atK m 2048 d)) = xT (atK m 2048 d) := cond_carried _ main_v124_4 (by decide)
  have eI : xI (StableHlo.after condOps (atK m 2048 d)) = xI (atK m 2048 d) := cond_carried _ main_v124_5 (by decide)
  have eB : aB (StableHlo.after condOps (atK m 2048 d)) = aB (V0 m d) :=
    (StableHlo.after_of_writes_sub condOps _ condOps_writes (by decide)).trans ((loop_keep m d main_arg6 (by decide) 2048).trans (entry_keep _ main_arg6 (by decide)))
  rw [eT, eI, eB, loop_T m d h0 _ a hA hT 2048 le_rfl, loop_I m d h0 _ a hA hT ch c hC hI 2048 le_rfl]

end Cert.Proof.Ref
-- ==== Proof.Equal.lean ====
/-
  The kernel and the reference end with the same image, the same radii and the same counts of covered pixels.
-/
module

public import proofs.«01_k».proof.Defs
public import proofs.«01_k».proof.Proof.Out
public import proofs.«01_k».proof.Proof.Pre
public import proofs.«01_k».proof.Proof.RefOut
public import proofs.«01_k».proof.Proof.Frames

@[expose] public section

set_option maxRecDepth 16384

noncomputable section

namespace Cert.Proof.Equal

open Idealize.ShloMosaic Idealize.SL.Sem Idealize.ShloMosaic.TcCoe
open Cert.Proof.Spec Cert.Proof.Pay Cert.Proof.Comp

section Agree

variable (V : Valuation Cert.KernelIdeal.τ Cert.KernelIdeal.sig (Elt Ideal)) (U : Valuation Cert.ReferenceIdeal.τ Cert.ReferenceIdeal.sig (Elt Ideal))

/-- The two programs' arguments are the same. -/
structure Same : Prop where
  mean : Ref.aM U = Chan.aM V
  color : Ref.aC U = Chan.aC V
  opac : Ref.aO U = Chan.aO V
  scale : Ref.aS U = Chan.aS V
  angle : Ref.aR U = Chan.aR V
  depth : Ref.aD U = Chan.aD V
  back : Ref.aB U = Chan.aB V

variable {V U} (E : Same V U)
include E

theorem raw_same (p : Fin 16384) (g : Fin 2048) : Ref.rawAt U p g
    = raw (Chan.ga (Chan.aS V) (Chan.aR V) g) (Chan.gb (Chan.aS V) (Chan.aR V) g) (Chan.gc (Chan.aS V) (Chan.aR V) g)
        (Chan.aM V (ix2 g 0)) (Chan.aM V (ix2 g 1)) (Chan.aO V (ix2 g 0)) (mid (p.val % 128)) (mid (p.val / 128)) := by
  have h1 := congrFun E.mean (ix2 g 0)
  have h2 := congrFun E.mean (ix2 g 1)
  have h3 := congrFun E.opac (ix2 g 0)
  have h4 := congrFun E.scale (ix2 g 0)
  have h5 := congrFun E.scale (ix2 g 1)
  have h6 := congrFun E.angle (ix1 g)
  unfold Ref.rawAt Ref.ga Ref.gb Ref.gc Chan.ga Chan.gb Chan.gc
  rw [h1, h2, h3, h4, h5, h6]

theorem radius_same (g : Fin 2048) : radius (Ref.ga U g) (Ref.gb U g) (Ref.gc U g)
    = radius (Chan.ga (Chan.aS V) (Chan.aR V) g) (Chan.gb (Chan.aS V) (Chan.aR V) g) (Chan.gc (Chan.aS V) (Chan.aR V) g) := by
  have h4 := congrFun E.scale (ix2 g 0)
  have h5 := congrFun E.scale (ix2 g 1)
  have h6 := congrFun E.angle (ix1 g)
  unfold Ref.ga Ref.gb Ref.gc Chan.ga Chan.gb Chan.gc
  rw [h4, h5, h6]

theorem ord_same (k : Fin 2048) : Ref.ord (Ref.aD U) k = Chan.ord (Chan.aD V) k := by
  rw [E.depth]
  rfl

end Agree

section Results

open Cert.KernelIdeal Cert.KernelIdeal.Gen Cert.Proof.Run Cert.Proof.Slots Cert.Proof.Tc

variable (V : Valuation τ sig (Elt Ideal)) (fg : S16x16384.Idx → EReal) (fc : S16x8192.Idx → EReal) (fn : S16x16.Idx → BitVec 32)
  (tb : S16.Idx → BitVec 32) (hn : ∀ i, (word (F := Ideal) i tb).toNat ≤ 2048) (htb : tb = tableOf (F := Ideal) (chans V))
  (ok : ∀ b, Bin.BandOK (F := Ideal) (chans V) b (Bin.takeG fg b) (Bin.takeC fc b) (Bin.takeN fn b))
  (H : Reg (Chan.aS V) (Chan.aR V))
  (T : ∀ p g, Pre.rawAt (Chan.aM V) (Chan.aO V) (Chan.aS V) (Chan.aR V) p g ≠ wd 0x3B808081#32)
  (d : Dev nD) (g6 : S3x128x128.Idx → EReal) (g7 : S2048x1.Idx → BitVec 32) (g8 : S16x2048x1.Idx → BitVec 32)
  (hR : Rastered tb hn (mids V fg fc fn) d g6 g7 g8)
  (m' : (ℓ : Loc Cert.ReferenceIdeal.nD Cert.ReferenceIdeal.τ Cert.ReferenceIdeal.sig) → Buf (Elt Ideal) ℓ) (d' : Dev Cert.ReferenceIdeal.nD)
  (E : Same V (Ref.V0 m' d'))

include htb ok H hR E in
theorem pix_same (g : Fin 2048) : (Out.last (mids V fg fc fn) g6 g7 g8 (Proc.devRef .tc main_v129) : S2048.Idx → BitVec 32) (ix1 g)
    = (Ref.fin m' d' (Proc.devRef .tc Cert.ReferenceIdeal.main_v106) : S2048.Idx → BitVec 32) (ix1 g) := by
  refine (Out.pix V fg fc fn tb hn htb ok H d g6 g7 g8 hR.count g).trans (Eq.trans ?_ (Ref.fin_106 m' d' g).symm)
  rw [Out.cov_sum]
  refine congrArg _ (Finset.sum_congr rfl fun p _ => ?_)
  rw [raw_same E p g]

include hR E in
theorem rad_same (g : Fin 2048) : (Out.last (mids V fg fc fn) g6 g7 g8 (Proc.devRef .tc main_v130) : S2048.Idx → BitVec 32) (ix1 g)
    = (Ref.fin m' d' (Proc.devRef .tc Cert.ReferenceIdeal.main_v102) : S2048.Idx → BitVec 32) (ix1 g) := by
  refine (Out.out_130 (mids V fg fc fn) g6 g7 g8 g).trans (Eq.trans ?_ (Ref.fin_102 m' d' g).symm)
  rw [radius_same E g, Win.radii_at tb hn (mids V fg fc fn) d g7 hR.radii]
  exact KerOut.rad_band V fg fc fn tb g

set_option maxHeartbeats 1000000 in
include htb ok H T hR E in
theorem color_same (ch : Fin 3) (y x : Fin 128) : (Out.last (mids V fg fc fn) g6 g7 g8 (Proc.devRef .tc main_v109_0) : S3x128x128.Idx → EReal) (ix3 ch y x)
    = (Ref.fin m' d' (Proc.devRef .tc Cert.ReferenceIdeal.main_v132) : S3x128x128.Idx → EReal) (ix3 ch y x) := by
  have hy := y.isLt
  have hx := x.isLt
  rw [Out.out_109]
  have eb : (⟨(⟨y.val / 8, by omega⟩ : Fin 16).val * 8 + (⟨y.val % 8, by omega⟩ : Fin 8).val, by show y.val / 8 * 8 + y.val % 8 < 128; omega⟩ : Fin 128) = y :=
    Fin.ext (by show y.val / 8 * 8 + y.val % 8 = y.val; omega)
  have e6 := Win.color_at tb hn (mids V fg fc fn) d g6 hR.color ch ⟨y.val / 8, by omega⟩ ⟨y.val % 8, by omega⟩ x
  rw [eb] at e6
  rw [e6]
  -- the opacities, in order of depth
  have hα (k : Fin 2048) : alpha V ⟨y.val / 8, by omega⟩ (og V k) ⟨y.val % 8 * 128 + x.val, by omega⟩
      = Ref.rawAt (Ref.V0 m' d') ⟨y.val * 128 + x.val, by omega⟩ (Ref.ord (Ref.aD (Ref.V0 m' d')) k) := by
    rw [ord_same E k, raw_same E]
    unfold alpha
    have e1 : (y.val % 8 * 128 + x.val) % 128 = (y.val * 128 + x.val) % 128 := by omega
    have e2 : y.val / 8 * 8 + (y.val % 8 * 128 + x.val) / 128 = (y.val * 128 + x.val) / 128 := by omega
    show raw _ _ _ _ _ _ (mid ((y.val % 8 * 128 + x.val) % 128)) (mid (y.val / 8 * 8 + (y.val % 8 * 128 + x.val) / 128)) = _
    rw [e1, e2]
  have hreal (k : Fin 2048) : ∃ r : ℝ, (if wd 0x3B808081#32 < Ref.rawAt (Ref.V0 m' d') ⟨y.val * 128 + x.val, by omega⟩ (Ref.ord (Ref.aD (Ref.V0 m' d')) k)
      then Ref.rawAt (Ref.V0 m' d') ⟨y.val * 128 + x.val, by omega⟩ (Ref.ord (Ref.aD (Ref.V0 m' d')) k) else 0) = (r : EReal) := by
    by_cases h : wd 0x3B808081#32 < Ref.rawAt (Ref.V0 m' d') ⟨y.val * 128 + x.val, by omega⟩ (Ref.ord (Ref.aD (Ref.V0 m' d')) k)
    · obtain ⟨r, hr, -⟩ := alpha_real V ⟨y.val / 8, by omega⟩ H (og V k) ⟨y.val % 8 * 128 + x.val, by omega⟩ ((hα k).symm ▸ h)
      exact ⟨r, by rw [if_pos h]; exact (hα k).symm.trans hr⟩
    · exact ⟨0, by rw [if_neg h]; rfl⟩
  choose r hr using hreal
  let β : ℕ → ℝ := fun k => if h : k < 2048 then r ⟨k, h⟩ else 0
  have hβ (k : Fin 2048) : β k.val = r k := dif_pos k.isLt
  let D : ℕ → EReal := fun k => if h : k < 2048 then Chan.aC V (ix2 (og V ⟨k, h⟩) ch) else 0
  have hD (k : Fin 2048) : D k.val = Chan.aC V (ix2 (og V k) ch) := dif_pos k.isLt
  refine (KerOut.image_band V fg fc fn tb hn htb ⟨y.val / 8, by omega⟩ (ok _) H ch ⟨y.val % 8 * 128 + (x : Fin 128).val, by omega⟩ β D (fun k => ?_)
    fun k => (hD k).symm).trans (Eq.trans ?_ (Ref.fin_132 m' d' ch y x β D (fun k => ?_) fun k => ?_).symm)
  · rw [hα k, hβ k]
    exact hr k
  · rw [mul_comm, E.back]
  · have ht := T ⟨y.val * 128 + x.val, by omega⟩ (og V k)
    have ht' : Ref.rawAt (Ref.V0 m' d') ⟨y.val * 128 + x.val, by omega⟩ (Ref.ord (Ref.aD (Ref.V0 m' d')) k) ≠ wd 0x3B808081#32 := by
      rw [ord_same E k, raw_same E]
      exact ht
    rw [hβ k, ← hr k]
    rcases lt_or_gt_of_ne ht' with h | h
    · rw [if_pos h, if_neg (not_lt.mpr h.le)]
    · rw [if_neg (not_lt.mpr (le_of_lt h)), if_pos h]
  · rw [ord_same E k, E.color, hD k]

end Results

end Cert.Proof.Equal
-- ==== Proof.Algebra.lean ====
/-
  The value claim: from the same arguments, regular ones, the kernel and the reference end with equal results.
-/
module

public import proofs.«01_k».proof.Defs
public import proofs.«01_k».proof.Proof.Equal
public import proofs.«01_k».proof.Proof.Gen.Pre_regular

@[expose] public section

set_option maxRecDepth 16384

noncomputable section

namespace Cert.Proof.Algebra

open Idealize.ShloMosaic Idealize.SL.Sem Idealize.ShloMosaic.TcCoe
open Cert.KernelIdeal Cert.Proof.Run Cert.Proof.Equal Cert.Proof.Slots

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

theorem results (c : Dev Cert.KernelIdeal.nD) (X : Valuation τ sig (Elt Ideal)) (hX : Ends m c X) (hP : Cert.Pre_KernelIdeal_regular m)
    (E : Same (Run.V0 m c) (Ref.V0 m' c)) :
    X (Proc.devRef .tc main_v109_0) = Ref.fin m' c (Proc.devRef .tc Cert.ReferenceIdeal.main_v132)
    ∧ X (Proc.devRef .tc main_v130) = Ref.fin m' c (Proc.devRef .tc Cert.ReferenceIdeal.main_v102)
    ∧ X (Proc.devRef .tc main_v129) = Ref.fin m' c (Proc.devRef .tc Cert.ReferenceIdeal.main_v106) := by
  obtain ⟨fg, fc, fn, g6, g7, g8, ok, hR, rfl⟩ := hX
  obtain ⟨h1, h2, h3, h5⟩ := Pre.regular _ _ _ _ _ _ _ (hP c)
  have H : Reg (Chan.aS (Run.V0 m c)) (Chan.aR (Run.V0 m c)) := ⟨h1, h2, h3⟩
  obtain rfl : c = 0 := Subsingleton.elim _ _
  have htb : tb m = tableOf (F := Ideal) (chans (Run.V0 m 0)) := rfl
  refine ⟨?_, ?_, ?_⟩
  · refine funext fun (i : S3x128x128.Idx) => ?_
    obtain ⟨ch, y, x, rfl⟩ : ∃ ch y x, i = ix3 ch y x := ⟨i 0, i 1, i 2, (ix3_eta i).symm⟩
    exact color_same (Run.V0 m 0) fg fc fn (tb m) (hn m) htb ok H h5 0 g6 g7 g8 hR m' 0 E ch y x
  · refine funext fun (i : S2048.Idx) => ?_
    obtain ⟨g, rfl⟩ : ∃ g : Fin 2048, i = Idealize.ShloMosaic.ix1 g := ⟨i 0, funext fun a => by match a with | 0 => rfl⟩
    exact rad_same (Run.V0 m 0) fg fc fn (tb m) (hn m) 0 g6 g7 g8 hR m' 0 E g
  · refine funext fun (i : S2048.Idx) => ?_
    obtain ⟨g, rfl⟩ : ∃ g : Fin 2048, i = Idealize.ShloMosaic.ix1 g := ⟨i 0, funext fun a => by match a with | 0 => rfl⟩
    exact pix_same (Run.V0 m 0) fg fc fn (tb m) (hn m) htb ok H 0 g6 g7 g8 hR m' 0 E g

theorem algebraic : Cert.algebraic_KernelIdeal_ReferenceIdeal_pre_regular := by
  intro m g m' g' hP hA
  refine ⟨fun c => Ref.fin m' c (Proc.devRef .tc Cert.ReferenceIdeal.main_v132), fun c => Ref.fin m' c (Proc.devRef .tc Cert.ReferenceIdeal.main_v102),
    fun c => Ref.fin m' c (Proc.devRef .tc Cert.ReferenceIdeal.main_v106), ?_, ?_⟩
  · refine (θ_run Cert.KernelIdeal.defs _ _).mono (fun r h c => ?_) (Run.run_main (F := Ideal) m g)
    obtain ⟨X, hX, hm⟩ := h.1 c
    obtain ⟨a0, a1, a2, a3, a4, a5, a6⟩ := hA c
    obtain ⟨e0, e1, e2⟩ := results m m' c X hX hP ⟨a0, a1, a2, a3, a4, a5, a6⟩
    exact ⟨(hm (Proc.devRef .tc main_v109_0) (by decide)).trans e0, (hm (Proc.devRef .tc main_v130) (by decide)).trans e1,
      (hm (Proc.devRef .tc main_v129) (by decide)).trans e2, Frames.args m r h c⟩
  · refine (θ_run Cert.ReferenceIdeal.defs _ _).mono (fun r h c => ?_) (Cert.ReferenceIdeal.Value.run_fold m' g')
    exact ⟨h c Cert.ReferenceIdeal.main_v132 rfl, h c Cert.ReferenceIdeal.main_v102 rfl, h c Cert.ReferenceIdeal.main_v106 rfl, Frames.refArgs m' r h c⟩

end Cert.Proof.Algebra
-- ==== Proof.lean ====
module

public import proofs.«01_k».proof.Defs
public import proofs.«01_k».proof.Proof.FrameKernel
public import proofs.«01_k».proof.Proof.Algebra
public import proofs.«01_k».proof.Proof.Gen.Pre_regular

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_regular.Gen.facts,
    FrameKernel.frame_kernel, Frames.frame_ideal, fun m ρ _ => Frames.frame_ideal m ρ trivial,
    Frames.frame_reference, fun m ρ _ => Frames.frame_reference m ρ trivial, trivial, Algebra.algebraic⟩

end Cert.Proof

end
